-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![256, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![256, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S4x64x1024 : Shape := ⟨3, ![4, 64, 1024]⟩
abbrev S2x1024x2048 : Shape := ⟨3, ![2, 1024, 2048]⟩
abbrev S2x2048x1024 : Shape := ⟨3, ![2, 2048, 1024]⟩
abbrev S4 : Shape := ⟨1, ![4]⟩
abbrev S6 : Shape := ⟨1, ![6]⟩
abbrev S1 : Shape := ⟨1, ![1]⟩
abbrev S_ : Shape := ⟨0, ![]⟩
abbrev S1x1024x2048 : Shape := ⟨3, ![1, 1024, 2048]⟩
abbrev S1x2048x1024 : Shape := ⟨3, ![1, 2048, 1024]⟩
abbrev S1x64x1024 : Shape := ⟨3, ![1, 64, 1024]⟩
abbrev S2x64x1024 : Shape := ⟨3, ![2, 64, 1024]⟩
abbrev S128x1024 : Shape := ⟨2, ![128, 1024]⟩
abbrev S128x2048 : Shape := ⟨2, ![128, 2048]⟩

abbrev nBuf : Space → Nat
  | .hbm => 8
  | .vmem => 9
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S64x1024, .f32⟩
  | .local _ .vmem, ⟨0, _⟩ => ⟨S64x1024, .f32⟩
  | .local _ .vmem, ⟨1, _⟩ => ⟨S64x1024, .f32⟩
  | .local _ .vmem, ⟨2, _⟩ => ⟨S4x64x1024, .bf16⟩
  | .local _ .vmem, ⟨3, _⟩ => ⟨S4x64x1024, .bf16⟩
  | .local _ .vmem, ⟨4, _⟩ => ⟨S4x64x1024, .bf16⟩
  | .local _ .vmem, ⟨5, _⟩ => ⟨S2x1024x2048, .f32⟩
  | .local _ .vmem, ⟨6, _⟩ => ⟨S2x2048x1024, .f32⟩
  | .local _ .vmem, ⟨7, _⟩ => ⟨S1024x2048, .bf16⟩
  | .local _ .vmem, ⟨8, _⟩ => ⟨S2048x1024, .bf16⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : Index := Scalar.indexCast v2
  let c0_8 : Index := 0#32
  let c0_9 : Index := 0#32
  ![v14.toNat, 0, 0]
def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_10 : BitVec 32 := 1#32
  let v19 : BitVec 32 := Scalar.addi v2 c1_i32_10
  let c4_i32_11 : BitVec 32 := 4#32
  let c0_i32_12 : BitVec 32 := 0#32
  let v20 : BitVec 1 := Scalar.cmpi .eq c4_i32_11 c0_i32_12
  let c1_i32_13 : BitVec 32 := 1#32
  let v21 : BitVec 32 := Scalar.select v20 c1_i32_13 c4_i32_11
  let v22 : BitVec 32 := Scalar.remsi v19 v21
  let c0_i32_15 : BitVec 32 := 0#32
  let v24 : BitVec 1 := Scalar.cmpi .slt v22 c0_i32_15
  let c0_i32_16 : BitVec 32 := 0#32
  let v25 : BitVec 1 := Scalar.cmpi .slt v21 c0_i32_16
  let v26 : BitVec 1 := Scalar.xori v24 v25
  let c0_i32_14 : BitVec 32 := 0#32
  let v23 : BitVec 1 := Scalar.cmpi .ne v22 c0_i32_14
  let v27 : BitVec 1 := Scalar.andi v26 v23
  let v28 : BitVec 32 := Scalar.addi v22 v21
  let v29 : BitVec 32 := Scalar.select v27 v28 v22
  let c1_i32_18 : BitVec 32 := 1#32
  let v30 : BitVec 32 := Scalar.muli v29 c1_i32_18
  let v31 : BitVec 32 := Scalar.addi c0_i32_19 v30
  v31.toNat
def k0_dev2 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v32 : BitVec 32 := Scalar.addi v2 c2_i32
  let c4_i32_20 : BitVec 32 := 4#32
  let c0_i32_21 : BitVec 32 := 0#32
  let v33 : BitVec 1 := Scalar.cmpi .eq c4_i32_20 c0_i32_21
  let c1_i32_22 : BitVec 32 := 1#32
  let v34 : BitVec 32 := Scalar.select v33 c1_i32_22 c4_i32_20
  let v35 : BitVec 32 := Scalar.remsi v32 v34
  let c0_i32_24 : BitVec 32 := 0#32
  let v37 : BitVec 1 := Scalar.cmpi .slt v35 c0_i32_24
  let c0_i32_25 : BitVec 32 := 0#32
  let v38 : BitVec 1 := Scalar.cmpi .slt v34 c0_i32_25
  let v39 : BitVec 1 := Scalar.xori v37 v38
  let c0_i32_23 : BitVec 32 := 0#32
  let v36 : BitVec 1 := Scalar.cmpi .ne v35 c0_i32_23
  let v40 : BitVec 1 := Scalar.andi v39 v36
  let v41 : BitVec 32 := Scalar.addi v35 v34
  let v42 : BitVec 32 := Scalar.select v40 v41 v35
  let c1_i32_27 : BitVec 32 := 1#32
  let v43 : BitVec 32 := Scalar.muli v42 c1_i32_27
  let v44 : BitVec 32 := Scalar.addi c0_i32_28 v43
  v44.toNat
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v45 : BitVec 32 := Scalar.addi v2 c3_i32
  let c4_i32_29 : BitVec 32 := 4#32
  let c0_i32_30 : BitVec 32 := 0#32
  let v46 : BitVec 1 := Scalar.cmpi .eq c4_i32_29 c0_i32_30
  let c1_i32_31 : BitVec 32 := 1#32
  let v47 : BitVec 32 := Scalar.select v46 c1_i32_31 c4_i32_29
  let v48 : BitVec 32 := Scalar.remsi v45 v47
  let c0_i32_33 : BitVec 32 := 0#32
  let v50 : BitVec 1 := Scalar.cmpi .slt v48 c0_i32_33
  let c0_i32_34 : BitVec 32 := 0#32
  let v51 : BitVec 1 := Scalar.cmpi .slt v47 c0_i32_34
  let v52 : BitVec 1 := Scalar.xori v50 v51
  let c0_i32_32 : BitVec 32 := 0#32
  let v49 : BitVec 1 := Scalar.cmpi .ne v48 c0_i32_32
  let v53 : BitVec 1 := Scalar.andi v52 v49
  let v54 : BitVec 32 := Scalar.addi v48 v47
  let v55 : BitVec 32 := Scalar.select v53 v54 v48
  let c1_i32_36 : BitVec 32 := 1#32
  let v56 : BitVec 32 := Scalar.muli v55 c1_i32_36
  let v57 : BitVec 32 := Scalar.addi c0_i32_37 v56
  v57.toNat
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_50 : BitVec 32 := 0#32
  let c0_i32_51 : BitVec 32 := 0#32
  ![v2.toNat, 0, 0]
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_39 : BitVec 32 := 1#32
  let v58 : BitVec 32 := Scalar.addi v2 c1_i32_39
  let c4_i32_40 : BitVec 32 := 4#32
  let c0_i32_41 : BitVec 32 := 0#32
  let v59 : BitVec 1 := Scalar.cmpi .eq c4_i32_40 c0_i32_41
  let c1_i32_42 : BitVec 32 := 1#32
  let v60 : BitVec 32 := Scalar.select v59 c1_i32_42 c4_i32_40
  let v61 : BitVec 32 := Scalar.remsi v58 v60
  let c0_i32_44 : BitVec 32 := 0#32
  let v63 : BitVec 1 := Scalar.cmpi .slt v61 c0_i32_44
  let c0_i32_45 : BitVec 32 := 0#32
  let v64 : BitVec 1 := Scalar.cmpi .slt v60 c0_i32_45
  let v65 : BitVec 1 := Scalar.xori v63 v64
  let c0_i32_43 : BitVec 32 := 0#32
  let v62 : BitVec 1 := Scalar.cmpi .ne v61 c0_i32_43
  let v66 : BitVec 1 := Scalar.andi v65 v62
  let v67 : BitVec 32 := Scalar.addi v61 v60
  let v68 : BitVec 32 := Scalar.select v66 v67 v61
  let c1_i32_48 : BitVec 32 := 1#32
  let v69 : BitVec 32 := Scalar.muli v68 c1_i32_48
  let v70 : BitVec 32 := Scalar.addi c0_i32_49 v69
  v70.toNat
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_54 : BitVec 32 := 2#32
  let v79 : BitVec 32 := Scalar.addi v2 c2_i32_54
  let c4_i32_55 : BitVec 32 := 4#32
  let c0_i32_56 : BitVec 32 := 0#32
  let v80 : BitVec 1 := Scalar.cmpi .eq c4_i32_55 c0_i32_56
  let c1_i32_57 : BitVec 32 := 1#32
  let v81 : BitVec 32 := Scalar.select v80 c1_i32_57 c4_i32_55
  let v82 : BitVec 32 := Scalar.remsi v79 v81
  let c0_i32_59 : BitVec 32 := 0#32
  let v84 : BitVec 1 := Scalar.cmpi .slt v82 c0_i32_59
  let c0_i32_60 : BitVec 32 := 0#32
  let v85 : BitVec 1 := Scalar.cmpi .slt v81 c0_i32_60
  let v86 : BitVec 1 := Scalar.xori v84 v85
  let c0_i32_58 : BitVec 32 := 0#32
  let v83 : BitVec 1 := Scalar.cmpi .ne v82 c0_i32_58
  let v87 : BitVec 1 := Scalar.andi v86 v83
  let v88 : BitVec 32 := Scalar.addi v82 v81
  let v89 : BitVec 32 := Scalar.select v87 v88 v82
  let c1_i32_63 : BitVec 32 := 1#32
  let v90 : BitVec 32 := Scalar.muli v89 c1_i32_63
  let v91 : BitVec 32 := Scalar.addi c0_i32_64 v90
  v91.toNat
def k0_dev6 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_69 : BitVec 32 := 3#32
  let v100 : BitVec 32 := Scalar.addi v2 c3_i32_69
  let c4_i32_70 : BitVec 32 := 4#32
  let c0_i32_71 : BitVec 32 := 0#32
  let v101 : BitVec 1 := Scalar.cmpi .eq c4_i32_70 c0_i32_71
  let c1_i32_72 : BitVec 32 := 1#32
  let v102 : BitVec 32 := Scalar.select v101 c1_i32_72 c4_i32_70
  let v103 : BitVec 32 := Scalar.remsi v100 v102
  let c0_i32_74 : BitVec 32 := 0#32
  let v105 : BitVec 1 := Scalar.cmpi .slt v103 c0_i32_74
  let c0_i32_75 : BitVec 32 := 0#32
  let v106 : BitVec 1 := Scalar.cmpi .slt v102 c0_i32_75
  let v107 : BitVec 1 := Scalar.xori v105 v106
  let c0_i32_73 : BitVec 32 := 0#32
  let v104 : BitVec 1 := Scalar.cmpi .ne v103 c0_i32_73
  let v108 : BitVec 1 := Scalar.andi v107 v104
  let v109 : BitVec 32 := Scalar.addi v103 v102
  let v110 : BitVec 32 := Scalar.select v108 v109 v103
  let c1_i32_78 : BitVec 32 := 1#32
  let v111 : BitVec 32 := Scalar.muli v110 c1_i32_78
  let v112 : BitVec 32 := Scalar.addi c0_i32_79 v111
  v112.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_117 : BitVec 32 := 1#32
  let v157 : BitVec 32 := Scalar.addi v2 c1_i32_117
  let c4_i32_118 : BitVec 32 := 4#32
  let c0_i32_119 : BitVec 32 := 0#32
  let v158 : BitVec 1 := Scalar.cmpi .eq c4_i32_118 c0_i32_119
  let c1_i32_120 : BitVec 32 := 1#32
  let v159 : BitVec 32 := Scalar.select v158 c1_i32_120 c4_i32_118
  let v160 : BitVec 32 := Scalar.remsi v157 v159
  let c0_i32_122 : BitVec 32 := 0#32
  let v162 : BitVec 1 := Scalar.cmpi .slt v160 c0_i32_122
  let c0_i32_123 : BitVec 32 := 0#32
  let v163 : BitVec 1 := Scalar.cmpi .slt v159 c0_i32_123
  let v164 : BitVec 1 := Scalar.xori v162 v163
  let c0_i32_121 : BitVec 32 := 0#32
  let v161 : BitVec 1 := Scalar.cmpi .ne v160 c0_i32_121
  let v165 : BitVec 1 := Scalar.andi v164 v161
  let v166 : BitVec 32 := Scalar.addi v160 v159
  let v167 : BitVec 32 := Scalar.select v165 v166 v160
  let c0_i32_125 : BitVec 32 := 0#32
  let v169 : BitVec 1 := Scalar.cmpi .sgt v167 c0_i32_125
  let v170 : BitVec 32 := Scalar.extui v169
  let c0_i32_126 : BitVec 32 := 0#32
  let v171 : BitVec 1 := Scalar.cmpi .slt v167 c0_i32_126
  let v172 : BitVec 32 := Scalar.extui v171
  let v173 : BitVec 32 := Scalar.subi v170 v172
  let c2_i32_124 : BitVec 32 := 2#32
  let c0_i32_127 : BitVec 32 := 0#32
  let v174 : BitVec 1 := Scalar.cmpi .sgt c2_i32_124 c0_i32_127
  let v175 : BitVec 32 := Scalar.extui v174
  let c0_i32_128 : BitVec 32 := 0#32
  let v176 : BitVec 1 := Scalar.cmpi .slt c2_i32_124 c0_i32_128
  let v177 : BitVec 32 := Scalar.extui v176
  let v178 : BitVec 32 := Scalar.subi v175 v177
  let v179 : BitVec 1 := Scalar.cmpi .ne v173 v178
  let v180 : BitVec 32 := Scalar.remsi v167 c2_i32_124
  let c0_i32_129 : BitVec 32 := 0#32
  let v181 : BitVec 1 := Scalar.cmpi .ne v180 c0_i32_129
  let v182 : BitVec 1 := Scalar.andi v179 v181
  let v168 : BitVec 32 := Scalar.divsi v167 c2_i32_124
  let c1_i32_130 : BitVec 32 := 1#32
  let v183 : BitVec 32 := Scalar.subi v168 c1_i32_130
  let v184 : BitVec 32 := Scalar.select v182 v183 v168
  let c0_i32_131 : BitVec 32 := 0#32
  let v185 : BitVec 1 := Scalar.cmpi .eq v184 c0_i32_131
  let v186 : BitVec 32 := Scalar.extui v185
  let c0_i32_132 : BitVec 32 := 0#32
  let v187 : BitVec 1 := Scalar.cmpi .ne v186 c0_i32_132
  v187

def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_117 : BitVec 32 := 1#32
  let v157 : BitVec 32 := Scalar.addi v2 c1_i32_117
  let c4_i32_118 : BitVec 32 := 4#32
  let c0_i32_119 : BitVec 32 := 0#32
  let v158 : BitVec 1 := Scalar.cmpi .eq c4_i32_118 c0_i32_119
  let c1_i32_120 : BitVec 32 := 1#32
  let v159 : BitVec 32 := Scalar.select v158 c1_i32_120 c4_i32_118
  let v160 : BitVec 32 := Scalar.remsi v157 v159
  let c0_i32_122 : BitVec 32 := 0#32
  let v162 : BitVec 1 := Scalar.cmpi .slt v160 c0_i32_122
  let c0_i32_123 : BitVec 32 := 0#32
  let v163 : BitVec 1 := Scalar.cmpi .slt v159 c0_i32_123
  let v164 : BitVec 1 := Scalar.xori v162 v163
  let c0_i32_121 : BitVec 32 := 0#32
  let v161 : BitVec 1 := Scalar.cmpi .ne v160 c0_i32_121
  let v165 : BitVec 1 := Scalar.andi v164 v161
  let v166 : BitVec 32 := Scalar.addi v160 v159
  let v167 : BitVec 32 := Scalar.select v165 v166 v160
  let c0_i32_1297 : BitVec 32 := 0#32
  let c0_i32_1298 : BitVec 32 := 0#32
  ![v167.toNat, 0, 0]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1299 : BitVec 32 := 0#32
  let c0_i32_1300 : BitVec 32 := 0#32
  ![v2.toNat, 0, 0]
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_133 : BitVec 32 := 2#32
  let v188 : BitVec 32 := Scalar.addi v2 c2_i32_133
  let c4_i32_134 : BitVec 32 := 4#32
  let c0_i32_135 : BitVec 32 := 0#32
  let v189 : BitVec 1 := Scalar.cmpi .eq c4_i32_134 c0_i32_135
  let c1_i32_136 : BitVec 32 := 1#32
  let v190 : BitVec 32 := Scalar.select v189 c1_i32_136 c4_i32_134
  let v191 : BitVec 32 := Scalar.remsi v188 v190
  let c0_i32_138 : BitVec 32 := 0#32
  let v193 : BitVec 1 := Scalar.cmpi .slt v191 c0_i32_138
  let c0_i32_139 : BitVec 32 := 0#32
  let v194 : BitVec 1 := Scalar.cmpi .slt v190 c0_i32_139
  let v195 : BitVec 1 := Scalar.xori v193 v194
  let c0_i32_137 : BitVec 32 := 0#32
  let v192 : BitVec 1 := Scalar.cmpi .ne v191 c0_i32_137
  let v196 : BitVec 1 := Scalar.andi v195 v192
  let v197 : BitVec 32 := Scalar.addi v191 v190
  let v198 : BitVec 32 := Scalar.select v196 v197 v191
  let c0_i32_141 : BitVec 32 := 0#32
  let v200 : BitVec 1 := Scalar.cmpi .sgt v198 c0_i32_141
  let v201 : BitVec 32 := Scalar.extui v200
  let c0_i32_142 : BitVec 32 := 0#32
  let v202 : BitVec 1 := Scalar.cmpi .slt v198 c0_i32_142
  let v203 : BitVec 32 := Scalar.extui v202
  let v204 : BitVec 32 := Scalar.subi v201 v203
  let c2_i32_140 : BitVec 32 := 2#32
  let c0_i32_143 : BitVec 32 := 0#32
  let v205 : BitVec 1 := Scalar.cmpi .sgt c2_i32_140 c0_i32_143
  let v206 : BitVec 32 := Scalar.extui v205
  let c0_i32_144 : BitVec 32 := 0#32
  let v207 : BitVec 1 := Scalar.cmpi .slt c2_i32_140 c0_i32_144
  let v208 : BitVec 32 := Scalar.extui v207
  let v209 : BitVec 32 := Scalar.subi v206 v208
  let v210 : BitVec 1 := Scalar.cmpi .ne v204 v209
  let v211 : BitVec 32 := Scalar.remsi v198 c2_i32_140
  let c0_i32_145 : BitVec 32 := 0#32
  let v212 : BitVec 1 := Scalar.cmpi .ne v211 c0_i32_145
  let v213 : BitVec 1 := Scalar.andi v210 v212
  let v199 : BitVec 32 := Scalar.divsi v198 c2_i32_140
  let c1_i32_146 : BitVec 32 := 1#32
  let v214 : BitVec 32 := Scalar.subi v199 c1_i32_146
  let v215 : BitVec 32 := Scalar.select v213 v214 v199
  let c0_i32_147 : BitVec 32 := 0#32
  let v216 : BitVec 1 := Scalar.cmpi .eq v215 c0_i32_147
  let v217 : BitVec 32 := Scalar.extui v216
  let c0_i32_148 : BitVec 32 := 0#32
  let v218 : BitVec 1 := Scalar.cmpi .ne v217 c0_i32_148
  v218

def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_133 : BitVec 32 := 2#32
  let v188 : BitVec 32 := Scalar.addi v2 c2_i32_133
  let c4_i32_134 : BitVec 32 := 4#32
  let c0_i32_135 : BitVec 32 := 0#32
  let v189 : BitVec 1 := Scalar.cmpi .eq c4_i32_134 c0_i32_135
  let c1_i32_136 : BitVec 32 := 1#32
  let v190 : BitVec 32 := Scalar.select v189 c1_i32_136 c4_i32_134
  let v191 : BitVec 32 := Scalar.remsi v188 v190
  let c0_i32_138 : BitVec 32 := 0#32
  let v193 : BitVec 1 := Scalar.cmpi .slt v191 c0_i32_138
  let c0_i32_139 : BitVec 32 := 0#32
  let v194 : BitVec 1 := Scalar.cmpi .slt v190 c0_i32_139
  let v195 : BitVec 1 := Scalar.xori v193 v194
  let c0_i32_137 : BitVec 32 := 0#32
  let v192 : BitVec 1 := Scalar.cmpi .ne v191 c0_i32_137
  let v196 : BitVec 1 := Scalar.andi v195 v192
  let v197 : BitVec 32 := Scalar.addi v191 v190
  let v198 : BitVec 32 := Scalar.select v196 v197 v191
  let c0_i32_1297 : BitVec 32 := 0#32
  let c0_i32_1298 : BitVec 32 := 0#32
  ![v198.toNat, 0, 0]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1299 : BitVec 32 := 0#32
  let c0_i32_1300 : BitVec 32 := 0#32
  ![v2.toNat, 0, 0]
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_149 : BitVec 32 := 3#32
  let v219 : BitVec 32 := Scalar.addi v2 c3_i32_149
  let c4_i32_150 : BitVec 32 := 4#32
  let c0_i32_151 : BitVec 32 := 0#32
  let v220 : BitVec 1 := Scalar.cmpi .eq c4_i32_150 c0_i32_151
  let c1_i32_152 : BitVec 32 := 1#32
  let v221 : BitVec 32 := Scalar.select v220 c1_i32_152 c4_i32_150
  let v222 : BitVec 32 := Scalar.remsi v219 v221
  let c0_i32_154 : BitVec 32 := 0#32
  let v224 : BitVec 1 := Scalar.cmpi .slt v222 c0_i32_154
  let c0_i32_155 : BitVec 32 := 0#32
  let v225 : BitVec 1 := Scalar.cmpi .slt v221 c0_i32_155
  let v226 : BitVec 1 := Scalar.xori v224 v225
  let c0_i32_153 : BitVec 32 := 0#32
  let v223 : BitVec 1 := Scalar.cmpi .ne v222 c0_i32_153
  let v227 : BitVec 1 := Scalar.andi v226 v223
  let v228 : BitVec 32 := Scalar.addi v222 v221
  let v229 : BitVec 32 := Scalar.select v227 v228 v222
  let c0_i32_157 : BitVec 32 := 0#32
  let v231 : BitVec 1 := Scalar.cmpi .sgt v229 c0_i32_157
  let v232 : BitVec 32 := Scalar.extui v231
  let c0_i32_158 : BitVec 32 := 0#32
  let v233 : BitVec 1 := Scalar.cmpi .slt v229 c0_i32_158
  let v234 : BitVec 32 := Scalar.extui v233
  let v235 : BitVec 32 := Scalar.subi v232 v234
  let c2_i32_156 : BitVec 32 := 2#32
  let c0_i32_159 : BitVec 32 := 0#32
  let v236 : BitVec 1 := Scalar.cmpi .sgt c2_i32_156 c0_i32_159
  let v237 : BitVec 32 := Scalar.extui v236
  let c0_i32_160 : BitVec 32 := 0#32
  let v238 : BitVec 1 := Scalar.cmpi .slt c2_i32_156 c0_i32_160
  let v239 : BitVec 32 := Scalar.extui v238
  let v240 : BitVec 32 := Scalar.subi v237 v239
  let v241 : BitVec 1 := Scalar.cmpi .ne v235 v240
  let v242 : BitVec 32 := Scalar.remsi v229 c2_i32_156
  let c0_i32_161 : BitVec 32 := 0#32
  let v243 : BitVec 1 := Scalar.cmpi .ne v242 c0_i32_161
  let v244 : BitVec 1 := Scalar.andi v241 v243
  let v230 : BitVec 32 := Scalar.divsi v229 c2_i32_156
  let c1_i32_162 : BitVec 32 := 1#32
  let v245 : BitVec 32 := Scalar.subi v230 c1_i32_162
  let v246 : BitVec 32 := Scalar.select v244 v245 v230
  let c0_i32_163 : BitVec 32 := 0#32
  let v247 : BitVec 1 := Scalar.cmpi .eq v246 c0_i32_163
  let v248 : BitVec 32 := Scalar.extui v247
  let c0_i32_164 : BitVec 32 := 0#32
  let v249 : BitVec 1 := Scalar.cmpi .ne v248 c0_i32_164
  v249

def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_149 : BitVec 32 := 3#32
  let v219 : BitVec 32 := Scalar.addi v2 c3_i32_149
  let c4_i32_150 : BitVec 32 := 4#32
  let c0_i32_151 : BitVec 32 := 0#32
  let v220 : BitVec 1 := Scalar.cmpi .eq c4_i32_150 c0_i32_151
  let c1_i32_152 : BitVec 32 := 1#32
  let v221 : BitVec 32 := Scalar.select v220 c1_i32_152 c4_i32_150
  let v222 : BitVec 32 := Scalar.remsi v219 v221
  let c0_i32_154 : BitVec 32 := 0#32
  let v224 : BitVec 1 := Scalar.cmpi .slt v222 c0_i32_154
  let c0_i32_155 : BitVec 32 := 0#32
  let v225 : BitVec 1 := Scalar.cmpi .slt v221 c0_i32_155
  let v226 : BitVec 1 := Scalar.xori v224 v225
  let c0_i32_153 : BitVec 32 := 0#32
  let v223 : BitVec 1 := Scalar.cmpi .ne v222 c0_i32_153
  let v227 : BitVec 1 := Scalar.andi v226 v223
  let v228 : BitVec 32 := Scalar.addi v222 v221
  let v229 : BitVec 32 := Scalar.select v227 v228 v222
  let c0_i32_1297 : BitVec 32 := 0#32
  let c0_i32_1298 : BitVec 32 := 0#32
  ![v229.toNat, 0, 0]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1299 : BitVec 32 := 0#32
  let c0_i32_1300 : BitVec 32 := 0#32
  ![v2.toNat, 0, 0]
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_177 : BitVec 32 := 1#32
  let v264 : BitVec 32 := Scalar.addi v2 c1_i32_177
  let c4_i32_178 : BitVec 32 := 4#32
  let c0_i32_179 : BitVec 32 := 0#32
  let v265 : BitVec 1 := Scalar.cmpi .eq c4_i32_178 c0_i32_179
  let c1_i32_180 : BitVec 32 := 1#32
  let v266 : BitVec 32 := Scalar.select v265 c1_i32_180 c4_i32_178
  let v267 : BitVec 32 := Scalar.remsi v264 v266
  let c0_i32_182 : BitVec 32 := 0#32
  let v269 : BitVec 1 := Scalar.cmpi .slt v267 c0_i32_182
  let c0_i32_183 : BitVec 32 := 0#32
  let v270 : BitVec 1 := Scalar.cmpi .slt v266 c0_i32_183
  let v271 : BitVec 1 := Scalar.xori v269 v270
  let c0_i32_181 : BitVec 32 := 0#32
  let v268 : BitVec 1 := Scalar.cmpi .ne v267 c0_i32_181
  let v272 : BitVec 1 := Scalar.andi v271 v268
  let v273 : BitVec 32 := Scalar.addi v267 v266
  let v274 : BitVec 32 := Scalar.select v272 v273 v267
  let c0_i32_185 : BitVec 32 := 0#32
  let v276 : BitVec 1 := Scalar.cmpi .sgt v274 c0_i32_185
  let v277 : BitVec 32 := Scalar.extui v276
  let c0_i32_186 : BitVec 32 := 0#32
  let v278 : BitVec 1 := Scalar.cmpi .slt v274 c0_i32_186
  let v279 : BitVec 32 := Scalar.extui v278
  let v280 : BitVec 32 := Scalar.subi v277 v279
  let c2_i32_184 : BitVec 32 := 2#32
  let c0_i32_187 : BitVec 32 := 0#32
  let v281 : BitVec 1 := Scalar.cmpi .sgt c2_i32_184 c0_i32_187
  let v282 : BitVec 32 := Scalar.extui v281
  let c0_i32_188 : BitVec 32 := 0#32
  let v283 : BitVec 1 := Scalar.cmpi .slt c2_i32_184 c0_i32_188
  let v284 : BitVec 32 := Scalar.extui v283
  let v285 : BitVec 32 := Scalar.subi v282 v284
  let v286 : BitVec 1 := Scalar.cmpi .ne v280 v285
  let v287 : BitVec 32 := Scalar.remsi v274 c2_i32_184
  let c0_i32_189 : BitVec 32 := 0#32
  let v288 : BitVec 1 := Scalar.cmpi .ne v287 c0_i32_189
  let v289 : BitVec 1 := Scalar.andi v286 v288
  let v275 : BitVec 32 := Scalar.divsi v274 c2_i32_184
  let c1_i32_190 : BitVec 32 := 1#32
  let v290 : BitVec 32 := Scalar.subi v275 c1_i32_190
  let v291 : BitVec 32 := Scalar.select v289 v290 v275
  let c0_i32_191 : BitVec 32 := 0#32
  let v292 : BitVec 1 := Scalar.cmpi .eq v291 c0_i32_191
  let v293 : BitVec 32 := Scalar.extui v292
  let c0_i32_192 : BitVec 32 := 0#32
  let v294 : BitVec 1 := Scalar.cmpi .ne v293 c0_i32_192
  v294

def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_177 : BitVec 32 := 1#32
  let v264 : BitVec 32 := Scalar.addi v2 c1_i32_177
  let c4_i32_178 : BitVec 32 := 4#32
  let c0_i32_179 : BitVec 32 := 0#32
  let v265 : BitVec 1 := Scalar.cmpi .eq c4_i32_178 c0_i32_179
  let c1_i32_180 : BitVec 32 := 1#32
  let v266 : BitVec 32 := Scalar.select v265 c1_i32_180 c4_i32_178
  let v267 : BitVec 32 := Scalar.remsi v264 v266
  let c0_i32_182 : BitVec 32 := 0#32
  let v269 : BitVec 1 := Scalar.cmpi .slt v267 c0_i32_182
  let c0_i32_183 : BitVec 32 := 0#32
  let v270 : BitVec 1 := Scalar.cmpi .slt v266 c0_i32_183
  let v271 : BitVec 1 := Scalar.xori v269 v270
  let c0_i32_181 : BitVec 32 := 0#32
  let v268 : BitVec 1 := Scalar.cmpi .ne v267 c0_i32_181
  let v272 : BitVec 1 := Scalar.andi v271 v268
  let v273 : BitVec 32 := Scalar.addi v267 v266
  let v274 : BitVec 32 := Scalar.select v272 v273 v267
  let c0_i32_1299 : BitVec 32 := 0#32
  let c0_i32_1300 : BitVec 32 := 0#32
  ![v274.toNat, 0, 0]
def k0_dev7 (d0 : Dev nD) : Nat :=
  let c0_i32_1296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_177 : BitVec 32 := 1#32
  let v264 : BitVec 32 := Scalar.addi v2 c1_i32_177
  let c4_i32_178 : BitVec 32 := 4#32
  let c0_i32_179 : BitVec 32 := 0#32
  let v265 : BitVec 1 := Scalar.cmpi .eq c4_i32_178 c0_i32_179
  let c1_i32_180 : BitVec 32 := 1#32
  let v266 : BitVec 32 := Scalar.select v265 c1_i32_180 c4_i32_178
  let v267 : BitVec 32 := Scalar.remsi v264 v266
  let c0_i32_182 : BitVec 32 := 0#32
  let v269 : BitVec 1 := Scalar.cmpi .slt v267 c0_i32_182
  let c0_i32_183 : BitVec 32 := 0#32
  let v270 : BitVec 1 := Scalar.cmpi .slt v266 c0_i32_183
  let v271 : BitVec 1 := Scalar.xori v269 v270
  let c0_i32_181 : BitVec 32 := 0#32
  let v268 : BitVec 1 := Scalar.cmpi .ne v267 c0_i32_181
  let v272 : BitVec 1 := Scalar.andi v271 v268
  let v273 : BitVec 32 := Scalar.addi v267 v266
  let v274 : BitVec 32 := Scalar.select v272 v273 v267
  let c1_i32_1295 : BitVec 32 := 1#32
  let v1960 : BitVec 32 := Scalar.muli v274 c1_i32_1295
  let v1961 : BitVec 32 := Scalar.addi c0_i32_1296 v1960
  v1961.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_193 : BitVec 32 := 2#32
  let v295 : BitVec 32 := Scalar.addi v2 c2_i32_193
  let c4_i32_194 : BitVec 32 := 4#32
  let c0_i32_195 : BitVec 32 := 0#32
  let v296 : BitVec 1 := Scalar.cmpi .eq c4_i32_194 c0_i32_195
  let c1_i32_196 : BitVec 32 := 1#32
  let v297 : BitVec 32 := Scalar.select v296 c1_i32_196 c4_i32_194
  let v298 : BitVec 32 := Scalar.remsi v295 v297
  let c0_i32_198 : BitVec 32 := 0#32
  let v300 : BitVec 1 := Scalar.cmpi .slt v298 c0_i32_198
  let c0_i32_199 : BitVec 32 := 0#32
  let v301 : BitVec 1 := Scalar.cmpi .slt v297 c0_i32_199
  let v302 : BitVec 1 := Scalar.xori v300 v301
  let c0_i32_197 : BitVec 32 := 0#32
  let v299 : BitVec 1 := Scalar.cmpi .ne v298 c0_i32_197
  let v303 : BitVec 1 := Scalar.andi v302 v299
  let v304 : BitVec 32 := Scalar.addi v298 v297
  let v305 : BitVec 32 := Scalar.select v303 v304 v298
  let c0_i32_201 : BitVec 32 := 0#32
  let v307 : BitVec 1 := Scalar.cmpi .sgt v305 c0_i32_201
  let v308 : BitVec 32 := Scalar.extui v307
  let c0_i32_202 : BitVec 32 := 0#32
  let v309 : BitVec 1 := Scalar.cmpi .slt v305 c0_i32_202
  let v310 : BitVec 32 := Scalar.extui v309
  let v311 : BitVec 32 := Scalar.subi v308 v310
  let c2_i32_200 : BitVec 32 := 2#32
  let c0_i32_203 : BitVec 32 := 0#32
  let v312 : BitVec 1 := Scalar.cmpi .sgt c2_i32_200 c0_i32_203
  let v313 : BitVec 32 := Scalar.extui v312
  let c0_i32_204 : BitVec 32 := 0#32
  let v314 : BitVec 1 := Scalar.cmpi .slt c2_i32_200 c0_i32_204
  let v315 : BitVec 32 := Scalar.extui v314
  let v316 : BitVec 32 := Scalar.subi v313 v315
  let v317 : BitVec 1 := Scalar.cmpi .ne v311 v316
  let v318 : BitVec 32 := Scalar.remsi v305 c2_i32_200
  let c0_i32_205 : BitVec 32 := 0#32
  let v319 : BitVec 1 := Scalar.cmpi .ne v318 c0_i32_205
  let v320 : BitVec 1 := Scalar.andi v317 v319
  let v306 : BitVec 32 := Scalar.divsi v305 c2_i32_200
  let c1_i32_206 : BitVec 32 := 1#32
  let v321 : BitVec 32 := Scalar.subi v306 c1_i32_206
  let v322 : BitVec 32 := Scalar.select v320 v321 v306
  let c0_i32_207 : BitVec 32 := 0#32
  let v323 : BitVec 1 := Scalar.cmpi .eq v322 c0_i32_207
  let v324 : BitVec 32 := Scalar.extui v323
  let c0_i32_208 : BitVec 32 := 0#32
  let v325 : BitVec 1 := Scalar.cmpi .ne v324 c0_i32_208
  v325

def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_193 : BitVec 32 := 2#32
  let v295 : BitVec 32 := Scalar.addi v2 c2_i32_193
  let c4_i32_194 : BitVec 32 := 4#32
  let c0_i32_195 : BitVec 32 := 0#32
  let v296 : BitVec 1 := Scalar.cmpi .eq c4_i32_194 c0_i32_195
  let c1_i32_196 : BitVec 32 := 1#32
  let v297 : BitVec 32 := Scalar.select v296 c1_i32_196 c4_i32_194
  let v298 : BitVec 32 := Scalar.remsi v295 v297
  let c0_i32_198 : BitVec 32 := 0#32
  let v300 : BitVec 1 := Scalar.cmpi .slt v298 c0_i32_198
  let c0_i32_199 : BitVec 32 := 0#32
  let v301 : BitVec 1 := Scalar.cmpi .slt v297 c0_i32_199
  let v302 : BitVec 1 := Scalar.xori v300 v301
  let c0_i32_197 : BitVec 32 := 0#32
  let v299 : BitVec 1 := Scalar.cmpi .ne v298 c0_i32_197
  let v303 : BitVec 1 := Scalar.andi v302 v299
  let v304 : BitVec 32 := Scalar.addi v298 v297
  let v305 : BitVec 32 := Scalar.select v303 v304 v298
  let c0_i32_1299 : BitVec 32 := 0#32
  let c0_i32_1300 : BitVec 32 := 0#32
  ![v305.toNat, 0, 0]
def k0_dev8 (d0 : Dev nD) : Nat :=
  let c0_i32_1296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_193 : BitVec 32 := 2#32
  let v295 : BitVec 32 := Scalar.addi v2 c2_i32_193
  let c4_i32_194 : BitVec 32 := 4#32
  let c0_i32_195 : BitVec 32 := 0#32
  let v296 : BitVec 1 := Scalar.cmpi .eq c4_i32_194 c0_i32_195
  let c1_i32_196 : BitVec 32 := 1#32
  let v297 : BitVec 32 := Scalar.select v296 c1_i32_196 c4_i32_194
  let v298 : BitVec 32 := Scalar.remsi v295 v297
  let c0_i32_198 : BitVec 32 := 0#32
  let v300 : BitVec 1 := Scalar.cmpi .slt v298 c0_i32_198
  let c0_i32_199 : BitVec 32 := 0#32
  let v301 : BitVec 1 := Scalar.cmpi .slt v297 c0_i32_199
  let v302 : BitVec 1 := Scalar.xori v300 v301
  let c0_i32_197 : BitVec 32 := 0#32
  let v299 : BitVec 1 := Scalar.cmpi .ne v298 c0_i32_197
  let v303 : BitVec 1 := Scalar.andi v302 v299
  let v304 : BitVec 32 := Scalar.addi v298 v297
  let v305 : BitVec 32 := Scalar.select v303 v304 v298
  let c1_i32_1295 : BitVec 32 := 1#32
  let v1960 : BitVec 32 := Scalar.muli v305 c1_i32_1295
  let v1961 : BitVec 32 := Scalar.addi c0_i32_1296 v1960
  v1961.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_209 : BitVec 32 := 3#32
  let v326 : BitVec 32 := Scalar.addi v2 c3_i32_209
  let c4_i32_210 : BitVec 32 := 4#32
  let c0_i32_211 : BitVec 32 := 0#32
  let v327 : BitVec 1 := Scalar.cmpi .eq c4_i32_210 c0_i32_211
  let c1_i32_212 : BitVec 32 := 1#32
  let v328 : BitVec 32 := Scalar.select v327 c1_i32_212 c4_i32_210
  let v329 : BitVec 32 := Scalar.remsi v326 v328
  let c0_i32_214 : BitVec 32 := 0#32
  let v331 : BitVec 1 := Scalar.cmpi .slt v329 c0_i32_214
  let c0_i32_215 : BitVec 32 := 0#32
  let v332 : BitVec 1 := Scalar.cmpi .slt v328 c0_i32_215
  let v333 : BitVec 1 := Scalar.xori v331 v332
  let c0_i32_213 : BitVec 32 := 0#32
  let v330 : BitVec 1 := Scalar.cmpi .ne v329 c0_i32_213
  let v334 : BitVec 1 := Scalar.andi v333 v330
  let v335 : BitVec 32 := Scalar.addi v329 v328
  let v336 : BitVec 32 := Scalar.select v334 v335 v329
  let c0_i32_217 : BitVec 32 := 0#32
  let v338 : BitVec 1 := Scalar.cmpi .sgt v336 c0_i32_217
  let v339 : BitVec 32 := Scalar.extui v338
  let c0_i32_218 : BitVec 32 := 0#32
  let v340 : BitVec 1 := Scalar.cmpi .slt v336 c0_i32_218
  let v341 : BitVec 32 := Scalar.extui v340
  let v342 : BitVec 32 := Scalar.subi v339 v341
  let c2_i32_216 : BitVec 32 := 2#32
  let c0_i32_219 : BitVec 32 := 0#32
  let v343 : BitVec 1 := Scalar.cmpi .sgt c2_i32_216 c0_i32_219
  let v344 : BitVec 32 := Scalar.extui v343
  let c0_i32_220 : BitVec 32 := 0#32
  let v345 : BitVec 1 := Scalar.cmpi .slt c2_i32_216 c0_i32_220
  let v346 : BitVec 32 := Scalar.extui v345
  let v347 : BitVec 32 := Scalar.subi v344 v346
  let v348 : BitVec 1 := Scalar.cmpi .ne v342 v347
  let v349 : BitVec 32 := Scalar.remsi v336 c2_i32_216
  let c0_i32_221 : BitVec 32 := 0#32
  let v350 : BitVec 1 := Scalar.cmpi .ne v349 c0_i32_221
  let v351 : BitVec 1 := Scalar.andi v348 v350
  let v337 : BitVec 32 := Scalar.divsi v336 c2_i32_216
  let c1_i32_222 : BitVec 32 := 1#32
  let v352 : BitVec 32 := Scalar.subi v337 c1_i32_222
  let v353 : BitVec 32 := Scalar.select v351 v352 v337
  let c0_i32_223 : BitVec 32 := 0#32
  let v354 : BitVec 1 := Scalar.cmpi .eq v353 c0_i32_223
  let v355 : BitVec 32 := Scalar.extui v354
  let c0_i32_224 : BitVec 32 := 0#32
  let v356 : BitVec 1 := Scalar.cmpi .ne v355 c0_i32_224
  v356

def k0_off11 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_209 : BitVec 32 := 3#32
  let v326 : BitVec 32 := Scalar.addi v2 c3_i32_209
  let c4_i32_210 : BitVec 32 := 4#32
  let c0_i32_211 : BitVec 32 := 0#32
  let v327 : BitVec 1 := Scalar.cmpi .eq c4_i32_210 c0_i32_211
  let c1_i32_212 : BitVec 32 := 1#32
  let v328 : BitVec 32 := Scalar.select v327 c1_i32_212 c4_i32_210
  let v329 : BitVec 32 := Scalar.remsi v326 v328
  let c0_i32_214 : BitVec 32 := 0#32
  let v331 : BitVec 1 := Scalar.cmpi .slt v329 c0_i32_214
  let c0_i32_215 : BitVec 32 := 0#32
  let v332 : BitVec 1 := Scalar.cmpi .slt v328 c0_i32_215
  let v333 : BitVec 1 := Scalar.xori v331 v332
  let c0_i32_213 : BitVec 32 := 0#32
  let v330 : BitVec 1 := Scalar.cmpi .ne v329 c0_i32_213
  let v334 : BitVec 1 := Scalar.andi v333 v330
  let v335 : BitVec 32 := Scalar.addi v329 v328
  let v336 : BitVec 32 := Scalar.select v334 v335 v329
  let c0_i32_1299 : BitVec 32 := 0#32
  let c0_i32_1300 : BitVec 32 := 0#32
  ![v336.toNat, 0, 0]
def k0_dev9 (d0 : Dev nD) : Nat :=
  let c0_i32_1296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_209 : BitVec 32 := 3#32
  let v326 : BitVec 32 := Scalar.addi v2 c3_i32_209
  let c4_i32_210 : BitVec 32 := 4#32
  let c0_i32_211 : BitVec 32 := 0#32
  let v327 : BitVec 1 := Scalar.cmpi .eq c4_i32_210 c0_i32_211
  let c1_i32_212 : BitVec 32 := 1#32
  let v328 : BitVec 32 := Scalar.select v327 c1_i32_212 c4_i32_210
  let v329 : BitVec 32 := Scalar.remsi v326 v328
  let c0_i32_214 : BitVec 32 := 0#32
  let v331 : BitVec 1 := Scalar.cmpi .slt v329 c0_i32_214
  let c0_i32_215 : BitVec 32 := 0#32
  let v332 : BitVec 1 := Scalar.cmpi .slt v328 c0_i32_215
  let v333 : BitVec 1 := Scalar.xori v331 v332
  let c0_i32_213 : BitVec 32 := 0#32
  let v330 : BitVec 1 := Scalar.cmpi .ne v329 c0_i32_213
  let v334 : BitVec 1 := Scalar.andi v333 v330
  let v335 : BitVec 32 := Scalar.addi v329 v328
  let v336 : BitVec 32 := Scalar.select v334 v335 v329
  let c1_i32_1295 : BitVec 32 := 1#32
  let v1960 : BitVec 32 := Scalar.muli v336 c1_i32_1295
  let v1961 : BitVec 32 := Scalar.addi c0_i32_1296 v1960
  v1961.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_225 : BitVec 32 := 1#32
  let v357 : BitVec 32 := Scalar.addi v2 c1_i32_225
  let c4_i32_226 : BitVec 32 := 4#32
  let c0_i32_227 : BitVec 32 := 0#32
  let v358 : BitVec 1 := Scalar.cmpi .eq c4_i32_226 c0_i32_227
  let c1_i32_228 : BitVec 32 := 1#32
  let v359 : BitVec 32 := Scalar.select v358 c1_i32_228 c4_i32_226
  let v360 : BitVec 32 := Scalar.remsi v357 v359
  let c0_i32_230 : BitVec 32 := 0#32
  let v362 : BitVec 1 := Scalar.cmpi .slt v360 c0_i32_230
  let c0_i32_231 : BitVec 32 := 0#32
  let v363 : BitVec 1 := Scalar.cmpi .slt v359 c0_i32_231
  let v364 : BitVec 1 := Scalar.xori v362 v363
  let c0_i32_229 : BitVec 32 := 0#32
  let v361 : BitVec 1 := Scalar.cmpi .ne v360 c0_i32_229
  let v365 : BitVec 1 := Scalar.andi v364 v361
  let v366 : BitVec 32 := Scalar.addi v360 v359
  let v367 : BitVec 32 := Scalar.select v365 v366 v360
  let c0_i32_233 : BitVec 32 := 0#32
  let v369 : BitVec 1 := Scalar.cmpi .sgt v367 c0_i32_233
  let v370 : BitVec 32 := Scalar.extui v369
  let c0_i32_234 : BitVec 32 := 0#32
  let v371 : BitVec 1 := Scalar.cmpi .slt v367 c0_i32_234
  let v372 : BitVec 32 := Scalar.extui v371
  let v373 : BitVec 32 := Scalar.subi v370 v372
  let c2_i32_232 : BitVec 32 := 2#32
  let c0_i32_235 : BitVec 32 := 0#32
  let v374 : BitVec 1 := Scalar.cmpi .sgt c2_i32_232 c0_i32_235
  let v375 : BitVec 32 := Scalar.extui v374
  let c0_i32_236 : BitVec 32 := 0#32
  let v376 : BitVec 1 := Scalar.cmpi .slt c2_i32_232 c0_i32_236
  let v377 : BitVec 32 := Scalar.extui v376
  let v378 : BitVec 32 := Scalar.subi v375 v377
  let v379 : BitVec 1 := Scalar.cmpi .ne v373 v378
  let v380 : BitVec 32 := Scalar.remsi v367 c2_i32_232
  let c0_i32_237 : BitVec 32 := 0#32
  let v381 : BitVec 1 := Scalar.cmpi .ne v380 c0_i32_237
  let v382 : BitVec 1 := Scalar.andi v379 v381
  let v368 : BitVec 32 := Scalar.divsi v367 c2_i32_232
  let c1_i32_238 : BitVec 32 := 1#32
  let v383 : BitVec 32 := Scalar.subi v368 c1_i32_238
  let v384 : BitVec 32 := Scalar.select v382 v383 v368
  let c1_i32_239 : BitVec 32 := 1#32
  let v385 : BitVec 1 := Scalar.cmpi .eq v384 c1_i32_239
  let v386 : BitVec 32 := Scalar.extui v385
  let c0_i32_240 : BitVec 32 := 0#32
  let v387 : BitVec 1 := Scalar.cmpi .ne v386 c0_i32_240
  v387

def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_225 : BitVec 32 := 1#32
  let v357 : BitVec 32 := Scalar.addi v2 c1_i32_225
  let c4_i32_226 : BitVec 32 := 4#32
  let c0_i32_227 : BitVec 32 := 0#32
  let v358 : BitVec 1 := Scalar.cmpi .eq c4_i32_226 c0_i32_227
  let c1_i32_228 : BitVec 32 := 1#32
  let v359 : BitVec 32 := Scalar.select v358 c1_i32_228 c4_i32_226
  let v360 : BitVec 32 := Scalar.remsi v357 v359
  let c0_i32_230 : BitVec 32 := 0#32
  let v362 : BitVec 1 := Scalar.cmpi .slt v360 c0_i32_230
  let c0_i32_231 : BitVec 32 := 0#32
  let v363 : BitVec 1 := Scalar.cmpi .slt v359 c0_i32_231
  let v364 : BitVec 1 := Scalar.xori v362 v363
  let c0_i32_229 : BitVec 32 := 0#32
  let v361 : BitVec 1 := Scalar.cmpi .ne v360 c0_i32_229
  let v365 : BitVec 1 := Scalar.andi v364 v361
  let v366 : BitVec 32 := Scalar.addi v360 v359
  let v367 : BitVec 32 := Scalar.select v365 v366 v360
  let c0_i32_1297 : BitVec 32 := 0#32
  let c0_i32_1298 : BitVec 32 := 0#32
  ![v367.toNat, 0, 0]
def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1299 : BitVec 32 := 0#32
  let c0_i32_1300 : BitVec 32 := 0#32
  ![v2.toNat, 0, 0]
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_241 : BitVec 32 := 2#32
  let v388 : BitVec 32 := Scalar.addi v2 c2_i32_241
  let c4_i32_242 : BitVec 32 := 4#32
  let c0_i32_243 : BitVec 32 := 0#32
  let v389 : BitVec 1 := Scalar.cmpi .eq c4_i32_242 c0_i32_243
  let c1_i32_244 : BitVec 32 := 1#32
  let v390 : BitVec 32 := Scalar.select v389 c1_i32_244 c4_i32_242
  let v391 : BitVec 32 := Scalar.remsi v388 v390
  let c0_i32_246 : BitVec 32 := 0#32
  let v393 : BitVec 1 := Scalar.cmpi .slt v391 c0_i32_246
  let c0_i32_247 : BitVec 32 := 0#32
  let v394 : BitVec 1 := Scalar.cmpi .slt v390 c0_i32_247
  let v395 : BitVec 1 := Scalar.xori v393 v394
  let c0_i32_245 : BitVec 32 := 0#32
  let v392 : BitVec 1 := Scalar.cmpi .ne v391 c0_i32_245
  let v396 : BitVec 1 := Scalar.andi v395 v392
  let v397 : BitVec 32 := Scalar.addi v391 v390
  let v398 : BitVec 32 := Scalar.select v396 v397 v391
  let c0_i32_249 : BitVec 32 := 0#32
  let v400 : BitVec 1 := Scalar.cmpi .sgt v398 c0_i32_249
  let v401 : BitVec 32 := Scalar.extui v400
  let c0_i32_250 : BitVec 32 := 0#32
  let v402 : BitVec 1 := Scalar.cmpi .slt v398 c0_i32_250
  let v403 : BitVec 32 := Scalar.extui v402
  let v404 : BitVec 32 := Scalar.subi v401 v403
  let c2_i32_248 : BitVec 32 := 2#32
  let c0_i32_251 : BitVec 32 := 0#32
  let v405 : BitVec 1 := Scalar.cmpi .sgt c2_i32_248 c0_i32_251
  let v406 : BitVec 32 := Scalar.extui v405
  let c0_i32_252 : BitVec 32 := 0#32
  let v407 : BitVec 1 := Scalar.cmpi .slt c2_i32_248 c0_i32_252
  let v408 : BitVec 32 := Scalar.extui v407
  let v409 : BitVec 32 := Scalar.subi v406 v408
  let v410 : BitVec 1 := Scalar.cmpi .ne v404 v409
  let v411 : BitVec 32 := Scalar.remsi v398 c2_i32_248
  let c0_i32_253 : BitVec 32 := 0#32
  let v412 : BitVec 1 := Scalar.cmpi .ne v411 c0_i32_253
  let v413 : BitVec 1 := Scalar.andi v410 v412
  let v399 : BitVec 32 := Scalar.divsi v398 c2_i32_248
  let c1_i32_254 : BitVec 32 := 1#32
  let v414 : BitVec 32 := Scalar.subi v399 c1_i32_254
  let v415 : BitVec 32 := Scalar.select v413 v414 v399
  let c1_i32_255 : BitVec 32 := 1#32
  let v416 : BitVec 1 := Scalar.cmpi .eq v415 c1_i32_255
  let v417 : BitVec 32 := Scalar.extui v416
  let c0_i32_256 : BitVec 32 := 0#32
  let v418 : BitVec 1 := Scalar.cmpi .ne v417 c0_i32_256
  v418

def k0_off14 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_241 : BitVec 32 := 2#32
  let v388 : BitVec 32 := Scalar.addi v2 c2_i32_241
  let c4_i32_242 : BitVec 32 := 4#32
  let c0_i32_243 : BitVec 32 := 0#32
  let v389 : BitVec 1 := Scalar.cmpi .eq c4_i32_242 c0_i32_243
  let c1_i32_244 : BitVec 32 := 1#32
  let v390 : BitVec 32 := Scalar.select v389 c1_i32_244 c4_i32_242
  let v391 : BitVec 32 := Scalar.remsi v388 v390
  let c0_i32_246 : BitVec 32 := 0#32
  let v393 : BitVec 1 := Scalar.cmpi .slt v391 c0_i32_246
  let c0_i32_247 : BitVec 32 := 0#32
  let v394 : BitVec 1 := Scalar.cmpi .slt v390 c0_i32_247
  let v395 : BitVec 1 := Scalar.xori v393 v394
  let c0_i32_245 : BitVec 32 := 0#32
  let v392 : BitVec 1 := Scalar.cmpi .ne v391 c0_i32_245
  let v396 : BitVec 1 := Scalar.andi v395 v392
  let v397 : BitVec 32 := Scalar.addi v391 v390
  let v398 : BitVec 32 := Scalar.select v396 v397 v391
  let c0_i32_1297 : BitVec 32 := 0#32
  let c0_i32_1298 : BitVec 32 := 0#32
  ![v398.toNat, 0, 0]
def k0_off15 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1299 : BitVec 32 := 0#32
  let c0_i32_1300 : BitVec 32 := 0#32
  ![v2.toNat, 0, 0]
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_257 : BitVec 32 := 3#32
  let v419 : BitVec 32 := Scalar.addi v2 c3_i32_257
  let c4_i32_258 : BitVec 32 := 4#32
  let c0_i32_259 : BitVec 32 := 0#32
  let v420 : BitVec 1 := Scalar.cmpi .eq c4_i32_258 c0_i32_259
  let c1_i32_260 : BitVec 32 := 1#32
  let v421 : BitVec 32 := Scalar.select v420 c1_i32_260 c4_i32_258
  let v422 : BitVec 32 := Scalar.remsi v419 v421
  let c0_i32_262 : BitVec 32 := 0#32
  let v424 : BitVec 1 := Scalar.cmpi .slt v422 c0_i32_262
  let c0_i32_263 : BitVec 32 := 0#32
  let v425 : BitVec 1 := Scalar.cmpi .slt v421 c0_i32_263
  let v426 : BitVec 1 := Scalar.xori v424 v425
  let c0_i32_261 : BitVec 32 := 0#32
  let v423 : BitVec 1 := Scalar.cmpi .ne v422 c0_i32_261
  let v427 : BitVec 1 := Scalar.andi v426 v423
  let v428 : BitVec 32 := Scalar.addi v422 v421
  let v429 : BitVec 32 := Scalar.select v427 v428 v422
  let c0_i32_265 : BitVec 32 := 0#32
  let v431 : BitVec 1 := Scalar.cmpi .sgt v429 c0_i32_265
  let v432 : BitVec 32 := Scalar.extui v431
  let c0_i32_266 : BitVec 32 := 0#32
  let v433 : BitVec 1 := Scalar.cmpi .slt v429 c0_i32_266
  let v434 : BitVec 32 := Scalar.extui v433
  let v435 : BitVec 32 := Scalar.subi v432 v434
  let c2_i32_264 : BitVec 32 := 2#32
  let c0_i32_267 : BitVec 32 := 0#32
  let v436 : BitVec 1 := Scalar.cmpi .sgt c2_i32_264 c0_i32_267
  let v437 : BitVec 32 := Scalar.extui v436
  let c0_i32_268 : BitVec 32 := 0#32
  let v438 : BitVec 1 := Scalar.cmpi .slt c2_i32_264 c0_i32_268
  let v439 : BitVec 32 := Scalar.extui v438
  let v440 : BitVec 32 := Scalar.subi v437 v439
  let v441 : BitVec 1 := Scalar.cmpi .ne v435 v440
  let v442 : BitVec 32 := Scalar.remsi v429 c2_i32_264
  let c0_i32_269 : BitVec 32 := 0#32
  let v443 : BitVec 1 := Scalar.cmpi .ne v442 c0_i32_269
  let v444 : BitVec 1 := Scalar.andi v441 v443
  let v430 : BitVec 32 := Scalar.divsi v429 c2_i32_264
  let c1_i32_270 : BitVec 32 := 1#32
  let v445 : BitVec 32 := Scalar.subi v430 c1_i32_270
  let v446 : BitVec 32 := Scalar.select v444 v445 v430
  let c1_i32_271 : BitVec 32 := 1#32
  let v447 : BitVec 1 := Scalar.cmpi .eq v446 c1_i32_271
  let v448 : BitVec 32 := Scalar.extui v447
  let c0_i32_272 : BitVec 32 := 0#32
  let v449 : BitVec 1 := Scalar.cmpi .ne v448 c0_i32_272
  v449

def k0_off16 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_257 : BitVec 32 := 3#32
  let v419 : BitVec 32 := Scalar.addi v2 c3_i32_257
  let c4_i32_258 : BitVec 32 := 4#32
  let c0_i32_259 : BitVec 32 := 0#32
  let v420 : BitVec 1 := Scalar.cmpi .eq c4_i32_258 c0_i32_259
  let c1_i32_260 : BitVec 32 := 1#32
  let v421 : BitVec 32 := Scalar.select v420 c1_i32_260 c4_i32_258
  let v422 : BitVec 32 := Scalar.remsi v419 v421
  let c0_i32_262 : BitVec 32 := 0#32
  let v424 : BitVec 1 := Scalar.cmpi .slt v422 c0_i32_262
  let c0_i32_263 : BitVec 32 := 0#32
  let v425 : BitVec 1 := Scalar.cmpi .slt v421 c0_i32_263
  let v426 : BitVec 1 := Scalar.xori v424 v425
  let c0_i32_261 : BitVec 32 := 0#32
  let v423 : BitVec 1 := Scalar.cmpi .ne v422 c0_i32_261
  let v427 : BitVec 1 := Scalar.andi v426 v423
  let v428 : BitVec 32 := Scalar.addi v422 v421
  let v429 : BitVec 32 := Scalar.select v427 v428 v422
  let c0_i32_1297 : BitVec 32 := 0#32
  let c0_i32_1298 : BitVec 32 := 0#32
  ![v429.toNat, 0, 0]
def k0_off17 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1299 : BitVec 32 := 0#32
  let c0_i32_1300 : BitVec 32 := 0#32
  ![v2.toNat, 0, 0]
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_285 : BitVec 32 := 1#32
  let v464 : BitVec 32 := Scalar.addi v2 c1_i32_285
  let c4_i32_286 : BitVec 32 := 4#32
  let c0_i32_287 : BitVec 32 := 0#32
  let v465 : BitVec 1 := Scalar.cmpi .eq c4_i32_286 c0_i32_287
  let c1_i32_288 : BitVec 32 := 1#32
  let v466 : BitVec 32 := Scalar.select v465 c1_i32_288 c4_i32_286
  let v467 : BitVec 32 := Scalar.remsi v464 v466
  let c0_i32_290 : BitVec 32 := 0#32
  let v469 : BitVec 1 := Scalar.cmpi .slt v467 c0_i32_290
  let c0_i32_291 : BitVec 32 := 0#32
  let v470 : BitVec 1 := Scalar.cmpi .slt v466 c0_i32_291
  let v471 : BitVec 1 := Scalar.xori v469 v470
  let c0_i32_289 : BitVec 32 := 0#32
  let v468 : BitVec 1 := Scalar.cmpi .ne v467 c0_i32_289
  let v472 : BitVec 1 := Scalar.andi v471 v468
  let v473 : BitVec 32 := Scalar.addi v467 v466
  let v474 : BitVec 32 := Scalar.select v472 v473 v467
  let c0_i32_293 : BitVec 32 := 0#32
  let v476 : BitVec 1 := Scalar.cmpi .sgt v474 c0_i32_293
  let v477 : BitVec 32 := Scalar.extui v476
  let c0_i32_294 : BitVec 32 := 0#32
  let v478 : BitVec 1 := Scalar.cmpi .slt v474 c0_i32_294
  let v479 : BitVec 32 := Scalar.extui v478
  let v480 : BitVec 32 := Scalar.subi v477 v479
  let c2_i32_292 : BitVec 32 := 2#32
  let c0_i32_295 : BitVec 32 := 0#32
  let v481 : BitVec 1 := Scalar.cmpi .sgt c2_i32_292 c0_i32_295
  let v482 : BitVec 32 := Scalar.extui v481
  let c0_i32_296 : BitVec 32 := 0#32
  let v483 : BitVec 1 := Scalar.cmpi .slt c2_i32_292 c0_i32_296
  let v484 : BitVec 32 := Scalar.extui v483
  let v485 : BitVec 32 := Scalar.subi v482 v484
  let v486 : BitVec 1 := Scalar.cmpi .ne v480 v485
  let v487 : BitVec 32 := Scalar.remsi v474 c2_i32_292
  let c0_i32_297 : BitVec 32 := 0#32
  let v488 : BitVec 1 := Scalar.cmpi .ne v487 c0_i32_297
  let v489 : BitVec 1 := Scalar.andi v486 v488
  let v475 : BitVec 32 := Scalar.divsi v474 c2_i32_292
  let c1_i32_298 : BitVec 32 := 1#32
  let v490 : BitVec 32 := Scalar.subi v475 c1_i32_298
  let v491 : BitVec 32 := Scalar.select v489 v490 v475
  let c1_i32_299 : BitVec 32 := 1#32
  let v492 : BitVec 1 := Scalar.cmpi .eq v491 c1_i32_299
  let v493 : BitVec 32 := Scalar.extui v492
  let c0_i32_300 : BitVec 32 := 0#32
  let v494 : BitVec 1 := Scalar.cmpi .ne v493 c0_i32_300
  v494

def k0_off18 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_285 : BitVec 32 := 1#32
  let v464 : BitVec 32 := Scalar.addi v2 c1_i32_285
  let c4_i32_286 : BitVec 32 := 4#32
  let c0_i32_287 : BitVec 32 := 0#32
  let v465 : BitVec 1 := Scalar.cmpi .eq c4_i32_286 c0_i32_287
  let c1_i32_288 : BitVec 32 := 1#32
  let v466 : BitVec 32 := Scalar.select v465 c1_i32_288 c4_i32_286
  let v467 : BitVec 32 := Scalar.remsi v464 v466
  let c0_i32_290 : BitVec 32 := 0#32
  let v469 : BitVec 1 := Scalar.cmpi .slt v467 c0_i32_290
  let c0_i32_291 : BitVec 32 := 0#32
  let v470 : BitVec 1 := Scalar.cmpi .slt v466 c0_i32_291
  let v471 : BitVec 1 := Scalar.xori v469 v470
  let c0_i32_289 : BitVec 32 := 0#32
  let v468 : BitVec 1 := Scalar.cmpi .ne v467 c0_i32_289
  let v472 : BitVec 1 := Scalar.andi v471 v468
  let v473 : BitVec 32 := Scalar.addi v467 v466
  let v474 : BitVec 32 := Scalar.select v472 v473 v467
  let c0_i32_1299 : BitVec 32 := 0#32
  let c0_i32_1300 : BitVec 32 := 0#32
  ![v474.toNat, 0, 0]
def k0_dev10 (d0 : Dev nD) : Nat :=
  let c0_i32_1296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_285 : BitVec 32 := 1#32
  let v464 : BitVec 32 := Scalar.addi v2 c1_i32_285
  let c4_i32_286 : BitVec 32 := 4#32
  let c0_i32_287 : BitVec 32 := 0#32
  let v465 : BitVec 1 := Scalar.cmpi .eq c4_i32_286 c0_i32_287
  let c1_i32_288 : BitVec 32 := 1#32
  let v466 : BitVec 32 := Scalar.select v465 c1_i32_288 c4_i32_286
  let v467 : BitVec 32 := Scalar.remsi v464 v466
  let c0_i32_290 : BitVec 32 := 0#32
  let v469 : BitVec 1 := Scalar.cmpi .slt v467 c0_i32_290
  let c0_i32_291 : BitVec 32 := 0#32
  let v470 : BitVec 1 := Scalar.cmpi .slt v466 c0_i32_291
  let v471 : BitVec 1 := Scalar.xori v469 v470
  let c0_i32_289 : BitVec 32 := 0#32
  let v468 : BitVec 1 := Scalar.cmpi .ne v467 c0_i32_289
  let v472 : BitVec 1 := Scalar.andi v471 v468
  let v473 : BitVec 32 := Scalar.addi v467 v466
  let v474 : BitVec 32 := Scalar.select v472 v473 v467
  let c1_i32_1295 : BitVec 32 := 1#32
  let v1960 : BitVec 32 := Scalar.muli v474 c1_i32_1295
  let v1961 : BitVec 32 := Scalar.addi c0_i32_1296 v1960
  v1961.toNat
def k0_cond11 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_301 : BitVec 32 := 2#32
  let v495 : BitVec 32 := Scalar.addi v2 c2_i32_301
  let c4_i32_302 : BitVec 32 := 4#32
  let c0_i32_303 : BitVec 32 := 0#32
  let v496 : BitVec 1 := Scalar.cmpi .eq c4_i32_302 c0_i32_303
  let c1_i32_304 : BitVec 32 := 1#32
  let v497 : BitVec 32 := Scalar.select v496 c1_i32_304 c4_i32_302
  let v498 : BitVec 32 := Scalar.remsi v495 v497
  let c0_i32_306 : BitVec 32 := 0#32
  let v500 : BitVec 1 := Scalar.cmpi .slt v498 c0_i32_306
  let c0_i32_307 : BitVec 32 := 0#32
  let v501 : BitVec 1 := Scalar.cmpi .slt v497 c0_i32_307
  let v502 : BitVec 1 := Scalar.xori v500 v501
  let c0_i32_305 : BitVec 32 := 0#32
  let v499 : BitVec 1 := Scalar.cmpi .ne v498 c0_i32_305
  let v503 : BitVec 1 := Scalar.andi v502 v499
  let v504 : BitVec 32 := Scalar.addi v498 v497
  let v505 : BitVec 32 := Scalar.select v503 v504 v498
  let c0_i32_309 : BitVec 32 := 0#32
  let v507 : BitVec 1 := Scalar.cmpi .sgt v505 c0_i32_309
  let v508 : BitVec 32 := Scalar.extui v507
  let c0_i32_310 : BitVec 32 := 0#32
  let v509 : BitVec 1 := Scalar.cmpi .slt v505 c0_i32_310
  let v510 : BitVec 32 := Scalar.extui v509
  let v511 : BitVec 32 := Scalar.subi v508 v510
  let c2_i32_308 : BitVec 32 := 2#32
  let c0_i32_311 : BitVec 32 := 0#32
  let v512 : BitVec 1 := Scalar.cmpi .sgt c2_i32_308 c0_i32_311
  let v513 : BitVec 32 := Scalar.extui v512
  let c0_i32_312 : BitVec 32 := 0#32
  let v514 : BitVec 1 := Scalar.cmpi .slt c2_i32_308 c0_i32_312
  let v515 : BitVec 32 := Scalar.extui v514
  let v516 : BitVec 32 := Scalar.subi v513 v515
  let v517 : BitVec 1 := Scalar.cmpi .ne v511 v516
  let v518 : BitVec 32 := Scalar.remsi v505 c2_i32_308
  let c0_i32_313 : BitVec 32 := 0#32
  let v519 : BitVec 1 := Scalar.cmpi .ne v518 c0_i32_313
  let v520 : BitVec 1 := Scalar.andi v517 v519
  let v506 : BitVec 32 := Scalar.divsi v505 c2_i32_308
  let c1_i32_314 : BitVec 32 := 1#32
  let v521 : BitVec 32 := Scalar.subi v506 c1_i32_314
  let v522 : BitVec 32 := Scalar.select v520 v521 v506
  let c1_i32_315 : BitVec 32 := 1#32
  let v523 : BitVec 1 := Scalar.cmpi .eq v522 c1_i32_315
  let v524 : BitVec 32 := Scalar.extui v523
  let c0_i32_316 : BitVec 32 := 0#32
  let v525 : BitVec 1 := Scalar.cmpi .ne v524 c0_i32_316
  v525

def k0_off19 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_301 : BitVec 32 := 2#32
  let v495 : BitVec 32 := Scalar.addi v2 c2_i32_301
  let c4_i32_302 : BitVec 32 := 4#32
  let c0_i32_303 : BitVec 32 := 0#32
  let v496 : BitVec 1 := Scalar.cmpi .eq c4_i32_302 c0_i32_303
  let c1_i32_304 : BitVec 32 := 1#32
  let v497 : BitVec 32 := Scalar.select v496 c1_i32_304 c4_i32_302
  let v498 : BitVec 32 := Scalar.remsi v495 v497
  let c0_i32_306 : BitVec 32 := 0#32
  let v500 : BitVec 1 := Scalar.cmpi .slt v498 c0_i32_306
  let c0_i32_307 : BitVec 32 := 0#32
  let v501 : BitVec 1 := Scalar.cmpi .slt v497 c0_i32_307
  let v502 : BitVec 1 := Scalar.xori v500 v501
  let c0_i32_305 : BitVec 32 := 0#32
  let v499 : BitVec 1 := Scalar.cmpi .ne v498 c0_i32_305
  let v503 : BitVec 1 := Scalar.andi v502 v499
  let v504 : BitVec 32 := Scalar.addi v498 v497
  let v505 : BitVec 32 := Scalar.select v503 v504 v498
  let c0_i32_1299 : BitVec 32 := 0#32
  let c0_i32_1300 : BitVec 32 := 0#32
  ![v505.toNat, 0, 0]
def k0_dev11 (d0 : Dev nD) : Nat :=
  let c0_i32_1296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_301 : BitVec 32 := 2#32
  let v495 : BitVec 32 := Scalar.addi v2 c2_i32_301
  let c4_i32_302 : BitVec 32 := 4#32
  let c0_i32_303 : BitVec 32 := 0#32
  let v496 : BitVec 1 := Scalar.cmpi .eq c4_i32_302 c0_i32_303
  let c1_i32_304 : BitVec 32 := 1#32
  let v497 : BitVec 32 := Scalar.select v496 c1_i32_304 c4_i32_302
  let v498 : BitVec 32 := Scalar.remsi v495 v497
  let c0_i32_306 : BitVec 32 := 0#32
  let v500 : BitVec 1 := Scalar.cmpi .slt v498 c0_i32_306
  let c0_i32_307 : BitVec 32 := 0#32
  let v501 : BitVec 1 := Scalar.cmpi .slt v497 c0_i32_307
  let v502 : BitVec 1 := Scalar.xori v500 v501
  let c0_i32_305 : BitVec 32 := 0#32
  let v499 : BitVec 1 := Scalar.cmpi .ne v498 c0_i32_305
  let v503 : BitVec 1 := Scalar.andi v502 v499
  let v504 : BitVec 32 := Scalar.addi v498 v497
  let v505 : BitVec 32 := Scalar.select v503 v504 v498
  let c1_i32_1295 : BitVec 32 := 1#32
  let v1960 : BitVec 32 := Scalar.muli v505 c1_i32_1295
  let v1961 : BitVec 32 := Scalar.addi c0_i32_1296 v1960
  v1961.toNat
def k0_cond12 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_317 : BitVec 32 := 3#32
  let v526 : BitVec 32 := Scalar.addi v2 c3_i32_317
  let c4_i32_318 : BitVec 32 := 4#32
  let c0_i32_319 : BitVec 32 := 0#32
  let v527 : BitVec 1 := Scalar.cmpi .eq c4_i32_318 c0_i32_319
  let c1_i32_320 : BitVec 32 := 1#32
  let v528 : BitVec 32 := Scalar.select v527 c1_i32_320 c4_i32_318
  let v529 : BitVec 32 := Scalar.remsi v526 v528
  let c0_i32_322 : BitVec 32 := 0#32
  let v531 : BitVec 1 := Scalar.cmpi .slt v529 c0_i32_322
  let c0_i32_323 : BitVec 32 := 0#32
  let v532 : BitVec 1 := Scalar.cmpi .slt v528 c0_i32_323
  let v533 : BitVec 1 := Scalar.xori v531 v532
  let c0_i32_321 : BitVec 32 := 0#32
  let v530 : BitVec 1 := Scalar.cmpi .ne v529 c0_i32_321
  let v534 : BitVec 1 := Scalar.andi v533 v530
  let v535 : BitVec 32 := Scalar.addi v529 v528
  let v536 : BitVec 32 := Scalar.select v534 v535 v529
  let c0_i32_325 : BitVec 32 := 0#32
  let v538 : BitVec 1 := Scalar.cmpi .sgt v536 c0_i32_325
  let v539 : BitVec 32 := Scalar.extui v538
  let c0_i32_326 : BitVec 32 := 0#32
  let v540 : BitVec 1 := Scalar.cmpi .slt v536 c0_i32_326
  let v541 : BitVec 32 := Scalar.extui v540
  let v542 : BitVec 32 := Scalar.subi v539 v541
  let c2_i32_324 : BitVec 32 := 2#32
  let c0_i32_327 : BitVec 32 := 0#32
  let v543 : BitVec 1 := Scalar.cmpi .sgt c2_i32_324 c0_i32_327
  let v544 : BitVec 32 := Scalar.extui v543
  let c0_i32_328 : BitVec 32 := 0#32
  let v545 : BitVec 1 := Scalar.cmpi .slt c2_i32_324 c0_i32_328
  let v546 : BitVec 32 := Scalar.extui v545
  let v547 : BitVec 32 := Scalar.subi v544 v546
  let v548 : BitVec 1 := Scalar.cmpi .ne v542 v547
  let v549 : BitVec 32 := Scalar.remsi v536 c2_i32_324
  let c0_i32_329 : BitVec 32 := 0#32
  let v550 : BitVec 1 := Scalar.cmpi .ne v549 c0_i32_329
  let v551 : BitVec 1 := Scalar.andi v548 v550
  let v537 : BitVec 32 := Scalar.divsi v536 c2_i32_324
  let c1_i32_330 : BitVec 32 := 1#32
  let v552 : BitVec 32 := Scalar.subi v537 c1_i32_330
  let v553 : BitVec 32 := Scalar.select v551 v552 v537
  let c1_i32_331 : BitVec 32 := 1#32
  let v554 : BitVec 1 := Scalar.cmpi .eq v553 c1_i32_331
  let v555 : BitVec 32 := Scalar.extui v554
  let c0_i32_332 : BitVec 32 := 0#32
  let v556 : BitVec 1 := Scalar.cmpi .ne v555 c0_i32_332
  v556

def k0_off20 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_317 : BitVec 32 := 3#32
  let v526 : BitVec 32 := Scalar.addi v2 c3_i32_317
  let c4_i32_318 : BitVec 32 := 4#32
  let c0_i32_319 : BitVec 32 := 0#32
  let v527 : BitVec 1 := Scalar.cmpi .eq c4_i32_318 c0_i32_319
  let c1_i32_320 : BitVec 32 := 1#32
  let v528 : BitVec 32 := Scalar.select v527 c1_i32_320 c4_i32_318
  let v529 : BitVec 32 := Scalar.remsi v526 v528
  let c0_i32_322 : BitVec 32 := 0#32
  let v531 : BitVec 1 := Scalar.cmpi .slt v529 c0_i32_322
  let c0_i32_323 : BitVec 32 := 0#32
  let v532 : BitVec 1 := Scalar.cmpi .slt v528 c0_i32_323
  let v533 : BitVec 1 := Scalar.xori v531 v532
  let c0_i32_321 : BitVec 32 := 0#32
  let v530 : BitVec 1 := Scalar.cmpi .ne v529 c0_i32_321
  let v534 : BitVec 1 := Scalar.andi v533 v530
  let v535 : BitVec 32 := Scalar.addi v529 v528
  let v536 : BitVec 32 := Scalar.select v534 v535 v529
  let c0_i32_1299 : BitVec 32 := 0#32
  let c0_i32_1300 : BitVec 32 := 0#32
  ![v536.toNat, 0, 0]
def k0_dev12 (d0 : Dev nD) : Nat :=
  let c0_i32_1296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_317 : BitVec 32 := 3#32
  let v526 : BitVec 32 := Scalar.addi v2 c3_i32_317
  let c4_i32_318 : BitVec 32 := 4#32
  let c0_i32_319 : BitVec 32 := 0#32
  let v527 : BitVec 1 := Scalar.cmpi .eq c4_i32_318 c0_i32_319
  let c1_i32_320 : BitVec 32 := 1#32
  let v528 : BitVec 32 := Scalar.select v527 c1_i32_320 c4_i32_318
  let v529 : BitVec 32 := Scalar.remsi v526 v528
  let c0_i32_322 : BitVec 32 := 0#32
  let v531 : BitVec 1 := Scalar.cmpi .slt v529 c0_i32_322
  let c0_i32_323 : BitVec 32 := 0#32
  let v532 : BitVec 1 := Scalar.cmpi .slt v528 c0_i32_323
  let v533 : BitVec 1 := Scalar.xori v531 v532
  let c0_i32_321 : BitVec 32 := 0#32
  let v530 : BitVec 1 := Scalar.cmpi .ne v529 c0_i32_321
  let v534 : BitVec 1 := Scalar.andi v533 v530
  let v535 : BitVec 32 := Scalar.addi v529 v528
  let v536 : BitVec 32 := Scalar.select v534 v535 v529
  let c1_i32_1295 : BitVec 32 := 1#32
  let v1960 : BitVec 32 := Scalar.muli v536 c1_i32_1295
  let v1961 : BitVec 32 := Scalar.addi c0_i32_1296 v1960
  v1961.toNat
def k0_dev13 (d0 : Dev nD) : Nat :=
  let c0_i32_435 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_425 : BitVec 32 := 1#32
  let v663 : BitVec 32 := Scalar.addi v2 c1_i32_425
  let c4_i32_426 : BitVec 32 := 4#32
  let c0_i32_427 : BitVec 32 := 0#32
  let v664 : BitVec 1 := Scalar.cmpi .eq c4_i32_426 c0_i32_427
  let c1_i32_428 : BitVec 32 := 1#32
  let v665 : BitVec 32 := Scalar.select v664 c1_i32_428 c4_i32_426
  let v666 : BitVec 32 := Scalar.remsi v663 v665
  let c0_i32_430 : BitVec 32 := 0#32
  let v668 : BitVec 1 := Scalar.cmpi .slt v666 c0_i32_430
  let c0_i32_431 : BitVec 32 := 0#32
  let v669 : BitVec 1 := Scalar.cmpi .slt v665 c0_i32_431
  let v670 : BitVec 1 := Scalar.xori v668 v669
  let c0_i32_429 : BitVec 32 := 0#32
  let v667 : BitVec 1 := Scalar.cmpi .ne v666 c0_i32_429
  let v671 : BitVec 1 := Scalar.andi v670 v667
  let v672 : BitVec 32 := Scalar.addi v666 v665
  let v673 : BitVec 32 := Scalar.select v671 v672 v666
  let c1_i32_434 : BitVec 32 := 1#32
  let v674 : BitVec 32 := Scalar.muli v673 c1_i32_434
  let v675 : BitVec 32 := Scalar.addi c0_i32_435 v674
  v675.toNat
def k0_dev14 (d0 : Dev nD) : Nat :=
  let c0_i32_450 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_440 : BitVec 32 := 2#32
  let v684 : BitVec 32 := Scalar.addi v2 c2_i32_440
  let c4_i32_441 : BitVec 32 := 4#32
  let c0_i32_442 : BitVec 32 := 0#32
  let v685 : BitVec 1 := Scalar.cmpi .eq c4_i32_441 c0_i32_442
  let c1_i32_443 : BitVec 32 := 1#32
  let v686 : BitVec 32 := Scalar.select v685 c1_i32_443 c4_i32_441
  let v687 : BitVec 32 := Scalar.remsi v684 v686
  let c0_i32_445 : BitVec 32 := 0#32
  let v689 : BitVec 1 := Scalar.cmpi .slt v687 c0_i32_445
  let c0_i32_446 : BitVec 32 := 0#32
  let v690 : BitVec 1 := Scalar.cmpi .slt v686 c0_i32_446
  let v691 : BitVec 1 := Scalar.xori v689 v690
  let c0_i32_444 : BitVec 32 := 0#32
  let v688 : BitVec 1 := Scalar.cmpi .ne v687 c0_i32_444
  let v692 : BitVec 1 := Scalar.andi v691 v688
  let v693 : BitVec 32 := Scalar.addi v687 v686
  let v694 : BitVec 32 := Scalar.select v692 v693 v687
  let c1_i32_449 : BitVec 32 := 1#32
  let v695 : BitVec 32 := Scalar.muli v694 c1_i32_449
  let v696 : BitVec 32 := Scalar.addi c0_i32_450 v695
  v696.toNat
def k0_dev15 (d0 : Dev nD) : Nat :=
  let c0_i32_465 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_455 : BitVec 32 := 3#32
  let v705 : BitVec 32 := Scalar.addi v2 c3_i32_455
  let c4_i32_456 : BitVec 32 := 4#32
  let c0_i32_457 : BitVec 32 := 0#32
  let v706 : BitVec 1 := Scalar.cmpi .eq c4_i32_456 c0_i32_457
  let c1_i32_458 : BitVec 32 := 1#32
  let v707 : BitVec 32 := Scalar.select v706 c1_i32_458 c4_i32_456
  let v708 : BitVec 32 := Scalar.remsi v705 v707
  let c0_i32_460 : BitVec 32 := 0#32
  let v710 : BitVec 1 := Scalar.cmpi .slt v708 c0_i32_460
  let c0_i32_461 : BitVec 32 := 0#32
  let v711 : BitVec 1 := Scalar.cmpi .slt v707 c0_i32_461
  let v712 : BitVec 1 := Scalar.xori v710 v711
  let c0_i32_459 : BitVec 32 := 0#32
  let v709 : BitVec 1 := Scalar.cmpi .ne v708 c0_i32_459
  let v713 : BitVec 1 := Scalar.andi v712 v709
  let v714 : BitVec 32 := Scalar.addi v708 v707
  let v715 : BitVec 32 := Scalar.select v713 v714 v708
  let c1_i32_464 : BitVec 32 := 1#32
  let v716 : BitVec 32 := Scalar.muli v715 c1_i32_464
  let v717 : BitVec 32 := Scalar.addi c0_i32_465 v716
  v717.toNat
def k0_off21 (d0 : Dev nD) (c1_i32_479 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v736 : BitVec 32 := Scalar.addi v2 c1_i32_479
  let c4_i32_480 : BitVec 32 := 4#32
  let c0_i32_481 : BitVec 32 := 0#32
  let v737 : BitVec 1 := Scalar.cmpi .eq c4_i32_480 c0_i32_481
  let c1_i32_482 : BitVec 32 := 1#32
  let v738 : BitVec 32 := Scalar.select v737 c1_i32_482 c4_i32_480
  let v739 : BitVec 32 := Scalar.remsi v736 v738
  let c0_i32_484 : BitVec 32 := 0#32
  let v741 : BitVec 1 := Scalar.cmpi .slt v739 c0_i32_484
  let c0_i32_485 : BitVec 32 := 0#32
  let v742 : BitVec 1 := Scalar.cmpi .slt v738 c0_i32_485
  let v743 : BitVec 1 := Scalar.xori v741 v742
  let c0_i32_483 : BitVec 32 := 0#32
  let v740 : BitVec 1 := Scalar.cmpi .ne v739 c0_i32_483
  let v744 : BitVec 1 := Scalar.andi v743 v740
  let v745 : BitVec 32 := Scalar.addi v739 v738
  let v746 : BitVec 32 := Scalar.select v744 v745 v739
  let c0_i32_491 : BitVec 32 := 0#32
  let c0_i32_492 : BitVec 32 := 0#32
  ![v746.toNat, 0, 0]
def k0_cond13 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_527 : BitVec 32 := 1#32
  let v787 : BitVec 32 := Scalar.addi v2 c1_i32_527
  let c4_i32_528 : BitVec 32 := 4#32
  let c0_i32_529 : BitVec 32 := 0#32
  let v788 : BitVec 1 := Scalar.cmpi .eq c4_i32_528 c0_i32_529
  let c1_i32_530 : BitVec 32 := 1#32
  let v789 : BitVec 32 := Scalar.select v788 c1_i32_530 c4_i32_528
  let v790 : BitVec 32 := Scalar.remsi v787 v789
  let c0_i32_532 : BitVec 32 := 0#32
  let v792 : BitVec 1 := Scalar.cmpi .slt v790 c0_i32_532
  let c0_i32_533 : BitVec 32 := 0#32
  let v793 : BitVec 1 := Scalar.cmpi .slt v789 c0_i32_533
  let v794 : BitVec 1 := Scalar.xori v792 v793
  let c0_i32_531 : BitVec 32 := 0#32
  let v791 : BitVec 1 := Scalar.cmpi .ne v790 c0_i32_531
  let v795 : BitVec 1 := Scalar.andi v794 v791
  let v796 : BitVec 32 := Scalar.addi v790 v789
  let v797 : BitVec 32 := Scalar.select v795 v796 v790
  let c0_i32_535 : BitVec 32 := 0#32
  let v799 : BitVec 1 := Scalar.cmpi .sgt v797 c0_i32_535
  let v800 : BitVec 32 := Scalar.extui v799
  let c0_i32_536 : BitVec 32 := 0#32
  let v801 : BitVec 1 := Scalar.cmpi .slt v797 c0_i32_536
  let v802 : BitVec 32 := Scalar.extui v801
  let v803 : BitVec 32 := Scalar.subi v800 v802
  let c2_i32_534 : BitVec 32 := 2#32
  let c0_i32_537 : BitVec 32 := 0#32
  let v804 : BitVec 1 := Scalar.cmpi .sgt c2_i32_534 c0_i32_537
  let v805 : BitVec 32 := Scalar.extui v804
  let c0_i32_538 : BitVec 32 := 0#32
  let v806 : BitVec 1 := Scalar.cmpi .slt c2_i32_534 c0_i32_538
  let v807 : BitVec 32 := Scalar.extui v806
  let v808 : BitVec 32 := Scalar.subi v805 v807
  let v809 : BitVec 1 := Scalar.cmpi .ne v803 v808
  let v810 : BitVec 32 := Scalar.remsi v797 c2_i32_534
  let c0_i32_539 : BitVec 32 := 0#32
  let v811 : BitVec 1 := Scalar.cmpi .ne v810 c0_i32_539
  let v812 : BitVec 1 := Scalar.andi v809 v811
  let v798 : BitVec 32 := Scalar.divsi v797 c2_i32_534
  let c1_i32_540 : BitVec 32 := 1#32
  let v813 : BitVec 32 := Scalar.subi v798 c1_i32_540
  let v814 : BitVec 32 := Scalar.select v812 v813 v798
  let c0_i32_541 : BitVec 32 := 0#32
  let v815 : BitVec 1 := Scalar.cmpi .eq v814 c0_i32_541
  let v816 : BitVec 32 := Scalar.extui v815
  let c0_i32_542 : BitVec 32 := 0#32
  let v817 : BitVec 1 := Scalar.cmpi .ne v816 c0_i32_542
  v817

def k0_off22 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_527 : BitVec 32 := 1#32
  let v787 : BitVec 32 := Scalar.addi v2 c1_i32_527
  let c4_i32_528 : BitVec 32 := 4#32
  let c0_i32_529 : BitVec 32 := 0#32
  let v788 : BitVec 1 := Scalar.cmpi .eq c4_i32_528 c0_i32_529
  let c1_i32_530 : BitVec 32 := 1#32
  let v789 : BitVec 32 := Scalar.select v788 c1_i32_530 c4_i32_528
  let v790 : BitVec 32 := Scalar.remsi v787 v789
  let c0_i32_532 : BitVec 32 := 0#32
  let v792 : BitVec 1 := Scalar.cmpi .slt v790 c0_i32_532
  let c0_i32_533 : BitVec 32 := 0#32
  let v793 : BitVec 1 := Scalar.cmpi .slt v789 c0_i32_533
  let v794 : BitVec 1 := Scalar.xori v792 v793
  let c0_i32_531 : BitVec 32 := 0#32
  let v791 : BitVec 1 := Scalar.cmpi .ne v790 c0_i32_531
  let v795 : BitVec 1 := Scalar.andi v794 v791
  let v796 : BitVec 32 := Scalar.addi v790 v789
  let v797 : BitVec 32 := Scalar.select v795 v796 v790
  let c0_i32_1297 : BitVec 32 := 0#32
  let c0_i32_1298 : BitVec 32 := 0#32
  ![v797.toNat, 0, 0]
def k0_off23 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1299 : BitVec 32 := 0#32
  let c0_i32_1300 : BitVec 32 := 0#32
  ![v2.toNat, 0, 0]
def k0_cond14 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_543 : BitVec 32 := 2#32
  let v818 : BitVec 32 := Scalar.addi v2 c2_i32_543
  let c4_i32_544 : BitVec 32 := 4#32
  let c0_i32_545 : BitVec 32 := 0#32
  let v819 : BitVec 1 := Scalar.cmpi .eq c4_i32_544 c0_i32_545
  let c1_i32_546 : BitVec 32 := 1#32
  let v820 : BitVec 32 := Scalar.select v819 c1_i32_546 c4_i32_544
  let v821 : BitVec 32 := Scalar.remsi v818 v820
  let c0_i32_548 : BitVec 32 := 0#32
  let v823 : BitVec 1 := Scalar.cmpi .slt v821 c0_i32_548
  let c0_i32_549 : BitVec 32 := 0#32
  let v824 : BitVec 1 := Scalar.cmpi .slt v820 c0_i32_549
  let v825 : BitVec 1 := Scalar.xori v823 v824
  let c0_i32_547 : BitVec 32 := 0#32
  let v822 : BitVec 1 := Scalar.cmpi .ne v821 c0_i32_547
  let v826 : BitVec 1 := Scalar.andi v825 v822
  let v827 : BitVec 32 := Scalar.addi v821 v820
  let v828 : BitVec 32 := Scalar.select v826 v827 v821
  let c0_i32_551 : BitVec 32 := 0#32
  let v830 : BitVec 1 := Scalar.cmpi .sgt v828 c0_i32_551
  let v831 : BitVec 32 := Scalar.extui v830
  let c0_i32_552 : BitVec 32 := 0#32
  let v832 : BitVec 1 := Scalar.cmpi .slt v828 c0_i32_552
  let v833 : BitVec 32 := Scalar.extui v832
  let v834 : BitVec 32 := Scalar.subi v831 v833
  let c2_i32_550 : BitVec 32 := 2#32
  let c0_i32_553 : BitVec 32 := 0#32
  let v835 : BitVec 1 := Scalar.cmpi .sgt c2_i32_550 c0_i32_553
  let v836 : BitVec 32 := Scalar.extui v835
  let c0_i32_554 : BitVec 32 := 0#32
  let v837 : BitVec 1 := Scalar.cmpi .slt c2_i32_550 c0_i32_554
  let v838 : BitVec 32 := Scalar.extui v837
  let v839 : BitVec 32 := Scalar.subi v836 v838
  let v840 : BitVec 1 := Scalar.cmpi .ne v834 v839
  let v841 : BitVec 32 := Scalar.remsi v828 c2_i32_550
  let c0_i32_555 : BitVec 32 := 0#32
  let v842 : BitVec 1 := Scalar.cmpi .ne v841 c0_i32_555
  let v843 : BitVec 1 := Scalar.andi v840 v842
  let v829 : BitVec 32 := Scalar.divsi v828 c2_i32_550
  let c1_i32_556 : BitVec 32 := 1#32
  let v844 : BitVec 32 := Scalar.subi v829 c1_i32_556
  let v845 : BitVec 32 := Scalar.select v843 v844 v829
  let c0_i32_557 : BitVec 32 := 0#32
  let v846 : BitVec 1 := Scalar.cmpi .eq v845 c0_i32_557
  let v847 : BitVec 32 := Scalar.extui v846
  let c0_i32_558 : BitVec 32 := 0#32
  let v848 : BitVec 1 := Scalar.cmpi .ne v847 c0_i32_558
  v848

def k0_off24 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_543 : BitVec 32 := 2#32
  let v818 : BitVec 32 := Scalar.addi v2 c2_i32_543
  let c4_i32_544 : BitVec 32 := 4#32
  let c0_i32_545 : BitVec 32 := 0#32
  let v819 : BitVec 1 := Scalar.cmpi .eq c4_i32_544 c0_i32_545
  let c1_i32_546 : BitVec 32 := 1#32
  let v820 : BitVec 32 := Scalar.select v819 c1_i32_546 c4_i32_544
  let v821 : BitVec 32 := Scalar.remsi v818 v820
  let c0_i32_548 : BitVec 32 := 0#32
  let v823 : BitVec 1 := Scalar.cmpi .slt v821 c0_i32_548
  let c0_i32_549 : BitVec 32 := 0#32
  let v824 : BitVec 1 := Scalar.cmpi .slt v820 c0_i32_549
  let v825 : BitVec 1 := Scalar.xori v823 v824
  let c0_i32_547 : BitVec 32 := 0#32
  let v822 : BitVec 1 := Scalar.cmpi .ne v821 c0_i32_547
  let v826 : BitVec 1 := Scalar.andi v825 v822
  let v827 : BitVec 32 := Scalar.addi v821 v820
  let v828 : BitVec 32 := Scalar.select v826 v827 v821
  let c0_i32_1297 : BitVec 32 := 0#32
  let c0_i32_1298 : BitVec 32 := 0#32
  ![v828.toNat, 0, 0]
def k0_off25 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1299 : BitVec 32 := 0#32
  let c0_i32_1300 : BitVec 32 := 0#32
  ![v2.toNat, 0, 0]
def k0_cond15 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_559 : BitVec 32 := 3#32
  let v849 : BitVec 32 := Scalar.addi v2 c3_i32_559
  let c4_i32_560 : BitVec 32 := 4#32
  let c0_i32_561 : BitVec 32 := 0#32
  let v850 : BitVec 1 := Scalar.cmpi .eq c4_i32_560 c0_i32_561
  let c1_i32_562 : BitVec 32 := 1#32
  let v851 : BitVec 32 := Scalar.select v850 c1_i32_562 c4_i32_560
  let v852 : BitVec 32 := Scalar.remsi v849 v851
  let c0_i32_564 : BitVec 32 := 0#32
  let v854 : BitVec 1 := Scalar.cmpi .slt v852 c0_i32_564
  let c0_i32_565 : BitVec 32 := 0#32
  let v855 : BitVec 1 := Scalar.cmpi .slt v851 c0_i32_565
  let v856 : BitVec 1 := Scalar.xori v854 v855
  let c0_i32_563 : BitVec 32 := 0#32
  let v853 : BitVec 1 := Scalar.cmpi .ne v852 c0_i32_563
  let v857 : BitVec 1 := Scalar.andi v856 v853
  let v858 : BitVec 32 := Scalar.addi v852 v851
  let v859 : BitVec 32 := Scalar.select v857 v858 v852
  let c0_i32_567 : BitVec 32 := 0#32
  let v861 : BitVec 1 := Scalar.cmpi .sgt v859 c0_i32_567
  let v862 : BitVec 32 := Scalar.extui v861
  let c0_i32_568 : BitVec 32 := 0#32
  let v863 : BitVec 1 := Scalar.cmpi .slt v859 c0_i32_568
  let v864 : BitVec 32 := Scalar.extui v863
  let v865 : BitVec 32 := Scalar.subi v862 v864
  let c2_i32_566 : BitVec 32 := 2#32
  let c0_i32_569 : BitVec 32 := 0#32
  let v866 : BitVec 1 := Scalar.cmpi .sgt c2_i32_566 c0_i32_569
  let v867 : BitVec 32 := Scalar.extui v866
  let c0_i32_570 : BitVec 32 := 0#32
  let v868 : BitVec 1 := Scalar.cmpi .slt c2_i32_566 c0_i32_570
  let v869 : BitVec 32 := Scalar.extui v868
  let v870 : BitVec 32 := Scalar.subi v867 v869
  let v871 : BitVec 1 := Scalar.cmpi .ne v865 v870
  let v872 : BitVec 32 := Scalar.remsi v859 c2_i32_566
  let c0_i32_571 : BitVec 32 := 0#32
  let v873 : BitVec 1 := Scalar.cmpi .ne v872 c0_i32_571
  let v874 : BitVec 1 := Scalar.andi v871 v873
  let v860 : BitVec 32 := Scalar.divsi v859 c2_i32_566
  let c1_i32_572 : BitVec 32 := 1#32
  let v875 : BitVec 32 := Scalar.subi v860 c1_i32_572
  let v876 : BitVec 32 := Scalar.select v874 v875 v860
  let c0_i32_573 : BitVec 32 := 0#32
  let v877 : BitVec 1 := Scalar.cmpi .eq v876 c0_i32_573
  let v878 : BitVec 32 := Scalar.extui v877
  let c0_i32_574 : BitVec 32 := 0#32
  let v879 : BitVec 1 := Scalar.cmpi .ne v878 c0_i32_574
  v879

def k0_off26 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_559 : BitVec 32 := 3#32
  let v849 : BitVec 32 := Scalar.addi v2 c3_i32_559
  let c4_i32_560 : BitVec 32 := 4#32
  let c0_i32_561 : BitVec 32 := 0#32
  let v850 : BitVec 1 := Scalar.cmpi .eq c4_i32_560 c0_i32_561
  let c1_i32_562 : BitVec 32 := 1#32
  let v851 : BitVec 32 := Scalar.select v850 c1_i32_562 c4_i32_560
  let v852 : BitVec 32 := Scalar.remsi v849 v851
  let c0_i32_564 : BitVec 32 := 0#32
  let v854 : BitVec 1 := Scalar.cmpi .slt v852 c0_i32_564
  let c0_i32_565 : BitVec 32 := 0#32
  let v855 : BitVec 1 := Scalar.cmpi .slt v851 c0_i32_565
  let v856 : BitVec 1 := Scalar.xori v854 v855
  let c0_i32_563 : BitVec 32 := 0#32
  let v853 : BitVec 1 := Scalar.cmpi .ne v852 c0_i32_563
  let v857 : BitVec 1 := Scalar.andi v856 v853
  let v858 : BitVec 32 := Scalar.addi v852 v851
  let v859 : BitVec 32 := Scalar.select v857 v858 v852
  let c0_i32_1297 : BitVec 32 := 0#32
  let c0_i32_1298 : BitVec 32 := 0#32
  ![v859.toNat, 0, 0]
def k0_off27 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1299 : BitVec 32 := 0#32
  let c0_i32_1300 : BitVec 32 := 0#32
  ![v2.toNat, 0, 0]
def k0_cond16 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_588 : BitVec 32 := 1#32
  let v894 : BitVec 32 := Scalar.addi v2 c1_i32_588
  let c4_i32_589 : BitVec 32 := 4#32
  let c0_i32_590 : BitVec 32 := 0#32
  let v895 : BitVec 1 := Scalar.cmpi .eq c4_i32_589 c0_i32_590
  let c1_i32_591 : BitVec 32 := 1#32
  let v896 : BitVec 32 := Scalar.select v895 c1_i32_591 c4_i32_589
  let v897 : BitVec 32 := Scalar.remsi v894 v896
  let c0_i32_593 : BitVec 32 := 0#32
  let v899 : BitVec 1 := Scalar.cmpi .slt v897 c0_i32_593
  let c0_i32_594 : BitVec 32 := 0#32
  let v900 : BitVec 1 := Scalar.cmpi .slt v896 c0_i32_594
  let v901 : BitVec 1 := Scalar.xori v899 v900
  let c0_i32_592 : BitVec 32 := 0#32
  let v898 : BitVec 1 := Scalar.cmpi .ne v897 c0_i32_592
  let v902 : BitVec 1 := Scalar.andi v901 v898
  let v903 : BitVec 32 := Scalar.addi v897 v896
  let v904 : BitVec 32 := Scalar.select v902 v903 v897
  let c0_i32_596 : BitVec 32 := 0#32
  let v906 : BitVec 1 := Scalar.cmpi .sgt v904 c0_i32_596
  let v907 : BitVec 32 := Scalar.extui v906
  let c0_i32_597 : BitVec 32 := 0#32
  let v908 : BitVec 1 := Scalar.cmpi .slt v904 c0_i32_597
  let v909 : BitVec 32 := Scalar.extui v908
  let v910 : BitVec 32 := Scalar.subi v907 v909
  let c2_i32_595 : BitVec 32 := 2#32
  let c0_i32_598 : BitVec 32 := 0#32
  let v911 : BitVec 1 := Scalar.cmpi .sgt c2_i32_595 c0_i32_598
  let v912 : BitVec 32 := Scalar.extui v911
  let c0_i32_599 : BitVec 32 := 0#32
  let v913 : BitVec 1 := Scalar.cmpi .slt c2_i32_595 c0_i32_599
  let v914 : BitVec 32 := Scalar.extui v913
  let v915 : BitVec 32 := Scalar.subi v912 v914
  let v916 : BitVec 1 := Scalar.cmpi .ne v910 v915
  let v917 : BitVec 32 := Scalar.remsi v904 c2_i32_595
  let c0_i32_600 : BitVec 32 := 0#32
  let v918 : BitVec 1 := Scalar.cmpi .ne v917 c0_i32_600
  let v919 : BitVec 1 := Scalar.andi v916 v918
  let v905 : BitVec 32 := Scalar.divsi v904 c2_i32_595
  let c1_i32_601 : BitVec 32 := 1#32
  let v920 : BitVec 32 := Scalar.subi v905 c1_i32_601
  let v921 : BitVec 32 := Scalar.select v919 v920 v905
  let c0_i32_602 : BitVec 32 := 0#32
  let v922 : BitVec 1 := Scalar.cmpi .eq v921 c0_i32_602
  let v923 : BitVec 32 := Scalar.extui v922
  let c0_i32_603 : BitVec 32 := 0#32
  let v924 : BitVec 1 := Scalar.cmpi .ne v923 c0_i32_603
  v924

def k0_off28 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_588 : BitVec 32 := 1#32
  let v894 : BitVec 32 := Scalar.addi v2 c1_i32_588
  let c4_i32_589 : BitVec 32 := 4#32
  let c0_i32_590 : BitVec 32 := 0#32
  let v895 : BitVec 1 := Scalar.cmpi .eq c4_i32_589 c0_i32_590
  let c1_i32_591 : BitVec 32 := 1#32
  let v896 : BitVec 32 := Scalar.select v895 c1_i32_591 c4_i32_589
  let v897 : BitVec 32 := Scalar.remsi v894 v896
  let c0_i32_593 : BitVec 32 := 0#32
  let v899 : BitVec 1 := Scalar.cmpi .slt v897 c0_i32_593
  let c0_i32_594 : BitVec 32 := 0#32
  let v900 : BitVec 1 := Scalar.cmpi .slt v896 c0_i32_594
  let v901 : BitVec 1 := Scalar.xori v899 v900
  let c0_i32_592 : BitVec 32 := 0#32
  let v898 : BitVec 1 := Scalar.cmpi .ne v897 c0_i32_592
  let v902 : BitVec 1 := Scalar.andi v901 v898
  let v903 : BitVec 32 := Scalar.addi v897 v896
  let v904 : BitVec 32 := Scalar.select v902 v903 v897
  let c0_i32_1299 : BitVec 32 := 0#32
  let c0_i32_1300 : BitVec 32 := 0#32
  ![v904.toNat, 0, 0]
def k0_dev16 (d0 : Dev nD) : Nat :=
  let c0_i32_1296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_588 : BitVec 32 := 1#32
  let v894 : BitVec 32 := Scalar.addi v2 c1_i32_588
  let c4_i32_589 : BitVec 32 := 4#32
  let c0_i32_590 : BitVec 32 := 0#32
  let v895 : BitVec 1 := Scalar.cmpi .eq c4_i32_589 c0_i32_590
  let c1_i32_591 : BitVec 32 := 1#32
  let v896 : BitVec 32 := Scalar.select v895 c1_i32_591 c4_i32_589
  let v897 : BitVec 32 := Scalar.remsi v894 v896
  let c0_i32_593 : BitVec 32 := 0#32
  let v899 : BitVec 1 := Scalar.cmpi .slt v897 c0_i32_593
  let c0_i32_594 : BitVec 32 := 0#32
  let v900 : BitVec 1 := Scalar.cmpi .slt v896 c0_i32_594
  let v901 : BitVec 1 := Scalar.xori v899 v900
  let c0_i32_592 : BitVec 32 := 0#32
  let v898 : BitVec 1 := Scalar.cmpi .ne v897 c0_i32_592
  let v902 : BitVec 1 := Scalar.andi v901 v898
  let v903 : BitVec 32 := Scalar.addi v897 v896
  let v904 : BitVec 32 := Scalar.select v902 v903 v897
  let c1_i32_1295 : BitVec 32 := 1#32
  let v1960 : BitVec 32 := Scalar.muli v904 c1_i32_1295
  let v1961 : BitVec 32 := Scalar.addi c0_i32_1296 v1960
  v1961.toNat
def k0_cond17 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_604 : BitVec 32 := 2#32
  let v925 : BitVec 32 := Scalar.addi v2 c2_i32_604
  let c4_i32_605 : BitVec 32 := 4#32
  let c0_i32_606 : BitVec 32 := 0#32
  let v926 : BitVec 1 := Scalar.cmpi .eq c4_i32_605 c0_i32_606
  let c1_i32_607 : BitVec 32 := 1#32
  let v927 : BitVec 32 := Scalar.select v926 c1_i32_607 c4_i32_605
  let v928 : BitVec 32 := Scalar.remsi v925 v927
  let c0_i32_609 : BitVec 32 := 0#32
  let v930 : BitVec 1 := Scalar.cmpi .slt v928 c0_i32_609
  let c0_i32_610 : BitVec 32 := 0#32
  let v931 : BitVec 1 := Scalar.cmpi .slt v927 c0_i32_610
  let v932 : BitVec 1 := Scalar.xori v930 v931
  let c0_i32_608 : BitVec 32 := 0#32
  let v929 : BitVec 1 := Scalar.cmpi .ne v928 c0_i32_608
  let v933 : BitVec 1 := Scalar.andi v932 v929
  let v934 : BitVec 32 := Scalar.addi v928 v927
  let v935 : BitVec 32 := Scalar.select v933 v934 v928
  let c0_i32_612 : BitVec 32 := 0#32
  let v937 : BitVec 1 := Scalar.cmpi .sgt v935 c0_i32_612
  let v938 : BitVec 32 := Scalar.extui v937
  let c0_i32_613 : BitVec 32 := 0#32
  let v939 : BitVec 1 := Scalar.cmpi .slt v935 c0_i32_613
  let v940 : BitVec 32 := Scalar.extui v939
  let v941 : BitVec 32 := Scalar.subi v938 v940
  let c2_i32_611 : BitVec 32 := 2#32
  let c0_i32_614 : BitVec 32 := 0#32
  let v942 : BitVec 1 := Scalar.cmpi .sgt c2_i32_611 c0_i32_614
  let v943 : BitVec 32 := Scalar.extui v942
  let c0_i32_615 : BitVec 32 := 0#32
  let v944 : BitVec 1 := Scalar.cmpi .slt c2_i32_611 c0_i32_615
  let v945 : BitVec 32 := Scalar.extui v944
  let v946 : BitVec 32 := Scalar.subi v943 v945
  let v947 : BitVec 1 := Scalar.cmpi .ne v941 v946
  let v948 : BitVec 32 := Scalar.remsi v935 c2_i32_611
  let c0_i32_616 : BitVec 32 := 0#32
  let v949 : BitVec 1 := Scalar.cmpi .ne v948 c0_i32_616
  let v950 : BitVec 1 := Scalar.andi v947 v949
  let v936 : BitVec 32 := Scalar.divsi v935 c2_i32_611
  let c1_i32_617 : BitVec 32 := 1#32
  let v951 : BitVec 32 := Scalar.subi v936 c1_i32_617
  let v952 : BitVec 32 := Scalar.select v950 v951 v936
  let c0_i32_618 : BitVec 32 := 0#32
  let v953 : BitVec 1 := Scalar.cmpi .eq v952 c0_i32_618
  let v954 : BitVec 32 := Scalar.extui v953
  let c0_i32_619 : BitVec 32 := 0#32
  let v955 : BitVec 1 := Scalar.cmpi .ne v954 c0_i32_619
  v955

def k0_off29 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_604 : BitVec 32 := 2#32
  let v925 : BitVec 32 := Scalar.addi v2 c2_i32_604
  let c4_i32_605 : BitVec 32 := 4#32
  let c0_i32_606 : BitVec 32 := 0#32
  let v926 : BitVec 1 := Scalar.cmpi .eq c4_i32_605 c0_i32_606
  let c1_i32_607 : BitVec 32 := 1#32
  let v927 : BitVec 32 := Scalar.select v926 c1_i32_607 c4_i32_605
  let v928 : BitVec 32 := Scalar.remsi v925 v927
  let c0_i32_609 : BitVec 32 := 0#32
  let v930 : BitVec 1 := Scalar.cmpi .slt v928 c0_i32_609
  let c0_i32_610 : BitVec 32 := 0#32
  let v931 : BitVec 1 := Scalar.cmpi .slt v927 c0_i32_610
  let v932 : BitVec 1 := Scalar.xori v930 v931
  let c0_i32_608 : BitVec 32 := 0#32
  let v929 : BitVec 1 := Scalar.cmpi .ne v928 c0_i32_608
  let v933 : BitVec 1 := Scalar.andi v932 v929
  let v934 : BitVec 32 := Scalar.addi v928 v927
  let v935 : BitVec 32 := Scalar.select v933 v934 v928
  let c0_i32_1299 : BitVec 32 := 0#32
  let c0_i32_1300 : BitVec 32 := 0#32
  ![v935.toNat, 0, 0]
def k0_dev17 (d0 : Dev nD) : Nat :=
  let c0_i32_1296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_604 : BitVec 32 := 2#32
  let v925 : BitVec 32 := Scalar.addi v2 c2_i32_604
  let c4_i32_605 : BitVec 32 := 4#32
  let c0_i32_606 : BitVec 32 := 0#32
  let v926 : BitVec 1 := Scalar.cmpi .eq c4_i32_605 c0_i32_606
  let c1_i32_607 : BitVec 32 := 1#32
  let v927 : BitVec 32 := Scalar.select v926 c1_i32_607 c4_i32_605
  let v928 : BitVec 32 := Scalar.remsi v925 v927
  let c0_i32_609 : BitVec 32 := 0#32
  let v930 : BitVec 1 := Scalar.cmpi .slt v928 c0_i32_609
  let c0_i32_610 : BitVec 32 := 0#32
  let v931 : BitVec 1 := Scalar.cmpi .slt v927 c0_i32_610
  let v932 : BitVec 1 := Scalar.xori v930 v931
  let c0_i32_608 : BitVec 32 := 0#32
  let v929 : BitVec 1 := Scalar.cmpi .ne v928 c0_i32_608
  let v933 : BitVec 1 := Scalar.andi v932 v929
  let v934 : BitVec 32 := Scalar.addi v928 v927
  let v935 : BitVec 32 := Scalar.select v933 v934 v928
  let c1_i32_1295 : BitVec 32 := 1#32
  let v1960 : BitVec 32 := Scalar.muli v935 c1_i32_1295
  let v1961 : BitVec 32 := Scalar.addi c0_i32_1296 v1960
  v1961.toNat
def k0_cond18 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_620 : BitVec 32 := 3#32
  let v956 : BitVec 32 := Scalar.addi v2 c3_i32_620
  let c4_i32_621 : BitVec 32 := 4#32
  let c0_i32_622 : BitVec 32 := 0#32
  let v957 : BitVec 1 := Scalar.cmpi .eq c4_i32_621 c0_i32_622
  let c1_i32_623 : BitVec 32 := 1#32
  let v958 : BitVec 32 := Scalar.select v957 c1_i32_623 c4_i32_621
  let v959 : BitVec 32 := Scalar.remsi v956 v958
  let c0_i32_625 : BitVec 32 := 0#32
  let v961 : BitVec 1 := Scalar.cmpi .slt v959 c0_i32_625
  let c0_i32_626 : BitVec 32 := 0#32
  let v962 : BitVec 1 := Scalar.cmpi .slt v958 c0_i32_626
  let v963 : BitVec 1 := Scalar.xori v961 v962
  let c0_i32_624 : BitVec 32 := 0#32
  let v960 : BitVec 1 := Scalar.cmpi .ne v959 c0_i32_624
  let v964 : BitVec 1 := Scalar.andi v963 v960
  let v965 : BitVec 32 := Scalar.addi v959 v958
  let v966 : BitVec 32 := Scalar.select v964 v965 v959
  let c0_i32_628 : BitVec 32 := 0#32
  let v968 : BitVec 1 := Scalar.cmpi .sgt v966 c0_i32_628
  let v969 : BitVec 32 := Scalar.extui v968
  let c0_i32_629 : BitVec 32 := 0#32
  let v970 : BitVec 1 := Scalar.cmpi .slt v966 c0_i32_629
  let v971 : BitVec 32 := Scalar.extui v970
  let v972 : BitVec 32 := Scalar.subi v969 v971
  let c2_i32_627 : BitVec 32 := 2#32
  let c0_i32_630 : BitVec 32 := 0#32
  let v973 : BitVec 1 := Scalar.cmpi .sgt c2_i32_627 c0_i32_630
  let v974 : BitVec 32 := Scalar.extui v973
  let c0_i32_631 : BitVec 32 := 0#32
  let v975 : BitVec 1 := Scalar.cmpi .slt c2_i32_627 c0_i32_631
  let v976 : BitVec 32 := Scalar.extui v975
  let v977 : BitVec 32 := Scalar.subi v974 v976
  let v978 : BitVec 1 := Scalar.cmpi .ne v972 v977
  let v979 : BitVec 32 := Scalar.remsi v966 c2_i32_627
  let c0_i32_632 : BitVec 32 := 0#32
  let v980 : BitVec 1 := Scalar.cmpi .ne v979 c0_i32_632
  let v981 : BitVec 1 := Scalar.andi v978 v980
  let v967 : BitVec 32 := Scalar.divsi v966 c2_i32_627
  let c1_i32_633 : BitVec 32 := 1#32
  let v982 : BitVec 32 := Scalar.subi v967 c1_i32_633
  let v983 : BitVec 32 := Scalar.select v981 v982 v967
  let c0_i32_634 : BitVec 32 := 0#32
  let v984 : BitVec 1 := Scalar.cmpi .eq v983 c0_i32_634
  let v985 : BitVec 32 := Scalar.extui v984
  let c0_i32_635 : BitVec 32 := 0#32
  let v986 : BitVec 1 := Scalar.cmpi .ne v985 c0_i32_635
  v986

def k0_off30 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_620 : BitVec 32 := 3#32
  let v956 : BitVec 32 := Scalar.addi v2 c3_i32_620
  let c4_i32_621 : BitVec 32 := 4#32
  let c0_i32_622 : BitVec 32 := 0#32
  let v957 : BitVec 1 := Scalar.cmpi .eq c4_i32_621 c0_i32_622
  let c1_i32_623 : BitVec 32 := 1#32
  let v958 : BitVec 32 := Scalar.select v957 c1_i32_623 c4_i32_621
  let v959 : BitVec 32 := Scalar.remsi v956 v958
  let c0_i32_625 : BitVec 32 := 0#32
  let v961 : BitVec 1 := Scalar.cmpi .slt v959 c0_i32_625
  let c0_i32_626 : BitVec 32 := 0#32
  let v962 : BitVec 1 := Scalar.cmpi .slt v958 c0_i32_626
  let v963 : BitVec 1 := Scalar.xori v961 v962
  let c0_i32_624 : BitVec 32 := 0#32
  let v960 : BitVec 1 := Scalar.cmpi .ne v959 c0_i32_624
  let v964 : BitVec 1 := Scalar.andi v963 v960
  let v965 : BitVec 32 := Scalar.addi v959 v958
  let v966 : BitVec 32 := Scalar.select v964 v965 v959
  let c0_i32_1299 : BitVec 32 := 0#32
  let c0_i32_1300 : BitVec 32 := 0#32
  ![v966.toNat, 0, 0]
def k0_dev18 (d0 : Dev nD) : Nat :=
  let c0_i32_1296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_620 : BitVec 32 := 3#32
  let v956 : BitVec 32 := Scalar.addi v2 c3_i32_620
  let c4_i32_621 : BitVec 32 := 4#32
  let c0_i32_622 : BitVec 32 := 0#32
  let v957 : BitVec 1 := Scalar.cmpi .eq c4_i32_621 c0_i32_622
  let c1_i32_623 : BitVec 32 := 1#32
  let v958 : BitVec 32 := Scalar.select v957 c1_i32_623 c4_i32_621
  let v959 : BitVec 32 := Scalar.remsi v956 v958
  let c0_i32_625 : BitVec 32 := 0#32
  let v961 : BitVec 1 := Scalar.cmpi .slt v959 c0_i32_625
  let c0_i32_626 : BitVec 32 := 0#32
  let v962 : BitVec 1 := Scalar.cmpi .slt v958 c0_i32_626
  let v963 : BitVec 1 := Scalar.xori v961 v962
  let c0_i32_624 : BitVec 32 := 0#32
  let v960 : BitVec 1 := Scalar.cmpi .ne v959 c0_i32_624
  let v964 : BitVec 1 := Scalar.andi v963 v960
  let v965 : BitVec 32 := Scalar.addi v959 v958
  let v966 : BitVec 32 := Scalar.select v964 v965 v959
  let c1_i32_1295 : BitVec 32 := 1#32
  let v1960 : BitVec 32 := Scalar.muli v966 c1_i32_1295
  let v1961 : BitVec 32 := Scalar.addi c0_i32_1296 v1960
  v1961.toNat
def k0_cond19 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_636 : BitVec 32 := 1#32
  let v987 : BitVec 32 := Scalar.addi v2 c1_i32_636
  let c4_i32_637 : BitVec 32 := 4#32
  let c0_i32_638 : BitVec 32 := 0#32
  let v988 : BitVec 1 := Scalar.cmpi .eq c4_i32_637 c0_i32_638
  let c1_i32_639 : BitVec 32 := 1#32
  let v989 : BitVec 32 := Scalar.select v988 c1_i32_639 c4_i32_637
  let v990 : BitVec 32 := Scalar.remsi v987 v989
  let c0_i32_641 : BitVec 32 := 0#32
  let v992 : BitVec 1 := Scalar.cmpi .slt v990 c0_i32_641
  let c0_i32_642 : BitVec 32 := 0#32
  let v993 : BitVec 1 := Scalar.cmpi .slt v989 c0_i32_642
  let v994 : BitVec 1 := Scalar.xori v992 v993
  let c0_i32_640 : BitVec 32 := 0#32
  let v991 : BitVec 1 := Scalar.cmpi .ne v990 c0_i32_640
  let v995 : BitVec 1 := Scalar.andi v994 v991
  let v996 : BitVec 32 := Scalar.addi v990 v989
  let v997 : BitVec 32 := Scalar.select v995 v996 v990
  let c0_i32_644 : BitVec 32 := 0#32
  let v999 : BitVec 1 := Scalar.cmpi .sgt v997 c0_i32_644
  let v1000 : BitVec 32 := Scalar.extui v999
  let c0_i32_645 : BitVec 32 := 0#32
  let v1001 : BitVec 1 := Scalar.cmpi .slt v997 c0_i32_645
  let v1002 : BitVec 32 := Scalar.extui v1001
  let v1003 : BitVec 32 := Scalar.subi v1000 v1002
  let c2_i32_643 : BitVec 32 := 2#32
  let c0_i32_646 : BitVec 32 := 0#32
  let v1004 : BitVec 1 := Scalar.cmpi .sgt c2_i32_643 c0_i32_646
  let v1005 : BitVec 32 := Scalar.extui v1004
  let c0_i32_647 : BitVec 32 := 0#32
  let v1006 : BitVec 1 := Scalar.cmpi .slt c2_i32_643 c0_i32_647
  let v1007 : BitVec 32 := Scalar.extui v1006
  let v1008 : BitVec 32 := Scalar.subi v1005 v1007
  let v1009 : BitVec 1 := Scalar.cmpi .ne v1003 v1008
  let v1010 : BitVec 32 := Scalar.remsi v997 c2_i32_643
  let c0_i32_648 : BitVec 32 := 0#32
  let v1011 : BitVec 1 := Scalar.cmpi .ne v1010 c0_i32_648
  let v1012 : BitVec 1 := Scalar.andi v1009 v1011
  let v998 : BitVec 32 := Scalar.divsi v997 c2_i32_643
  let c1_i32_649 : BitVec 32 := 1#32
  let v1013 : BitVec 32 := Scalar.subi v998 c1_i32_649
  let v1014 : BitVec 32 := Scalar.select v1012 v1013 v998
  let c1_i32_650 : BitVec 32 := 1#32
  let v1015 : BitVec 1 := Scalar.cmpi .eq v1014 c1_i32_650
  let v1016 : BitVec 32 := Scalar.extui v1015
  let c0_i32_651 : BitVec 32 := 0#32
  let v1017 : BitVec 1 := Scalar.cmpi .ne v1016 c0_i32_651
  v1017

def k0_off31 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_636 : BitVec 32 := 1#32
  let v987 : BitVec 32 := Scalar.addi v2 c1_i32_636
  let c4_i32_637 : BitVec 32 := 4#32
  let c0_i32_638 : BitVec 32 := 0#32
  let v988 : BitVec 1 := Scalar.cmpi .eq c4_i32_637 c0_i32_638
  let c1_i32_639 : BitVec 32 := 1#32
  let v989 : BitVec 32 := Scalar.select v988 c1_i32_639 c4_i32_637
  let v990 : BitVec 32 := Scalar.remsi v987 v989
  let c0_i32_641 : BitVec 32 := 0#32
  let v992 : BitVec 1 := Scalar.cmpi .slt v990 c0_i32_641
  let c0_i32_642 : BitVec 32 := 0#32
  let v993 : BitVec 1 := Scalar.cmpi .slt v989 c0_i32_642
  let v994 : BitVec 1 := Scalar.xori v992 v993
  let c0_i32_640 : BitVec 32 := 0#32
  let v991 : BitVec 1 := Scalar.cmpi .ne v990 c0_i32_640
  let v995 : BitVec 1 := Scalar.andi v994 v991
  let v996 : BitVec 32 := Scalar.addi v990 v989
  let v997 : BitVec 32 := Scalar.select v995 v996 v990
  let c0_i32_1297 : BitVec 32 := 0#32
  let c0_i32_1298 : BitVec 32 := 0#32
  ![v997.toNat, 0, 0]
def k0_off32 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1299 : BitVec 32 := 0#32
  let c0_i32_1300 : BitVec 32 := 0#32
  ![v2.toNat, 0, 0]
def k0_cond20 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_652 : BitVec 32 := 2#32
  let v1018 : BitVec 32 := Scalar.addi v2 c2_i32_652
  let c4_i32_653 : BitVec 32 := 4#32
  let c0_i32_654 : BitVec 32 := 0#32
  let v1019 : BitVec 1 := Scalar.cmpi .eq c4_i32_653 c0_i32_654
  let c1_i32_655 : BitVec 32 := 1#32
  let v1020 : BitVec 32 := Scalar.select v1019 c1_i32_655 c4_i32_653
  let v1021 : BitVec 32 := Scalar.remsi v1018 v1020
  let c0_i32_657 : BitVec 32 := 0#32
  let v1023 : BitVec 1 := Scalar.cmpi .slt v1021 c0_i32_657
  let c0_i32_658 : BitVec 32 := 0#32
  let v1024 : BitVec 1 := Scalar.cmpi .slt v1020 c0_i32_658
  let v1025 : BitVec 1 := Scalar.xori v1023 v1024
  let c0_i32_656 : BitVec 32 := 0#32
  let v1022 : BitVec 1 := Scalar.cmpi .ne v1021 c0_i32_656
  let v1026 : BitVec 1 := Scalar.andi v1025 v1022
  let v1027 : BitVec 32 := Scalar.addi v1021 v1020
  let v1028 : BitVec 32 := Scalar.select v1026 v1027 v1021
  let c0_i32_660 : BitVec 32 := 0#32
  let v1030 : BitVec 1 := Scalar.cmpi .sgt v1028 c0_i32_660
  let v1031 : BitVec 32 := Scalar.extui v1030
  let c0_i32_661 : BitVec 32 := 0#32
  let v1032 : BitVec 1 := Scalar.cmpi .slt v1028 c0_i32_661
  let v1033 : BitVec 32 := Scalar.extui v1032
  let v1034 : BitVec 32 := Scalar.subi v1031 v1033
  let c2_i32_659 : BitVec 32 := 2#32
  let c0_i32_662 : BitVec 32 := 0#32
  let v1035 : BitVec 1 := Scalar.cmpi .sgt c2_i32_659 c0_i32_662
  let v1036 : BitVec 32 := Scalar.extui v1035
  let c0_i32_663 : BitVec 32 := 0#32
  let v1037 : BitVec 1 := Scalar.cmpi .slt c2_i32_659 c0_i32_663
  let v1038 : BitVec 32 := Scalar.extui v1037
  let v1039 : BitVec 32 := Scalar.subi v1036 v1038
  let v1040 : BitVec 1 := Scalar.cmpi .ne v1034 v1039
  let v1041 : BitVec 32 := Scalar.remsi v1028 c2_i32_659
  let c0_i32_664 : BitVec 32 := 0#32
  let v1042 : BitVec 1 := Scalar.cmpi .ne v1041 c0_i32_664
  let v1043 : BitVec 1 := Scalar.andi v1040 v1042
  let v1029 : BitVec 32 := Scalar.divsi v1028 c2_i32_659
  let c1_i32_665 : BitVec 32 := 1#32
  let v1044 : BitVec 32 := Scalar.subi v1029 c1_i32_665
  let v1045 : BitVec 32 := Scalar.select v1043 v1044 v1029
  let c1_i32_666 : BitVec 32 := 1#32
  let v1046 : BitVec 1 := Scalar.cmpi .eq v1045 c1_i32_666
  let v1047 : BitVec 32 := Scalar.extui v1046
  let c0_i32_667 : BitVec 32 := 0#32
  let v1048 : BitVec 1 := Scalar.cmpi .ne v1047 c0_i32_667
  v1048

def k0_off33 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_652 : BitVec 32 := 2#32
  let v1018 : BitVec 32 := Scalar.addi v2 c2_i32_652
  let c4_i32_653 : BitVec 32 := 4#32
  let c0_i32_654 : BitVec 32 := 0#32
  let v1019 : BitVec 1 := Scalar.cmpi .eq c4_i32_653 c0_i32_654
  let c1_i32_655 : BitVec 32 := 1#32
  let v1020 : BitVec 32 := Scalar.select v1019 c1_i32_655 c4_i32_653
  let v1021 : BitVec 32 := Scalar.remsi v1018 v1020
  let c0_i32_657 : BitVec 32 := 0#32
  let v1023 : BitVec 1 := Scalar.cmpi .slt v1021 c0_i32_657
  let c0_i32_658 : BitVec 32 := 0#32
  let v1024 : BitVec 1 := Scalar.cmpi .slt v1020 c0_i32_658
  let v1025 : BitVec 1 := Scalar.xori v1023 v1024
  let c0_i32_656 : BitVec 32 := 0#32
  let v1022 : BitVec 1 := Scalar.cmpi .ne v1021 c0_i32_656
  let v1026 : BitVec 1 := Scalar.andi v1025 v1022
  let v1027 : BitVec 32 := Scalar.addi v1021 v1020
  let v1028 : BitVec 32 := Scalar.select v1026 v1027 v1021
  let c0_i32_1297 : BitVec 32 := 0#32
  let c0_i32_1298 : BitVec 32 := 0#32
  ![v1028.toNat, 0, 0]
def k0_off34 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1299 : BitVec 32 := 0#32
  let c0_i32_1300 : BitVec 32 := 0#32
  ![v2.toNat, 0, 0]
def k0_cond21 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_668 : BitVec 32 := 3#32
  let v1049 : BitVec 32 := Scalar.addi v2 c3_i32_668
  let c4_i32_669 : BitVec 32 := 4#32
  let c0_i32_670 : BitVec 32 := 0#32
  let v1050 : BitVec 1 := Scalar.cmpi .eq c4_i32_669 c0_i32_670
  let c1_i32_671 : BitVec 32 := 1#32
  let v1051 : BitVec 32 := Scalar.select v1050 c1_i32_671 c4_i32_669
  let v1052 : BitVec 32 := Scalar.remsi v1049 v1051
  let c0_i32_673 : BitVec 32 := 0#32
  let v1054 : BitVec 1 := Scalar.cmpi .slt v1052 c0_i32_673
  let c0_i32_674 : BitVec 32 := 0#32
  let v1055 : BitVec 1 := Scalar.cmpi .slt v1051 c0_i32_674
  let v1056 : BitVec 1 := Scalar.xori v1054 v1055
  let c0_i32_672 : BitVec 32 := 0#32
  let v1053 : BitVec 1 := Scalar.cmpi .ne v1052 c0_i32_672
  let v1057 : BitVec 1 := Scalar.andi v1056 v1053
  let v1058 : BitVec 32 := Scalar.addi v1052 v1051
  let v1059 : BitVec 32 := Scalar.select v1057 v1058 v1052
  let c0_i32_676 : BitVec 32 := 0#32
  let v1061 : BitVec 1 := Scalar.cmpi .sgt v1059 c0_i32_676
  let v1062 : BitVec 32 := Scalar.extui v1061
  let c0_i32_677 : BitVec 32 := 0#32
  let v1063 : BitVec 1 := Scalar.cmpi .slt v1059 c0_i32_677
  let v1064 : BitVec 32 := Scalar.extui v1063
  let v1065 : BitVec 32 := Scalar.subi v1062 v1064
  let c2_i32_675 : BitVec 32 := 2#32
  let c0_i32_678 : BitVec 32 := 0#32
  let v1066 : BitVec 1 := Scalar.cmpi .sgt c2_i32_675 c0_i32_678
  let v1067 : BitVec 32 := Scalar.extui v1066
  let c0_i32_679 : BitVec 32 := 0#32
  let v1068 : BitVec 1 := Scalar.cmpi .slt c2_i32_675 c0_i32_679
  let v1069 : BitVec 32 := Scalar.extui v1068
  let v1070 : BitVec 32 := Scalar.subi v1067 v1069
  let v1071 : BitVec 1 := Scalar.cmpi .ne v1065 v1070
  let v1072 : BitVec 32 := Scalar.remsi v1059 c2_i32_675
  let c0_i32_680 : BitVec 32 := 0#32
  let v1073 : BitVec 1 := Scalar.cmpi .ne v1072 c0_i32_680
  let v1074 : BitVec 1 := Scalar.andi v1071 v1073
  let v1060 : BitVec 32 := Scalar.divsi v1059 c2_i32_675
  let c1_i32_681 : BitVec 32 := 1#32
  let v1075 : BitVec 32 := Scalar.subi v1060 c1_i32_681
  let v1076 : BitVec 32 := Scalar.select v1074 v1075 v1060
  let c1_i32_682 : BitVec 32 := 1#32
  let v1077 : BitVec 1 := Scalar.cmpi .eq v1076 c1_i32_682
  let v1078 : BitVec 32 := Scalar.extui v1077
  let c0_i32_683 : BitVec 32 := 0#32
  let v1079 : BitVec 1 := Scalar.cmpi .ne v1078 c0_i32_683
  v1079

def k0_off35 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_668 : BitVec 32 := 3#32
  let v1049 : BitVec 32 := Scalar.addi v2 c3_i32_668
  let c4_i32_669 : BitVec 32 := 4#32
  let c0_i32_670 : BitVec 32 := 0#32
  let v1050 : BitVec 1 := Scalar.cmpi .eq c4_i32_669 c0_i32_670
  let c1_i32_671 : BitVec 32 := 1#32
  let v1051 : BitVec 32 := Scalar.select v1050 c1_i32_671 c4_i32_669
  let v1052 : BitVec 32 := Scalar.remsi v1049 v1051
  let c0_i32_673 : BitVec 32 := 0#32
  let v1054 : BitVec 1 := Scalar.cmpi .slt v1052 c0_i32_673
  let c0_i32_674 : BitVec 32 := 0#32
  let v1055 : BitVec 1 := Scalar.cmpi .slt v1051 c0_i32_674
  let v1056 : BitVec 1 := Scalar.xori v1054 v1055
  let c0_i32_672 : BitVec 32 := 0#32
  let v1053 : BitVec 1 := Scalar.cmpi .ne v1052 c0_i32_672
  let v1057 : BitVec 1 := Scalar.andi v1056 v1053
  let v1058 : BitVec 32 := Scalar.addi v1052 v1051
  let v1059 : BitVec 32 := Scalar.select v1057 v1058 v1052
  let c0_i32_1297 : BitVec 32 := 0#32
  let c0_i32_1298 : BitVec 32 := 0#32
  ![v1059.toNat, 0, 0]
def k0_off36 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1299 : BitVec 32 := 0#32
  let c0_i32_1300 : BitVec 32 := 0#32
  ![v2.toNat, 0, 0]
def k0_cond22 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_697 : BitVec 32 := 1#32
  let v1094 : BitVec 32 := Scalar.addi v2 c1_i32_697
  let c4_i32_698 : BitVec 32 := 4#32
  let c0_i32_699 : BitVec 32 := 0#32
  let v1095 : BitVec 1 := Scalar.cmpi .eq c4_i32_698 c0_i32_699
  let c1_i32_700 : BitVec 32 := 1#32
  let v1096 : BitVec 32 := Scalar.select v1095 c1_i32_700 c4_i32_698
  let v1097 : BitVec 32 := Scalar.remsi v1094 v1096
  let c0_i32_702 : BitVec 32 := 0#32
  let v1099 : BitVec 1 := Scalar.cmpi .slt v1097 c0_i32_702
  let c0_i32_703 : BitVec 32 := 0#32
  let v1100 : BitVec 1 := Scalar.cmpi .slt v1096 c0_i32_703
  let v1101 : BitVec 1 := Scalar.xori v1099 v1100
  let c0_i32_701 : BitVec 32 := 0#32
  let v1098 : BitVec 1 := Scalar.cmpi .ne v1097 c0_i32_701
  let v1102 : BitVec 1 := Scalar.andi v1101 v1098
  let v1103 : BitVec 32 := Scalar.addi v1097 v1096
  let v1104 : BitVec 32 := Scalar.select v1102 v1103 v1097
  let c0_i32_705 : BitVec 32 := 0#32
  let v1106 : BitVec 1 := Scalar.cmpi .sgt v1104 c0_i32_705
  let v1107 : BitVec 32 := Scalar.extui v1106
  let c0_i32_706 : BitVec 32 := 0#32
  let v1108 : BitVec 1 := Scalar.cmpi .slt v1104 c0_i32_706
  let v1109 : BitVec 32 := Scalar.extui v1108
  let v1110 : BitVec 32 := Scalar.subi v1107 v1109
  let c2_i32_704 : BitVec 32 := 2#32
  let c0_i32_707 : BitVec 32 := 0#32
  let v1111 : BitVec 1 := Scalar.cmpi .sgt c2_i32_704 c0_i32_707
  let v1112 : BitVec 32 := Scalar.extui v1111
  let c0_i32_708 : BitVec 32 := 0#32
  let v1113 : BitVec 1 := Scalar.cmpi .slt c2_i32_704 c0_i32_708
  let v1114 : BitVec 32 := Scalar.extui v1113
  let v1115 : BitVec 32 := Scalar.subi v1112 v1114
  let v1116 : BitVec 1 := Scalar.cmpi .ne v1110 v1115
  let v1117 : BitVec 32 := Scalar.remsi v1104 c2_i32_704
  let c0_i32_709 : BitVec 32 := 0#32
  let v1118 : BitVec 1 := Scalar.cmpi .ne v1117 c0_i32_709
  let v1119 : BitVec 1 := Scalar.andi v1116 v1118
  let v1105 : BitVec 32 := Scalar.divsi v1104 c2_i32_704
  let c1_i32_710 : BitVec 32 := 1#32
  let v1120 : BitVec 32 := Scalar.subi v1105 c1_i32_710
  let v1121 : BitVec 32 := Scalar.select v1119 v1120 v1105
  let c1_i32_711 : BitVec 32 := 1#32
  let v1122 : BitVec 1 := Scalar.cmpi .eq v1121 c1_i32_711
  let v1123 : BitVec 32 := Scalar.extui v1122
  let c0_i32_712 : BitVec 32 := 0#32
  let v1124 : BitVec 1 := Scalar.cmpi .ne v1123 c0_i32_712
  v1124

def k0_off37 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_697 : BitVec 32 := 1#32
  let v1094 : BitVec 32 := Scalar.addi v2 c1_i32_697
  let c4_i32_698 : BitVec 32 := 4#32
  let c0_i32_699 : BitVec 32 := 0#32
  let v1095 : BitVec 1 := Scalar.cmpi .eq c4_i32_698 c0_i32_699
  let c1_i32_700 : BitVec 32 := 1#32
  let v1096 : BitVec 32 := Scalar.select v1095 c1_i32_700 c4_i32_698
  let v1097 : BitVec 32 := Scalar.remsi v1094 v1096
  let c0_i32_702 : BitVec 32 := 0#32
  let v1099 : BitVec 1 := Scalar.cmpi .slt v1097 c0_i32_702
  let c0_i32_703 : BitVec 32 := 0#32
  let v1100 : BitVec 1 := Scalar.cmpi .slt v1096 c0_i32_703
  let v1101 : BitVec 1 := Scalar.xori v1099 v1100
  let c0_i32_701 : BitVec 32 := 0#32
  let v1098 : BitVec 1 := Scalar.cmpi .ne v1097 c0_i32_701
  let v1102 : BitVec 1 := Scalar.andi v1101 v1098
  let v1103 : BitVec 32 := Scalar.addi v1097 v1096
  let v1104 : BitVec 32 := Scalar.select v1102 v1103 v1097
  let c0_i32_1299 : BitVec 32 := 0#32
  let c0_i32_1300 : BitVec 32 := 0#32
  ![v1104.toNat, 0, 0]
def k0_dev19 (d0 : Dev nD) : Nat :=
  let c0_i32_1296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_697 : BitVec 32 := 1#32
  let v1094 : BitVec 32 := Scalar.addi v2 c1_i32_697
  let c4_i32_698 : BitVec 32 := 4#32
  let c0_i32_699 : BitVec 32 := 0#32
  let v1095 : BitVec 1 := Scalar.cmpi .eq c4_i32_698 c0_i32_699
  let c1_i32_700 : BitVec 32 := 1#32
  let v1096 : BitVec 32 := Scalar.select v1095 c1_i32_700 c4_i32_698
  let v1097 : BitVec 32 := Scalar.remsi v1094 v1096
  let c0_i32_702 : BitVec 32 := 0#32
  let v1099 : BitVec 1 := Scalar.cmpi .slt v1097 c0_i32_702
  let c0_i32_703 : BitVec 32 := 0#32
  let v1100 : BitVec 1 := Scalar.cmpi .slt v1096 c0_i32_703
  let v1101 : BitVec 1 := Scalar.xori v1099 v1100
  let c0_i32_701 : BitVec 32 := 0#32
  let v1098 : BitVec 1 := Scalar.cmpi .ne v1097 c0_i32_701
  let v1102 : BitVec 1 := Scalar.andi v1101 v1098
  let v1103 : BitVec 32 := Scalar.addi v1097 v1096
  let v1104 : BitVec 32 := Scalar.select v1102 v1103 v1097
  let c1_i32_1295 : BitVec 32 := 1#32
  let v1960 : BitVec 32 := Scalar.muli v1104 c1_i32_1295
  let v1961 : BitVec 32 := Scalar.addi c0_i32_1296 v1960
  v1961.toNat
def k0_cond23 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_713 : BitVec 32 := 2#32
  let v1125 : BitVec 32 := Scalar.addi v2 c2_i32_713
  let c4_i32_714 : BitVec 32 := 4#32
  let c0_i32_715 : BitVec 32 := 0#32
  let v1126 : BitVec 1 := Scalar.cmpi .eq c4_i32_714 c0_i32_715
  let c1_i32_716 : BitVec 32 := 1#32
  let v1127 : BitVec 32 := Scalar.select v1126 c1_i32_716 c4_i32_714
  let v1128 : BitVec 32 := Scalar.remsi v1125 v1127
  let c0_i32_718 : BitVec 32 := 0#32
  let v1130 : BitVec 1 := Scalar.cmpi .slt v1128 c0_i32_718
  let c0_i32_719 : BitVec 32 := 0#32
  let v1131 : BitVec 1 := Scalar.cmpi .slt v1127 c0_i32_719
  let v1132 : BitVec 1 := Scalar.xori v1130 v1131
  let c0_i32_717 : BitVec 32 := 0#32
  let v1129 : BitVec 1 := Scalar.cmpi .ne v1128 c0_i32_717
  let v1133 : BitVec 1 := Scalar.andi v1132 v1129
  let v1134 : BitVec 32 := Scalar.addi v1128 v1127
  let v1135 : BitVec 32 := Scalar.select v1133 v1134 v1128
  let c0_i32_721 : BitVec 32 := 0#32
  let v1137 : BitVec 1 := Scalar.cmpi .sgt v1135 c0_i32_721
  let v1138 : BitVec 32 := Scalar.extui v1137
  let c0_i32_722 : BitVec 32 := 0#32
  let v1139 : BitVec 1 := Scalar.cmpi .slt v1135 c0_i32_722
  let v1140 : BitVec 32 := Scalar.extui v1139
  let v1141 : BitVec 32 := Scalar.subi v1138 v1140
  let c2_i32_720 : BitVec 32 := 2#32
  let c0_i32_723 : BitVec 32 := 0#32
  let v1142 : BitVec 1 := Scalar.cmpi .sgt c2_i32_720 c0_i32_723
  let v1143 : BitVec 32 := Scalar.extui v1142
  let c0_i32_724 : BitVec 32 := 0#32
  let v1144 : BitVec 1 := Scalar.cmpi .slt c2_i32_720 c0_i32_724
  let v1145 : BitVec 32 := Scalar.extui v1144
  let v1146 : BitVec 32 := Scalar.subi v1143 v1145
  let v1147 : BitVec 1 := Scalar.cmpi .ne v1141 v1146
  let v1148 : BitVec 32 := Scalar.remsi v1135 c2_i32_720
  let c0_i32_725 : BitVec 32 := 0#32
  let v1149 : BitVec 1 := Scalar.cmpi .ne v1148 c0_i32_725
  let v1150 : BitVec 1 := Scalar.andi v1147 v1149
  let v1136 : BitVec 32 := Scalar.divsi v1135 c2_i32_720
  let c1_i32_726 : BitVec 32 := 1#32
  let v1151 : BitVec 32 := Scalar.subi v1136 c1_i32_726
  let v1152 : BitVec 32 := Scalar.select v1150 v1151 v1136
  let c1_i32_727 : BitVec 32 := 1#32
  let v1153 : BitVec 1 := Scalar.cmpi .eq v1152 c1_i32_727
  let v1154 : BitVec 32 := Scalar.extui v1153
  let c0_i32_728 : BitVec 32 := 0#32
  let v1155 : BitVec 1 := Scalar.cmpi .ne v1154 c0_i32_728
  v1155

def k0_off38 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_713 : BitVec 32 := 2#32
  let v1125 : BitVec 32 := Scalar.addi v2 c2_i32_713
  let c4_i32_714 : BitVec 32 := 4#32
  let c0_i32_715 : BitVec 32 := 0#32
  let v1126 : BitVec 1 := Scalar.cmpi .eq c4_i32_714 c0_i32_715
  let c1_i32_716 : BitVec 32 := 1#32
  let v1127 : BitVec 32 := Scalar.select v1126 c1_i32_716 c4_i32_714
  let v1128 : BitVec 32 := Scalar.remsi v1125 v1127
  let c0_i32_718 : BitVec 32 := 0#32
  let v1130 : BitVec 1 := Scalar.cmpi .slt v1128 c0_i32_718
  let c0_i32_719 : BitVec 32 := 0#32
  let v1131 : BitVec 1 := Scalar.cmpi .slt v1127 c0_i32_719
  let v1132 : BitVec 1 := Scalar.xori v1130 v1131
  let c0_i32_717 : BitVec 32 := 0#32
  let v1129 : BitVec 1 := Scalar.cmpi .ne v1128 c0_i32_717
  let v1133 : BitVec 1 := Scalar.andi v1132 v1129
  let v1134 : BitVec 32 := Scalar.addi v1128 v1127
  let v1135 : BitVec 32 := Scalar.select v1133 v1134 v1128
  let c0_i32_1299 : BitVec 32 := 0#32
  let c0_i32_1300 : BitVec 32 := 0#32
  ![v1135.toNat, 0, 0]
def k0_dev20 (d0 : Dev nD) : Nat :=
  let c0_i32_1296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_713 : BitVec 32 := 2#32
  let v1125 : BitVec 32 := Scalar.addi v2 c2_i32_713
  let c4_i32_714 : BitVec 32 := 4#32
  let c0_i32_715 : BitVec 32 := 0#32
  let v1126 : BitVec 1 := Scalar.cmpi .eq c4_i32_714 c0_i32_715
  let c1_i32_716 : BitVec 32 := 1#32
  let v1127 : BitVec 32 := Scalar.select v1126 c1_i32_716 c4_i32_714
  let v1128 : BitVec 32 := Scalar.remsi v1125 v1127
  let c0_i32_718 : BitVec 32 := 0#32
  let v1130 : BitVec 1 := Scalar.cmpi .slt v1128 c0_i32_718
  let c0_i32_719 : BitVec 32 := 0#32
  let v1131 : BitVec 1 := Scalar.cmpi .slt v1127 c0_i32_719
  let v1132 : BitVec 1 := Scalar.xori v1130 v1131
  let c0_i32_717 : BitVec 32 := 0#32
  let v1129 : BitVec 1 := Scalar.cmpi .ne v1128 c0_i32_717
  let v1133 : BitVec 1 := Scalar.andi v1132 v1129
  let v1134 : BitVec 32 := Scalar.addi v1128 v1127
  let v1135 : BitVec 32 := Scalar.select v1133 v1134 v1128
  let c1_i32_1295 : BitVec 32 := 1#32
  let v1960 : BitVec 32 := Scalar.muli v1135 c1_i32_1295
  let v1961 : BitVec 32 := Scalar.addi c0_i32_1296 v1960
  v1961.toNat
def k0_cond24 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_729 : BitVec 32 := 3#32
  let v1156 : BitVec 32 := Scalar.addi v2 c3_i32_729
  let c4_i32_730 : BitVec 32 := 4#32
  let c0_i32_731 : BitVec 32 := 0#32
  let v1157 : BitVec 1 := Scalar.cmpi .eq c4_i32_730 c0_i32_731
  let c1_i32_732 : BitVec 32 := 1#32
  let v1158 : BitVec 32 := Scalar.select v1157 c1_i32_732 c4_i32_730
  let v1159 : BitVec 32 := Scalar.remsi v1156 v1158
  let c0_i32_734 : BitVec 32 := 0#32
  let v1161 : BitVec 1 := Scalar.cmpi .slt v1159 c0_i32_734
  let c0_i32_735 : BitVec 32 := 0#32
  let v1162 : BitVec 1 := Scalar.cmpi .slt v1158 c0_i32_735
  let v1163 : BitVec 1 := Scalar.xori v1161 v1162
  let c0_i32_733 : BitVec 32 := 0#32
  let v1160 : BitVec 1 := Scalar.cmpi .ne v1159 c0_i32_733
  let v1164 : BitVec 1 := Scalar.andi v1163 v1160
  let v1165 : BitVec 32 := Scalar.addi v1159 v1158
  let v1166 : BitVec 32 := Scalar.select v1164 v1165 v1159
  let c0_i32_737 : BitVec 32 := 0#32
  let v1168 : BitVec 1 := Scalar.cmpi .sgt v1166 c0_i32_737
  let v1169 : BitVec 32 := Scalar.extui v1168
  let c0_i32_738 : BitVec 32 := 0#32
  let v1170 : BitVec 1 := Scalar.cmpi .slt v1166 c0_i32_738
  let v1171 : BitVec 32 := Scalar.extui v1170
  let v1172 : BitVec 32 := Scalar.subi v1169 v1171
  let c2_i32_736 : BitVec 32 := 2#32
  let c0_i32_739 : BitVec 32 := 0#32
  let v1173 : BitVec 1 := Scalar.cmpi .sgt c2_i32_736 c0_i32_739
  let v1174 : BitVec 32 := Scalar.extui v1173
  let c0_i32_740 : BitVec 32 := 0#32
  let v1175 : BitVec 1 := Scalar.cmpi .slt c2_i32_736 c0_i32_740
  let v1176 : BitVec 32 := Scalar.extui v1175
  let v1177 : BitVec 32 := Scalar.subi v1174 v1176
  let v1178 : BitVec 1 := Scalar.cmpi .ne v1172 v1177
  let v1179 : BitVec 32 := Scalar.remsi v1166 c2_i32_736
  let c0_i32_741 : BitVec 32 := 0#32
  let v1180 : BitVec 1 := Scalar.cmpi .ne v1179 c0_i32_741
  let v1181 : BitVec 1 := Scalar.andi v1178 v1180
  let v1167 : BitVec 32 := Scalar.divsi v1166 c2_i32_736
  let c1_i32_742 : BitVec 32 := 1#32
  let v1182 : BitVec 32 := Scalar.subi v1167 c1_i32_742
  let v1183 : BitVec 32 := Scalar.select v1181 v1182 v1167
  let c1_i32_743 : BitVec 32 := 1#32
  let v1184 : BitVec 1 := Scalar.cmpi .eq v1183 c1_i32_743
  let v1185 : BitVec 32 := Scalar.extui v1184
  let c0_i32_744 : BitVec 32 := 0#32
  let v1186 : BitVec 1 := Scalar.cmpi .ne v1185 c0_i32_744
  v1186

def k0_off39 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_729 : BitVec 32 := 3#32
  let v1156 : BitVec 32 := Scalar.addi v2 c3_i32_729
  let c4_i32_730 : BitVec 32 := 4#32
  let c0_i32_731 : BitVec 32 := 0#32
  let v1157 : BitVec 1 := Scalar.cmpi .eq c4_i32_730 c0_i32_731
  let c1_i32_732 : BitVec 32 := 1#32
  let v1158 : BitVec 32 := Scalar.select v1157 c1_i32_732 c4_i32_730
  let v1159 : BitVec 32 := Scalar.remsi v1156 v1158
  let c0_i32_734 : BitVec 32 := 0#32
  let v1161 : BitVec 1 := Scalar.cmpi .slt v1159 c0_i32_734
  let c0_i32_735 : BitVec 32 := 0#32
  let v1162 : BitVec 1 := Scalar.cmpi .slt v1158 c0_i32_735
  let v1163 : BitVec 1 := Scalar.xori v1161 v1162
  let c0_i32_733 : BitVec 32 := 0#32
  let v1160 : BitVec 1 := Scalar.cmpi .ne v1159 c0_i32_733
  let v1164 : BitVec 1 := Scalar.andi v1163 v1160
  let v1165 : BitVec 32 := Scalar.addi v1159 v1158
  let v1166 : BitVec 32 := Scalar.select v1164 v1165 v1159
  let c0_i32_1299 : BitVec 32 := 0#32
  let c0_i32_1300 : BitVec 32 := 0#32
  ![v1166.toNat, 0, 0]
def k0_dev21 (d0 : Dev nD) : Nat :=
  let c0_i32_1296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_729 : BitVec 32 := 3#32
  let v1156 : BitVec 32 := Scalar.addi v2 c3_i32_729
  let c4_i32_730 : BitVec 32 := 4#32
  let c0_i32_731 : BitVec 32 := 0#32
  let v1157 : BitVec 1 := Scalar.cmpi .eq c4_i32_730 c0_i32_731
  let c1_i32_732 : BitVec 32 := 1#32
  let v1158 : BitVec 32 := Scalar.select v1157 c1_i32_732 c4_i32_730
  let v1159 : BitVec 32 := Scalar.remsi v1156 v1158
  let c0_i32_734 : BitVec 32 := 0#32
  let v1161 : BitVec 1 := Scalar.cmpi .slt v1159 c0_i32_734
  let c0_i32_735 : BitVec 32 := 0#32
  let v1162 : BitVec 1 := Scalar.cmpi .slt v1158 c0_i32_735
  let v1163 : BitVec 1 := Scalar.xori v1161 v1162
  let c0_i32_733 : BitVec 32 := 0#32
  let v1160 : BitVec 1 := Scalar.cmpi .ne v1159 c0_i32_733
  let v1164 : BitVec 1 := Scalar.andi v1163 v1160
  let v1165 : BitVec 32 := Scalar.addi v1159 v1158
  let v1166 : BitVec 32 := Scalar.select v1164 v1165 v1159
  let c1_i32_1295 : BitVec 32 := 1#32
  let v1960 : BitVec 32 := Scalar.muli v1166 c1_i32_1295
  let v1961 : BitVec 32 := Scalar.addi c0_i32_1296 v1960
  v1961.toNat
def k0_dev22 (d0 : Dev nD) : Nat :=
  let c0_i32_849 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_839 : BitVec 32 := 1#32
  let v1293 : BitVec 32 := Scalar.addi v2 c1_i32_839
  let c4_i32_840 : BitVec 32 := 4#32
  let c0_i32_841 : BitVec 32 := 0#32
  let v1294 : BitVec 1 := Scalar.cmpi .eq c4_i32_840 c0_i32_841
  let c1_i32_842 : BitVec 32 := 1#32
  let v1295 : BitVec 32 := Scalar.select v1294 c1_i32_842 c4_i32_840
  let v1296 : BitVec 32 := Scalar.remsi v1293 v1295
  let c0_i32_844 : BitVec 32 := 0#32
  let v1298 : BitVec 1 := Scalar.cmpi .slt v1296 c0_i32_844
  let c0_i32_845 : BitVec 32 := 0#32
  let v1299 : BitVec 1 := Scalar.cmpi .slt v1295 c0_i32_845
  let v1300 : BitVec 1 := Scalar.xori v1298 v1299
  let c0_i32_843 : BitVec 32 := 0#32
  let v1297 : BitVec 1 := Scalar.cmpi .ne v1296 c0_i32_843
  let v1301 : BitVec 1 := Scalar.andi v1300 v1297
  let v1302 : BitVec 32 := Scalar.addi v1296 v1295
  let v1303 : BitVec 32 := Scalar.select v1301 v1302 v1296
  let c1_i32_848 : BitVec 32 := 1#32
  let v1304 : BitVec 32 := Scalar.muli v1303 c1_i32_848
  let v1305 : BitVec 32 := Scalar.addi c0_i32_849 v1304
  v1305.toNat
def k0_dev23 (d0 : Dev nD) : Nat :=
  let c0_i32_864 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_854 : BitVec 32 := 2#32
  let v1314 : BitVec 32 := Scalar.addi v2 c2_i32_854
  let c4_i32_855 : BitVec 32 := 4#32
  let c0_i32_856 : BitVec 32 := 0#32
  let v1315 : BitVec 1 := Scalar.cmpi .eq c4_i32_855 c0_i32_856
  let c1_i32_857 : BitVec 32 := 1#32
  let v1316 : BitVec 32 := Scalar.select v1315 c1_i32_857 c4_i32_855
  let v1317 : BitVec 32 := Scalar.remsi v1314 v1316
  let c0_i32_859 : BitVec 32 := 0#32
  let v1319 : BitVec 1 := Scalar.cmpi .slt v1317 c0_i32_859
  let c0_i32_860 : BitVec 32 := 0#32
  let v1320 : BitVec 1 := Scalar.cmpi .slt v1316 c0_i32_860
  let v1321 : BitVec 1 := Scalar.xori v1319 v1320
  let c0_i32_858 : BitVec 32 := 0#32
  let v1318 : BitVec 1 := Scalar.cmpi .ne v1317 c0_i32_858
  let v1322 : BitVec 1 := Scalar.andi v1321 v1318
  let v1323 : BitVec 32 := Scalar.addi v1317 v1316
  let v1324 : BitVec 32 := Scalar.select v1322 v1323 v1317
  let c1_i32_863 : BitVec 32 := 1#32
  let v1325 : BitVec 32 := Scalar.muli v1324 c1_i32_863
  let v1326 : BitVec 32 := Scalar.addi c0_i32_864 v1325
  v1326.toNat
def k0_dev24 (d0 : Dev nD) : Nat :=
  let c0_i32_879 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_869 : BitVec 32 := 3#32
  let v1335 : BitVec 32 := Scalar.addi v2 c3_i32_869
  let c4_i32_870 : BitVec 32 := 4#32
  let c0_i32_871 : BitVec 32 := 0#32
  let v1336 : BitVec 1 := Scalar.cmpi .eq c4_i32_870 c0_i32_871
  let c1_i32_872 : BitVec 32 := 1#32
  let v1337 : BitVec 32 := Scalar.select v1336 c1_i32_872 c4_i32_870
  let v1338 : BitVec 32 := Scalar.remsi v1335 v1337
  let c0_i32_874 : BitVec 32 := 0#32
  let v1340 : BitVec 1 := Scalar.cmpi .slt v1338 c0_i32_874
  let c0_i32_875 : BitVec 32 := 0#32
  let v1341 : BitVec 1 := Scalar.cmpi .slt v1337 c0_i32_875
  let v1342 : BitVec 1 := Scalar.xori v1340 v1341
  let c0_i32_873 : BitVec 32 := 0#32
  let v1339 : BitVec 1 := Scalar.cmpi .ne v1338 c0_i32_873
  let v1343 : BitVec 1 := Scalar.andi v1342 v1339
  let v1344 : BitVec 32 := Scalar.addi v1338 v1337
  let v1345 : BitVec 32 := Scalar.select v1343 v1344 v1338
  let c1_i32_878 : BitVec 32 := 1#32
  let v1346 : BitVec 32 := Scalar.muli v1345 c1_i32_878
  let v1347 : BitVec 32 := Scalar.addi c0_i32_879 v1346
  v1347.toNat
def k0_cond25 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_941 : BitVec 32 := 1#32
  let v1417 : BitVec 32 := Scalar.addi v2 c1_i32_941
  let c4_i32_942 : BitVec 32 := 4#32
  let c0_i32_943 : BitVec 32 := 0#32
  let v1418 : BitVec 1 := Scalar.cmpi .eq c4_i32_942 c0_i32_943
  let c1_i32_944 : BitVec 32 := 1#32
  let v1419 : BitVec 32 := Scalar.select v1418 c1_i32_944 c4_i32_942
  let v1420 : BitVec 32 := Scalar.remsi v1417 v1419
  let c0_i32_946 : BitVec 32 := 0#32
  let v1422 : BitVec 1 := Scalar.cmpi .slt v1420 c0_i32_946
  let c0_i32_947 : BitVec 32 := 0#32
  let v1423 : BitVec 1 := Scalar.cmpi .slt v1419 c0_i32_947
  let v1424 : BitVec 1 := Scalar.xori v1422 v1423
  let c0_i32_945 : BitVec 32 := 0#32
  let v1421 : BitVec 1 := Scalar.cmpi .ne v1420 c0_i32_945
  let v1425 : BitVec 1 := Scalar.andi v1424 v1421
  let v1426 : BitVec 32 := Scalar.addi v1420 v1419
  let v1427 : BitVec 32 := Scalar.select v1425 v1426 v1420
  let c0_i32_949 : BitVec 32 := 0#32
  let v1429 : BitVec 1 := Scalar.cmpi .sgt v1427 c0_i32_949
  let v1430 : BitVec 32 := Scalar.extui v1429
  let c0_i32_950 : BitVec 32 := 0#32
  let v1431 : BitVec 1 := Scalar.cmpi .slt v1427 c0_i32_950
  let v1432 : BitVec 32 := Scalar.extui v1431
  let v1433 : BitVec 32 := Scalar.subi v1430 v1432
  let c2_i32_948 : BitVec 32 := 2#32
  let c0_i32_951 : BitVec 32 := 0#32
  let v1434 : BitVec 1 := Scalar.cmpi .sgt c2_i32_948 c0_i32_951
  let v1435 : BitVec 32 := Scalar.extui v1434
  let c0_i32_952 : BitVec 32 := 0#32
  let v1436 : BitVec 1 := Scalar.cmpi .slt c2_i32_948 c0_i32_952
  let v1437 : BitVec 32 := Scalar.extui v1436
  let v1438 : BitVec 32 := Scalar.subi v1435 v1437
  let v1439 : BitVec 1 := Scalar.cmpi .ne v1433 v1438
  let v1440 : BitVec 32 := Scalar.remsi v1427 c2_i32_948
  let c0_i32_953 : BitVec 32 := 0#32
  let v1441 : BitVec 1 := Scalar.cmpi .ne v1440 c0_i32_953
  let v1442 : BitVec 1 := Scalar.andi v1439 v1441
  let v1428 : BitVec 32 := Scalar.divsi v1427 c2_i32_948
  let c1_i32_954 : BitVec 32 := 1#32
  let v1443 : BitVec 32 := Scalar.subi v1428 c1_i32_954
  let v1444 : BitVec 32 := Scalar.select v1442 v1443 v1428
  let c0_i32_955 : BitVec 32 := 0#32
  let v1445 : BitVec 1 := Scalar.cmpi .eq v1444 c0_i32_955
  let v1446 : BitVec 32 := Scalar.extui v1445
  let c0_i32_956 : BitVec 32 := 0#32
  let v1447 : BitVec 1 := Scalar.cmpi .ne v1446 c0_i32_956
  v1447

def k0_off40 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_941 : BitVec 32 := 1#32
  let v1417 : BitVec 32 := Scalar.addi v2 c1_i32_941
  let c4_i32_942 : BitVec 32 := 4#32
  let c0_i32_943 : BitVec 32 := 0#32
  let v1418 : BitVec 1 := Scalar.cmpi .eq c4_i32_942 c0_i32_943
  let c1_i32_944 : BitVec 32 := 1#32
  let v1419 : BitVec 32 := Scalar.select v1418 c1_i32_944 c4_i32_942
  let v1420 : BitVec 32 := Scalar.remsi v1417 v1419
  let c0_i32_946 : BitVec 32 := 0#32
  let v1422 : BitVec 1 := Scalar.cmpi .slt v1420 c0_i32_946
  let c0_i32_947 : BitVec 32 := 0#32
  let v1423 : BitVec 1 := Scalar.cmpi .slt v1419 c0_i32_947
  let v1424 : BitVec 1 := Scalar.xori v1422 v1423
  let c0_i32_945 : BitVec 32 := 0#32
  let v1421 : BitVec 1 := Scalar.cmpi .ne v1420 c0_i32_945
  let v1425 : BitVec 1 := Scalar.andi v1424 v1421
  let v1426 : BitVec 32 := Scalar.addi v1420 v1419
  let v1427 : BitVec 32 := Scalar.select v1425 v1426 v1420
  let c0_i32_1297 : BitVec 32 := 0#32
  let c0_i32_1298 : BitVec 32 := 0#32
  ![v1427.toNat, 0, 0]
def k0_off41 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1299 : BitVec 32 := 0#32
  let c0_i32_1300 : BitVec 32 := 0#32
  ![v2.toNat, 0, 0]
def k0_cond26 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_957 : BitVec 32 := 2#32
  let v1448 : BitVec 32 := Scalar.addi v2 c2_i32_957
  let c4_i32_958 : BitVec 32 := 4#32
  let c0_i32_959 : BitVec 32 := 0#32
  let v1449 : BitVec 1 := Scalar.cmpi .eq c4_i32_958 c0_i32_959
  let c1_i32_960 : BitVec 32 := 1#32
  let v1450 : BitVec 32 := Scalar.select v1449 c1_i32_960 c4_i32_958
  let v1451 : BitVec 32 := Scalar.remsi v1448 v1450
  let c0_i32_962 : BitVec 32 := 0#32
  let v1453 : BitVec 1 := Scalar.cmpi .slt v1451 c0_i32_962
  let c0_i32_963 : BitVec 32 := 0#32
  let v1454 : BitVec 1 := Scalar.cmpi .slt v1450 c0_i32_963
  let v1455 : BitVec 1 := Scalar.xori v1453 v1454
  let c0_i32_961 : BitVec 32 := 0#32
  let v1452 : BitVec 1 := Scalar.cmpi .ne v1451 c0_i32_961
  let v1456 : BitVec 1 := Scalar.andi v1455 v1452
  let v1457 : BitVec 32 := Scalar.addi v1451 v1450
  let v1458 : BitVec 32 := Scalar.select v1456 v1457 v1451
  let c0_i32_965 : BitVec 32 := 0#32
  let v1460 : BitVec 1 := Scalar.cmpi .sgt v1458 c0_i32_965
  let v1461 : BitVec 32 := Scalar.extui v1460
  let c0_i32_966 : BitVec 32 := 0#32
  let v1462 : BitVec 1 := Scalar.cmpi .slt v1458 c0_i32_966
  let v1463 : BitVec 32 := Scalar.extui v1462
  let v1464 : BitVec 32 := Scalar.subi v1461 v1463
  let c2_i32_964 : BitVec 32 := 2#32
  let c0_i32_967 : BitVec 32 := 0#32
  let v1465 : BitVec 1 := Scalar.cmpi .sgt c2_i32_964 c0_i32_967
  let v1466 : BitVec 32 := Scalar.extui v1465
  let c0_i32_968 : BitVec 32 := 0#32
  let v1467 : BitVec 1 := Scalar.cmpi .slt c2_i32_964 c0_i32_968
  let v1468 : BitVec 32 := Scalar.extui v1467
  let v1469 : BitVec 32 := Scalar.subi v1466 v1468
  let v1470 : BitVec 1 := Scalar.cmpi .ne v1464 v1469
  let v1471 : BitVec 32 := Scalar.remsi v1458 c2_i32_964
  let c0_i32_969 : BitVec 32 := 0#32
  let v1472 : BitVec 1 := Scalar.cmpi .ne v1471 c0_i32_969
  let v1473 : BitVec 1 := Scalar.andi v1470 v1472
  let v1459 : BitVec 32 := Scalar.divsi v1458 c2_i32_964
  let c1_i32_970 : BitVec 32 := 1#32
  let v1474 : BitVec 32 := Scalar.subi v1459 c1_i32_970
  let v1475 : BitVec 32 := Scalar.select v1473 v1474 v1459
  let c0_i32_971 : BitVec 32 := 0#32
  let v1476 : BitVec 1 := Scalar.cmpi .eq v1475 c0_i32_971
  let v1477 : BitVec 32 := Scalar.extui v1476
  let c0_i32_972 : BitVec 32 := 0#32
  let v1478 : BitVec 1 := Scalar.cmpi .ne v1477 c0_i32_972
  v1478

def k0_off42 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_957 : BitVec 32 := 2#32
  let v1448 : BitVec 32 := Scalar.addi v2 c2_i32_957
  let c4_i32_958 : BitVec 32 := 4#32
  let c0_i32_959 : BitVec 32 := 0#32
  let v1449 : BitVec 1 := Scalar.cmpi .eq c4_i32_958 c0_i32_959
  let c1_i32_960 : BitVec 32 := 1#32
  let v1450 : BitVec 32 := Scalar.select v1449 c1_i32_960 c4_i32_958
  let v1451 : BitVec 32 := Scalar.remsi v1448 v1450
  let c0_i32_962 : BitVec 32 := 0#32
  let v1453 : BitVec 1 := Scalar.cmpi .slt v1451 c0_i32_962
  let c0_i32_963 : BitVec 32 := 0#32
  let v1454 : BitVec 1 := Scalar.cmpi .slt v1450 c0_i32_963
  let v1455 : BitVec 1 := Scalar.xori v1453 v1454
  let c0_i32_961 : BitVec 32 := 0#32
  let v1452 : BitVec 1 := Scalar.cmpi .ne v1451 c0_i32_961
  let v1456 : BitVec 1 := Scalar.andi v1455 v1452
  let v1457 : BitVec 32 := Scalar.addi v1451 v1450
  let v1458 : BitVec 32 := Scalar.select v1456 v1457 v1451
  let c0_i32_1297 : BitVec 32 := 0#32
  let c0_i32_1298 : BitVec 32 := 0#32
  ![v1458.toNat, 0, 0]
def k0_off43 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1299 : BitVec 32 := 0#32
  let c0_i32_1300 : BitVec 32 := 0#32
  ![v2.toNat, 0, 0]
def k0_cond27 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_973 : BitVec 32 := 3#32
  let v1479 : BitVec 32 := Scalar.addi v2 c3_i32_973
  let c4_i32_974 : BitVec 32 := 4#32
  let c0_i32_975 : BitVec 32 := 0#32
  let v1480 : BitVec 1 := Scalar.cmpi .eq c4_i32_974 c0_i32_975
  let c1_i32_976 : BitVec 32 := 1#32
  let v1481 : BitVec 32 := Scalar.select v1480 c1_i32_976 c4_i32_974
  let v1482 : BitVec 32 := Scalar.remsi v1479 v1481
  let c0_i32_978 : BitVec 32 := 0#32
  let v1484 : BitVec 1 := Scalar.cmpi .slt v1482 c0_i32_978
  let c0_i32_979 : BitVec 32 := 0#32
  let v1485 : BitVec 1 := Scalar.cmpi .slt v1481 c0_i32_979
  let v1486 : BitVec 1 := Scalar.xori v1484 v1485
  let c0_i32_977 : BitVec 32 := 0#32
  let v1483 : BitVec 1 := Scalar.cmpi .ne v1482 c0_i32_977
  let v1487 : BitVec 1 := Scalar.andi v1486 v1483
  let v1488 : BitVec 32 := Scalar.addi v1482 v1481
  let v1489 : BitVec 32 := Scalar.select v1487 v1488 v1482
  let c0_i32_981 : BitVec 32 := 0#32
  let v1491 : BitVec 1 := Scalar.cmpi .sgt v1489 c0_i32_981
  let v1492 : BitVec 32 := Scalar.extui v1491
  let c0_i32_982 : BitVec 32 := 0#32
  let v1493 : BitVec 1 := Scalar.cmpi .slt v1489 c0_i32_982
  let v1494 : BitVec 32 := Scalar.extui v1493
  let v1495 : BitVec 32 := Scalar.subi v1492 v1494
  let c2_i32_980 : BitVec 32 := 2#32
  let c0_i32_983 : BitVec 32 := 0#32
  let v1496 : BitVec 1 := Scalar.cmpi .sgt c2_i32_980 c0_i32_983
  let v1497 : BitVec 32 := Scalar.extui v1496
  let c0_i32_984 : BitVec 32 := 0#32
  let v1498 : BitVec 1 := Scalar.cmpi .slt c2_i32_980 c0_i32_984
  let v1499 : BitVec 32 := Scalar.extui v1498
  let v1500 : BitVec 32 := Scalar.subi v1497 v1499
  let v1501 : BitVec 1 := Scalar.cmpi .ne v1495 v1500
  let v1502 : BitVec 32 := Scalar.remsi v1489 c2_i32_980
  let c0_i32_985 : BitVec 32 := 0#32
  let v1503 : BitVec 1 := Scalar.cmpi .ne v1502 c0_i32_985
  let v1504 : BitVec 1 := Scalar.andi v1501 v1503
  let v1490 : BitVec 32 := Scalar.divsi v1489 c2_i32_980
  let c1_i32_986 : BitVec 32 := 1#32
  let v1505 : BitVec 32 := Scalar.subi v1490 c1_i32_986
  let v1506 : BitVec 32 := Scalar.select v1504 v1505 v1490
  let c0_i32_987 : BitVec 32 := 0#32
  let v1507 : BitVec 1 := Scalar.cmpi .eq v1506 c0_i32_987
  let v1508 : BitVec 32 := Scalar.extui v1507
  let c0_i32_988 : BitVec 32 := 0#32
  let v1509 : BitVec 1 := Scalar.cmpi .ne v1508 c0_i32_988
  v1509

def k0_off44 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_973 : BitVec 32 := 3#32
  let v1479 : BitVec 32 := Scalar.addi v2 c3_i32_973
  let c4_i32_974 : BitVec 32 := 4#32
  let c0_i32_975 : BitVec 32 := 0#32
  let v1480 : BitVec 1 := Scalar.cmpi .eq c4_i32_974 c0_i32_975
  let c1_i32_976 : BitVec 32 := 1#32
  let v1481 : BitVec 32 := Scalar.select v1480 c1_i32_976 c4_i32_974
  let v1482 : BitVec 32 := Scalar.remsi v1479 v1481
  let c0_i32_978 : BitVec 32 := 0#32
  let v1484 : BitVec 1 := Scalar.cmpi .slt v1482 c0_i32_978
  let c0_i32_979 : BitVec 32 := 0#32
  let v1485 : BitVec 1 := Scalar.cmpi .slt v1481 c0_i32_979
  let v1486 : BitVec 1 := Scalar.xori v1484 v1485
  let c0_i32_977 : BitVec 32 := 0#32
  let v1483 : BitVec 1 := Scalar.cmpi .ne v1482 c0_i32_977
  let v1487 : BitVec 1 := Scalar.andi v1486 v1483
  let v1488 : BitVec 32 := Scalar.addi v1482 v1481
  let v1489 : BitVec 32 := Scalar.select v1487 v1488 v1482
  let c0_i32_1297 : BitVec 32 := 0#32
  let c0_i32_1298 : BitVec 32 := 0#32
  ![v1489.toNat, 0, 0]
def k0_off45 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1299 : BitVec 32 := 0#32
  let c0_i32_1300 : BitVec 32 := 0#32
  ![v2.toNat, 0, 0]
def k0_cond28 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1002 : BitVec 32 := 1#32
  let v1524 : BitVec 32 := Scalar.addi v2 c1_i32_1002
  let c4_i32_1003 : BitVec 32 := 4#32
  let c0_i32_1004 : BitVec 32 := 0#32
  let v1525 : BitVec 1 := Scalar.cmpi .eq c4_i32_1003 c0_i32_1004
  let c1_i32_1005 : BitVec 32 := 1#32
  let v1526 : BitVec 32 := Scalar.select v1525 c1_i32_1005 c4_i32_1003
  let v1527 : BitVec 32 := Scalar.remsi v1524 v1526
  let c0_i32_1007 : BitVec 32 := 0#32
  let v1529 : BitVec 1 := Scalar.cmpi .slt v1527 c0_i32_1007
  let c0_i32_1008 : BitVec 32 := 0#32
  let v1530 : BitVec 1 := Scalar.cmpi .slt v1526 c0_i32_1008
  let v1531 : BitVec 1 := Scalar.xori v1529 v1530
  let c0_i32_1006 : BitVec 32 := 0#32
  let v1528 : BitVec 1 := Scalar.cmpi .ne v1527 c0_i32_1006
  let v1532 : BitVec 1 := Scalar.andi v1531 v1528
  let v1533 : BitVec 32 := Scalar.addi v1527 v1526
  let v1534 : BitVec 32 := Scalar.select v1532 v1533 v1527
  let c0_i32_1010 : BitVec 32 := 0#32
  let v1536 : BitVec 1 := Scalar.cmpi .sgt v1534 c0_i32_1010
  let v1537 : BitVec 32 := Scalar.extui v1536
  let c0_i32_1011 : BitVec 32 := 0#32
  let v1538 : BitVec 1 := Scalar.cmpi .slt v1534 c0_i32_1011
  let v1539 : BitVec 32 := Scalar.extui v1538
  let v1540 : BitVec 32 := Scalar.subi v1537 v1539
  let c2_i32_1009 : BitVec 32 := 2#32
  let c0_i32_1012 : BitVec 32 := 0#32
  let v1541 : BitVec 1 := Scalar.cmpi .sgt c2_i32_1009 c0_i32_1012
  let v1542 : BitVec 32 := Scalar.extui v1541
  let c0_i32_1013 : BitVec 32 := 0#32
  let v1543 : BitVec 1 := Scalar.cmpi .slt c2_i32_1009 c0_i32_1013
  let v1544 : BitVec 32 := Scalar.extui v1543
  let v1545 : BitVec 32 := Scalar.subi v1542 v1544
  let v1546 : BitVec 1 := Scalar.cmpi .ne v1540 v1545
  let v1547 : BitVec 32 := Scalar.remsi v1534 c2_i32_1009
  let c0_i32_1014 : BitVec 32 := 0#32
  let v1548 : BitVec 1 := Scalar.cmpi .ne v1547 c0_i32_1014
  let v1549 : BitVec 1 := Scalar.andi v1546 v1548
  let v1535 : BitVec 32 := Scalar.divsi v1534 c2_i32_1009
  let c1_i32_1015 : BitVec 32 := 1#32
  let v1550 : BitVec 32 := Scalar.subi v1535 c1_i32_1015
  let v1551 : BitVec 32 := Scalar.select v1549 v1550 v1535
  let c0_i32_1016 : BitVec 32 := 0#32
  let v1552 : BitVec 1 := Scalar.cmpi .eq v1551 c0_i32_1016
  let v1553 : BitVec 32 := Scalar.extui v1552
  let c0_i32_1017 : BitVec 32 := 0#32
  let v1554 : BitVec 1 := Scalar.cmpi .ne v1553 c0_i32_1017
  v1554

def k0_off46 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1002 : BitVec 32 := 1#32
  let v1524 : BitVec 32 := Scalar.addi v2 c1_i32_1002
  let c4_i32_1003 : BitVec 32 := 4#32
  let c0_i32_1004 : BitVec 32 := 0#32
  let v1525 : BitVec 1 := Scalar.cmpi .eq c4_i32_1003 c0_i32_1004
  let c1_i32_1005 : BitVec 32 := 1#32
  let v1526 : BitVec 32 := Scalar.select v1525 c1_i32_1005 c4_i32_1003
  let v1527 : BitVec 32 := Scalar.remsi v1524 v1526
  let c0_i32_1007 : BitVec 32 := 0#32
  let v1529 : BitVec 1 := Scalar.cmpi .slt v1527 c0_i32_1007
  let c0_i32_1008 : BitVec 32 := 0#32
  let v1530 : BitVec 1 := Scalar.cmpi .slt v1526 c0_i32_1008
  let v1531 : BitVec 1 := Scalar.xori v1529 v1530
  let c0_i32_1006 : BitVec 32 := 0#32
  let v1528 : BitVec 1 := Scalar.cmpi .ne v1527 c0_i32_1006
  let v1532 : BitVec 1 := Scalar.andi v1531 v1528
  let v1533 : BitVec 32 := Scalar.addi v1527 v1526
  let v1534 : BitVec 32 := Scalar.select v1532 v1533 v1527
  let c0_i32_1299 : BitVec 32 := 0#32
  let c0_i32_1300 : BitVec 32 := 0#32
  ![v1534.toNat, 0, 0]
def k0_dev25 (d0 : Dev nD) : Nat :=
  let c0_i32_1296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1002 : BitVec 32 := 1#32
  let v1524 : BitVec 32 := Scalar.addi v2 c1_i32_1002
  let c4_i32_1003 : BitVec 32 := 4#32
  let c0_i32_1004 : BitVec 32 := 0#32
  let v1525 : BitVec 1 := Scalar.cmpi .eq c4_i32_1003 c0_i32_1004
  let c1_i32_1005 : BitVec 32 := 1#32
  let v1526 : BitVec 32 := Scalar.select v1525 c1_i32_1005 c4_i32_1003
  let v1527 : BitVec 32 := Scalar.remsi v1524 v1526
  let c0_i32_1007 : BitVec 32 := 0#32
  let v1529 : BitVec 1 := Scalar.cmpi .slt v1527 c0_i32_1007
  let c0_i32_1008 : BitVec 32 := 0#32
  let v1530 : BitVec 1 := Scalar.cmpi .slt v1526 c0_i32_1008
  let v1531 : BitVec 1 := Scalar.xori v1529 v1530
  let c0_i32_1006 : BitVec 32 := 0#32
  let v1528 : BitVec 1 := Scalar.cmpi .ne v1527 c0_i32_1006
  let v1532 : BitVec 1 := Scalar.andi v1531 v1528
  let v1533 : BitVec 32 := Scalar.addi v1527 v1526
  let v1534 : BitVec 32 := Scalar.select v1532 v1533 v1527
  let c1_i32_1295 : BitVec 32 := 1#32
  let v1960 : BitVec 32 := Scalar.muli v1534 c1_i32_1295
  let v1961 : BitVec 32 := Scalar.addi c0_i32_1296 v1960
  v1961.toNat
def k0_cond29 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1018 : BitVec 32 := 2#32
  let v1555 : BitVec 32 := Scalar.addi v2 c2_i32_1018
  let c4_i32_1019 : BitVec 32 := 4#32
  let c0_i32_1020 : BitVec 32 := 0#32
  let v1556 : BitVec 1 := Scalar.cmpi .eq c4_i32_1019 c0_i32_1020
  let c1_i32_1021 : BitVec 32 := 1#32
  let v1557 : BitVec 32 := Scalar.select v1556 c1_i32_1021 c4_i32_1019
  let v1558 : BitVec 32 := Scalar.remsi v1555 v1557
  let c0_i32_1023 : BitVec 32 := 0#32
  let v1560 : BitVec 1 := Scalar.cmpi .slt v1558 c0_i32_1023
  let c0_i32_1024 : BitVec 32 := 0#32
  let v1561 : BitVec 1 := Scalar.cmpi .slt v1557 c0_i32_1024
  let v1562 : BitVec 1 := Scalar.xori v1560 v1561
  let c0_i32_1022 : BitVec 32 := 0#32
  let v1559 : BitVec 1 := Scalar.cmpi .ne v1558 c0_i32_1022
  let v1563 : BitVec 1 := Scalar.andi v1562 v1559
  let v1564 : BitVec 32 := Scalar.addi v1558 v1557
  let v1565 : BitVec 32 := Scalar.select v1563 v1564 v1558
  let c0_i32_1026 : BitVec 32 := 0#32
  let v1567 : BitVec 1 := Scalar.cmpi .sgt v1565 c0_i32_1026
  let v1568 : BitVec 32 := Scalar.extui v1567
  let c0_i32_1027 : BitVec 32 := 0#32
  let v1569 : BitVec 1 := Scalar.cmpi .slt v1565 c0_i32_1027
  let v1570 : BitVec 32 := Scalar.extui v1569
  let v1571 : BitVec 32 := Scalar.subi v1568 v1570
  let c2_i32_1025 : BitVec 32 := 2#32
  let c0_i32_1028 : BitVec 32 := 0#32
  let v1572 : BitVec 1 := Scalar.cmpi .sgt c2_i32_1025 c0_i32_1028
  let v1573 : BitVec 32 := Scalar.extui v1572
  let c0_i32_1029 : BitVec 32 := 0#32
  let v1574 : BitVec 1 := Scalar.cmpi .slt c2_i32_1025 c0_i32_1029
  let v1575 : BitVec 32 := Scalar.extui v1574
  let v1576 : BitVec 32 := Scalar.subi v1573 v1575
  let v1577 : BitVec 1 := Scalar.cmpi .ne v1571 v1576
  let v1578 : BitVec 32 := Scalar.remsi v1565 c2_i32_1025
  let c0_i32_1030 : BitVec 32 := 0#32
  let v1579 : BitVec 1 := Scalar.cmpi .ne v1578 c0_i32_1030
  let v1580 : BitVec 1 := Scalar.andi v1577 v1579
  let v1566 : BitVec 32 := Scalar.divsi v1565 c2_i32_1025
  let c1_i32_1031 : BitVec 32 := 1#32
  let v1581 : BitVec 32 := Scalar.subi v1566 c1_i32_1031
  let v1582 : BitVec 32 := Scalar.select v1580 v1581 v1566
  let c0_i32_1032 : BitVec 32 := 0#32
  let v1583 : BitVec 1 := Scalar.cmpi .eq v1582 c0_i32_1032
  let v1584 : BitVec 32 := Scalar.extui v1583
  let c0_i32_1033 : BitVec 32 := 0#32
  let v1585 : BitVec 1 := Scalar.cmpi .ne v1584 c0_i32_1033
  v1585

def k0_off47 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1018 : BitVec 32 := 2#32
  let v1555 : BitVec 32 := Scalar.addi v2 c2_i32_1018
  let c4_i32_1019 : BitVec 32 := 4#32
  let c0_i32_1020 : BitVec 32 := 0#32
  let v1556 : BitVec 1 := Scalar.cmpi .eq c4_i32_1019 c0_i32_1020
  let c1_i32_1021 : BitVec 32 := 1#32
  let v1557 : BitVec 32 := Scalar.select v1556 c1_i32_1021 c4_i32_1019
  let v1558 : BitVec 32 := Scalar.remsi v1555 v1557
  let c0_i32_1023 : BitVec 32 := 0#32
  let v1560 : BitVec 1 := Scalar.cmpi .slt v1558 c0_i32_1023
  let c0_i32_1024 : BitVec 32 := 0#32
  let v1561 : BitVec 1 := Scalar.cmpi .slt v1557 c0_i32_1024
  let v1562 : BitVec 1 := Scalar.xori v1560 v1561
  let c0_i32_1022 : BitVec 32 := 0#32
  let v1559 : BitVec 1 := Scalar.cmpi .ne v1558 c0_i32_1022
  let v1563 : BitVec 1 := Scalar.andi v1562 v1559
  let v1564 : BitVec 32 := Scalar.addi v1558 v1557
  let v1565 : BitVec 32 := Scalar.select v1563 v1564 v1558
  let c0_i32_1299 : BitVec 32 := 0#32
  let c0_i32_1300 : BitVec 32 := 0#32
  ![v1565.toNat, 0, 0]
def k0_dev26 (d0 : Dev nD) : Nat :=
  let c0_i32_1296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1018 : BitVec 32 := 2#32
  let v1555 : BitVec 32 := Scalar.addi v2 c2_i32_1018
  let c4_i32_1019 : BitVec 32 := 4#32
  let c0_i32_1020 : BitVec 32 := 0#32
  let v1556 : BitVec 1 := Scalar.cmpi .eq c4_i32_1019 c0_i32_1020
  let c1_i32_1021 : BitVec 32 := 1#32
  let v1557 : BitVec 32 := Scalar.select v1556 c1_i32_1021 c4_i32_1019
  let v1558 : BitVec 32 := Scalar.remsi v1555 v1557
  let c0_i32_1023 : BitVec 32 := 0#32
  let v1560 : BitVec 1 := Scalar.cmpi .slt v1558 c0_i32_1023
  let c0_i32_1024 : BitVec 32 := 0#32
  let v1561 : BitVec 1 := Scalar.cmpi .slt v1557 c0_i32_1024
  let v1562 : BitVec 1 := Scalar.xori v1560 v1561
  let c0_i32_1022 : BitVec 32 := 0#32
  let v1559 : BitVec 1 := Scalar.cmpi .ne v1558 c0_i32_1022
  let v1563 : BitVec 1 := Scalar.andi v1562 v1559
  let v1564 : BitVec 32 := Scalar.addi v1558 v1557
  let v1565 : BitVec 32 := Scalar.select v1563 v1564 v1558
  let c1_i32_1295 : BitVec 32 := 1#32
  let v1960 : BitVec 32 := Scalar.muli v1565 c1_i32_1295
  let v1961 : BitVec 32 := Scalar.addi c0_i32_1296 v1960
  v1961.toNat
def k0_cond30 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1034 : BitVec 32 := 3#32
  let v1586 : BitVec 32 := Scalar.addi v2 c3_i32_1034
  let c4_i32_1035 : BitVec 32 := 4#32
  let c0_i32_1036 : BitVec 32 := 0#32
  let v1587 : BitVec 1 := Scalar.cmpi .eq c4_i32_1035 c0_i32_1036
  let c1_i32_1037 : BitVec 32 := 1#32
  let v1588 : BitVec 32 := Scalar.select v1587 c1_i32_1037 c4_i32_1035
  let v1589 : BitVec 32 := Scalar.remsi v1586 v1588
  let c0_i32_1039 : BitVec 32 := 0#32
  let v1591 : BitVec 1 := Scalar.cmpi .slt v1589 c0_i32_1039
  let c0_i32_1040 : BitVec 32 := 0#32
  let v1592 : BitVec 1 := Scalar.cmpi .slt v1588 c0_i32_1040
  let v1593 : BitVec 1 := Scalar.xori v1591 v1592
  let c0_i32_1038 : BitVec 32 := 0#32
  let v1590 : BitVec 1 := Scalar.cmpi .ne v1589 c0_i32_1038
  let v1594 : BitVec 1 := Scalar.andi v1593 v1590
  let v1595 : BitVec 32 := Scalar.addi v1589 v1588
  let v1596 : BitVec 32 := Scalar.select v1594 v1595 v1589
  let c0_i32_1042 : BitVec 32 := 0#32
  let v1598 : BitVec 1 := Scalar.cmpi .sgt v1596 c0_i32_1042
  let v1599 : BitVec 32 := Scalar.extui v1598
  let c0_i32_1043 : BitVec 32 := 0#32
  let v1600 : BitVec 1 := Scalar.cmpi .slt v1596 c0_i32_1043
  let v1601 : BitVec 32 := Scalar.extui v1600
  let v1602 : BitVec 32 := Scalar.subi v1599 v1601
  let c2_i32_1041 : BitVec 32 := 2#32
  let c0_i32_1044 : BitVec 32 := 0#32
  let v1603 : BitVec 1 := Scalar.cmpi .sgt c2_i32_1041 c0_i32_1044
  let v1604 : BitVec 32 := Scalar.extui v1603
  let c0_i32_1045 : BitVec 32 := 0#32
  let v1605 : BitVec 1 := Scalar.cmpi .slt c2_i32_1041 c0_i32_1045
  let v1606 : BitVec 32 := Scalar.extui v1605
  let v1607 : BitVec 32 := Scalar.subi v1604 v1606
  let v1608 : BitVec 1 := Scalar.cmpi .ne v1602 v1607
  let v1609 : BitVec 32 := Scalar.remsi v1596 c2_i32_1041
  let c0_i32_1046 : BitVec 32 := 0#32
  let v1610 : BitVec 1 := Scalar.cmpi .ne v1609 c0_i32_1046
  let v1611 : BitVec 1 := Scalar.andi v1608 v1610
  let v1597 : BitVec 32 := Scalar.divsi v1596 c2_i32_1041
  let c1_i32_1047 : BitVec 32 := 1#32
  let v1612 : BitVec 32 := Scalar.subi v1597 c1_i32_1047
  let v1613 : BitVec 32 := Scalar.select v1611 v1612 v1597
  let c0_i32_1048 : BitVec 32 := 0#32
  let v1614 : BitVec 1 := Scalar.cmpi .eq v1613 c0_i32_1048
  let v1615 : BitVec 32 := Scalar.extui v1614
  let c0_i32_1049 : BitVec 32 := 0#32
  let v1616 : BitVec 1 := Scalar.cmpi .ne v1615 c0_i32_1049
  v1616

def k0_off48 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1034 : BitVec 32 := 3#32
  let v1586 : BitVec 32 := Scalar.addi v2 c3_i32_1034
  let c4_i32_1035 : BitVec 32 := 4#32
  let c0_i32_1036 : BitVec 32 := 0#32
  let v1587 : BitVec 1 := Scalar.cmpi .eq c4_i32_1035 c0_i32_1036
  let c1_i32_1037 : BitVec 32 := 1#32
  let v1588 : BitVec 32 := Scalar.select v1587 c1_i32_1037 c4_i32_1035
  let v1589 : BitVec 32 := Scalar.remsi v1586 v1588
  let c0_i32_1039 : BitVec 32 := 0#32
  let v1591 : BitVec 1 := Scalar.cmpi .slt v1589 c0_i32_1039
  let c0_i32_1040 : BitVec 32 := 0#32
  let v1592 : BitVec 1 := Scalar.cmpi .slt v1588 c0_i32_1040
  let v1593 : BitVec 1 := Scalar.xori v1591 v1592
  let c0_i32_1038 : BitVec 32 := 0#32
  let v1590 : BitVec 1 := Scalar.cmpi .ne v1589 c0_i32_1038
  let v1594 : BitVec 1 := Scalar.andi v1593 v1590
  let v1595 : BitVec 32 := Scalar.addi v1589 v1588
  let v1596 : BitVec 32 := Scalar.select v1594 v1595 v1589
  let c0_i32_1299 : BitVec 32 := 0#32
  let c0_i32_1300 : BitVec 32 := 0#32
  ![v1596.toNat, 0, 0]
def k0_dev27 (d0 : Dev nD) : Nat :=
  let c0_i32_1296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1034 : BitVec 32 := 3#32
  let v1586 : BitVec 32 := Scalar.addi v2 c3_i32_1034
  let c4_i32_1035 : BitVec 32 := 4#32
  let c0_i32_1036 : BitVec 32 := 0#32
  let v1587 : BitVec 1 := Scalar.cmpi .eq c4_i32_1035 c0_i32_1036
  let c1_i32_1037 : BitVec 32 := 1#32
  let v1588 : BitVec 32 := Scalar.select v1587 c1_i32_1037 c4_i32_1035
  let v1589 : BitVec 32 := Scalar.remsi v1586 v1588
  let c0_i32_1039 : BitVec 32 := 0#32
  let v1591 : BitVec 1 := Scalar.cmpi .slt v1589 c0_i32_1039
  let c0_i32_1040 : BitVec 32 := 0#32
  let v1592 : BitVec 1 := Scalar.cmpi .slt v1588 c0_i32_1040
  let v1593 : BitVec 1 := Scalar.xori v1591 v1592
  let c0_i32_1038 : BitVec 32 := 0#32
  let v1590 : BitVec 1 := Scalar.cmpi .ne v1589 c0_i32_1038
  let v1594 : BitVec 1 := Scalar.andi v1593 v1590
  let v1595 : BitVec 32 := Scalar.addi v1589 v1588
  let v1596 : BitVec 32 := Scalar.select v1594 v1595 v1589
  let c1_i32_1295 : BitVec 32 := 1#32
  let v1960 : BitVec 32 := Scalar.muli v1596 c1_i32_1295
  let v1961 : BitVec 32 := Scalar.addi c0_i32_1296 v1960
  v1961.toNat
def k0_cond31 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1050 : BitVec 32 := 1#32
  let v1617 : BitVec 32 := Scalar.addi v2 c1_i32_1050
  let c4_i32_1051 : BitVec 32 := 4#32
  let c0_i32_1052 : BitVec 32 := 0#32
  let v1618 : BitVec 1 := Scalar.cmpi .eq c4_i32_1051 c0_i32_1052
  let c1_i32_1053 : BitVec 32 := 1#32
  let v1619 : BitVec 32 := Scalar.select v1618 c1_i32_1053 c4_i32_1051
  let v1620 : BitVec 32 := Scalar.remsi v1617 v1619
  let c0_i32_1055 : BitVec 32 := 0#32
  let v1622 : BitVec 1 := Scalar.cmpi .slt v1620 c0_i32_1055
  let c0_i32_1056 : BitVec 32 := 0#32
  let v1623 : BitVec 1 := Scalar.cmpi .slt v1619 c0_i32_1056
  let v1624 : BitVec 1 := Scalar.xori v1622 v1623
  let c0_i32_1054 : BitVec 32 := 0#32
  let v1621 : BitVec 1 := Scalar.cmpi .ne v1620 c0_i32_1054
  let v1625 : BitVec 1 := Scalar.andi v1624 v1621
  let v1626 : BitVec 32 := Scalar.addi v1620 v1619
  let v1627 : BitVec 32 := Scalar.select v1625 v1626 v1620
  let c0_i32_1058 : BitVec 32 := 0#32
  let v1629 : BitVec 1 := Scalar.cmpi .sgt v1627 c0_i32_1058
  let v1630 : BitVec 32 := Scalar.extui v1629
  let c0_i32_1059 : BitVec 32 := 0#32
  let v1631 : BitVec 1 := Scalar.cmpi .slt v1627 c0_i32_1059
  let v1632 : BitVec 32 := Scalar.extui v1631
  let v1633 : BitVec 32 := Scalar.subi v1630 v1632
  let c2_i32_1057 : BitVec 32 := 2#32
  let c0_i32_1060 : BitVec 32 := 0#32
  let v1634 : BitVec 1 := Scalar.cmpi .sgt c2_i32_1057 c0_i32_1060
  let v1635 : BitVec 32 := Scalar.extui v1634
  let c0_i32_1061 : BitVec 32 := 0#32
  let v1636 : BitVec 1 := Scalar.cmpi .slt c2_i32_1057 c0_i32_1061
  let v1637 : BitVec 32 := Scalar.extui v1636
  let v1638 : BitVec 32 := Scalar.subi v1635 v1637
  let v1639 : BitVec 1 := Scalar.cmpi .ne v1633 v1638
  let v1640 : BitVec 32 := Scalar.remsi v1627 c2_i32_1057
  let c0_i32_1062 : BitVec 32 := 0#32
  let v1641 : BitVec 1 := Scalar.cmpi .ne v1640 c0_i32_1062
  let v1642 : BitVec 1 := Scalar.andi v1639 v1641
  let v1628 : BitVec 32 := Scalar.divsi v1627 c2_i32_1057
  let c1_i32_1063 : BitVec 32 := 1#32
  let v1643 : BitVec 32 := Scalar.subi v1628 c1_i32_1063
  let v1644 : BitVec 32 := Scalar.select v1642 v1643 v1628
  let c1_i32_1064 : BitVec 32 := 1#32
  let v1645 : BitVec 1 := Scalar.cmpi .eq v1644 c1_i32_1064
  let v1646 : BitVec 32 := Scalar.extui v1645
  let c0_i32_1065 : BitVec 32 := 0#32
  let v1647 : BitVec 1 := Scalar.cmpi .ne v1646 c0_i32_1065
  v1647

def k0_off49 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1050 : BitVec 32 := 1#32
  let v1617 : BitVec 32 := Scalar.addi v2 c1_i32_1050
  let c4_i32_1051 : BitVec 32 := 4#32
  let c0_i32_1052 : BitVec 32 := 0#32
  let v1618 : BitVec 1 := Scalar.cmpi .eq c4_i32_1051 c0_i32_1052
  let c1_i32_1053 : BitVec 32 := 1#32
  let v1619 : BitVec 32 := Scalar.select v1618 c1_i32_1053 c4_i32_1051
  let v1620 : BitVec 32 := Scalar.remsi v1617 v1619
  let c0_i32_1055 : BitVec 32 := 0#32
  let v1622 : BitVec 1 := Scalar.cmpi .slt v1620 c0_i32_1055
  let c0_i32_1056 : BitVec 32 := 0#32
  let v1623 : BitVec 1 := Scalar.cmpi .slt v1619 c0_i32_1056
  let v1624 : BitVec 1 := Scalar.xori v1622 v1623
  let c0_i32_1054 : BitVec 32 := 0#32
  let v1621 : BitVec 1 := Scalar.cmpi .ne v1620 c0_i32_1054
  let v1625 : BitVec 1 := Scalar.andi v1624 v1621
  let v1626 : BitVec 32 := Scalar.addi v1620 v1619
  let v1627 : BitVec 32 := Scalar.select v1625 v1626 v1620
  let c0_i32_1297 : BitVec 32 := 0#32
  let c0_i32_1298 : BitVec 32 := 0#32
  ![v1627.toNat, 0, 0]
def k0_off50 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1299 : BitVec 32 := 0#32
  let c0_i32_1300 : BitVec 32 := 0#32
  ![v2.toNat, 0, 0]
def k0_cond32 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1066 : BitVec 32 := 2#32
  let v1648 : BitVec 32 := Scalar.addi v2 c2_i32_1066
  let c4_i32_1067 : BitVec 32 := 4#32
  let c0_i32_1068 : BitVec 32 := 0#32
  let v1649 : BitVec 1 := Scalar.cmpi .eq c4_i32_1067 c0_i32_1068
  let c1_i32_1069 : BitVec 32 := 1#32
  let v1650 : BitVec 32 := Scalar.select v1649 c1_i32_1069 c4_i32_1067
  let v1651 : BitVec 32 := Scalar.remsi v1648 v1650
  let c0_i32_1071 : BitVec 32 := 0#32
  let v1653 : BitVec 1 := Scalar.cmpi .slt v1651 c0_i32_1071
  let c0_i32_1072 : BitVec 32 := 0#32
  let v1654 : BitVec 1 := Scalar.cmpi .slt v1650 c0_i32_1072
  let v1655 : BitVec 1 := Scalar.xori v1653 v1654
  let c0_i32_1070 : BitVec 32 := 0#32
  let v1652 : BitVec 1 := Scalar.cmpi .ne v1651 c0_i32_1070
  let v1656 : BitVec 1 := Scalar.andi v1655 v1652
  let v1657 : BitVec 32 := Scalar.addi v1651 v1650
  let v1658 : BitVec 32 := Scalar.select v1656 v1657 v1651
  let c0_i32_1074 : BitVec 32 := 0#32
  let v1660 : BitVec 1 := Scalar.cmpi .sgt v1658 c0_i32_1074
  let v1661 : BitVec 32 := Scalar.extui v1660
  let c0_i32_1075 : BitVec 32 := 0#32
  let v1662 : BitVec 1 := Scalar.cmpi .slt v1658 c0_i32_1075
  let v1663 : BitVec 32 := Scalar.extui v1662
  let v1664 : BitVec 32 := Scalar.subi v1661 v1663
  let c2_i32_1073 : BitVec 32 := 2#32
  let c0_i32_1076 : BitVec 32 := 0#32
  let v1665 : BitVec 1 := Scalar.cmpi .sgt c2_i32_1073 c0_i32_1076
  let v1666 : BitVec 32 := Scalar.extui v1665
  let c0_i32_1077 : BitVec 32 := 0#32
  let v1667 : BitVec 1 := Scalar.cmpi .slt c2_i32_1073 c0_i32_1077
  let v1668 : BitVec 32 := Scalar.extui v1667
  let v1669 : BitVec 32 := Scalar.subi v1666 v1668
  let v1670 : BitVec 1 := Scalar.cmpi .ne v1664 v1669
  let v1671 : BitVec 32 := Scalar.remsi v1658 c2_i32_1073
  let c0_i32_1078 : BitVec 32 := 0#32
  let v1672 : BitVec 1 := Scalar.cmpi .ne v1671 c0_i32_1078
  let v1673 : BitVec 1 := Scalar.andi v1670 v1672
  let v1659 : BitVec 32 := Scalar.divsi v1658 c2_i32_1073
  let c1_i32_1079 : BitVec 32 := 1#32
  let v1674 : BitVec 32 := Scalar.subi v1659 c1_i32_1079
  let v1675 : BitVec 32 := Scalar.select v1673 v1674 v1659
  let c1_i32_1080 : BitVec 32 := 1#32
  let v1676 : BitVec 1 := Scalar.cmpi .eq v1675 c1_i32_1080
  let v1677 : BitVec 32 := Scalar.extui v1676
  let c0_i32_1081 : BitVec 32 := 0#32
  let v1678 : BitVec 1 := Scalar.cmpi .ne v1677 c0_i32_1081
  v1678

def k0_off51 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1066 : BitVec 32 := 2#32
  let v1648 : BitVec 32 := Scalar.addi v2 c2_i32_1066
  let c4_i32_1067 : BitVec 32 := 4#32
  let c0_i32_1068 : BitVec 32 := 0#32
  let v1649 : BitVec 1 := Scalar.cmpi .eq c4_i32_1067 c0_i32_1068
  let c1_i32_1069 : BitVec 32 := 1#32
  let v1650 : BitVec 32 := Scalar.select v1649 c1_i32_1069 c4_i32_1067
  let v1651 : BitVec 32 := Scalar.remsi v1648 v1650
  let c0_i32_1071 : BitVec 32 := 0#32
  let v1653 : BitVec 1 := Scalar.cmpi .slt v1651 c0_i32_1071
  let c0_i32_1072 : BitVec 32 := 0#32
  let v1654 : BitVec 1 := Scalar.cmpi .slt v1650 c0_i32_1072
  let v1655 : BitVec 1 := Scalar.xori v1653 v1654
  let c0_i32_1070 : BitVec 32 := 0#32
  let v1652 : BitVec 1 := Scalar.cmpi .ne v1651 c0_i32_1070
  let v1656 : BitVec 1 := Scalar.andi v1655 v1652
  let v1657 : BitVec 32 := Scalar.addi v1651 v1650
  let v1658 : BitVec 32 := Scalar.select v1656 v1657 v1651
  let c0_i32_1297 : BitVec 32 := 0#32
  let c0_i32_1298 : BitVec 32 := 0#32
  ![v1658.toNat, 0, 0]
def k0_off52 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1299 : BitVec 32 := 0#32
  let c0_i32_1300 : BitVec 32 := 0#32
  ![v2.toNat, 0, 0]
def k0_cond33 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1082 : BitVec 32 := 3#32
  let v1679 : BitVec 32 := Scalar.addi v2 c3_i32_1082
  let c4_i32_1083 : BitVec 32 := 4#32
  let c0_i32_1084 : BitVec 32 := 0#32
  let v1680 : BitVec 1 := Scalar.cmpi .eq c4_i32_1083 c0_i32_1084
  let c1_i32_1085 : BitVec 32 := 1#32
  let v1681 : BitVec 32 := Scalar.select v1680 c1_i32_1085 c4_i32_1083
  let v1682 : BitVec 32 := Scalar.remsi v1679 v1681
  let c0_i32_1087 : BitVec 32 := 0#32
  let v1684 : BitVec 1 := Scalar.cmpi .slt v1682 c0_i32_1087
  let c0_i32_1088 : BitVec 32 := 0#32
  let v1685 : BitVec 1 := Scalar.cmpi .slt v1681 c0_i32_1088
  let v1686 : BitVec 1 := Scalar.xori v1684 v1685
  let c0_i32_1086 : BitVec 32 := 0#32
  let v1683 : BitVec 1 := Scalar.cmpi .ne v1682 c0_i32_1086
  let v1687 : BitVec 1 := Scalar.andi v1686 v1683
  let v1688 : BitVec 32 := Scalar.addi v1682 v1681
  let v1689 : BitVec 32 := Scalar.select v1687 v1688 v1682
  let c0_i32_1090 : BitVec 32 := 0#32
  let v1691 : BitVec 1 := Scalar.cmpi .sgt v1689 c0_i32_1090
  let v1692 : BitVec 32 := Scalar.extui v1691
  let c0_i32_1091 : BitVec 32 := 0#32
  let v1693 : BitVec 1 := Scalar.cmpi .slt v1689 c0_i32_1091
  let v1694 : BitVec 32 := Scalar.extui v1693
  let v1695 : BitVec 32 := Scalar.subi v1692 v1694
  let c2_i32_1089 : BitVec 32 := 2#32
  let c0_i32_1092 : BitVec 32 := 0#32
  let v1696 : BitVec 1 := Scalar.cmpi .sgt c2_i32_1089 c0_i32_1092
  let v1697 : BitVec 32 := Scalar.extui v1696
  let c0_i32_1093 : BitVec 32 := 0#32
  let v1698 : BitVec 1 := Scalar.cmpi .slt c2_i32_1089 c0_i32_1093
  let v1699 : BitVec 32 := Scalar.extui v1698
  let v1700 : BitVec 32 := Scalar.subi v1697 v1699
  let v1701 : BitVec 1 := Scalar.cmpi .ne v1695 v1700
  let v1702 : BitVec 32 := Scalar.remsi v1689 c2_i32_1089
  let c0_i32_1094 : BitVec 32 := 0#32
  let v1703 : BitVec 1 := Scalar.cmpi .ne v1702 c0_i32_1094
  let v1704 : BitVec 1 := Scalar.andi v1701 v1703
  let v1690 : BitVec 32 := Scalar.divsi v1689 c2_i32_1089
  let c1_i32_1095 : BitVec 32 := 1#32
  let v1705 : BitVec 32 := Scalar.subi v1690 c1_i32_1095
  let v1706 : BitVec 32 := Scalar.select v1704 v1705 v1690
  let c1_i32_1096 : BitVec 32 := 1#32
  let v1707 : BitVec 1 := Scalar.cmpi .eq v1706 c1_i32_1096
  let v1708 : BitVec 32 := Scalar.extui v1707
  let c0_i32_1097 : BitVec 32 := 0#32
  let v1709 : BitVec 1 := Scalar.cmpi .ne v1708 c0_i32_1097
  v1709

def k0_off53 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1082 : BitVec 32 := 3#32
  let v1679 : BitVec 32 := Scalar.addi v2 c3_i32_1082
  let c4_i32_1083 : BitVec 32 := 4#32
  let c0_i32_1084 : BitVec 32 := 0#32
  let v1680 : BitVec 1 := Scalar.cmpi .eq c4_i32_1083 c0_i32_1084
  let c1_i32_1085 : BitVec 32 := 1#32
  let v1681 : BitVec 32 := Scalar.select v1680 c1_i32_1085 c4_i32_1083
  let v1682 : BitVec 32 := Scalar.remsi v1679 v1681
  let c0_i32_1087 : BitVec 32 := 0#32
  let v1684 : BitVec 1 := Scalar.cmpi .slt v1682 c0_i32_1087
  let c0_i32_1088 : BitVec 32 := 0#32
  let v1685 : BitVec 1 := Scalar.cmpi .slt v1681 c0_i32_1088
  let v1686 : BitVec 1 := Scalar.xori v1684 v1685
  let c0_i32_1086 : BitVec 32 := 0#32
  let v1683 : BitVec 1 := Scalar.cmpi .ne v1682 c0_i32_1086
  let v1687 : BitVec 1 := Scalar.andi v1686 v1683
  let v1688 : BitVec 32 := Scalar.addi v1682 v1681
  let v1689 : BitVec 32 := Scalar.select v1687 v1688 v1682
  let c0_i32_1297 : BitVec 32 := 0#32
  let c0_i32_1298 : BitVec 32 := 0#32
  ![v1689.toNat, 0, 0]
def k0_off54 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1299 : BitVec 32 := 0#32
  let c0_i32_1300 : BitVec 32 := 0#32
  ![v2.toNat, 0, 0]
def k0_cond34 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1111 : BitVec 32 := 1#32
  let v1724 : BitVec 32 := Scalar.addi v2 c1_i32_1111
  let c4_i32_1112 : BitVec 32 := 4#32
  let c0_i32_1113 : BitVec 32 := 0#32
  let v1725 : BitVec 1 := Scalar.cmpi .eq c4_i32_1112 c0_i32_1113
  let c1_i32_1114 : BitVec 32 := 1#32
  let v1726 : BitVec 32 := Scalar.select v1725 c1_i32_1114 c4_i32_1112
  let v1727 : BitVec 32 := Scalar.remsi v1724 v1726
  let c0_i32_1116 : BitVec 32 := 0#32
  let v1729 : BitVec 1 := Scalar.cmpi .slt v1727 c0_i32_1116
  let c0_i32_1117 : BitVec 32 := 0#32
  let v1730 : BitVec 1 := Scalar.cmpi .slt v1726 c0_i32_1117
  let v1731 : BitVec 1 := Scalar.xori v1729 v1730
  let c0_i32_1115 : BitVec 32 := 0#32
  let v1728 : BitVec 1 := Scalar.cmpi .ne v1727 c0_i32_1115
  let v1732 : BitVec 1 := Scalar.andi v1731 v1728
  let v1733 : BitVec 32 := Scalar.addi v1727 v1726
  let v1734 : BitVec 32 := Scalar.select v1732 v1733 v1727
  let c0_i32_1119 : BitVec 32 := 0#32
  let v1736 : BitVec 1 := Scalar.cmpi .sgt v1734 c0_i32_1119
  let v1737 : BitVec 32 := Scalar.extui v1736
  let c0_i32_1120 : BitVec 32 := 0#32
  let v1738 : BitVec 1 := Scalar.cmpi .slt v1734 c0_i32_1120
  let v1739 : BitVec 32 := Scalar.extui v1738
  let v1740 : BitVec 32 := Scalar.subi v1737 v1739
  let c2_i32_1118 : BitVec 32 := 2#32
  let c0_i32_1121 : BitVec 32 := 0#32
  let v1741 : BitVec 1 := Scalar.cmpi .sgt c2_i32_1118 c0_i32_1121
  let v1742 : BitVec 32 := Scalar.extui v1741
  let c0_i32_1122 : BitVec 32 := 0#32
  let v1743 : BitVec 1 := Scalar.cmpi .slt c2_i32_1118 c0_i32_1122
  let v1744 : BitVec 32 := Scalar.extui v1743
  let v1745 : BitVec 32 := Scalar.subi v1742 v1744
  let v1746 : BitVec 1 := Scalar.cmpi .ne v1740 v1745
  let v1747 : BitVec 32 := Scalar.remsi v1734 c2_i32_1118
  let c0_i32_1123 : BitVec 32 := 0#32
  let v1748 : BitVec 1 := Scalar.cmpi .ne v1747 c0_i32_1123
  let v1749 : BitVec 1 := Scalar.andi v1746 v1748
  let v1735 : BitVec 32 := Scalar.divsi v1734 c2_i32_1118
  let c1_i32_1124 : BitVec 32 := 1#32
  let v1750 : BitVec 32 := Scalar.subi v1735 c1_i32_1124
  let v1751 : BitVec 32 := Scalar.select v1749 v1750 v1735
  let c1_i32_1125 : BitVec 32 := 1#32
  let v1752 : BitVec 1 := Scalar.cmpi .eq v1751 c1_i32_1125
  let v1753 : BitVec 32 := Scalar.extui v1752
  let c0_i32_1126 : BitVec 32 := 0#32
  let v1754 : BitVec 1 := Scalar.cmpi .ne v1753 c0_i32_1126
  v1754

def k0_off55 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1111 : BitVec 32 := 1#32
  let v1724 : BitVec 32 := Scalar.addi v2 c1_i32_1111
  let c4_i32_1112 : BitVec 32 := 4#32
  let c0_i32_1113 : BitVec 32 := 0#32
  let v1725 : BitVec 1 := Scalar.cmpi .eq c4_i32_1112 c0_i32_1113
  let c1_i32_1114 : BitVec 32 := 1#32
  let v1726 : BitVec 32 := Scalar.select v1725 c1_i32_1114 c4_i32_1112
  let v1727 : BitVec 32 := Scalar.remsi v1724 v1726
  let c0_i32_1116 : BitVec 32 := 0#32
  let v1729 : BitVec 1 := Scalar.cmpi .slt v1727 c0_i32_1116
  let c0_i32_1117 : BitVec 32 := 0#32
  let v1730 : BitVec 1 := Scalar.cmpi .slt v1726 c0_i32_1117
  let v1731 : BitVec 1 := Scalar.xori v1729 v1730
  let c0_i32_1115 : BitVec 32 := 0#32
  let v1728 : BitVec 1 := Scalar.cmpi .ne v1727 c0_i32_1115
  let v1732 : BitVec 1 := Scalar.andi v1731 v1728
  let v1733 : BitVec 32 := Scalar.addi v1727 v1726
  let v1734 : BitVec 32 := Scalar.select v1732 v1733 v1727
  let c0_i32_1299 : BitVec 32 := 0#32
  let c0_i32_1300 : BitVec 32 := 0#32
  ![v1734.toNat, 0, 0]
def k0_dev28 (d0 : Dev nD) : Nat :=
  let c0_i32_1296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1111 : BitVec 32 := 1#32
  let v1724 : BitVec 32 := Scalar.addi v2 c1_i32_1111
  let c4_i32_1112 : BitVec 32 := 4#32
  let c0_i32_1113 : BitVec 32 := 0#32
  let v1725 : BitVec 1 := Scalar.cmpi .eq c4_i32_1112 c0_i32_1113
  let c1_i32_1114 : BitVec 32 := 1#32
  let v1726 : BitVec 32 := Scalar.select v1725 c1_i32_1114 c4_i32_1112
  let v1727 : BitVec 32 := Scalar.remsi v1724 v1726
  let c0_i32_1116 : BitVec 32 := 0#32
  let v1729 : BitVec 1 := Scalar.cmpi .slt v1727 c0_i32_1116
  let c0_i32_1117 : BitVec 32 := 0#32
  let v1730 : BitVec 1 := Scalar.cmpi .slt v1726 c0_i32_1117
  let v1731 : BitVec 1 := Scalar.xori v1729 v1730
  let c0_i32_1115 : BitVec 32 := 0#32
  let v1728 : BitVec 1 := Scalar.cmpi .ne v1727 c0_i32_1115
  let v1732 : BitVec 1 := Scalar.andi v1731 v1728
  let v1733 : BitVec 32 := Scalar.addi v1727 v1726
  let v1734 : BitVec 32 := Scalar.select v1732 v1733 v1727
  let c1_i32_1295 : BitVec 32 := 1#32
  let v1960 : BitVec 32 := Scalar.muli v1734 c1_i32_1295
  let v1961 : BitVec 32 := Scalar.addi c0_i32_1296 v1960
  v1961.toNat
def k0_cond35 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1127 : BitVec 32 := 2#32
  let v1755 : BitVec 32 := Scalar.addi v2 c2_i32_1127
  let c4_i32_1128 : BitVec 32 := 4#32
  let c0_i32_1129 : BitVec 32 := 0#32
  let v1756 : BitVec 1 := Scalar.cmpi .eq c4_i32_1128 c0_i32_1129
  let c1_i32_1130 : BitVec 32 := 1#32
  let v1757 : BitVec 32 := Scalar.select v1756 c1_i32_1130 c4_i32_1128
  let v1758 : BitVec 32 := Scalar.remsi v1755 v1757
  let c0_i32_1132 : BitVec 32 := 0#32
  let v1760 : BitVec 1 := Scalar.cmpi .slt v1758 c0_i32_1132
  let c0_i32_1133 : BitVec 32 := 0#32
  let v1761 : BitVec 1 := Scalar.cmpi .slt v1757 c0_i32_1133
  let v1762 : BitVec 1 := Scalar.xori v1760 v1761
  let c0_i32_1131 : BitVec 32 := 0#32
  let v1759 : BitVec 1 := Scalar.cmpi .ne v1758 c0_i32_1131
  let v1763 : BitVec 1 := Scalar.andi v1762 v1759
  let v1764 : BitVec 32 := Scalar.addi v1758 v1757
  let v1765 : BitVec 32 := Scalar.select v1763 v1764 v1758
  let c0_i32_1135 : BitVec 32 := 0#32
  let v1767 : BitVec 1 := Scalar.cmpi .sgt v1765 c0_i32_1135
  let v1768 : BitVec 32 := Scalar.extui v1767
  let c0_i32_1136 : BitVec 32 := 0#32
  let v1769 : BitVec 1 := Scalar.cmpi .slt v1765 c0_i32_1136
  let v1770 : BitVec 32 := Scalar.extui v1769
  let v1771 : BitVec 32 := Scalar.subi v1768 v1770
  let c2_i32_1134 : BitVec 32 := 2#32
  let c0_i32_1137 : BitVec 32 := 0#32
  let v1772 : BitVec 1 := Scalar.cmpi .sgt c2_i32_1134 c0_i32_1137
  let v1773 : BitVec 32 := Scalar.extui v1772
  let c0_i32_1138 : BitVec 32 := 0#32
  let v1774 : BitVec 1 := Scalar.cmpi .slt c2_i32_1134 c0_i32_1138
  let v1775 : BitVec 32 := Scalar.extui v1774
  let v1776 : BitVec 32 := Scalar.subi v1773 v1775
  let v1777 : BitVec 1 := Scalar.cmpi .ne v1771 v1776
  let v1778 : BitVec 32 := Scalar.remsi v1765 c2_i32_1134
  let c0_i32_1139 : BitVec 32 := 0#32
  let v1779 : BitVec 1 := Scalar.cmpi .ne v1778 c0_i32_1139
  let v1780 : BitVec 1 := Scalar.andi v1777 v1779
  let v1766 : BitVec 32 := Scalar.divsi v1765 c2_i32_1134
  let c1_i32_1140 : BitVec 32 := 1#32
  let v1781 : BitVec 32 := Scalar.subi v1766 c1_i32_1140
  let v1782 : BitVec 32 := Scalar.select v1780 v1781 v1766
  let c1_i32_1141 : BitVec 32 := 1#32
  let v1783 : BitVec 1 := Scalar.cmpi .eq v1782 c1_i32_1141
  let v1784 : BitVec 32 := Scalar.extui v1783
  let c0_i32_1142 : BitVec 32 := 0#32
  let v1785 : BitVec 1 := Scalar.cmpi .ne v1784 c0_i32_1142
  v1785

def k0_off56 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1127 : BitVec 32 := 2#32
  let v1755 : BitVec 32 := Scalar.addi v2 c2_i32_1127
  let c4_i32_1128 : BitVec 32 := 4#32
  let c0_i32_1129 : BitVec 32 := 0#32
  let v1756 : BitVec 1 := Scalar.cmpi .eq c4_i32_1128 c0_i32_1129
  let c1_i32_1130 : BitVec 32 := 1#32
  let v1757 : BitVec 32 := Scalar.select v1756 c1_i32_1130 c4_i32_1128
  let v1758 : BitVec 32 := Scalar.remsi v1755 v1757
  let c0_i32_1132 : BitVec 32 := 0#32
  let v1760 : BitVec 1 := Scalar.cmpi .slt v1758 c0_i32_1132
  let c0_i32_1133 : BitVec 32 := 0#32
  let v1761 : BitVec 1 := Scalar.cmpi .slt v1757 c0_i32_1133
  let v1762 : BitVec 1 := Scalar.xori v1760 v1761
  let c0_i32_1131 : BitVec 32 := 0#32
  let v1759 : BitVec 1 := Scalar.cmpi .ne v1758 c0_i32_1131
  let v1763 : BitVec 1 := Scalar.andi v1762 v1759
  let v1764 : BitVec 32 := Scalar.addi v1758 v1757
  let v1765 : BitVec 32 := Scalar.select v1763 v1764 v1758
  let c0_i32_1299 : BitVec 32 := 0#32
  let c0_i32_1300 : BitVec 32 := 0#32
  ![v1765.toNat, 0, 0]
def k0_dev29 (d0 : Dev nD) : Nat :=
  let c0_i32_1296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1127 : BitVec 32 := 2#32
  let v1755 : BitVec 32 := Scalar.addi v2 c2_i32_1127
  let c4_i32_1128 : BitVec 32 := 4#32
  let c0_i32_1129 : BitVec 32 := 0#32
  let v1756 : BitVec 1 := Scalar.cmpi .eq c4_i32_1128 c0_i32_1129
  let c1_i32_1130 : BitVec 32 := 1#32
  let v1757 : BitVec 32 := Scalar.select v1756 c1_i32_1130 c4_i32_1128
  let v1758 : BitVec 32 := Scalar.remsi v1755 v1757
  let c0_i32_1132 : BitVec 32 := 0#32
  let v1760 : BitVec 1 := Scalar.cmpi .slt v1758 c0_i32_1132
  let c0_i32_1133 : BitVec 32 := 0#32
  let v1761 : BitVec 1 := Scalar.cmpi .slt v1757 c0_i32_1133
  let v1762 : BitVec 1 := Scalar.xori v1760 v1761
  let c0_i32_1131 : BitVec 32 := 0#32
  let v1759 : BitVec 1 := Scalar.cmpi .ne v1758 c0_i32_1131
  let v1763 : BitVec 1 := Scalar.andi v1762 v1759
  let v1764 : BitVec 32 := Scalar.addi v1758 v1757
  let v1765 : BitVec 32 := Scalar.select v1763 v1764 v1758
  let c1_i32_1295 : BitVec 32 := 1#32
  let v1960 : BitVec 32 := Scalar.muli v1765 c1_i32_1295
  let v1961 : BitVec 32 := Scalar.addi c0_i32_1296 v1960
  v1961.toNat
def k0_cond36 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1143 : BitVec 32 := 3#32
  let v1786 : BitVec 32 := Scalar.addi v2 c3_i32_1143
  let c4_i32_1144 : BitVec 32 := 4#32
  let c0_i32_1145 : BitVec 32 := 0#32
  let v1787 : BitVec 1 := Scalar.cmpi .eq c4_i32_1144 c0_i32_1145
  let c1_i32_1146 : BitVec 32 := 1#32
  let v1788 : BitVec 32 := Scalar.select v1787 c1_i32_1146 c4_i32_1144
  let v1789 : BitVec 32 := Scalar.remsi v1786 v1788
  let c0_i32_1148 : BitVec 32 := 0#32
  let v1791 : BitVec 1 := Scalar.cmpi .slt v1789 c0_i32_1148
  let c0_i32_1149 : BitVec 32 := 0#32
  let v1792 : BitVec 1 := Scalar.cmpi .slt v1788 c0_i32_1149
  let v1793 : BitVec 1 := Scalar.xori v1791 v1792
  let c0_i32_1147 : BitVec 32 := 0#32
  let v1790 : BitVec 1 := Scalar.cmpi .ne v1789 c0_i32_1147
  let v1794 : BitVec 1 := Scalar.andi v1793 v1790
  let v1795 : BitVec 32 := Scalar.addi v1789 v1788
  let v1796 : BitVec 32 := Scalar.select v1794 v1795 v1789
  let c0_i32_1151 : BitVec 32 := 0#32
  let v1798 : BitVec 1 := Scalar.cmpi .sgt v1796 c0_i32_1151
  let v1799 : BitVec 32 := Scalar.extui v1798
  let c0_i32_1152 : BitVec 32 := 0#32
  let v1800 : BitVec 1 := Scalar.cmpi .slt v1796 c0_i32_1152
  let v1801 : BitVec 32 := Scalar.extui v1800
  let v1802 : BitVec 32 := Scalar.subi v1799 v1801
  let c2_i32_1150 : BitVec 32 := 2#32
  let c0_i32_1153 : BitVec 32 := 0#32
  let v1803 : BitVec 1 := Scalar.cmpi .sgt c2_i32_1150 c0_i32_1153
  let v1804 : BitVec 32 := Scalar.extui v1803
  let c0_i32_1154 : BitVec 32 := 0#32
  let v1805 : BitVec 1 := Scalar.cmpi .slt c2_i32_1150 c0_i32_1154
  let v1806 : BitVec 32 := Scalar.extui v1805
  let v1807 : BitVec 32 := Scalar.subi v1804 v1806
  let v1808 : BitVec 1 := Scalar.cmpi .ne v1802 v1807
  let v1809 : BitVec 32 := Scalar.remsi v1796 c2_i32_1150
  let c0_i32_1155 : BitVec 32 := 0#32
  let v1810 : BitVec 1 := Scalar.cmpi .ne v1809 c0_i32_1155
  let v1811 : BitVec 1 := Scalar.andi v1808 v1810
  let v1797 : BitVec 32 := Scalar.divsi v1796 c2_i32_1150
  let c1_i32_1156 : BitVec 32 := 1#32
  let v1812 : BitVec 32 := Scalar.subi v1797 c1_i32_1156
  let v1813 : BitVec 32 := Scalar.select v1811 v1812 v1797
  let c1_i32_1157 : BitVec 32 := 1#32
  let v1814 : BitVec 1 := Scalar.cmpi .eq v1813 c1_i32_1157
  let v1815 : BitVec 32 := Scalar.extui v1814
  let c0_i32_1158 : BitVec 32 := 0#32
  let v1816 : BitVec 1 := Scalar.cmpi .ne v1815 c0_i32_1158
  v1816

def k0_off57 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1143 : BitVec 32 := 3#32
  let v1786 : BitVec 32 := Scalar.addi v2 c3_i32_1143
  let c4_i32_1144 : BitVec 32 := 4#32
  let c0_i32_1145 : BitVec 32 := 0#32
  let v1787 : BitVec 1 := Scalar.cmpi .eq c4_i32_1144 c0_i32_1145
  let c1_i32_1146 : BitVec 32 := 1#32
  let v1788 : BitVec 32 := Scalar.select v1787 c1_i32_1146 c4_i32_1144
  let v1789 : BitVec 32 := Scalar.remsi v1786 v1788
  let c0_i32_1148 : BitVec 32 := 0#32
  let v1791 : BitVec 1 := Scalar.cmpi .slt v1789 c0_i32_1148
  let c0_i32_1149 : BitVec 32 := 0#32
  let v1792 : BitVec 1 := Scalar.cmpi .slt v1788 c0_i32_1149
  let v1793 : BitVec 1 := Scalar.xori v1791 v1792
  let c0_i32_1147 : BitVec 32 := 0#32
  let v1790 : BitVec 1 := Scalar.cmpi .ne v1789 c0_i32_1147
  let v1794 : BitVec 1 := Scalar.andi v1793 v1790
  let v1795 : BitVec 32 := Scalar.addi v1789 v1788
  let v1796 : BitVec 32 := Scalar.select v1794 v1795 v1789
  let c0_i32_1299 : BitVec 32 := 0#32
  let c0_i32_1300 : BitVec 32 := 0#32
  ![v1796.toNat, 0, 0]
def k0_dev30 (d0 : Dev nD) : Nat :=
  let c0_i32_1296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1143 : BitVec 32 := 3#32
  let v1786 : BitVec 32 := Scalar.addi v2 c3_i32_1143
  let c4_i32_1144 : BitVec 32 := 4#32
  let c0_i32_1145 : BitVec 32 := 0#32
  let v1787 : BitVec 1 := Scalar.cmpi .eq c4_i32_1144 c0_i32_1145
  let c1_i32_1146 : BitVec 32 := 1#32
  let v1788 : BitVec 32 := Scalar.select v1787 c1_i32_1146 c4_i32_1144
  let v1789 : BitVec 32 := Scalar.remsi v1786 v1788
  let c0_i32_1148 : BitVec 32 := 0#32
  let v1791 : BitVec 1 := Scalar.cmpi .slt v1789 c0_i32_1148
  let c0_i32_1149 : BitVec 32 := 0#32
  let v1792 : BitVec 1 := Scalar.cmpi .slt v1788 c0_i32_1149
  let v1793 : BitVec 1 := Scalar.xori v1791 v1792
  let c0_i32_1147 : BitVec 32 := 0#32
  let v1790 : BitVec 1 := Scalar.cmpi .ne v1789 c0_i32_1147
  let v1794 : BitVec 1 := Scalar.andi v1793 v1790
  let v1795 : BitVec 32 := Scalar.addi v1789 v1788
  let v1796 : BitVec 32 := Scalar.select v1794 v1795 v1789
  let c1_i32_1295 : BitVec 32 := 1#32
  let v1960 : BitVec 32 := Scalar.muli v1796 c1_i32_1295
  let v1961 : BitVec 32 := Scalar.addi c0_i32_1296 v1960
  v1961.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x1024 : Shape := ⟨2, ![256, 1024]⟩
abbrev S1024x8192 : Shape := ⟨2, ![1024, 8192]⟩
abbrev S8192x1024 : Shape := ⟨2, ![8192, 1024]⟩
abbrev S256x8192 : Shape := ⟨2, ![256, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x8192, .f32⟩
  | .hbm, ⟨2, _⟩ => ⟨S1024x8192, .f32⟩
  | .hbm, ⟨3, _⟩ => ⟨S1024x8192, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S256x8192, .f32⟩
  | .hbm, ⟨8, _⟩ => ⟨S_, .f32⟩
  | .hbm, ⟨9, _⟩ => ⟨S256x8192, .f32⟩
  | .hbm, ⟨10, _⟩ => ⟨S256x8192, .f32⟩
  | .hbm, ⟨11, _⟩ => ⟨S256x1024, .f32⟩
  | .hbm, ⟨12, _⟩ => ⟨S256x8192, .f32⟩
  | .hbm, ⟨13, _⟩ => ⟨S_, .f32⟩
  | .hbm, ⟨14, _⟩ => ⟨S256x8192, .f32⟩
  | .hbm, ⟨15, _⟩ => ⟨S256x8192, .f32⟩
  | .hbm, ⟨16, _⟩ => ⟨S256x1024, .f32⟩
  | .hbm, ⟨17, _⟩ => ⟨S256x8192, .f32⟩
  | .hbm, ⟨18, _⟩ => ⟨S_, .f32⟩
  | .hbm, ⟨19, _⟩ => ⟨S256x8192, .f32⟩
  | .hbm, ⟨20, _⟩ => ⟨S256x8192, .f32⟩
  | .hbm, ⟨21, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Proto.lean ====
/-
The protocol of the kernel: four devices, three layers. In each layer a device sends its 64 rows to the three others,
multiplies the 256 rows it then holds by its share of the two weights, sends the three foreign 64-row blocks of the
product to the devices they belong to, and adds the four blocks it holds of its own rows.

For the device `c` and `t = 1, 2, 3`:

* barrier cell of `c`: one wait of three units, one unit from each other device. The unit from `p` hands over `p`'s
  slot `c` of the row buffer and `p`'s slot `p - c` of the landing buffer for products.
* row-receive cell `t` of `c` (one round per layer): the rows of `c - t` land in slot `c - t` of `c`'s row buffer; from
  the second layer on the landing also returns the product slot `- t` of `c - t`.
* product-receive cell `t` of `c` (one round per layer): the product of `c - t` for `c`'s rows lands in slot `t` of
  `c`'s landing buffer; before the last layer the landing also returns slot `c` of the row buffer of `c - t`.
* row-send cell `t`, product-send cell `t` of `c` (one round per layer): the source lent to the transfer comes back.
* weight cells `0 .. 5` of `c`: one local copy each.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The duties of a round are numbered. -/
abbrev UB : Type := URounds (GSem nD τ sig) ℕ
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-! ## Semaphores -/

/-- The row-send, row-receive, product-send and product-receive semaphores, and the weight copies'. -/
def agS (t : Fin 4) : DmaSem sig := (⟨2 + t.val, by show 2 + t.val < 24; omega⟩ : Fin 24)
def agR (t : Fin 4) : DmaSem sig := (⟨6 + t.val, by show 6 + t.val < 24; omega⟩ : Fin 24)
def rsS (t : Fin 4) : DmaSem sig := (⟨10 + t.val, by show 10 + t.val < 24; omega⟩ : Fin 24)
def rsR (t : Fin 4) : DmaSem sig := (⟨14 + t.val, by show 14 + t.val < 24; omega⟩ : Fin 24)
def wS (j : Fin 6) : DmaSem sig := (⟨18 + j.val, by show 18 + j.val < 24; omega⟩ : Fin 24)
abbrev barS : Sem sig := (SemArray.scalar (sig.barrier 0 rfl) : Sems sig S_).sem

abbrev barC (c : Dev nD) : GSem nD τ sig := ((c : Thread nD τ), .reg barS)
abbrev agSC (c : Dev nD) (t : Fin 4) : GSem nD τ sig := ((c : Thread nD τ), .dma (agS t))
abbrev agRC (c : Dev nD) (t : Fin 4) : GSem nD τ sig := ((c : Thread nD τ), .dma (agR t))
abbrev rsSC (c : Dev nD) (t : Fin 4) : GSem nD τ sig := ((c : Thread nD τ), .dma (rsS t))
abbrev rsRC (c : Dev nD) (t : Fin 4) : GSem nD τ sig := ((c : Thread nD τ), .dma (rsR t))
abbrev wC (c : Dev nD) (j : Fin 6) : GSem nD τ sig := ((c : Thread nD τ), .dma (wS j))

/-! ## Memory references -/

abbrev xsM : Memref sig .tc .vmem S64x1024 .f32 := Memref.whole cc0_stg0_0
abbrev osM : Memref sig .tc .vmem S64x1024 .f32 := Memref.whole cc0_stg1_0
abbrev xaM : Memref sig .tc .vmem S4x64x1024 .bf16 := Memref.whole cc0_scratch0
abbrev sbM : Memref sig .tc .vmem S4x64x1024 .bf16 := Memref.whole cc0_scratch1
abbrev rbM : Memref sig .tc .vmem S4x64x1024 .bf16 := Memref.whole cc0_scratch2
abbrev wiM : Memref sig .tc .vmem S2x1024x2048 .f32 := Memref.whole cc0_scratch3
abbrev woM : Memref sig .tc .vmem S2x2048x1024 .f32 := Memref.whole cc0_scratch4
abbrev wbM : Memref sig .tc .vmem S1024x2048 .bf16 := Memref.whole cc0_scratch5
abbrev obM : Memref sig .tc .vmem S2048x1024 .bf16 := Memref.whole cc0_scratch6

/-- A slot lies within the slab. -/
theorem slot_inb (p : Fin 4) : ∀ a, (![p.val, 0, 0] : Fin 3 → Nat) a + S1x64x1024.size a ≤ S4x64x1024.size a := by
  revert p; decide
/-- Slot `p` of a buffer of four slots. -/
abbrev slotR (p : Fin 4) : Rect S4x64x1024 := Rect.unit (s := S4x64x1024) ![p.val, 0, 0] S1x64x1024.size (slot_inb p)
/-- A slot as the transfers name it. -/
abbrev slotM (M : Memref sig .tc .vmem S4x64x1024 .bf16) (p : Fin 4) : Memref sig .tc .vmem S64x1024 .bf16 :=
  (M.slice (slotR p) (fun _ => rfl)).squeeze S64x1024 squeezes_S1x64x1024_S64x1024
/-- The elements of slot `p`. -/
def slotSet (p : Fin 4) : Finset S4x64x1024.Idx := (slotR p).set

/-- A half lies within the slab. -/
theorem half_inb (n : Fin 2) : ∀ a, (![2 * n.val, 0, 0] : Fin 3 → Nat) a + S2x64x1024.size a ≤ S4x64x1024.size a := by
  revert n; decide
/-- The half `n` of a buffer of four slots: the slots `2 n` and `2 n + 1`. -/
abbrev halfR (n : Fin 2) : Rect S4x64x1024 := Rect.unit (s := S4x64x1024) ![2 * n.val, 0, 0] S2x64x1024.size (half_inb n)

/-- A slot lies within the first weight's buffer. -/
theorem wi_inb (s : Fin 2) : ∀ a, (![s.val, 0, 0] : Fin 3 → Nat) a + S1x1024x2048.size a ≤ S2x1024x2048.size a := by
  revert s; decide
/-- A slot lies within the second weight's buffer. -/
theorem wo_inb (s : Fin 2) : ∀ a, (![s.val, 0, 0] : Fin 3 → Nat) a + S1x2048x1024.size a ≤ S2x2048x1024.size a := by
  revert s; decide
abbrev wiR (s : Fin 2) : Rect S2x1024x2048 := Rect.unit (s := S2x1024x2048) ![s.val, 0, 0] S1x1024x2048.size (wi_inb s)
abbrev woR (s : Fin 2) : Rect S2x2048x1024 := Rect.unit (s := S2x2048x1024) ![s.val, 0, 0] S1x2048x1024.size (wo_inb s)
abbrev wiSl (s : Fin 2) : Memref sig .tc .vmem S1024x2048 .f32 :=
  (wiM.slice (wiR s) (fun _ => rfl)).squeeze S1024x2048 squeezes_S1x1024x2048_S1024x2048
abbrev woSl (s : Fin 2) : Memref sig .tc .vmem S2048x1024 .f32 :=
  (woM.slice (woR s) (fun _ => rfl)).squeeze S2048x1024 squeezes_S1x2048x1024_S2048x1024

/-- The six weights in memory: the first and the second weight of layer `l`. -/
abbrev wiA (l : Fin 3) : Memref sig .tc .hbm S1024x2048 .f32 :=
  match l with | 0 => Memref.whole main_arg1 | 1 => Memref.whole main_arg2 | 2 => Memref.whole main_arg3
abbrev woA (l : Fin 3) : Memref sig .tc .hbm S2048x1024 .f32 :=
  match l with | 0 => Memref.whole main_arg4 | 1 => Memref.whole main_arg5 | 2 => Memref.whole main_arg6

/-! ## Amounts -/

/-- The units one block's transfer credits. -/
abbrev NB : ℕ := (slotM xaM 0).view.dmaCredit
abbrev NI : ℕ := (wiSl 0).view.dmaCredit
abbrev NO : ℕ := (woSl 0).view.dmaCredit
/-- A block's transfer credits at least one unit. -/
theorem NB_pos : 0 < NB := View.dmaCredit_pos _ (by decide)
/-- A first weight's copy credits at least one unit. -/
theorem NI_pos : 0 < NI := View.dmaCredit_pos _ (by decide)
/-- A second weight's copy credits at least one unit. -/
theorem NO_pos : 0 < NO := View.dmaCredit_pos _ (by decide)

/-! ## Contents -/

abbrev Slab (F : FTy → Type) : Type := S4x64x1024.Idx → Elt F .bf16

/-- The coordinates of a slab element within its slot, and within its half. -/
def slotIx (i : S4x64x1024.Idx) : S1x64x1024.Idx := ix3 (n0 := 1) (n1 := 64) (n2 := 1024) 0 (i 1) (i 2)
def halfIx (i : S4x64x1024.Idx) : S2x64x1024.Idx :=
  ix3 (n0 := 2) (n1 := 64) (n2 := 1024) ⟨(i 0).val % 2, Nat.mod_lt _ (by decide)⟩ (i 1) (i 2)
/-- The half a slot lies in. -/
def halfOf (p : Fin 4) : Fin 2 := ⟨p.val / 2, by omega⟩
/-- The same place in slot `p`. -/
def atSlot (p : Fin 4) (i : S4x64x1024.Idx) : S4x64x1024.Idx := ix3 (n0 := 4) (n1 := 64) (n2 := 1024) p (i 1) (i 2)

/-- Device `c`'s own rows, as the first window stages them. -/
def xstg (c : Dev nD) : (cc0_stg0_0 : Ref sig .tc).ty.Contents (Elt F) :=
  (win0_0.blk (0 : Fin 1)).view.read (Elt F) (m ((c : Thread nD τ).loc main_arg0))

/-- Device `c`'s weights of layer `l`, as they lie in memory. -/
def wiV (l : Fin 3) (c : Dev nD) : S1024x2048.Idx → Elt F .f32 :=
  match l with
  | 0 => m ((c : Thread nD τ).loc main_arg1)
  | 1 => m ((c : Thread nD τ).loc main_arg2)
  | 2 => m ((c : Thread nD τ).loc main_arg3)
def woV (l : Fin 3) (c : Dev nD) : S2048x1024.Idx → Elt F .f32 :=
  match l with
  | 0 => m ((c : Thread nD τ).loc main_arg4)
  | 1 => m ((c : Thread nD τ).loc main_arg5)
  | 2 => m ((c : Thread nD τ).loc main_arg6)

/-- The weight buffers holding layer `l`'s weights. -/
def wiB (l : Fin 3) (c : Dev nD) : S2x1024x2048.Idx → Elt F .f32 := fun i =>
  wiV m l c (ix2 (n0 := 1024) (n1 := 2048) (i 1) (i 2))
def woB (l : Fin 3) (c : Dev nD) : S2x2048x1024.Idx → Elt F .f32 := fun i =>
  woV m l c (ix2 (n0 := 2048) (n1 := 1024) (i 1) (i 2))

/-- The slot of the weight buffers layer `l` uses. -/
def wsl (l : Fin 3) : Fin 2 := ⟨l.val % 2, Nat.mod_lt _ (by decide)⟩

/-- Layer `l`'s weights as the products read them. -/
def wbV (l : Fin 3) (c : Dev nD) : S1024x2048.Idx → Elt F .bf16 :=
  k0_pay8 (wiM.view.readAt (Elt F) (wiR (wsl l)).toLoadRect (wiB m l c))
def obV (l : Fin 3) (c : Dev nD) : S2048x1024.Idx → Elt F .bf16 :=
  k0_pay4 (woM.view.readAt (Elt F) (woR (wsl l)).toLoadRect (woB m l c))

/-- Device `c`'s products of layer `l` from all 256 rows `X`. -/
def sbOf (X : Slab F) (l : Fin 3) (c : Dev nD) : Slab F := fun i =>
  k0_pay5 (xaM.view.readAt (Elt F) (halfR (halfOf (i 0))).toLoadRect X) (wbV m l c) (obV m l c) (halfIx i)
/-- What lands at `c`: in slot `t` the product of `c - t` for `c`'s rows. -/
def rbOf (X : Slab F) (l : Fin 3) (c : Dev nD) : Slab F := fun i =>
  sbOf m X l (show Fin 4 from c - (show Fin 4 from i 0)) (atSlot c i)
/-- The sum of the four products for `c`'s rows. -/
def accOf (X : Slab F) (l : Fin 3) (c : Dev nD) : S64x1024.Idx → Elt F .f32 :=
  k0_pay24 (sbM.view.readAt (Elt F) (slotR c).toLoadRect (sbOf m X l c))
    (rbM.view.readAt (Elt F) (slotR 1).toLoadRect (rbOf m X l c))
    (rbM.view.readAt (Elt F) (slotR 2).toLoadRect (rbOf m X l c))
    (rbM.view.readAt (Elt F) (slotR 3).toLoadRect (rbOf m X l c))

/-- All 256 rows at the start of layer `0`, `1`, `2`. -/
def X0 : Slab F := fun i => k0_pay1 (xsM.view.readAt (Elt F) (Rect.unit (s := S64x1024) ![0, 0] S64x1024.size inb_S64x1024_S64x1024_0_0).toLoadRect (xstg m (i 0))) (slotIx i)
def nextX (X : Slab F) (l : Fin 3) : Slab F := fun i => k0_pay20 (accOf m X l (i 0)) (slotIx i)
def XA (l : Fin 3) : Slab F :=
  match l with
  | 0 => X0 m
  | 1 => nextX m (X0 m) 0
  | 2 => nextX m (nextX m (X0 m) 0) 1

abbrev SBv (l : Fin 3) (c : Dev nD) : Slab F := sbOf m (XA m l) l c
abbrev RBv (l : Fin 3) (c : Dev nD) : Slab F := rbOf m (XA m l) l c
abbrev ACC (l : Fin 3) (c : Dev nD) : S64x1024.Idx → Elt F .f32 := accOf m (XA m l) l c

/-! ## Points-to of slots -/

/-- Slot `p` of device `c`'s row buffer, product buffer and landing buffer. -/
def xaP (c : Dev nD) (p : Fin 4) (q : PosShare TreeShare) (f : Slab F) : sProp 𝕄 :=
  (c : Thread nD τ).loc cc0_scratch0 ↦[slotSet p]{q} f
def sbP (c : Dev nD) (p : Fin 4) (f : Slab F) : sProp 𝕄 :=
  (c : Thread nD τ).loc cc0_scratch1 ↦[slotSet p]{fullShare} f
def rbP (c : Dev nD) (p : Fin 4) (f : Slab F) : sProp 𝕄 :=
  (c : Thread nD τ).loc cc0_scratch2 ↦[slotSet p]{fullShare} f
def xaAny (c : Dev nD) (p : Fin 4) : sProp 𝕄 := iprop(∃ f, xaP c p fullShare f)
def sbAny (c : Dev nD) (p : Fin 4) : sProp 𝕄 := iprop(∃ f, sbP c p f)
def rbAny (c : Dev nD) (p : Fin 4) : sProp 𝕄 := iprop(∃ f, rbP c p f)

/-- The weights in memory, and a slot of the weight buffers. -/
def wiAP (c : Dev nD) (l : Fin 3) : sProp 𝕄 :=
  match l with
  | 0 => (c : Thread nD τ).loc main_arg1 ↦{fullShare} m ((c : Thread nD τ).loc main_arg1)
  | 1 => (c : Thread nD τ).loc main_arg2 ↦{fullShare} m ((c : Thread nD τ).loc main_arg2)
  | 2 => (c : Thread nD τ).loc main_arg3 ↦{fullShare} m ((c : Thread nD τ).loc main_arg3)
def woAP (c : Dev nD) (l : Fin 3) : sProp 𝕄 :=
  match l with
  | 0 => (c : Thread nD τ).loc main_arg4 ↦{fullShare} m ((c : Thread nD τ).loc main_arg4)
  | 1 => (c : Thread nD τ).loc main_arg5 ↦{fullShare} m ((c : Thread nD τ).loc main_arg5)
  | 2 => (c : Thread nD τ).loc main_arg6 ↦{fullShare} m ((c : Thread nD τ).loc main_arg6)
def wiP (c : Dev nD) (s : Fin 2) (f : S2x1024x2048.Idx → Elt F .f32) : sProp 𝕄 :=
  (c : Thread nD τ).loc cc0_scratch3 ↦[(wiR s).set]{fullShare} f
def woP (c : Dev nD) (s : Fin 2) (f : S2x2048x1024.Idx → Elt F .f32) : sProp 𝕄 :=
  (c : Thread nD τ).loc cc0_scratch4 ↦[(woR s).set]{fullShare} f

section Storable
omit [FloatOps F]
instance xaP_st (c : Dev nD) (p) (q) (f) : BI.Storable (upEmb : UEmb _ 𝕄) (xaP (F := F) c p q f) := by unfold xaP; infer_instance
instance sbP_st (c : Dev nD) (p) (f) : BI.Storable (upEmb : UEmb _ 𝕄) (sbP (F := F) c p f) := by unfold sbP; infer_instance
instance rbP_st (c : Dev nD) (p) (f) : BI.Storable (upEmb : UEmb _ 𝕄) (rbP (F := F) c p f) := by unfold rbP; infer_instance
instance xaAny_st (c : Dev nD) (p) : BI.Storable (upEmb : UEmb _ 𝕄) (xaAny (F := F) c p) := by unfold xaAny; infer_instance
instance sbAny_st (c : Dev nD) (p) : BI.Storable (upEmb : UEmb _ 𝕄) (sbAny (F := F) c p) := by unfold sbAny; infer_instance
instance rbAny_st (c : Dev nD) (p) : BI.Storable (upEmb : UEmb _ 𝕄) (rbAny (F := F) c p) := by unfold rbAny; infer_instance
instance wiP_st (c : Dev nD) (p) (f) : BI.Storable (upEmb : UEmb _ 𝕄) (wiP (F := F) c p f) := by unfold wiP; infer_instance
instance woP_st (c : Dev nD) (p) (f) : BI.Storable (upEmb : UEmb _ 𝕄) (woP (F := F) c p f) := by unfold woP; infer_instance
instance wiAP_st (c : Dev nD) (l : Fin 3) : BI.Storable (upEmb : UEmb _ 𝕄) (wiAP (F := F) m c l) := by
  unfold wiAP; fin_cases l <;> (dsimp only; infer_instance)
instance woAP_st (c : Dev nD) (l : Fin 3) : BI.Storable (upEmb : UEmb _ 𝕄) (woAP (F := F) m c l) := by
  unfold woAP; fin_cases l <;> (dsimp only; infer_instance)
end Storable

/-! ## The schedule -/

/-- The share of a device's own rows lent to the row transfer of semaphore `t`; the part at `0` is kept. -/
abbrev qs (t : Fin 4) : PosShare TreeShare :=
  match t with
  | 0 => fullShare.left.left
  | 1 => fullShare.left.right
  | 2 => fullShare.right.left
  | 3 => fullShare.right.right

/-- The layer of a round. -/
def ly (r : ℕ) : Fin 3 := ⟨r % 3, Nat.mod_lt _ (by decide)⟩

/-- What the barrier unit of `c - t` hands to `c`. -/
def barPay (c : Dev nD) (t : Fin 4) : sProp 𝕄 := iprop(xaAny (c - t) c ∗ rbAny (c - t) (-t))
/-- What comes back with the rows of `c - t` in a round after the first. -/
def agMore (c : Dev nD) (t : Fin 4) (r : ℕ) : sProp 𝕄 :=
  if r = 0 then iprop(emp) else iprop(rbAny (c - t) (-t) ∗ reached ER (rsRC (c - t) (-t)) r)
def agRPay (c : Dev nD) (t : Fin 4) (r : ℕ) : sProp 𝕄 :=
  iprop(xaP c (c - t) fullShare (XA m (ly r)) ∗ agMore c t r)
/-- What comes back with the product of `c - t` in a round before the last. -/
def rsMore (c : Dev nD) (t : Fin 4) (r : ℕ) : sProp 𝕄 :=
  if r < 2 then iprop(xaAny (c - t) c ∗ reached ER (agRC (c - t) (-t)) (r + 1)) else iprop(emp)
def rsRPay (c : Dev nD) (t : Fin 4) (r : ℕ) : sProp 𝕄 :=
  iprop(rbP c t (RBv m (ly r) c) ∗ rsMore c t r)
def agSPay (c : Dev nD) (t : Fin 4) (r : ℕ) : sProp 𝕄 := xaP c c (qs t) (XA m (ly r))
def rsSPay (c : Dev nD) (t : Fin 4) (r : ℕ) : sProp 𝕄 := sbP c (c + t) (SBv m (ly r) c)
/-- Weight cell `2 l` carries the first weight of layer `l`, cell `2 l + 1` the second. -/
def wPay (c : Dev nD) (j : ℕ) : sProp 𝕄 :=
  if j % 2 = 0 then iprop(wiP c (wsl (ly (j / 2))) (wiB m (ly (j / 2)) c) ∗ wiAP m c (ly (j / 2)))
  else iprop(woP c (wsl (ly (j / 2))) (woB m (ly (j / 2)) c) ∗ woAP m c (ly (j / 2)))

instance barPay_st (c : Dev nD) (t) : BI.Storable (upEmb : UEmb _ 𝕄) (barPay (F := F) c t) := by unfold barPay; infer_instance
instance agMore_st (c : Dev nD) (t r) : BI.Storable (upEmb : UEmb _ 𝕄) (agMore (F := F) c t r) := by
  unfold agMore; split <;> infer_instance
instance rsMore_st (c : Dev nD) (t r) : BI.Storable (upEmb : UEmb _ 𝕄) (rsMore (F := F) c t r) := by
  unfold rsMore; split <;> infer_instance
instance agRPay_st (c : Dev nD) (t r) : BI.Storable (upEmb : UEmb _ 𝕄) (agRPay (F := F) m c t r) := by unfold agRPay; infer_instance
instance rsRPay_st (c : Dev nD) (t r) : BI.Storable (upEmb : UEmb _ 𝕄) (rsRPay (F := F) m c t r) := by unfold rsRPay; infer_instance
instance agSPay_st (c : Dev nD) (t r) : BI.Storable (upEmb : UEmb _ 𝕄) (agSPay (F := F) m c t r) := by unfold agSPay; infer_instance
instance rsSPay_st (c : Dev nD) (t r) : BI.Storable (upEmb : UEmb _ 𝕄) (rsSPay (F := F) m c t r) := by unfold rsSPay; infer_instance
instance wPay_st (c : Dev nD) (j) : BI.Storable (upEmb : UEmb _ 𝕄) (wPay (F := F) m c j) := by
  unfold wPay; split <;> infer_instance

/-- The index of a block semaphore in its array of four. -/
def tix (k : ℕ) : Fin 4 := ⟨(k + 2) % 4, Nat.mod_lt _ (by decide)⟩

/-- The rounds of the protocol. -/
def sched : Rounds.Schedule (GSem nD τ sig) ℕ 𝕄 where
  duties g r :=
    if g.1.2 = .tc then
      match g.2 with
      | .reg s => if s = barS ∧ r = 0 then {1, 2, 3} else ∅
      | .dma k =>
        if 2 ≤ k.val ∧ k.val < 18 ∧ tix k.val ≠ 0 ∧ r < 3 then {0}
        else if 18 ≤ k.val ∧ r = 0 then {0} else ∅
    else ∅
  amount g _ _ :=
    match g.2 with
    | .reg _ => 1
    | .dma k => if k.val < 18 then NB else if k.val % 2 = 0 then NI else NO
  payload g r d :=
    match g.2 with
    | .reg _ => barPay g.1.1 (Fin.ofNat 4 d)
    | .dma k =>
      if k.val < 6 then agSPay m g.1.1 (tix k.val) r
      else if k.val < 10 then agRPay m g.1.1 (tix k.val) r
      else if k.val < 14 then rsSPay m g.1.1 (tix k.val) r
      else if k.val < 18 then rsRPay m g.1.1 (tix k.val) r
      else wPay m g.1.1 (k.val - 18)
  amount_pos g r d _ := by
    cases g.2 with
    | reg _ => exact Nat.one_pos
    | dma k =>
      dsimp only
      split
      · exact NB_pos
      · split
        · exact NI_pos
        · exact NO_pos

instance sched_st (g : GSem nD τ sig) (r : ℕ) (d : ℕ) :
    BI.Storable (upEmb : UEmb _ 𝕄) ((sched (F := F) m).payload g r d) := by
  show BI.Storable _ (match g.2 with
    | .reg _ => barPay g.1.1 (Fin.ofNat 4 d)
    | .dma k =>
      if k.val < 6 then agSPay m g.1.1 (tix k.val) r
      else if k.val < 10 then agRPay m g.1.1 (tix k.val) r
      else if k.val < 14 then rsSPay m g.1.1 (tix k.val) r
      else if k.val < 18 then rsRPay m g.1.1 (tix k.val) r
      else wPay m g.1.1 (k.val - 18))
  cases g.2 with
  | reg _ => dsimp only; infer_instance
  | dma k => dsimp only; (repeat' split) <;> infer_instance

/-! ### The schedule at each cell -/

/-- The distance of the counter of rows sent at distance `t` is `t`. -/
theorem tix_agS (t : Fin 4) : tix (agS t).val = t := by revert t; decide
/-- The distance of the counter of rows received at distance `t` is `t`. -/
theorem tix_agR (t : Fin 4) : tix (agR t).val = t := by revert t; decide
/-- The distance of the counter of products sent at distance `t` is `t`. -/
theorem tix_rsS (t : Fin 4) : tix (rsS t).val = t := by revert t; decide
/-- The distance of the counter of products received at distance `t` is `t`. -/
theorem tix_rsR (t : Fin 4) : tix (rsR t).val = t := by revert t; decide

section Tables
variable (c : Dev nD) (t : Fin 4)

/-- What is due in a round at the barrier's counter. -/
theorem duties_bar : (sched (F := F) m).duties (barC c) 0 = {1, 2, 3} := by
  dsimp only [sched]; rw [if_pos rfl, if_pos ⟨rfl, rfl⟩]
/-- After its one round nothing is due at the barrier's counter. -/
theorem duties_bar' {r : ℕ} (h : 1 ≤ r) : (sched (F := F) m).duties (barC c) r = ∅ := by
  dsimp only [sched]; rw [if_pos rfl, if_neg]; rintro ⟨-, h⟩; omega
/-- What is due in a round at the counter of rows sent at distance `t`. -/
theorem duties_agS {r : ℕ} (ht : t ≠ 0) (h : r < 3) : (sched (F := F) m).duties (agSC c t) r = {0} := by
  dsimp only [sched]; rw [if_pos rfl, tix_agS, if_pos]; exact ⟨by simp [agS], by simp [agS]; omega, ht, h⟩
/-- What is due in a round at the counter of rows received at distance `t`. -/
theorem duties_agR {r : ℕ} (ht : t ≠ 0) (h : r < 3) : (sched (F := F) m).duties (agRC c t) r = {0} := by
  dsimp only [sched]; rw [if_pos rfl, tix_agR, if_pos]; exact ⟨by simp [agR]; omega, by simp [agR]; omega, ht, h⟩
/-- What is due in a round at the counter of products sent at distance `t`. -/
theorem duties_rsS {r : ℕ} (ht : t ≠ 0) (h : r < 3) : (sched (F := F) m).duties (rsSC c t) r = {0} := by
  dsimp only [sched]; rw [if_pos rfl, tix_rsS, if_pos]; exact ⟨by simp [rsS]; omega, by simp [rsS]; omega, ht, h⟩
/-- What is due in a round at the counter of products received at distance `t`. -/
theorem duties_rsR {r : ℕ} (ht : t ≠ 0) (h : r < 3) : (sched (F := F) m).duties (rsRC c t) r = {0} := by
  dsimp only [sched]; rw [if_pos rfl, tix_rsR, if_pos]; exact ⟨by simp [rsR]; omega, by simp [rsR]; omega, ht, h⟩
/-- What is due in a round at a weight copy's counter. -/
theorem duties_w (j : Fin 6) : (sched (F := F) m).duties (wC c j) 0 = {0} := by
  dsimp only [sched]
  rw [if_pos rfl, if_neg (by rintro ⟨-, h, -⟩; simp [wS] at h), if_pos ⟨by simp [wS], rfl⟩]

/-- After round 2, and at the unused index `0`, a block cell has no duty. -/
theorem duties_none (k : DmaSem sig) {r : ℕ} (h : tix k.val = 0 ∧ k.val < 18 ∨ 3 ≤ r) :
    (sched (F := F) m).duties ((c : Thread nD τ), .dma k) r = ∅ := by
  dsimp only [sched]
  rw [if_pos rfl, if_neg, if_neg]
  · rintro ⟨h18, h0⟩; rcases h with ⟨-, h⟩ | h <;> omega
  · rintro ⟨-, -, h0, h3⟩; rcases h with ⟨h, -⟩ | h
    · exact h0 h
    · omega
/-- After its one round nothing is due at a weight copy's counter. -/
theorem duties_w' (j : Fin 6) {r : ℕ} (h : 1 ≤ r) : (sched (F := F) m).duties (wC c j) r = ∅ := by
  dsimp only [sched]
  rw [if_pos rfl, if_neg (by rintro ⟨-, h, -⟩; simp [wS] at h), if_neg]; rintro ⟨-, h⟩; omega

/-- How many units each credit brings to the barrier's counter. -/
theorem amount_bar (r d : ℕ) : (sched (F := F) m).amount (barC c) r d = 1 := rfl
/-- How many units each credit brings to the counter of rows sent at distance `t`. -/
theorem amount_agS (r d : ℕ) : (sched (F := F) m).amount (agSC c t) r d = NB := by
  dsimp only [sched]; rw [if_pos]; simp [agS]; omega
/-- How many units each credit brings to the counter of rows received at distance `t`. -/
theorem amount_agR (r d : ℕ) : (sched (F := F) m).amount (agRC c t) r d = NB := by
  dsimp only [sched]; rw [if_pos]; simp [agR]; omega
/-- How many units each credit brings to the counter of products sent at distance `t`. -/
theorem amount_rsS (r d : ℕ) : (sched (F := F) m).amount (rsSC c t) r d = NB := by
  dsimp only [sched]; rw [if_pos]; simp [rsS]; omega
/-- How many units each credit brings to the counter of products received at distance `t`. -/
theorem amount_rsR (r d : ℕ) : (sched (F := F) m).amount (rsRC c t) r d = NB := by
  dsimp only [sched]; rw [if_pos]; simp [rsR]; omega
/-- How many units each credit brings to a weight copy's counter. -/
theorem amount_w (j : Fin 6) (r d : ℕ) : (sched (F := F) m).amount (wC c j) r d = if j.val % 2 = 0 then NI else NO := by
  dsimp only [sched]
  rw [if_neg (by simp [wS])]
  exact if_congr (by show (18 + j.val) % 2 = 0 ↔ _; omega) rfl rfl

/-- What each credit brings with it to the barrier's counter. -/
theorem payload_bar (r d : ℕ) : (sched (F := F) m).payload (barC c) r d = barPay c (Fin.ofNat 4 d) := rfl
/-- What each credit brings with it to the counter of rows sent at distance `t`. -/
theorem payload_agS (r d : ℕ) : (sched (F := F) m).payload (agSC c t) r d = agSPay m c t r := by
  dsimp only [sched]; rw [if_pos (by simp [agS]; omega), tix_agS]
/-- What each credit brings with it to the counter of rows received at distance `t`. -/
theorem payload_agR (r d : ℕ) : (sched (F := F) m).payload (agRC c t) r d = agRPay m c t r := by
  dsimp only [sched]; rw [if_neg (by simp [agR]), if_pos (by simp [agR]; omega), tix_agR]
/-- What each credit brings with it to the counter of products sent at distance `t`. -/
theorem payload_rsS (r d : ℕ) : (sched (F := F) m).payload (rsSC c t) r d = rsSPay m c t r := by
  dsimp only [sched]
  rw [if_neg (by simp [rsS]; omega), if_neg (by simp [rsS]), if_pos (by simp [rsS]; omega), tix_rsS]
/-- What each credit brings with it to the counter of products received at distance `t`. -/
theorem payload_rsR (r d : ℕ) : (sched (F := F) m).payload (rsRC c t) r d = rsRPay m c t r := by
  dsimp only [sched]
  rw [if_neg (by simp [rsR]; omega), if_neg (by simp [rsR]; omega), if_neg (by simp [rsR]), if_pos (by simp [rsR]; omega), tix_rsR]
/-- What each credit brings with it to a weight copy's counter. -/
theorem payload_w (j : Fin 6) (r d : ℕ) : (sched (F := F) m).payload (wC c j) r d = wPay m c j.val := by
  dsimp only [sched]
  rw [if_neg (by simp [wS]; omega), if_neg (by simp [wS]; omega), if_neg (by simp [wS]; omega), if_neg (by simp [wS])]
  show wPay m c (18 + j.val - 18) = _
  rw [Nat.add_sub_cancel_left]

/-- How many units a round brings to the barrier's counter in all. -/
theorem expect_bar : (sched (F := F) m).expect (barC c) 0 = 3 := by
  show ∑ d ∈ (sched (F := F) m).duties (barC c) 0, (sched (F := F) m).amount (barC c) 0 d = 3
  rw [duties_bar]; rfl
/-- How many units a round brings to the counter of rows sent at distance `t` in all. -/
theorem expect_agS {r : ℕ} (ht : t ≠ 0) (h : r < 3) : (sched (F := F) m).expect (agSC c t) r = NB := by
  show ∑ d ∈ (sched (F := F) m).duties (agSC c t) r, (sched (F := F) m).amount (agSC c t) r d = _
  rw [duties_agS m c t ht h, Finset.sum_singleton, amount_agS]
/-- How many units a round brings to the counter of rows received at distance `t` in all. -/
theorem expect_agR {r : ℕ} (ht : t ≠ 0) (h : r < 3) : (sched (F := F) m).expect (agRC c t) r = NB := by
  show ∑ d ∈ (sched (F := F) m).duties (agRC c t) r, (sched (F := F) m).amount (agRC c t) r d = _
  rw [duties_agR m c t ht h, Finset.sum_singleton, amount_agR]
/-- How many units a round brings to the counter of products sent at distance `t` in all. -/
theorem expect_rsS {r : ℕ} (ht : t ≠ 0) (h : r < 3) : (sched (F := F) m).expect (rsSC c t) r = NB := by
  show ∑ d ∈ (sched (F := F) m).duties (rsSC c t) r, (sched (F := F) m).amount (rsSC c t) r d = _
  rw [duties_rsS m c t ht h, Finset.sum_singleton, amount_rsS]
/-- How many units a round brings to the counter of products received at distance `t` in all. -/
theorem expect_rsR {r : ℕ} (ht : t ≠ 0) (h : r < 3) : (sched (F := F) m).expect (rsRC c t) r = NB := by
  show ∑ d ∈ (sched (F := F) m).duties (rsRC c t) r, (sched (F := F) m).amount (rsRC c t) r d = _
  rw [duties_rsR m c t ht h, Finset.sum_singleton, amount_rsR]
/-- How many units a round brings to a weight copy's counter in all. -/
theorem expect_w (j : Fin 6) : (sched (F := F) m).expect (wC c j) 0 = if j.val % 2 = 0 then NI else NO := by
  show ∑ d ∈ (sched (F := F) m).duties (wC c j) 0, (sched (F := F) m).amount (wC c j) 0 d = _
  rw [duties_w m c j, Finset.sum_singleton, amount_w]
end Tables

/-! ## Levels -/

/-- What a device may wait for at what it still owes: the barrier before every transfer, within a layer the rows
    before the products, a layer before the next. -/
def lv (g : GSem nD τ sig) (ι : ℕ) : ℕ :=
  match g.2 with
  | .reg _ => 1
  | .dma k => if 6 ≤ k.val ∧ k.val < 10 then 2 + 2 * ι else if 14 ≤ k.val ∧ k.val < 18 then 3 + 2 * ι else 0
def L (g : GSem nD τ sig) : Finset ℕ := if g.1.2 = .tc then Finset.range 3 else ∅
/-- Only the tensor cores' counters have levels. -/
theorem L_of_ne {g : GSem nD τ sig} (h : g.1.2 ≠ .tc) : L g = ∅ := if_neg h
/-- A tensor core's counters have levels for three rounds. -/
theorem L_tc (c : Dev nD) (sm : SemLoc sig) : L ((c : Thread nD τ), sm) = Finset.range 3 := if_pos rfl

/-- The level of the barrier's counter in a round. -/
theorem lv_bar (c : Dev nD) (ι : ℕ) : lv (barC c) ι = 1 := rfl
/-- The level of the counter of rows received at distance `t` in a round. -/
theorem lv_agR (c : Dev nD) (t : Fin 4) (ι : ℕ) : lv (agRC c t) ι = 2 + 2 * ι := by
  dsimp only [lv]; rw [if_pos]; simp [agR]; omega
/-- The level of the counter of products received at distance `t` in a round. -/
theorem lv_rsR (c : Dev nD) (t : Fin 4) (ι : ℕ) : lv (rsRC c t) ι = 3 + 2 * ι := by
  dsimp only [lv]; rw [if_neg, if_pos] <;> simp [rsR] <;> omega
/-- The level of the counter of rows sent at distance `t` in a round. -/
theorem lv_agS (c : Dev nD) (t : Fin 4) (ι : ℕ) : lv (agSC c t) ι = 0 := by
  dsimp only [lv]; rw [if_neg, if_neg] <;> simp [agS] <;> omega
/-- The level of the counter of products sent at distance `t` in a round. -/
theorem lv_rsS (c : Dev nD) (t : Fin 4) (ι : ℕ) : lv (rsSC c t) ι = 0 := by
  dsimp only [lv]; rw [if_neg, if_neg] <;> simp [rsS] <;> omega
/-- The level of a weight copy's counter in a round. -/
theorem lv_w (c : Dev nD) (j : Fin 6) (ι : ℕ) : lv (wC c j) ι = 0 := by
  dsimp only [lv]; rw [if_neg, if_neg] <;> simp [wS] <;> omega

/-- Everything owed lies above level `b`. -/
def Above (b : ℕ) (O : CellTallies nD τ sig ℕ) : Prop := ∀ g ι, 0 < O g ι → ι ∈ L g ∧ b < lv g ι

/-- Owing nothing is above every level. -/
theorem Above.zero (b : ℕ) : Above b 0 := fun g ι h => absurd h (Nat.not_lt.2 (Nat.zero_le _))
/-- Two debts above a level are so together. -/
theorem Above.add {b : ℕ} {O O' : CellTallies nD τ sig ℕ} (h : Above b O) (h' : Above b O') : Above b (O + O') := by
  intro g ι hp
  have hp' : 0 < O g ι + O' g ι := hp
  rcases Nat.eq_zero_or_pos (O g ι) with h0 | h0
  · exact h' g ι (by omega)
  · exact h g ι h0
/-- A debt above a level is above every lower one. -/
theorem Above.mono {b b' : ℕ} {O : CellTallies nD τ sig ℕ} (h : Above b O) (hb : b' ≤ b) : Above b' O :=
  fun g ι hp => ⟨(h g ι hp).1, lt_of_le_of_lt hb (h g ι hp).2⟩
/-- One counter's debt is above every level below the counter's. -/
theorem Above.tally {b : ℕ} {g : GSem nD τ sig} {ι N : ℕ} (hι : ι ∈ L g) (hb : b < lv g ι) : Above b (tallyAt g ι N) := by
  intro g' ι' hp
  rw [tallyAt_apply] at hp
  by_cases hg : g = g' ∧ ι = ι'
  · obtain ⟨rfl, rfl⟩ := hg; exact ⟨hι, hb⟩
  · exfalso
    by_cases h1 : g' = g
    · by_cases h2 : ι' = ι
      · exact hg ⟨h1.symm, h2.symm⟩
      · simp [h1, h2] at hp
    · simp [h1] at hp

end Cert.Mlp
-- ==== Proof.Geo.lean ====
/-
The geometry of the buffers: which elements a slot and a half hold, and what the transfers and stores leave in them.
-/
module

public import proofs.«01_k».proof.Proof.Proto
public import Idealize.ShloMosaic.Lib.ValueLayout

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ
variable (m : (ℓ : Loc nD τ sig) → Buf (Elt F) ℓ)

/-! ## Element sets -/

/-- A slab's second coordinate is below 64. -/
theorem lt1 (i : S4x64x1024.Idx) : (i 1).val < 64 := (i 1).isLt
/-- A slab's third coordinate is below 1024. -/
theorem lt2 (i : S4x64x1024.Idx) : (i 2).val < 1024 := (i 2).isLt

/-- Slot `p` is the elements whose first coordinate is `p`. -/
theorem mem_slotSet (p : Fin 4) (i : S4x64x1024.Idx) : i ∈ slotSet p ↔ (i 0).val = p.val := by
  unfold slotSet
  rw [Rect.mem_set_unit]
  constructor
  · intro h
    have h0 := h 0
    change p.val ≤ (i 0).val ∧ (i 0).val < p.val + 1 at h0
    omega
  · intro h a
    match a with
    | ⟨0, _⟩ => show p.val ≤ (i 0).val ∧ (i 0).val < p.val + 1; omega
    | ⟨1, _⟩ => show 0 ≤ (i 1).val ∧ (i 1).val < 0 + 64; have := lt1 i; omega
    | ⟨2, _⟩ => show 0 ≤ (i 2).val ∧ (i 2).val < 0 + 1024; have := lt2 i; omega

/-- An element lies in half `n` when its slot does. -/
theorem mem_half (n : Fin 2) (i : S4x64x1024.Idx) : i ∈ (halfR n).set ↔ (i 0).val / 2 = n.val := by
  rw [Rect.mem_set_unit]
  constructor
  · intro h
    have h0 := h 0
    change 2 * n.val ≤ (i 0).val ∧ (i 0).val < 2 * n.val + 2 at h0
    omega
  · intro h a
    match a with
    | ⟨0, _⟩ => show 2 * n.val ≤ (i 0).val ∧ (i 0).val < 2 * n.val + 2; omega
    | ⟨1, _⟩ => show 0 ≤ (i 1).val ∧ (i 1).val < 0 + 64; have := lt1 i; omega
    | ⟨2, _⟩ => show 0 ≤ (i 2).val ∧ (i 2).val < 0 + 1024; have := lt2 i; omega

/-- Two slots share no element. -/
theorem slot_disjoint {p p' : Fin 4} (h : p ≠ p') : Disjoint (slotSet p) (slotSet p') := by
  rw [Finset.disjoint_left]
  intro i hi hi'
  rw [mem_slotSet] at hi hi'
  exact h (Fin.ext (hi.symm.trans hi'))

/-- The two slots of the half `n`. -/
def lo (n : Fin 2) : Fin 4 := ⟨2 * n.val, by omega⟩
def hi (n : Fin 2) : Fin 4 := ⟨2 * n.val + 1, by omega⟩
/-- A half's two slots differ. -/
theorem lo_ne_hi (n : Fin 2) : lo n ≠ hi n := fun h => by have := congrArg Fin.val h; simp [lo, hi] at this

/-- A half is its two slots. -/
theorem half_eq (n : Fin 2) : (halfR n).set = slotSet (lo n) ∪ slotSet (hi n) := by
  ext i
  rw [Finset.mem_union, mem_half, mem_slotSet, mem_slotSet]
  show _ ↔ (i 0).val = 2 * n.val ∨ (i 0).val = 2 * n.val + 1
  omega

/-- The four slots make up a slab. -/
theorem slots_univ : (Finset.univ : Finset (Fin 4)).biUnion slotSet = Finset.univ := by
  ext i
  simp only [Finset.mem_biUnion, Finset.mem_univ, true_and, iff_true]
  exact ⟨i 0, (mem_slotSet _ _).2 rfl⟩

/-- An element lies in slot `s` of the first weight's buffer when its first coordinate is `s`. -/
theorem mem_wi (s : Fin 2) (i : S2x1024x2048.Idx) : i ∈ (wiR s).set ↔ (i 0).val = s.val := by
  rw [Rect.mem_set_unit]
  constructor
  · intro h
    have h0 := h 0
    change s.val ≤ (i 0).val ∧ (i 0).val < s.val + 1 at h0
    omega
  · intro h a
    match a with
    | ⟨0, _⟩ => show s.val ≤ (i 0).val ∧ (i 0).val < s.val + 1; omega
    | ⟨1, _⟩ => show 0 ≤ (i 1).val ∧ (i 1).val < 0 + 1024; have : (i 1).val < 1024 := (i 1).isLt; omega
    | ⟨2, _⟩ => show 0 ≤ (i 2).val ∧ (i 2).val < 0 + 2048; have : (i 2).val < 2048 := (i 2).isLt; omega
/-- An element lies in slot `s` of the second weight's buffer when its first coordinate is `s`. -/
theorem mem_wo (s : Fin 2) (i : S2x2048x1024.Idx) : i ∈ (woR s).set ↔ (i 0).val = s.val := by
  rw [Rect.mem_set_unit]
  constructor
  · intro h
    have h0 := h 0
    change s.val ≤ (i 0).val ∧ (i 0).val < s.val + 1 at h0
    omega
  · intro h a
    match a with
    | ⟨0, _⟩ => show s.val ≤ (i 0).val ∧ (i 0).val < s.val + 1; omega
    | ⟨1, _⟩ => show 0 ≤ (i 1).val ∧ (i 1).val < 0 + 2048; have : (i 1).val < 2048 := (i 1).isLt; omega
    | ⟨2, _⟩ => show 0 ≤ (i 2).val ∧ (i 2).val < 0 + 1024; have : (i 2).val < 1024 := (i 2).isLt; omega
/-- The two slots of the first weight's buffer share no element. -/
theorem wi_disjoint : Disjoint (wiR 0).set (wiR 1).set := by
  rw [Finset.disjoint_left]
  intro i hi hi'
  rw [mem_wi] at hi hi'
  exact absurd (hi.symm.trans hi') (by decide)
/-- The two slots of the second weight's buffer share no element. -/
theorem wo_disjoint : Disjoint (woR 0).set (woR 1).set := by
  rw [Finset.disjoint_left]
  intro i hi hi'
  rw [mem_wo] at hi hi'
  exact absurd (hi.symm.trans hi') (by decide)
/-- The two slots make up the first weight's buffer. -/
theorem wi_univ : (wiR 0).set ∪ (wiR 1).set = Finset.univ := by
  ext i
  simp only [Finset.mem_union, Finset.mem_univ, iff_true]
  rw [mem_wi, mem_wi]
  show (i 0).val = 0 ∨ (i 0).val = 1
  have : (i 0).val < 2 := (i 0).isLt
  omega
/-- The two slots make up the second weight's buffer. -/
theorem wo_univ : (woR 0).set ∪ (woR 1).set = Finset.univ := by
  ext i
  simp only [Finset.mem_union, Finset.mem_univ, iff_true]
  rw [mem_wo, mem_wo]
  show (i 0).val = 0 ∨ (i 0).val = 1
  have : (i 0).val < 2 := (i 0).isLt
  omega

/-- The window a transfer names in the rows' buffer is the slot. -/
theorem set_slotM_xa (p : Fin 4) : (slotM xaM p).view.set = slotSet p :=
  (View.set_reshape _ _).trans (View.set_slice_whole _ _)
/-- The window a transfer names in the products' buffer is the slot. -/
theorem set_slotM_sb (p : Fin 4) : (slotM sbM p).view.set = slotSet p :=
  (View.set_reshape _ _).trans (View.set_slice_whole _ _)
/-- The window a transfer names in the receiving buffer is the slot. -/
theorem set_slotM_rb (p : Fin 4) : (slotM rbM p).view.set = slotSet p :=
  (View.set_reshape _ _).trans (View.set_slice_whole _ _)
/-- The window a copy names in the first weight's buffer is the slot. -/
theorem set_wiSl (s : Fin 2) : (wiSl s).view.set = (wiR s).set :=
  (View.set_reshape _ _).trans (View.set_slice_whole _ _)
/-- The window a copy names in the second weight's buffer is the slot. -/
theorem set_woSl (s : Fin 2) : (woSl s).view.set = (woR s).set :=
  (View.set_reshape _ _).trans (View.set_slice_whole _ _)

/-- Holding a slot of the rows, as a transfer's rule names it. -/
theorem xaP_eq (c : Dev nD) (p : Fin 4) (q) (f : Slab F) :
    xaP c p q f = ((slotM xaM p).view.loc (c : Thread nD τ) ↦[(slotM xaM p).view.set]{q} f : sProp 𝕄) := by
  rw [set_slotM_xa]; rfl
/-- Holding a slot of the products, as a transfer's rule names it. -/
theorem sbP_eq (c : Dev nD) (p : Fin 4) (f : Slab F) :
    sbP c p f = ((slotM sbM p).view.loc (c : Thread nD τ) ↦[(slotM sbM p).view.set]{fullShare} f : sProp 𝕄) := by
  rw [set_slotM_sb]; rfl
/-- Holding a slot of the receiving buffer, as a transfer's rule names it. -/
theorem rbP_eq (c : Dev nD) (p : Fin 4) (f : Slab F) :
    rbP c p f = ((slotM rbM p).view.loc (c : Thread nD τ) ↦[(slotM rbM p).view.set]{fullShare} f : sProp 𝕄) := by
  rw [set_slotM_rb]; rfl
/-- Holding a slot of the first weight's buffer, as a copy's rule names it. -/
theorem wiP_eq (c : Dev nD) (s : Fin 2) (f) :
    wiP (F := F) c s f = ((wiSl s).view.loc (c : Thread nD τ) ↦[(wiSl s).view.set]{fullShare} f : sProp 𝕄) := by
  rw [set_wiSl]; rfl
/-- Holding a slot of the second weight's buffer, as a copy's rule names it. -/
theorem woP_eq (c : Dev nD) (s : Fin 2) (f) :
    woP (F := F) c s f = ((woSl s).view.loc (c : Thread nD τ) ↦[(woSl s).view.set]{fullShare} f : sProp 𝕄) := by
  rw [set_woSl]; rfl

/-! ## Contents after a transfer -/

/-- Rows sent to the same slot of another device arrive as they are. -/
theorem land_xa (p : Fin 4) (fd f : Slab F) : ∀ i ∈ (slotM xaM p).view.set,
    (slotM xaM p).view.write (Elt F) fd ((slotM xaM p).view.read (Elt F) f) Finset.univ i = f i := by
  intro i hi
  obtain ⟨x, -, rfl⟩ := Finset.mem_map.mp hi
  rw [View.write_emb_of_mem _ _ (Finset.mem_univ x), View.read_apply, cast_cast, cast_eq]

/-- Where an element of a slot's window lies in the slab. -/
theorem slot_emb (p : Fin 4) (x : S64x1024.Idx) (y : S1x64x1024.Idx)
    (hy : y = Shape.reshapeEquiv squeezes_S1x64x1024_S64x1024.numel_eq x) :
    ((slotR p).emb y : S4x64x1024.Idx) = ix3 (n0 := 4) (n1 := 64) (n2 := 1024) p (y 1) (y 2) := by
  funext a
  apply Fin.ext
  match a with
  | ⟨0, _⟩ => show p.val + 1 * (y 0).val = p.val; have : (y 0).val < 1 := (y 0).isLt; omega
  | ⟨1, _⟩ => show 0 + 1 * (y 1).val = (y 1).val; omega
  | ⟨2, _⟩ => show 0 + 1 * (y 2).val = (y 2).val; omega

/-- The product of `c` for the rows of `q` arrives in slot `t = q - c`. -/
theorem land_rb (X : Slab F) (l : Fin 3) (c q t : Fin 4) (ht : q - t = c) (fd : Slab F) : ∀ i ∈ (slotM rbM t).view.set,
    (slotM rbM t).view.write (Elt F) fd ((slotM sbM q).view.read (Elt F) (sbOf m X l c)) Finset.univ i = rbOf m X l q i := by
  intro i hi
  obtain ⟨x, -, rfl⟩ := Finset.mem_map.mp hi
  rw [View.write_emb_of_mem _ _ (Finset.mem_univ x), View.read_apply, cast_cast, cast_eq]
  have e1 : (slotM rbM t).view.emb x = (slotR t).emb (Shape.reshapeEquiv squeezes_S1x64x1024_S64x1024.numel_eq x) := rfl
  have e2 : (slotM sbM q).view.emb x = (slotR q).emb (Shape.reshapeEquiv squeezes_S1x64x1024_S64x1024.numel_eq x) := rfl
  rw [e1, e2, slot_emb t x _ rfl, slot_emb q x _ rfl]
  unfold rbOf
  show sbOf m X l c _ = sbOf m X l (q - t) _
  rw [ht]; rfl

/-- The copy of a layer's first weight fills its slot of the weight buffer. -/
theorem land_wi (l : Fin 3) (c : Dev nD) (s : Fin 2) (fd : S2x1024x2048.Idx → Elt F .f32) : ∀ i ∈ (wiSl s).view.set,
    (wiSl s).view.write (Elt F) fd (wiV m l c) Finset.univ i = wiB m l c i := by
  intro i hi
  obtain ⟨x, -, rfl⟩ := Finset.mem_map.mp hi
  rw [View.write_emb_of_mem _ _ (Finset.mem_univ x)]
  have e1 : (wiSl s).view.emb x = (wiR s).emb (Shape.reshapeEquiv squeezes_S1x1024x2048_S1024x2048.numel_eq x) := rfl
  have e2 : Shape.reshapeEquiv squeezes_S1x1024x2048_S1024x2048.numel_eq x = ix3 (n0 := 1) (n1 := 1024) (n2 := 2048) 0 (x 0) (x 1) := by
    conv_lhs => rw [eq_ix2 (n0 := 1024) (n1 := 2048) x]
    exact reshapeEquiv_ix2_1ab _ _ _
  rw [e1, e2]
  unfold wiB
  refine (cast_eq _ _).trans (congrArg (wiV m l c) ?_)
  funext a
  apply Fin.ext
  match a with
  | ⟨0, _⟩ => show (x 0).val = 0 + 1 * (x 0).val; omega
  | ⟨1, _⟩ => show (x 1).val = 0 + 1 * (x 1).val; omega

/-- A second weight copied into its slot leaves the slot as the layer's buffer has it. -/
theorem land_wo (l : Fin 3) (c : Dev nD) (s : Fin 2) (fd : S2x2048x1024.Idx → Elt F .f32) : ∀ i ∈ (woSl s).view.set,
    (woSl s).view.write (Elt F) fd (woV m l c) Finset.univ i = woB m l c i := by
  intro i hi
  obtain ⟨x, -, rfl⟩ := Finset.mem_map.mp hi
  rw [View.write_emb_of_mem _ _ (Finset.mem_univ x)]
  have e1 : (woSl s).view.emb x = (woR s).emb (Shape.reshapeEquiv squeezes_S1x2048x1024_S2048x1024.numel_eq x) := rfl
  have e2 : Shape.reshapeEquiv squeezes_S1x2048x1024_S2048x1024.numel_eq x = ix3 (n0 := 1) (n1 := 2048) (n2 := 1024) 0 (x 0) (x 1) := by
    conv_lhs => rw [eq_ix2 (n0 := 2048) (n1 := 1024) x]
    exact reshapeEquiv_ix2_1ab _ _ _
  rw [e1, e2]
  unfold woB
  refine (cast_eq _ _).trans (congrArg (woV m l c) ?_)
  funext a
  apply Fin.ext
  match a with
  | ⟨0, _⟩ => show (x 0).val = 0 + 1 * (x 0).val; omega
  | ⟨1, _⟩ => show (x 1).val = 0 + 1 * (x 1).val; omega

/-! ## Contents after a store -/

/-- The products of one half, stored in the product buffer. -/
theorem store_half (X : Slab F) (l : Fin 3) (c : Dev nD) (n : Fin 2) (f : Slab F) : ∀ i ∈ (halfR n).set,
    ((sbM : Memref sig .tc .vmem S4x64x1024 .bf16).access (halfR n)).write (Elt F) f
      (k0_pay5 (xaM.view.readAt (Elt F) (halfR n).toLoadRect X) (wbV m l c) (obV m l c)) Finset.univ i = sbOf m X l c i := by
  intro i hi
  have hn := (mem_half n i).1 hi
  have hi' : i ∈ ((sbM : Memref sig .tc .vmem S4x64x1024 .bf16).access (halfR n)).set := by
    rw [show ((sbM : Memref sig .tc .vmem S4x64x1024 .bf16).access (halfR n)).set = (halfR n).set from View.set_slice_whole _ _]; exact hi
  obtain ⟨y, -, hy⟩ := Finset.mem_map.mp hi'
  have hh : halfOf (i 0) = n := Fin.ext hn
  have hy' : halfIx i = y := by
    rw [← hy]
    funext a
    apply Fin.ext
    match a with
    | ⟨0, _⟩ => show (2 * n.val + 1 * (y 0).val) % 2 = (y 0).val; have : (y 0).val < 2 := (y 0).isLt; omega
    | ⟨1, _⟩ => show 0 + 1 * (y 1).val = (y 1).val; omega
    | ⟨2, _⟩ => show 0 + 1 * (y 2).val = (y 2).val; omega
  unfold sbOf
  rw [hh, hy', ← hy, View.write_emb_of_mem _ _ (Finset.mem_univ y), cast_eq]

/-- A block of rows, stored in its slot of the row buffer. -/
theorem store_slot (p : Fin 4) (f : Slab F) (g : S1x64x1024.Idx → Elt F .bf16) : ∀ i ∈ slotSet p,
    ((xaM : Memref sig .tc .vmem S4x64x1024 .bf16).access (slotR p)).write (Elt F) f g Finset.univ i = g (slotIx i) := by
  intro i hi
  have hi' : i ∈ ((xaM : Memref sig .tc .vmem S4x64x1024 .bf16).access (slotR p)).set := by
    rw [show ((xaM : Memref sig .tc .vmem S4x64x1024 .bf16).access (slotR p)).set = (slotR p).set from View.set_slice_whole _ _]; exact hi
  obtain ⟨y, -, hy⟩ := Finset.mem_map.mp hi'
  have hy' : slotIx i = y := by
    rw [← hy]
    funext a
    apply Fin.ext
    match a with
    | ⟨0, _⟩ => show 0 = (y 0).val; have : (y 0).val < 1 := (y 0).isLt; omega
    | ⟨1, _⟩ => show 0 + 1 * (y 1).val = (y 1).val; omega
    | ⟨2, _⟩ => show 0 + 1 * (y 2).val = (y 2).val; omega
  rw [hy', ← hy, View.write_emb_of_mem _ _ (Finset.mem_univ y), cast_eq]

end Cert.Mlp
-- ==== Proof.State.lean ====
/-
What a device holds at each point of a layer: the records every device shares, what it still owes, and the state of the
exchange with each other device.
-/
module

public import proofs.«01_k».proof.Proof.Geo

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ
variable (m : (ℓ : Loc nD τ sig) → Buf (Elt F) ℓ)

abbrev 𝒱₀ : Variants := Variants.none

/-! ## Records -/

/-- The cells of a device: its 22 transfer semaphores and the barrier. -/
def csem (k : Fin 23) : SemLoc sig :=
  if h : k.val < 22 then .dma (⟨2 + k.val, by show 2 + k.val < 24; omega⟩ : Fin 24) else .reg barS
def kcell (ck : Dev nD × Fin 23) : GSem nD τ sig := ((ck.1 : Thread nD τ), csem ck.2)

/-- The place of the counter of rows sent at distance `t` in the list of counters. -/
theorem kcell_agS (c : Dev nD) (t : Fin 4) : kcell (c, ⟨t.val, by omega⟩) = agSC c t := by
  unfold kcell csem; rw [dif_pos (show t.val < 22 by omega)]; rfl
/-- The place of the counter of rows received at distance `t` in the list of counters. -/
theorem kcell_agR (c : Dev nD) (t : Fin 4) : kcell (c, ⟨4 + t.val, by omega⟩) = agRC c t := by
  unfold kcell csem; rw [dif_pos (show 4 + t.val < 22 by omega)]; unfold agRC agR; simp only [← Nat.add_assoc]
/-- The place of the counter of products sent at distance `t` in the list of counters. -/
theorem kcell_rsS (c : Dev nD) (t : Fin 4) : kcell (c, ⟨8 + t.val, by omega⟩) = rsSC c t := by
  unfold kcell csem; rw [dif_pos (show 8 + t.val < 22 by omega)]; unfold rsSC rsS; simp only [← Nat.add_assoc]
/-- The place of the counter of products received at distance `t` in the list of counters. -/
theorem kcell_rsR (c : Dev nD) (t : Fin 4) : kcell (c, ⟨12 + t.val, by omega⟩) = rsRC c t := by
  unfold kcell csem; rw [dif_pos (show 12 + t.val < 22 by omega)]; unfold rsRC rsR; simp only [← Nat.add_assoc]
/-- The place of a weight copy's counter in the list of counters. -/
theorem kcell_w (c : Dev nD) (j : Fin 6) : kcell (c, ⟨16 + j.val, by omega⟩) = wC c j := by
  unfold kcell csem; rw [dif_pos (show 16 + j.val < 22 by omega)]; unfold wC wS; simp only [← Nat.add_assoc]
/-- The place of the barrier's counter in the list of counters. -/
theorem kcell_bar (c : Dev nD) : kcell (c, 22) = barC c := by
  unfold kcell csem; rw [dif_neg (show ¬ (22 : Fin 23).val < 22 by decide)]

/-- A cell is under the schedule's invariant, and its round 0 is open. -/
def known (g : GSem nD τ sig) : sProp 𝕄 := iprop(∃ κ, cellInv ER (sched m) κ g ∗ reached ER g 0)
instance known_pers (g : GSem nD τ sig) : BI.Persistent (known (F := F) m g) := by unfold known; infer_instance

/-- Every cell of every device is known, and the levels are set. -/
def Recs : sProp 𝕄 := iprop((bigSep Finset.univ fun ck : Dev nD × Fin 23 => known m (kcell ck)) ∗ levAts L lv)
instance Recs_pers : BI.Persistent (Recs (F := F) m) := by unfold Recs; infer_instance

/-- Of what all know, the schedule of one counter. -/
theorem known_at (ck : Dev nD × Fin 23) {g : GSem nD τ sig} (h : kcell ck = g) : Recs (F := F) m ⊢ known m g := by
  unfold Recs
  rw [bigSep_univ_at (fun ck : Dev nD × Fin 23 => known (F := F) m (kcell ck)) ck, h]
  iintro ⟨⟨H, -⟩, -⟩
  iexact H
/-- Of what all know, the levels. -/
theorem recs_lev : Recs (F := F) m ⊢ levAts L lv := by
  unfold Recs
  iintro ⟨-, H⟩
  iexact H
/-- Of what all know, the schedule of the counter of rows sent at distance `t`. -/
theorem known_agS (c : Dev nD) (t : Fin 4) : Recs (F := F) m ⊢ known m (agSC c t) := known_at m _ (kcell_agS c t)
/-- Of what all know, the schedule of the counter of rows received at distance `t`. -/
theorem known_agR (c : Dev nD) (t : Fin 4) : Recs (F := F) m ⊢ known m (agRC c t) := known_at m _ (kcell_agR c t)
/-- Of what all know, the schedule of the counter of products sent at distance `t`. -/
theorem known_rsS (c : Dev nD) (t : Fin 4) : Recs (F := F) m ⊢ known m (rsSC c t) := known_at m _ (kcell_rsS c t)
/-- Of what all know, the schedule of the counter of products received at distance `t`. -/
theorem known_rsR (c : Dev nD) (t : Fin 4) : Recs (F := F) m ⊢ known m (rsRC c t) := known_at m _ (kcell_rsR c t)
/-- Of what all know, the schedule of a weight copy's counter. -/
theorem known_w (c : Dev nD) (j : Fin 6) : Recs (F := F) m ⊢ known m (wC c j) := known_at m _ (kcell_w c j)
/-- Of what all know, the schedule of the barrier's counter. -/
theorem known_bar (c : Dev nD) : Recs (F := F) m ⊢ known m (barC c) := known_at m _ (kcell_bar c)

/-! ## What is owed -/

/-- Device `c` owes `O`. -/
def ow (c : Dev nD) (O : CellTallies nD τ sig ℕ) : sProp 𝕄 := iprop(∃ W, owes (c : Thread nD τ) O W)

/-- A wait at a level below everything owed is allowed. -/
theorem mayWait_of (c : Dev nD) (sm : SemLoc sig) {ι b : ℕ} {O : CellTallies nD τ sig ℕ} (hι : ι < 3)
    (hb : lv ((c : Thread nD τ), sm) ι ≤ b) (h : Above b O) : (levAts L lv : sProp 𝕄) ⊢ MayWait (c : Thread nD τ) sm ι O :=
  MayOwe.of_cut (L := L) (lev := lv) b
    (fun p hp => by rw [Finset.mem_singleton.mp hp, L_tc]; exact Finset.mem_range.2 hι)
    (fun g ι' hg => (h g ι' hg).1)
    (fun p hp => by rw [Finset.mem_singleton.mp hp]; exact hb)
    (fun g ι' hg => (h g ι' hg).2)

/-- The units owed to `c + t` for the rows and for the product of round `r`. -/
def Oag (r : ℕ) (c : Dev nD) (t : Fin 4) : CellTallies nD τ sig ℕ := tallyAt (agRC (c + t) t) r NB
def Ors (r : ℕ) (c : Dev nD) (t : Fin 4) : CellTallies nD τ sig ℕ := tallyAt (rsRC (c + t) t) r NB

/-! ## The state of the exchange with each device -/

/-- Rows awaited; rows here; product computed; product sent. -/
inductive Stt | pe | ar | cm | se
deriving DecidableEq

/-- What is needed to send the product of round `r` to `c + t`, apart from the landing slot. -/
def rsPart (r : ℕ) (c : Dev nD) (t : Fin 4) : sProp 𝕄 :=
  iprop(atPos ER (rsSC c t) r ∅ 0 ∗ reached ER (rsSC c t) r ∗ dutyTok ER (rsSC c t) r 0 ∗ dutyTok ER (rsRC (c + t) t) r 0)
/-- The landing slot for it at `c + t`. -/
def rsDst (r : ℕ) (c : Dev nD) (t : Fin 4) : sProp 𝕄 := iprop(rbAny (c + t) t ∗ reached ER (rsRC (c + t) t) r)
/-- The rows of `c + t` are here. -/
def agHere (r : ℕ) (c : Dev nD) (t : Fin 4) : sProp 𝕄 :=
  iprop(atPos ER (agRC c (-t)) (r + 1) ∅ 0 ∗ reached ER (agRC c (-t)) (r + 1))

/-- The exchange of round `r` with `c + t`. -/
def peerSt (r : ℕ) (c : Dev nD) (t : Fin 4) (x : Stt) : sProp 𝕄 :=
  match x with
  | .pe => iprop(atPos ER (agRC c (-t)) r ∅ 0 ∗ cred (tallyAt (agRC c (-t)) r NB) ∗ rsPart r c t ∗ sbAny c (c + t)
      ∗ (if r = 0 then rbAny (c + t) t else iprop(emp)))
  | .ar => iprop(agHere r c t ∗ rsPart r c t ∗ rsDst r c t ∗ xaP c (c + t) fullShare (XA m (ly r)) ∗ sbAny c (c + t))
  | .cm => iprop(agHere r c t ∗ rsPart r c t ∗ rsDst r c t ∗ xaP c (c + t) fullShare (XA m (ly r)) ∗ sbP c (c + t) (SBv m (ly r) c))
  | .se => iprop(agHere r c t ∗ (if r < 2 then iprop(emp) else xaP c (c + t) fullShare (XA m (ly r)))
      ∗ atPos ER (rsSC c t) r ∅ 0 ∗ cred (tallyAt (rsSC c t) r NB))
/-- The device's own slot: the kept share of its rows, and its product buffer. -/
def ownSt (r : ℕ) (c : Dev nD) (x : Stt) : sProp 𝕄 :=
  match x with
  | .pe | .ar => iprop(xaP c c (qs 0) (XA m (ly r)) ∗ sbAny c c)
  | .cm | .se => iprop(xaP c c (qs 0) (XA m (ly r)) ∗ sbP c c (SBv m (ly r) c))

def slotSt (r : ℕ) (c : Dev nD) (s : Fin 4) (x : Stt) : sProp 𝕄 :=
  if s = c then ownSt m r c x else peerSt m r c (s - c) x

/-- All four slots, each in its state. -/
def St (r : ℕ) (c : Dev nD) (σ : Fin 4 → Stt) : sProp 𝕄 := bigSep Finset.univ fun s => slotSt m r c s (σ s)
/-- The products still owed in a state. -/
def OSt (r : ℕ) (c : Dev nD) (σ : Fin 4 → Stt) : CellTallies nD τ sig ℕ :=
  ∑ s : Fin 4, if s = c ∨ σ s = .se then 0 else Ors r c (s - c)
/-- The slots, and what is owed for them and besides. -/
def SO (r : ℕ) (c : Dev nD) (σ : Fin 4 → Stt) (X : CellTallies nD τ sig ℕ) : sProp 𝕄 :=
  iprop(St m r c σ ∗ ow c (OSt r c σ + X))

/-- The states within a layer: at half `n`, the slots before that half done, those after it waiting, and in it the
    `k` next devices at `y` and the others at `x`. -/
def stat (n : Fin 2) (x y : Stt) (k : ℕ) (c : Fin 4) (s : Fin 4) : Stt :=
  if (halfOf s).val < n.val then .se else if n.val < (halfOf s).val then .pe else if (s - c : Fin 4).val ≤ k then y else x

/-! ### One slot taken out -/

/-- Going forward by a distance other than zero leads elsewhere. -/
theorem add_ne_self {t : Fin 4} (ht : t ≠ 0) (c : Fin 4) : c + t ≠ c := by revert c t; decide
/-- Forward by `t` from `c`, less `c`, is `t`. -/
theorem add_sub_self (c t : Fin 4) : c + t - c = t := by revert c t; decide
/-- Forward and back by `t` is where one was. -/
theorem add_sub_right (c t : Fin 4) : c + t - t = c := by revert c t; decide
/-- Forward by the distance to `s` leads to `s`. -/
theorem add_sub_self' (c s : Fin 4) : c + (s - c) = s := by revert c s; decide
/-- Going back by an opposite is going forward. -/
theorem sub_neg' (c t : Fin 4) : c - -t = c + t := by revert c t; decide
/-- The opposite's opposite is the number. -/
theorem neg_neg' (t : Fin 4) : - -t = t := by revert t; decide
/-- The opposite of a distance other than zero is not zero. -/
theorem neg_ne {t : Fin 4} (ht : t ≠ 0) : -t ≠ 0 := by revert t; decide

/-- The state, with one slot taken out. -/
theorem St_at (r : ℕ) (c : Dev nD) (σ : Fin 4 → Stt) (a : Fin 4) :
    St (F := F) m r c σ = iprop(slotSt m r c a (σ a) ∗ bigSep (Finset.univ.erase a) fun s => slotSt m r c s (σ s)) :=
  bigSep_univ_at (fun s => slotSt (F := F) m r c s (σ s)) a
/-- Two states that differ in one slot, with that slot taken out. -/
theorem St_upd (r : ℕ) (c : Dev nD) (σ σ' : Fin 4 → Stt) (a : Fin 4) (h : ∀ s, s ≠ a → σ' s = σ s) :
    St (F := F) m r c σ' = iprop(slotSt m r c a (σ' a) ∗ bigSep (Finset.univ.erase a) fun s => slotSt m r c s (σ s)) := by
  rw [St_at m r c σ' a]
  congr 1
  exact BI.bigSep_congr fun s hs => by rw [h s (Finset.ne_of_mem_erase hs)]

/-- The state of the slot at distance `t` is that peer's. -/
theorem slotSt_peer (r : ℕ) (c : Dev nD) (t : Fin 4) (ht : t ≠ 0) (x : Stt) :
    slotSt (F := F) m r c (c + t) x = peerSt m r c t x := by
  unfold slotSt
  rw [if_neg (add_ne_self ht c), add_sub_self]
/-- The state of the device's own slot. -/
theorem slotSt_own (r : ℕ) (c : Dev nD) (x : Stt) : slotSt (F := F) m r c c x = ownSt m r c x := if_pos rfl

/-- A layer's debts for products, with one slot's taken out. -/
theorem OSt_at (r : ℕ) (c : Dev nD) (σ : Fin 4 → Stt) (a : Fin 4) :
    OSt r c σ = (if a = c ∨ σ a = .se then 0 else Ors r c (a - c))
      + ∑ s ∈ Finset.univ.erase a, if s = c ∨ σ s = .se then 0 else Ors r c (s - c) :=
  (Finset.add_sum_erase _ _ (Finset.mem_univ a)).symm
/-- A state change that sends nothing leaves what is owed. -/
theorem OSt_keep (r : ℕ) (c : Dev nD) (σ σ' : Fin 4 → Stt) (h : ∀ s, s ≠ c → (σ' s = .se ↔ σ s = .se)) :
    OSt r c σ' = OSt r c σ := by
  unfold OSt
  refine Finset.sum_congr rfl fun s _ => ?_
  by_cases hs : s = c
  · rw [if_pos (Or.inl hs), if_pos (Or.inl hs)]
  · have := h s hs
    by_cases h' : σ s = .se
    · rw [if_pos (Or.inr (this.2 h')), if_pos (Or.inr h')]
    · rw [if_neg (by rintro (h | h); exacts [hs h, h' (this.1 h)]), if_neg (by rintro (h | h); exacts [hs h, h' h])]
/-- Sending to `a` pays `a`'s product. -/
theorem OSt_send (r : ℕ) (c : Dev nD) (σ σ' : Fin 4 → Stt) (t : Fin 4) (ht : t ≠ 0) (h : ∀ s, s ≠ c + t → σ' s = σ s)
    (h1 : σ (c + t) ≠ .se) (h2 : σ' (c + t) = .se) : OSt r c σ = OSt r c σ' + Ors r c t := by
  have hc : (c + t : Fin 4) ≠ c := add_ne_self ht c
  rw [OSt_at r c σ (c + t), OSt_at r c σ' (c + t), if_neg (by rintro (h | h); exacts [hc h, h1 h]), if_pos (Or.inr h2),
    add_sub_self, zero_add, add_comm]
  congr 1
  refine Finset.sum_congr rfl fun s hs => ?_
  rw [h s (Finset.ne_of_mem_erase hs)]

/-- A debt for rows is above any level below the round's rows. -/
theorem above_Oag {r b : ℕ} (hr : r < 3) (hb : b < 2 + 2 * r) (c : Dev nD) (t : Fin 4) : Above b (Oag r c t) :=
  Above.tally (by rw [L_tc]; exact Finset.mem_range.2 hr) (by rw [lv_agR]; exact hb)
/-- A debt for products is above any level below the round's products. -/
theorem above_Ors {r b : ℕ} (hr : r < 3) (hb : b < 3 + 2 * r) (c : Dev nD) (t : Fin 4) : Above b (Ors r c t) :=
  Above.tally (by rw [L_tc]; exact Finset.mem_range.2 hr) (by rw [lv_rsR]; exact hb)
/-- A sum of debts above a level is above it. -/
theorem above_sum {b : ℕ} {ι : Type} (S : Finset ι) (f : ι → CellTallies nD τ sig ℕ) (h : ∀ s ∈ S, Above b (f s)) : Above b (∑ s ∈ S, f s) := by
  classical
  induction S using Finset.induction_on with
  | empty => rw [Finset.sum_empty]; exact Above.zero b
  | insert a S ha ih =>
    rw [Finset.sum_insert ha]
    exact (h a (Finset.mem_insert_self _ _)).add (ih fun s hs => h s (Finset.mem_insert_of_mem hs))
/-- A layer's debts for products are above any level below the round's products. -/
theorem above_OSt {r b : ℕ} (hr : r < 3) (hb : b < 3 + 2 * r) (c : Dev nD) (σ : Fin 4 → Stt) : Above b (OSt r c σ) := by
  refine above_sum _ _ fun s _ => ?_
  split
  · exact Above.zero b
  · exact above_Ors hr hb c _

end Cert.Mlp
-- ==== Proof.Steps.lean ====
/-
One step of the kernel each: what a transfer, a wait, a load or a store needs and leaves, for a device `c` and a round
`r` at large.
-/
module

public import proofs.«01_k».proof.Proof.State

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ
variable (m : (ℓ : Loc nD τ sig) → Buf (Elt F) ℓ)

section Steps
variable (c : Dev nD)

/-! ## Waits -/

/-- A wait for a whole round of one duty. -/
theorem wait_one {α : Type} {Q : α → sProp 𝕄} {k : PUnit → Prog (TpuEff nD τ sig (Elt F) Λ₀ .tc) α} {sem : DmaSem sig} {R N : ℕ} {P : sProp 𝕄} (hR : R < 3)
    (hd : (sched (F := F) m).duties ((c : Thread nD τ), .dma sem) R = {0})
    (he : (sched (F := F) m).expect ((c : Thread nD τ), .dma sem) R = N)
    (hp : (sched (F := F) m).payload ((c : Thread nD τ), .dma sem) R 0 = P)
    {O : CellTallies nD τ sig ℕ} {b : ℕ} (hb : lv ((c : Thread nD τ), .dma sem) R ≤ b) (hO : Above b O)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma sem) N K) :
    iprop(known m ((c : Thread nD τ), .dma sem) ∗ levAts L lv ∗ cred (tallyAt ((c : Thread nD τ), .dma sem) R N) ∗ ow c O
        ∗ atPos ER ((c : Thread nD τ), .dma sem) R ∅ 0)
      ⊢ iprop(((ow c O ∗ atPos ER ((c : Thread nD τ), .dma sem) (R + 1) ∅ 0 ∗ reached ER ((c : Thread nD τ), .dma sem) (R + 1) ∗ P)
          -∗ wp frame (wpE (defs₀ (F := F)) 𝒱₀ (c : Thread nD τ) none) Set.univ (k ⟨⟩) Q) -∗ wp frame (wpE (defs₀ (F := F)) 𝒱₀ (c : Thread nD τ) none) Set.univ (.op w k) Q) := by
  unfold known ow
  iintro ⟨⟨%κ, HI, -⟩, HL, Hc, ⟨%W, HO⟩, Hat⟩ Hk
  iapply (Rounds.wp_wait_rest_token 𝒱₀ ER (sched m) (c : Thread nD τ) none (κ := κ) hw (Set.mem_univ _) R (O := O) (W := W) (R := R) (m := 0) (T := ∅)
      (by rw [Nat.zero_add, he])) $$ [HI HL Hc HO Hat]
  · isplitl [HI]; · iexact HI
    isplitl [Hc]; · iexact Hc
    isplitl [HO]; · iexact HO
    isplitl [HL]; · iapply (mayWait_of c (.dma sem) hR hb hO); iexact HL
    iexact Hat
  iintro ⟨HO, Hat, Hr, Hp⟩
  iapply Hk
  isplitl [HO]; · iexists _; iexact HO
  isplitl [Hat]; · iexact Hat
  isplitl [Hr]; · iexact Hr
  ihave Hp' := (Entails.of_eq (show bigSep ((sched (F := F) m).duties ((c : Thread nD τ), .dma sem) R \ ∅)
      (fun d => (sched (F := F) m).payload ((c : Thread nD τ), .dma sem) R d) = P by
    rw [hd, Finset.sdiff_empty, bigSep_singleton, hp])) $$ Hp
  iexact Hp'

/-! ## Sending the rows -/

/-- Ready to send the rows of round `r` to `c + t`. -/
def agReady (r : ℕ) (c : Dev nD) (t : Fin 4) : sProp 𝕄 :=
  iprop(atPos ER (agSC c t) r ∅ 0 ∗ reached ER (agSC c t) r ∗ dutyTok ER (agSC c t) r 0 ∗ dutyTok ER (agRC (c + t) t) r 0
    ∗ xaAny (c + t) c ∗ reached ER (agRC (c + t) t) r
    ∗ (if r = 0 then iprop(emp) else iprop(rbAny c (-t) ∗ reached ER (rsRC c (-t)) r)))
/-- Sent; the source is lent. -/
def agSent (r : ℕ) (c : Dev nD) (t : Fin 4) : sProp 𝕄 :=
  iprop(atPos ER (agSC c t) r ∅ 0 ∗ cred (tallyAt (agSC c t) r NB))
/-- Sent, and the source is back. -/
def agBack (r : ℕ) (c : Dev nD) (t : Fin 4) : sProp 𝕄 :=
  iprop(atPos ER (agSC c t) (r + 1) ∅ 0 ∗ reached ER (agSC c t) (r + 1) ∗ xaP c c (qs t) (XA m (ly r)))

/-- A slot as the program names it, at the offset it computes. -/
abbrev offM (M : Memref sig .tc .vmem S4x64x1024 .bf16) (off : Fin 3 → ℕ) (inb : ∀ a, off a + S1x64x1024.size a ≤ S4x64x1024.size a) :
    Memref sig .tc .vmem S64x1024 .bf16 :=
  (M.slice (Rect.unit (s := S4x64x1024) off S1x64x1024.size inb) (fun _ => rfl)).squeeze S64x1024 squeezes_S1x64x1024_S64x1024

/-- Sending a device's rows to the peer at distance `t`. -/
theorem ag_send {α : Type} {Q : α → sProp 𝕄} {k : PUnit → Prog (TpuEff nD τ sig (Elt F) Λ₀ .tc) α} (t : Fin 4) (ht : t ≠ 0) {r : ℕ} (hr : r < 3) {off : Fin 3 → ℕ} (ho : off = ![c.val, 0, 0])
    {inb : ∀ a, off a + S1x64x1024.size a ≤ S4x64x1024.size a} {n : Dev nD} (hn : n = c + t) {sS sR : DmaSem sig} (hS : sS = agS t) (hR : sR = agR t)
    {O : CellTallies nD τ sig ℕ} (O' : CellTallies nD τ sig ℕ) (hO : O = O' + Oag r c t)
    {hsc : (offM xaM off inb : Memref sig (Dev.tc n : Thread nD τ).2.kind .vmem S64x1024 .bf16).view.ref.isScScratch = false}
    {hsrc : (offM xaM off inb).view.WordExact} {hdst : (offM xaM off inb).view.WordExact}
    {hsem : DmaTarget.Typed .vmem (.dma sR) (.remote (Dev.tc n : Thread nD τ) (offM xaM off inb) (.dma sS) hsc)} :
    iprop(Recs m ∗ agReady r c t ∗ xaP c c (qs t) (XA m (ly r)) ∗ ow c O)
      ⊢ iprop(((agSent r c t ∗ ow c O') -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (offM xaM off inb) (.remote (Dev.tc n : Thread nD τ) (offM xaM off inb) (.dma sS) hsc) (.dma sR) hsrc hdst hsem) k) Q) := by
  subst hn; subst hS; subst hR; subst ho
  unfold agReady agSent ow xaAny
  simp only [xaP_eq]
  iintro ⟨#HR, ⟨Hat, Hr, Ht1, Ht2, ⟨%fd, Hx⟩, Hr2, Hm⟩, Hs, ⟨%W, HO⟩⟩ Hk
  ihave HS := (known_agS m c t) $$ HR
  ihave HD := (known_agR m (c + t) t) $$ HR
  unfold known
  icases HS with ⟨%κ₁, HI1, -⟩
  icases HD with ⟨%κ₂, HI2, -⟩
  iapply (Rounds.wp_send_pointsTo_with 𝒱₀ ER (sched m) (c : Thread nD τ) none (c' := (Dev.tc (c + t) : Thread nD τ)) (src := slotM xaM c) (dst := slotM xaM c) (κ₁ := κ₁) (κ₂ := κ₂)
    (r₁ := r) (r₂ := r) (d₁ := 0) (d₂ := 0) (fs := XA m (ly r)) (fd := fd) (F := agMore (c + t) t r)
    (by rw [duties_agS m c t ht hr]; exact Finset.mem_singleton_self _) (by rw [duties_agR m (c + t) t ht hr]; exact Finset.mem_singleton_self _)
    r r NB rfl (amount_agS m c t r 0) (amount_agR m (c + t) t r 0) O' hO (W := W)
    (by rw [payload_agS]; unfold agSPay; rw [xaP_eq])
    (by
      rw [payload_agR]; unfold agRPay
      refine sep_mono_left ?_
      rw [add_sub_right, xaP_eq]
      exact Entails.of_eq (pointsTo_congr (land_xa c fd (XA m (ly r)))))) $$ [Hr Ht1 Ht2 Hx Hr2 Hm Hs HO HI1 HI2]
  · isplitl [HI1]; · iexact HI1
    isplitl [HI2]; · iexact HI2
    isplitl [Hs]; · iexact Hs
    isplitl [Hx Hm]
    · isplitl [Hx]; · iexact Hx
      unfold agMore
      rw [add_sub_right]
      iexact Hm
    isplitl [HO]; · iexact HO
    isplitl [Ht1]; · iexact Ht1
    isplitl [Hr]; · iexact Hr
    isplitl [Ht2]; · iexact Ht2
    iexact Hr2
  iintro ⟨Hc, HO⟩
  iapply Hk
  isplitl [Hat Hc]
  · isplitl [Hat]; · iexact Hat
    iexact Hc
  iexists W; iexact HO

/-- A wait for one block's transfer takes `NB` units. -/
theorem nb_wait {sem : DmaSem sig} {src dst : Memref sig .tc .vmem S64x1024 .bf16} {hsrc : src.view.WordExact} {hdst : dst.view.WordExact} (hN : dst.view.dmaCredit = NB) (K : PUnit → sProp 𝕄) :
    wpE (defs₀ (F := F)) 𝒱₀ (c : Thread nD τ) none Set.univ (.waitDma2 sem src dst hsrc hdst) K = waitSpec (c : Thread nD τ) Set.univ (.dma sem) NB K := by
  rw [← hN]; exact wpE_waitDma2_eq 𝒱₀ (c : Thread nD τ) none Set.univ K

/-- The rows' source comes back. -/
theorem agS_wait {α : Type} {Q : α → sProp 𝕄} {k : PUnit → Prog (TpuEff nD τ sig (Elt F) Λ₀ .tc) α} (t : Fin 4) (ht : t ≠ 0) {r : ℕ} (hr : r < 3) {sem : DmaSem sig} (hs : sem = agS t)
    {O : CellTallies nD τ sig ℕ} (hO : Above 0 O) {src dst : Memref sig .tc .vmem S64x1024 .bf16} {hsrc : src.view.WordExact} {hdst : dst.view.WordExact} (hN : dst.view.dmaCredit = NB) :
    iprop(Recs m ∗ agSent r c t ∗ ow c O)
      ⊢ iprop(((agBack m r c t ∗ ow c O) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 sem src dst hsrc hdst) k) Q) := by
  subst hs
  unfold agSent agBack
  iintro ⟨#HR, ⟨Hat, Hc⟩, HO⟩ Hk
  iapply (wait_one m c hr (duties_agS m c t ht hr) (expect_agS m c t ht hr) (payload_agS m c t r 0) (b := 0) (le_of_eq (lv_agS c t r)) hO
    (nb_wait c hN)) $$ [Hat Hc HO]
  · isplitl []; · iapply (known_agS m c t); iexact HR
    isplitl []; · iapply (recs_lev m); iexact HR
    isplitl [Hc]; · iexact Hc
    isplitl [HO]; · iexact HO
    iexact Hat
  iintro ⟨HO, Hat, Hr, Hp⟩
  iapply Hk
  isplitr [HO]
  · isplitl [Hat]; · iexact Hat
    isplitl [Hr]; · iexact Hr
    unfold agSPay; iexact Hp
  iexact HO

/-- The product of round `r` for `c + t` is sent; its source is lent. -/
def rsSent (r : ℕ) (c : Dev nD) (t : Fin 4) : sProp 𝕄 :=
  iprop(atPos ER (rsSC c t) r ∅ 0 ∗ cred (tallyAt (rsSC c t) r NB))
/-- The source is back. -/
def rsBack (r : ℕ) (c : Dev nD) (t : Fin 4) : sProp 𝕄 :=
  iprop(atPos ER (rsSC c t) (r + 1) ∅ 0 ∗ reached ER (rsSC c t) (r + 1) ∗ sbP c (c + t) (SBv m (ly r) c))

/-- Waiting until a product sent has left: the slot is given back. -/
theorem rsS_wait {α : Type} {Q : α → sProp 𝕄} {k : PUnit → Prog (TpuEff nD τ sig (Elt F) Λ₀ .tc) α} (t : Fin 4) (ht : t ≠ 0) {r : ℕ} (hr : r < 3) {sem : DmaSem sig} (hs : sem = rsS t)
    {O : CellTallies nD τ sig ℕ} (hO : Above 0 O) {src dst : Memref sig .tc .vmem S64x1024 .bf16} {hsrc : src.view.WordExact} {hdst : dst.view.WordExact} (hN : dst.view.dmaCredit = NB) :
    iprop(Recs m ∗ rsSent r c t ∗ ow c O)
      ⊢ iprop(((rsBack m r c t ∗ ow c O) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 sem src dst hsrc hdst) k) Q) := by
  subst hs
  unfold rsSent rsBack
  iintro ⟨#HR, ⟨Hat, Hc⟩, HO⟩ Hk
  iapply (wait_one m c hr (duties_rsS m c t ht hr) (expect_rsS m c t ht hr) (payload_rsS m c t r 0) (b := 0) (le_of_eq (lv_rsS c t r)) hO
    (nb_wait c hN)) $$ [Hat Hc HO]
  · isplitl []; · iapply (known_rsS m c t); iexact HR
    isplitl []; · iapply (recs_lev m); iexact HR
    isplitl [Hc]; · iexact Hc
    isplitl [HO]; · iexact HO
    iexact Hat
  iintro ⟨HO, Hat, Hr, Hp⟩
  iapply Hk
  isplitr [HO]
  · isplitl [Hat]; · iexact Hat
    isplitl [Hr]; · iexact Hr
    unfold rsSPay; iexact Hp
  iexact HO

/-- The product of `c - t` for `c`'s rows is awaited; it is here. -/
def rsPend (r : ℕ) (c : Dev nD) (t : Fin 4) : sProp 𝕄 :=
  iprop(atPos ER (rsRC c t) r ∅ 0 ∗ cred (tallyAt (rsRC c t) r NB))
def rsGot (r : ℕ) (c : Dev nD) (t : Fin 4) : sProp 𝕄 :=
  iprop(atPos ER (rsRC c t) (r + 1) ∅ 0 ∗ reached ER (rsRC c t) (r + 1) ∗ rbP c t (RBv m (ly r) c) ∗ rsMore c t r)

/-- Waiting for a product: it brings the slot of the receiving buffer, filled. -/
theorem rsR_wait {α : Type} {Q : α → sProp 𝕄} {k : PUnit → Prog (TpuEff nD τ sig (Elt F) Λ₀ .tc) α} (t : Fin 4) (ht : t ≠ 0) {r : ℕ} (hr : r < 3) {sem : DmaSem sig} (hs : sem = rsR t)
    {O : CellTallies nD τ sig ℕ} (hO : Above (3 + 2 * r) O) {src dst : Memref sig .tc .vmem S64x1024 .bf16} {hsrc : src.view.WordExact} {hdst : dst.view.WordExact} (hN : dst.view.dmaCredit = NB) :
    iprop(Recs m ∗ rsPend r c t ∗ ow c O)
      ⊢ iprop(((rsGot m r c t ∗ ow c O) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 sem src dst hsrc hdst) k) Q) := by
  subst hs
  unfold rsPend rsGot
  iintro ⟨#HR, ⟨Hat, Hc⟩, HO⟩ Hk
  iapply (wait_one m c hr (duties_rsR m c t ht hr) (expect_rsR m c t ht hr) (payload_rsR m c t r 0) (b := 3 + 2 * r) (le_of_eq (lv_rsR c t r)) hO
    (nb_wait c hN)) $$ [Hat Hc HO]
  · isplitl []; · iapply (known_rsR m c t); iexact HR
    isplitl []; · iapply (recs_lev m); iexact HR
    isplitl [Hc]; · iexact Hc
    isplitl [HO]; · iexact HO
    iexact Hat
  iintro ⟨HO, Hat, Hr, Hp⟩
  iapply Hk
  isplitr [HO]
  · isplitl [Hat]; · iexact Hat
    isplitl [Hr]; · iexact Hr
    unfold rsRPay; iexact Hp
  iexact HO

/-! ## Rows arriving -/

/-- The landing slot at `c + t`, once its rows are here. -/
theorem rsDst_intro (r : ℕ) (t : Fin 4) :
    iprop(Recs (F := F) m ∗ agMore c (-t) r ∗ (if r = 0 then rbAny (c + t) t else iprop(emp))) ⊢ rsDst r c t := by
  unfold agMore rsDst
  by_cases h : r = 0
  · subst h
    rw [if_pos rfl, if_pos rfl]
    iintro ⟨HR, -, H⟩
    isplitl [H]; · iexact H
    ihave HK := (known_rsR m (c + t) t) $$ HR
    unfold known
    icases HK with ⟨%κ, -, H⟩
    iexact H
  · rw [if_neg h, if_neg h, sub_neg', neg_neg']
    iintro ⟨-, H, -⟩
    iexact H

/-- Waiting for the peer's rows: its slot becomes arrived. -/
theorem agR_wait {α : Type} {Q : α → sProp 𝕄} {k : PUnit → Prog (TpuEff nD τ sig (Elt F) Λ₀ .tc) α} (t : Fin 4) (ht : t ≠ 0) {r : ℕ} (hr : r < 3) {σ σ' : Fin 4 → Stt} (h : ∀ s, s ≠ c + t → σ' s = σ s)
    (h1 : σ (c + t) = .pe) (h2 : σ' (c + t) = .ar) {sem : DmaSem sig} (hs : sem = agR (-t))
    {X : CellTallies nD τ sig ℕ} (hX : Above (2 + 2 * r) X) {src dst : Memref sig .tc .vmem S64x1024 .bf16} {hsrc : src.view.WordExact} {hdst : dst.view.WordExact} (hN : dst.view.dmaCredit = NB) :
    iprop(Recs m ∗ SO m r c σ X)
      ⊢ iprop((SO m r c σ' X -∗ wp frame (wpE (defs₀ (F := F)) 𝒱₀ (c : Thread nD τ) none) Set.univ (k ⟨⟩) Q) -∗ wp frame (wpE (defs₀ (F := F)) 𝒱₀ (c : Thread nD τ) none) Set.univ (.op (.waitDma2 sem src dst hsrc hdst) k) Q) := by
  subst hs
  unfold SO
  rw [St_at m r c σ (c + t), St_upd m r c σ σ' (c + t) h, h1, h2, slotSt_peer m r c t ht, slotSt_peer m r c t ht,
    OSt_keep r c σ σ' (fun s _ => by
      by_cases hs : s = c + t
      · rw [hs, h1, h2]; exact ⟨nofun, nofun⟩
      · rw [h s hs])]
  unfold peerSt agHere
  iintro ⟨#HR, ⟨⟨Hat, Hc, Hp, Hb, Hl⟩, Hrest⟩, HO⟩ Hk
  iapply (wait_one m c hr (duties_agR m c (-t) (neg_ne ht) hr) (expect_agR m c (-t) (neg_ne ht) hr) (payload_agR m c (-t) r 0) (b := 2 + 2 * r)
    (le_of_eq (lv_agR c (-t) r)) ((above_OSt hr (by omega) c σ).add hX) (nb_wait c hN)) $$ [Hat Hc HO]
  · isplitl []; · iapply (known_agR m c (-t)); iexact HR
    isplitl []; · iapply (recs_lev m); iexact HR
    isplitl [Hc]; · iexact Hc
    isplitl [HO]; · iexact HO
    iexact Hat
  unfold agRPay
  rw [sub_neg']
  iintro ⟨HO, Hat, Hr, Hx, Hm⟩
  iapply Hk
  isplitr [HO]
  · isplitr [Hrest]
    · isplitl [Hat Hr]
      · isplitl [Hat]; · iexact Hat
        iexact Hr
      isplitl [Hp]; · iexact Hp
      isplitl [Hm Hl]
      · iapply (rsDst_intro m c r t)
        isplitl []; · iexact HR
        isplitl [Hm]; · iexact Hm
        iexact Hl
      isplitl [Hx]; · iexact Hx
      iexact Hb
    iexact Hrest
  iexact HO

/-! ## Sending a product -/

/-- What a send of a product hands over besides the product. -/
theorem rs_give (r : ℕ) (t : Fin 4) :
    iprop(agHere r c t ∗ xaP c (c + t) fullShare (XA m (ly r)))
      ⊢ iprop((agHere r c t ∗ (if r < 2 then iprop(emp) else xaP c (c + t) fullShare (XA m (ly r)))) ∗ rsMore (c + t) t r) := by
  unfold rsMore agHere xaAny
  by_cases h : r < 2
  · rw [if_pos h, if_pos h, add_sub_right]
    iintro ⟨⟨Ha, #Hr⟩, Hx⟩
    isplitl [Ha]
    · isplitl [Ha]
      · isplitl [Ha]; · iexact Ha
        iexact Hr
      iempintro
    isplitl [Hx]
    · iexists _; iexact Hx
    iexact Hr
  · rw [if_neg h, if_neg h]
    iintro ⟨Ha, Hx⟩
    isplitl [Ha Hx]
    · isplitl [Ha]; · iexact Ha
      iexact Hx
    iempintro

/-- Sending the product of the peer's rows back to it: its slot becomes sent. -/
theorem rs_send {α : Type} {Q : α → sProp 𝕄} {k : PUnit → Prog (TpuEff nD τ sig (Elt F) Λ₀ .tc) α} (t : Fin 4) (ht : t ≠ 0) {r : ℕ} (hr : r < 3) {σ σ' : Fin 4 → Stt} (h : ∀ s, s ≠ c + t → σ' s = σ s)
    (h1 : σ (c + t) = .cm) (h2 : σ' (c + t) = .se) {off : Fin 3 → ℕ} (ho : off = ![(c + t : Fin 4).val, 0, 0])
    {inb : ∀ a, off a + S1x64x1024.size a ≤ S4x64x1024.size a} {off' : Fin 3 → ℕ} (ho' : off' = ![t.val, 0, 0])
    {inb' : ∀ a, off' a + S1x64x1024.size a ≤ S4x64x1024.size a} {n : Dev nD} (hn : n = c + t) {sS sR : DmaSem sig} (hS : sS = rsS t) (hR : sR = rsR t)
    {X : CellTallies nD τ sig ℕ}
    {hsc : (offM rbM off' inb' : Memref sig (Dev.tc n : Thread nD τ).2.kind .vmem S64x1024 .bf16).view.ref.isScScratch = false}
    {hsrc : (offM sbM off inb).view.WordExact} {hdst : (offM rbM off' inb').view.WordExact}
    {hsem : DmaTarget.Typed .vmem (.dma sR) (.remote (Dev.tc n : Thread nD τ) (offM rbM off' inb') (.dma sS) hsc)} :
    iprop(Recs m ∗ SO m r c σ X)
      ⊢ iprop((SO m r c σ' X -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (offM sbM off inb) (.remote (Dev.tc n : Thread nD τ) (offM rbM off' inb') (.dma sS) hsc) (.dma sR) hsrc hdst hsem) k) Q) := by
  subst hn; subst hS; subst hR; subst ho; subst ho'
  unfold SO
  rw [St_at m r c σ (c + t), St_upd m r c σ σ' (c + t) h, h1, h2, slotSt_peer m r c t ht, slotSt_peer m r c t ht]
  unfold peerSt rsPart rsDst ow rbAny
  simp only [sbP_eq, rbP_eq]
  iintro ⟨#HR, ⟨⟨Ha, ⟨Hat, Hr, Ht1, Ht2⟩, ⟨⟨%fd, Hd⟩, Hr2⟩, Hx, Hs⟩, Hrest⟩, ⟨%W, HO⟩⟩ Hk
  ihave HS := (known_rsS m c t) $$ HR
  ihave HD := (known_rsR m (c + t) t) $$ HR
  unfold known
  icases HS with ⟨%κ₁, HI1, -⟩
  icases HD with ⟨%κ₂, HI2, -⟩
  ihave HG := (rs_give m c r t) $$ [Ha Hx]
  · isplitl [Ha]; · iexact Ha
    iexact Hx
  icases HG with ⟨HG, Hm⟩
  iapply (Rounds.wp_send_pointsTo_with 𝒱₀ ER (sched m) (c : Thread nD τ) none (c' := (Dev.tc (c + t) : Thread nD τ)) (src := slotM sbM (c + t)) (dst := slotM rbM t) (κ₁ := κ₁) (κ₂ := κ₂)
    (r₁ := r) (r₂ := r) (d₁ := 0) (d₂ := 0) (O₀ := OSt r c σ + X) (fs := SBv m (ly r) c) (fd := fd) (F := rsMore (c + t) t r)
    (by rw [duties_rsS m c t ht hr]; exact Finset.mem_singleton_self _) (by rw [duties_rsR m (c + t) t ht hr]; exact Finset.mem_singleton_self _)
    r r NB rfl (amount_rsS m c t r 0) (amount_rsR m (c + t) t r 0) (OSt r c σ' + X)
    (by rw [OSt_send r c σ σ' t ht h (by rw [h1]; nofun) h2, add_right_comm]; rfl) (W := W)
    (by rw [payload_rsS]; unfold rsSPay; rw [sbP_eq])
    (by
      rw [payload_rsR]; unfold rsRPay
      refine sep_mono_left ?_
      rw [rbP_eq]
      exact Entails.of_eq (pointsTo_congr (land_rb m (XA m (ly r)) (ly r) c (c + t) t (add_sub_right c t) fd)))) $$ [Hr Ht1 Ht2 Hd Hr2 Hm Hs HO HI1 HI2]
  · isplitl [HI1]; · iexact HI1
    isplitl [HI2]; · iexact HI2
    isplitl [Hs]; · iexact Hs
    isplitl [Hd Hm]
    · isplitl [Hd]; · iexact Hd
      iexact Hm
    isplitl [HO]; · iexact HO
    isplitl [Ht1]; · iexact Ht1
    isplitl [Hr]; · iexact Hr
    isplitl [Ht2]; · iexact Ht2
    iexact Hr2
  iintro ⟨Hc, HO⟩
  icases HG with ⟨Ha, Hx⟩
  iapply Hk
  isplitr [HO]
  · isplitr [Hrest]
    · isplitl [Ha]; · iexact Ha
      isplitl [Hx]; · iexact Hx
      isplitl [Hat]; · iexact Hat
      iexact Hc
    iexact Hrest
  iexists W; iexact HO

/-! ## Steps that depend on the half -/

/-- The slots within distance `t` are those within `t - 1` and the one at `t`. -/
theorem stat_le : ∀ s c t : Fin 4, t ≠ 0 → ((s - c : Fin 4).val ≤ t.val ↔ (s - c : Fin 4).val ≤ t.val - 1 ∨ s = c + t) := by decide

/-- A step at distance `t` leaves the other slots. -/
theorem stat_other (n : Fin 2) (x y : Stt) (c t : Fin 4) (ht : t ≠ 0) : ∀ s, s ≠ c + t → stat n x y t.val c s = stat n x y (t.val - 1) c s := by
  intro s hs
  unfold stat
  have := stat_le s c t ht
  by_cases h : (s - c : Fin 4).val ≤ t.val - 1
  · rw [if_pos h, if_pos (this.2 (Or.inl h))]
  · rw [if_neg h, if_neg (fun h' => (this.1 h').elim h hs)]
/-- Before its step the slot at distance `t` is in the earlier state. -/
theorem stat_before (n : Fin 2) (x y : Stt) (c t : Fin 4) (ht : t ≠ 0) (hn : halfOf (c + t) = n) : stat n x y (t.val - 1) c (c + t) = x := by
  unfold stat
  have h0 : t.val ≠ 0 := fun h => ht (Fin.ext h)
  rw [hn, if_neg (lt_irrefl _), if_neg (lt_irrefl _), add_sub_self, if_neg (by omega)]
/-- After its step the slot at distance `t` is in the later state. -/
theorem stat_after (n : Fin 2) (x y : Stt) (c t : Fin 4) (ht : t ≠ 0) (hn : halfOf (c + t) = n) : stat n x y t.val c (c + t) = y := by
  unfold stat
  rw [hn, if_neg (lt_irrefl _), if_neg (lt_irrefl _), add_sub_self, if_pos (le_refl _)]
/-- A step whose slot lies in the other half changes nothing. -/
theorem stat_skip (n : Fin 2) (x y : Stt) (c t : Fin 4) (ht : t ≠ 0) (hn : halfOf (c + t) ≠ n) : stat n x y t.val c = stat n x y (t.val - 1) c := by
  funext s
  by_cases hs : s = c + t
  · subst hs
    unfold stat
    have hv : (halfOf (c + t)).val ≠ n.val := fun h => hn (Fin.ext h)
    by_cases h : (halfOf (c + t)).val < n.val
    · rw [if_pos h, if_pos h]
    · rw [if_neg h, if_neg h, if_pos (by omega), if_pos (by omega)]
  · exact stat_other n x y c t ht s hs

/-- A step taken under a condition; without it nothing changes. -/
theorem cond_step {α : Type} {Q : α → sProp 𝕄} {K' : Prog (TpuEff nD τ sig (Elt F) Λ₀ .tc) α} {C : Prop} [Decidable C] {P R : sProp 𝕄} {e : C → TpuEff nD τ sig (Elt F) Λ₀ .tc PUnit}
    (hpos : ∀ h : C, P ⊢ iprop((R -∗ wp frame (wpE (defs₀ (F := F)) 𝒱₀ (c : Thread nD τ) none) Set.univ (K') Q) -∗ wp frame (wpE (defs₀ (F := F)) 𝒱₀ (c : Thread nD τ) none) Set.univ (.op (e h) (fun _ => K')) Q)) (hneg : ¬ C → P ⊢ R) :
    P ⊢ iprop((R -∗ wp frame (wpE (defs₀ (F := F)) 𝒱₀ (c : Thread nD τ) none) Set.univ (K') Q)
      -∗ wp frame (wpE (defs₀ (F := F)) 𝒱₀ (c : Thread nD τ) none) Set.univ (if h : C then Prog.op (e h) (fun _ => K') else K') Q) := by
  by_cases h : C
  · rw [dif_pos h]; exact hpos h
  · rw [dif_neg h]
    iintro HP Hk
    iapply Hk
    iapply (hneg h)
    iexact HP

/-- A wait for rows made only when their sender lies in the half `n`. -/
theorem cond_agR {α : Type} {Q : α → sProp 𝕄} {K' : Prog (TpuEff nD τ sig (Elt F) Λ₀ .tc) α} (n : Fin 2) (t : Fin 4) (ht : t ≠ 0) {r : ℕ} (hr : r < 3) {C : Prop} [Decidable C] (hC : C ↔ halfOf (c + t) = n)
    {sem : DmaSem sig} (hs : sem = agR (-t)) {X : CellTallies nD τ sig ℕ} (hX : Above (2 + 2 * r) X)
    (k k' : ℕ) (hk : t.val - 1 = k) (hk' : t.val = k')
    {off off' : C → Fin 3 → ℕ} {inb : ∀ h a, off h a + S1x64x1024.size a ≤ S4x64x1024.size a} {inb' : ∀ h a, off' h a + S1x64x1024.size a ≤ S4x64x1024.size a}
    {hsrc : ∀ h, (offM xaM (off h) (inb h)).view.WordExact} {hdst : ∀ h, (offM xaM (off' h) (inb' h)).view.WordExact} :
    iprop(Recs m ∗ SO m r c (stat n .pe .ar k c) X)
      ⊢ iprop((SO m r c (stat n .pe .ar k' c) X -∗ wp frame (wpE (defs₀ (F := F)) 𝒱₀ (c : Thread nD τ) none) Set.univ (K') Q)
        -∗ wp frame (wpE (defs₀ (F := F)) 𝒱₀ (c : Thread nD τ) none) Set.univ (if h : C then Prog.op (.waitDma2 sem (offM xaM (off h) (inb h)) (offM xaM (off' h) (inb' h)) (hsrc h) (hdst h)) (fun _ => K') else K') Q) := by
  subst hk hk'
  exact cond_step c
    (fun h => agR_wait m c (k := fun _ => K') t ht hr (stat_other n _ _ c t ht) (stat_before n _ _ c t ht (hC.1 h)) (stat_after n _ _ c t ht (hC.1 h)) hs hX rfl)
    (fun h => by
      rw [stat_skip n _ _ c t ht (fun h' => h (hC.2 h'))]
      iintro ⟨-, H⟩
      iexact H)

/-- A product transfer made only when its receiver lies in the half `n`. -/
theorem cond_rsS {α : Type} {Q : α → sProp 𝕄} {K' : Prog (TpuEff nD τ sig (Elt F) Λ₀ .tc) α} (n : Fin 2) (t : Fin 4) (ht : t ≠ 0) {r : ℕ} (hr : r < 3) {C : Prop} [Decidable C] (hC : C ↔ halfOf (c + t) = n)
    {off : C → Fin 3 → ℕ} (ho : ∀ h, off h = ![(c + t : Fin 4).val, 0, 0])
    {inb : ∀ h a, off h a + S1x64x1024.size a ≤ S4x64x1024.size a} {off' : Fin 3 → ℕ} (ho' : off' = ![t.val, 0, 0])
    {inb' : ∀ a, off' a + S1x64x1024.size a ≤ S4x64x1024.size a} {d : C → Dev nD} (hn : ∀ h, d h = c + t) {sS sR : DmaSem sig} (hS : sS = rsS t) (hR : sR = rsR t)
    {X : CellTallies nD τ sig ℕ} (k k' : ℕ) (hk : t.val - 1 = k) (hk' : t.val = k')
    {hsc : ∀ h, (offM rbM off' inb' : Memref sig (Dev.tc (d h) : Thread nD τ).2.kind .vmem S64x1024 .bf16).view.ref.isScScratch = false}
    {hsrc : ∀ h, (offM sbM (off h) (inb h)).view.WordExact} {hdst : C → (offM rbM off' inb').view.WordExact}
    {hsem : ∀ h, DmaTarget.Typed .vmem (.dma sR) (.remote (Dev.tc (d h) : Thread nD τ) (offM rbM off' inb') (.dma sS) (hsc h))} :
    iprop(Recs m ∗ SO m r c (stat n .cm .se k c) X)
      ⊢ iprop((SO m r c (stat n .cm .se k' c) X -∗ wp frame (wpE (defs₀ (F := F)) 𝒱₀ (c : Thread nD τ) none) Set.univ (K') Q)
        -∗ wp frame (wpE (defs₀ (F := F)) 𝒱₀ (c : Thread nD τ) none) Set.univ (if h : C then Prog.op (.enqueueDma (offM sbM (off h) (inb h)) (.remote (Dev.tc (d h) : Thread nD τ) (offM rbM off' inb') (.dma sS) (hsc h)) (.dma sR) (hsrc h) (hdst h) (hsem h)) (fun _ => K') else K') Q) := by
  subst hk hk'
  exact cond_step c
    (fun h => rs_send m c (k := fun _ => K') t ht hr (stat_other n _ _ c t ht) (stat_before n _ _ c t ht (hC.1 h)) (stat_after n _ _ c t ht (hC.1 h)) (ho h) ho' (hn h) hS hR)
    (fun h => by
      rw [stat_skip n _ _ c t ht (fun h' => h (hC.2 h'))]
      iintro ⟨-, H⟩
      iexact H)
end Steps

end Cert.Mlp
-- ==== Proof.Half.lean ====
/-
A layer's two halves: the slots of a half read, multiplied and written; the passage from one half to the next; the start
and the end of a layer.
-/
module

public import proofs.«01_k».proof.Proof.Steps

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ
variable (m : (ℓ : Loc nD τ sig) → Buf (Elt F) ℓ)

section Half
variable (c : Dev nD)

/-! ## The four slots apart -/

/-- The state of four slots: the device's own, and those of the peers at distances 1, 2 and 3. -/
theorem St_four (r : ℕ) (σ : Fin 4 → Stt) :
    St (F := F) m r c σ = iprop(ownSt m r c (σ c) ∗ peerSt m r c 1 (σ (c + 1)) ∗ peerSt m r c 2 (σ (c + 2)) ∗ peerSt m r c 3 (σ (c + 3))) := by
  have h1 : (c + 1 : Fin 4) ∈ Finset.univ.erase c := Finset.mem_erase.2 ⟨add_ne_self (by decide) c, Finset.mem_univ _⟩
  have h2 : (c + 2 : Fin 4) ∈ (Finset.univ.erase c).erase (c + 1) := by revert h1; revert c; decide
  have h3 : (c + 3 : Fin 4) ∈ ((Finset.univ.erase c).erase (c + 1)).erase (c + 2) := by revert h1 h2; revert c; decide
  have h4 : (((Finset.univ.erase c).erase (c + 1)).erase (c + 2)).erase (c + 3) = (∅ : Finset (Fin 4)) := by
    revert h1 h2 h3; revert c; decide
  rw [St_at m r c σ c, BI.bigSep_erase h1, BI.bigSep_erase h2, BI.bigSep_erase h3, h4, slotSt_own,
    slotSt_peer m r c 1 (by decide), slotSt_peer m r c 2 (by decide), slotSt_peer m r c 3 (by decide), BI.bigSep_empty]
  exact congrArg _ (congrArg _ (congrArg _ (sep_emp_eq _)))

/-! ## Between the halves -/

/-- A peer's slot after the first half is as before the second. -/
theorem stat_next : ∀ c s : Fin 4, s ≠ c → stat 0 .cm .se 3 c s = stat 1 .pe .ar 0 c s := by decide
/-- The device's own slot after the first half is as before the second, or need not be waited for. -/
theorem stat_next_own : ∀ c : Fin 4, stat 0 .cm .se 3 c c = stat 1 .pe .ar 0 c c
    ∨ stat 0 .cm .se 3 c c = .pe ∧ stat 1 .pe .ar 0 c c = .ar := by decide

/-- The first half done is the second begun. -/
theorem SO_next (r : ℕ) (X : CellTallies nD τ sig ℕ) : SO (F := F) m r c (stat 0 .cm .se 3 c) X ⊢ SO m r c (stat 1 .pe .ar 0 c) X := by
  unfold SO
  rw [St_upd m r c (stat 1 .pe .ar 0 c) (stat 0 .cm .se 3 c) c (fun s hs => stat_next c s hs), St_at m r c (stat 1 .pe .ar 0 c) c,
    OSt_keep r c (stat 1 .pe .ar 0 c) (stat 0 .cm .se 3 c) (fun s hs => by rw [stat_next c s hs]), slotSt_own, slotSt_own]
  rcases stat_next_own c with h | ⟨h, h'⟩
  · rw [h]
  · rw [h, h']; exact .rfl

/-! ## The start and the end of a layer -/

/-- The exchange with `c + t` before anything of it. -/
def peP (r : ℕ) (c : Dev nD) (t : Fin 4) : sProp 𝕄 := peerSt m r c t .pe

/-- Before the first half every peer's slot is pending. -/
theorem stat_start : ∀ c t : Fin 4, t ≠ 0 → stat 0 .pe .ar 0 c (c + t) = .pe := by decide
/-- Before the first half the device's own slot is pending or arrived. -/
theorem stat_start_own : ∀ c : Fin 4, stat 0 .pe .ar 0 c c = .pe ∨ stat 0 .pe .ar 0 c c = .ar := by decide
/-- After the second half every slot is sent. -/
theorem stat_end : ∀ c s : Fin 4, stat 1 .cm .se 3 c s = .se := by decide

/-- The pieces held at a layer's start make up the state before the first half. -/
theorem St_start (r : ℕ) (X : CellTallies nD τ sig ℕ) (f : Slab F) :
    iprop(xaP c c (qs 0) (XA m (ly r)) ∗ sbP c c f ∗ peP m r c 1 ∗ peP m r c 2 ∗ peP m r c 3 ∗ ow c (OSt r c (stat 0 .pe .ar 0 c) + X))
      ⊢ SO m r c (stat 0 .pe .ar 0 c) X := by
  unfold SO peP
  rw [St_four, stat_start c 1 (by decide), stat_start c 2 (by decide), stat_start c 3 (by decide)]
  have h : iprop(xaP c c (qs 0) (XA m (ly r)) ∗ sbP c c f) ⊢ ownSt m r c (stat 0 .pe .ar 0 c c) := by
    have h' : iprop(xaP c c (qs 0) (XA m (ly r)) ∗ sbP c c f) ⊢ ownSt m r c .pe := by
      unfold ownSt sbAny
      iintro ⟨H1, H2⟩
      isplitl [H1]; · iexact H1
      iexists f; iexact H2
    rcases stat_start_own c with h | h
    · rw [h]; exact h'
    · rw [h]; exact h'
  iintro ⟨H1, H2, P1, P2, P3, HO⟩
  isplitr [HO]
  · isplitl [H1 H2]
    · iapply h
      isplitl [H1]; · iexact H1
      iexact H2
    isplitl [P1]; · iexact P1
    isplitl [P2]; · iexact P2
    iexact P3
  iexact HO

/-- The rows of `c + t` left at the end of the last layer. -/
def xaEnd (r : ℕ) (c : Dev nD) (t : Fin 4) : sProp 𝕄 := if r < 2 then iprop(emp) else xaP c (c + t) fullShare (XA m (ly r))

/-- After the second half nothing of the layer is owed. -/
theorem OSt_end (r : ℕ) : OSt r c (stat 1 .cm .se 3 c) = 0 := by
  unfold OSt
  exact Finset.sum_eq_zero fun s _ => if_pos (Or.inr (stat_end c s))

/-- The state after the second half opens into the pieces held at the layer's end. -/
theorem St_end (r : ℕ) (X : CellTallies nD τ sig ℕ) :
    SO (F := F) m r c (stat 1 .cm .se 3 c) X
      ⊢ iprop(ow c X ∗ xaP c c (qs 0) (XA m (ly r)) ∗ sbP c c (SBv m (ly r) c)
        ∗ (agHere r c 1 ∗ xaEnd m r c 1 ∗ rsSent r c 1) ∗ (agHere r c 2 ∗ xaEnd m r c 2 ∗ rsSent r c 2) ∗ agHere r c 3 ∗ xaEnd m r c 3 ∗ rsSent r c 3) := by
  unfold SO
  rw [St_four, OSt_end, zero_add, stat_end, stat_end, stat_end, stat_end]
  unfold ownSt peerSt xaEnd rsSent
  iintro ⟨⟨⟨H1, H2⟩, P1, P2, P3⟩, HO⟩
  isplitl [HO]; · iexact HO
  isplitl [H1]; · iexact H1
  isplitl [H2]; · iexact H2
  isplitl [P1]; · iexact P1
  isplitl [P2]; · iexact P2
  iexact P3

/-! ## A half's slots -/

/-- The lower slot of a half lies in it. -/
theorem lo_half (n : Fin 2) : halfOf (lo n) = n := by revert n; decide
/-- The upper slot of a half lies in it. -/
theorem hi_half (n : Fin 2) : halfOf (hi n) = n := by revert n; decide
/-- A slot of a half is its lower or its upper one. -/
theorem half_cases (n : Fin 2) (s : Fin 4) (h : halfOf s = n) : s = lo n ∨ s = hi n := by revert n s; decide

/-- A slot of the half being computed, apart from the product buffer. -/
def slotRest (r : ℕ) (c : Dev nD) (s : Fin 4) : sProp 𝕄 :=
  if s = c then xaP c c (qs 0) (XA m (ly r))
  else iprop(agHere r c (s - c) ∗ rsPart r c (s - c) ∗ rsDst r c (s - c) ∗ xaP c s fullShare (XA m (ly r)))

/-- An arrived slot opens into the rest and its place for a product. -/
theorem slot_open (r : ℕ) (s : Fin 4) : slotSt (F := F) m r c s .ar ⊢ iprop(slotRest m r c s ∗ sbAny c s) := by
  unfold slotSt slotRest
  by_cases h : s = c
  · subst h; rw [if_pos rfl, if_pos rfl]; exact .rfl
  · rw [if_neg h, if_neg h]
    unfold peerSt
    dsimp only
    rw [add_sub_self']
    iintro ⟨H1, H2, H3, H4, H5⟩
    iframe
/-- The rest and a place for a product close to an arrived slot. -/
theorem slot_close (r : ℕ) (s : Fin 4) : iprop(slotRest (F := F) m r c s ∗ sbAny c s) ⊢ slotSt m r c s .ar := by
  unfold slotSt slotRest
  by_cases h : s = c
  · subst h; rw [if_pos rfl, if_pos rfl]; exact .rfl
  · rw [if_neg h, if_neg h]
    unfold peerSt
    dsimp only
    rw [add_sub_self']
    iintro ⟨⟨H1, H2, H3, H4⟩, H5⟩
    iframe
/-- The rest and the product close to a slot whose product is computed. -/
theorem slot_close' (r : ℕ) (s : Fin 4) {x : Stt} (hx : s = c → x = .se) (hx' : s ≠ c → x = .cm) :
    iprop(slotRest (F := F) m r c s ∗ sbP c s (SBv m (ly r) c)) ⊢ slotSt m r c s x := by
  unfold slotSt slotRest
  by_cases h : s = c
  · subst h; rw [if_pos rfl, if_pos rfl, hx rfl]; exact .rfl
  · rw [if_neg h, if_neg h, hx' h]
    unfold peerSt
    dsimp only
    rw [add_sub_self']
    iintro ⟨⟨H1, H2, H3, H4⟩, H5⟩
    iframe

/-- What of a layer's state a half's computation does not touch. -/
def halfRest (r : ℕ) (c : Dev nD) (n : Fin 2) : sProp 𝕄 :=
  bigSep ((Finset.univ.erase (lo n)).erase (hi n)) fun s => slotSt m r c s (stat n .pe .ar 3 c s)

/-- A half's upper slot is among the slots other than the lower. -/
theorem hi_mem (n : Fin 2) : hi n ∈ (Finset.univ : Finset (Fin 4)).erase (lo n) := by revert n; decide

/-- No distance lies between a slot and itself. -/
theorem sub_self4 : ∀ s : Fin 4, (s - s : Fin 4).val ≤ 0 := by decide
/-- Slots at distance zero are the same. -/
theorem sub_zero4 : ∀ s c : Fin 4, (s - c : Fin 4).val ≤ 0 → s = c := by decide
/-- After the waits a half's slots have arrived. -/
theorem stat_ar (n : Fin 2) (s : Fin 4) (h : halfOf s = n) : stat n .pe .ar 3 c s = .ar := by
  unfold stat
  rw [h, if_neg (lt_irrefl _), if_neg (lt_irrefl _), if_pos (by omega)]
/-- After the product a half's slots are computed, the device's own done. -/
theorem stat_cm (n : Fin 2) (s : Fin 4) (h : halfOf s = n) : (s = c → stat n .cm .se 0 c s = .se) ∧ (s ≠ c → stat n .cm .se 0 c s = .cm) := by
  unfold stat
  rw [h, if_neg (lt_irrefl _), if_neg (lt_irrefl _)]
  constructor
  · rintro rfl; rw [if_pos (sub_self4 s)]
  · intro hs
    rw [if_neg]
    exact fun h0 => hs (sub_zero4 s c h0)
/-- The product of a half leaves the other half's slots. -/
theorem stat_rest (n : Fin 2) (s : Fin 4) (h : halfOf s ≠ n) : stat n .cm .se 0 c s = stat n .pe .ar 3 c s := by
  unfold stat
  have hv : (halfOf s).val ≠ n.val := fun h' => h (Fin.ext h')
  by_cases h' : (halfOf s).val < n.val
  · rw [if_pos h', if_pos h']
  · rw [if_neg h', if_neg h', if_pos (by omega), if_pos (by omega)]

/-- After the waits the state is the half's two arrived slots and the rest. -/
theorem half_open (r : ℕ) (n : Fin 2) :
    St (F := F) m r c (stat n .pe .ar 3 c) = iprop(slotSt m r c (lo n) .ar ∗ slotSt m r c (hi n) .ar ∗ halfRest m r c n) := by
  rw [St_at m r c _ (lo n), BI.bigSep_erase (hi_mem n), stat_ar c n _ (lo_half n), stat_ar c n _ (hi_half n)]
  rfl
/-- After the product the state is the half's two computed slots and the rest. -/
theorem half_done (r : ℕ) (n : Fin 2) :
    St (F := F) m r c (stat n .cm .se 0 c)
      = iprop(slotSt m r c (lo n) (stat n .cm .se 0 c (lo n)) ∗ slotSt m r c (hi n) (stat n .cm .se 0 c (hi n)) ∗ halfRest m r c n) := by
  rw [St_at m r c _ (lo n), BI.bigSep_erase (hi_mem n)]
  unfold halfRest
  congr 2
  refine BI.bigSep_congr fun s hs => ?_
  rw [stat_rest c n s]
  intro h
  rcases half_cases n s h with h | h
  · exact Finset.ne_of_mem_erase (Finset.mem_of_mem_erase hs) h
  · exact Finset.ne_of_mem_erase hs h
/-- The product of a half changes no debt. -/
theorem half_owed (r : ℕ) (n : Fin 2) : OSt r c (stat n .cm .se 0 c) = OSt r c (stat n .pe .ar 3 c) := by
  refine OSt_keep r c _ _ fun s hs => ?_
  by_cases h : halfOf s = n
  · rw [stat_ar c n s h, (stat_cm c n s h).2 hs]; exact ⟨nofun, nofun⟩
  · rw [stat_rest c n s h]

/-- The product buffer's half `n`. -/
def sbHalf (c : Dev nD) (n : Fin 2) (f : Slab F) : sProp 𝕄 := (c : Thread nD τ).loc cc0_scratch1 ↦[(halfR n).set]{fullShare} f
/-- The state of a layer apart from the product buffer of the half `n`. -/
def SOrest (r : ℕ) (c : Dev nD) (n : Fin 2) (X : CellTallies nD τ sig ℕ) : sProp 𝕄 :=
  iprop((slotRest m r c (lo n) ∗ slotRest m r c (hi n) ∗ halfRest m r c n) ∗ ow c (OSt r c (stat n .pe .ar 3 c) + X))

/-- Two places for products make up a half of the products' buffer. -/
theorem sb_join (n : Fin 2) : iprop(sbAny (F := F) c (lo n) ∗ sbAny c (hi n)) ⊢ iprop(∃ f, sbHalf c n f) := by
  unfold sbAny sbHalf
  rw [half_eq]
  unfold sbP
  iintro ⟨⟨%f, H1⟩, ⟨%g, H2⟩⟩
  ihave H := (pointsTo_join (ℓ := (c : Thread nD τ).loc cc0_scratch1) (I := slotSet (lo n)) (J := slotSet (hi n)) (q := fullShare) (f := f) (g := g) (slot_disjoint (lo_ne_hi n))) $$ [H1 H2]
  · isplitl [H1]; · iexact H1
    iexact H2
  iexists _; iexact H
/-- A half of the products' buffer is its two slots. -/
theorem sb_split (n : Fin 2) (f : Slab F) : sbHalf c n f ⊢ iprop(sbP c (lo n) f ∗ sbP c (hi n) f) := by
  unfold sbHalf sbP
  rw [half_eq]
  exact (pointsTo_union (slot_disjoint (lo_ne_hi n))).1

/-- The state and debts after the waits open into the rest and the half of the products' buffer. -/
theorem SO_open (r : ℕ) (n : Fin 2) (X : CellTallies nD τ sig ℕ) :
    SO (F := F) m r c (stat n .pe .ar 3 c) X ⊢ iprop(SOrest m r c n X ∗ ∃ f, sbHalf c n f) := by
  unfold SO SOrest
  rw [half_open]
  iintro ⟨⟨H1, H2, H3⟩, HO⟩
  ihave H1 := (slot_open m c r (lo n)) $$ H1
  ihave H2 := (slot_open m c r (hi n)) $$ H2
  icases H1 with ⟨H1, S1⟩
  icases H2 with ⟨H2, S2⟩
  isplitr [S1 S2]
  · isplitr [HO]
    · isplitl [H1]; · iexact H1
      isplitl [H2]; · iexact H2
      iexact H3
    iexact HO
  iapply (sb_join c n)
  isplitl [S1]; · iexact S1
  iexact S2
/-- The rest and any half of the products' buffer close to the state after the waits. -/
theorem SO_close (r : ℕ) (n : Fin 2) (X : CellTallies nD τ sig ℕ) (f : Slab F) :
    iprop(SOrest m r c n X ∗ sbHalf c n f) ⊢ SO (F := F) m r c (stat n .pe .ar 3 c) X := by
  unfold SO SOrest
  rw [half_open]
  iintro ⟨⟨⟨H1, H2, H3⟩, HO⟩, Hs⟩
  ihave Hs := (sb_split c n f) $$ Hs
  icases Hs with ⟨S1, S2⟩
  isplitr [HO]
  · isplitl [H1 S1]
    · iapply (slot_close m c r (lo n))
      isplitl [H1]; · iexact H1
      unfold sbAny; iexists f; iexact S1
    isplitl [H2 S2]
    · iapply (slot_close m c r (hi n))
      isplitl [H2]; · iexact H2
      unfold sbAny; iexists f; iexact S2
    iexact H3
  iexact HO
/-- The rest and the half holding the products close to the state after the product. -/
theorem SO_close' (r : ℕ) (n : Fin 2) (X : CellTallies nD τ sig ℕ) :
    iprop(SOrest m r c n X ∗ sbHalf c n (SBv m (ly r) c)) ⊢ SO (F := F) m r c (stat n .cm .se 0 c) X := by
  unfold SO SOrest
  rw [half_done, half_owed]
  iintro ⟨⟨⟨H1, H2, H3⟩, HO⟩, Hs⟩
  ihave Hs := (sb_split c n _) $$ Hs
  icases Hs with ⟨S1, S2⟩
  isplitr [HO]
  · isplitl [H1 S1]
    · iapply (slot_close' m c r (lo n) (stat_cm c n _ (lo_half n)).1 (stat_cm c n _ (lo_half n)).2)
      isplitl [H1]; · iexact H1
      iexact S1
    isplitl [H2 S2]
    · iapply (slot_close' m c r (hi n) (stat_cm c n _ (hi_half n)).1 (stat_cm c n _ (hi_half n)).2)
      isplitl [H2]; · iexact H2
      iexact S2
    iexact H3
  iexact HO

/-! ### The rows of a half -/

/-- Of a slot held in full a part is taken, to be given back. -/
theorem share_take (s : Fin 4) (f : Slab F) : xaP c s fullShare f ⊢ iprop(xaP c s (qs 0) f ∗ (xaP c s (qs 0) f -∗ xaP c s fullShare f)) := by
  unfold xaP
  iintro H
  ihave H := (pointsTo_share (q₁ := fullShare.left) (q₂ := fullShare.right) (PosShare.mem_left_op_right fullShare)).1 $$ H
  icases H with ⟨H1, H2⟩
  ihave H1 := (pointsTo_share (q₁ := fullShare.left.left) (q₂ := fullShare.left.right) (PosShare.mem_left_op_right fullShare.left)).1 $$ H1
  icases H1 with ⟨H0, H1⟩
  isplitl [H0]; · iexact H0
  iintro H0
  iapply (pointsTo_share (q₁ := fullShare.left) (q₂ := fullShare.right) (PosShare.mem_left_op_right fullShare)).2
  isplitr [H2]
  · iapply (pointsTo_share (q₁ := fullShare.left.left) (q₂ := fullShare.left.right) (PosShare.mem_left_op_right fullShare.left)).2
    isplitl [H0]; · iexact H0
    iexact H1
  iexact H2

/-- Of an arrived slot's rest a part of its rows is taken, to be given back. -/
theorem rest_take (r : ℕ) (s : Fin 4) :
    slotRest (F := F) m r c s ⊢ iprop(xaP c s (qs 0) (XA m (ly r)) ∗ (xaP c s (qs 0) (XA m (ly r)) -∗ slotRest m r c s)) := by
  unfold slotRest
  by_cases h : s = c
  · subst h; rw [if_pos rfl]
    iintro H
    isplitl [H]; · iexact H
    iintro H; iexact H
  · rw [if_neg h]
    iintro ⟨H1, H2, H3, H4⟩
    ihave H4 := (share_take c s (XA m (ly r))) $$ H4
    icases H4 with ⟨H4, H5⟩
    isplitl [H4]; · iexact H4
    iintro H4
    isplitl [H1]; · iexact H1
    isplitl [H2]; · iexact H2
    isplitl [H3]; · iexact H3
    iapply H5; iexact H4

/-- A part of a half of the rows is that part of its two slots. -/
theorem xa_half (n : Fin 2) (f : Slab F) :
    ((c : Thread nD τ).loc cc0_scratch0 ↦[(halfR n).set]{qs 0} f : sProp 𝕄) ⊣⊢ iprop(xaP c (lo n) (qs 0) f ∗ xaP c (hi n) (qs 0) f) := by
  unfold xaP
  rw [half_eq]
  exact pointsTo_union (slot_disjoint (lo_ne_hi n))
/-- A load of a half of the rows reads only that half. -/
theorem xa_half_access (n : Fin 2) : (xaM.view.setOn (halfR n).toLoadRect.set : Finset _) ⊆ (halfR n).set := by
  intro i hi
  obtain ⟨x, hx, rfl⟩ := Finset.mem_map.mp hi
  exact hx
/-- A store of a half of the products writes only that half. -/
theorem sb_half_access (n : Fin 2) : (sbM.view.setOn (halfR n).toLoadRect.set : Finset _) ⊆ (halfR n).set := by
  intro i hi
  obtain ⟨x, hx, rfl⟩ := Finset.mem_map.mp hi
  exact hx

/-- The half as the program names it, at the offset it writes. -/
abbrev halfO (off : Fin 3 → ℕ) (inb : ∀ a, off a + S2x64x1024.size a ≤ S4x64x1024.size a) : Rect S4x64x1024 :=
  Rect.unit (s := S4x64x1024) off S2x64x1024.size inb

/-- The rows of a half, all of them here, are read. -/
theorem load_xa {α : Type} {Q : α → sProp 𝕄} (n : Fin 2) {off : Fin 3 → ℕ} (ho : off = ![2 * n.val, 0, 0])
    {inb : ∀ a, off a + S2x64x1024.size a ≤ S4x64x1024.size a} (r : ℕ) (X : CellTallies nD τ sig ℕ)
    {hl : xaM.view.LoadsAt (halfO off inb).toLoadRect}
    {k : ((halfO off inb).shape.Idx → Elt F .bf16) → Prog (TpuEff nD τ sig (Elt F) Λ₀ .tc) α} :
    SO m r c (stat n .pe .ar 3 c) X
      ⊢ iprop((SO m r c (stat n .pe .ar 3 c) X -∗ wp frame (wpE (defs₀ (F := F)) 𝒱₀ (c : Thread nD τ) none) Set.univ (k (xaM.view.readAt (Elt F) (halfO off inb).toLoadRect (XA m (ly r)))) Q)
        -∗ wp frame (wpE (defs₀ (F := F)) 𝒱₀ (c : Thread nD τ) none) Set.univ (.op (.load xaM (halfO off inb).toLoadRect hl) k) Q) := by
  subst ho
  iintro H Hk
  ihave H := (SO_open m c r n X) $$ H
  icases H with ⟨HR, ⟨%f, Hs⟩⟩
  unfold SOrest
  icases HR with ⟨⟨H1, H2, H3⟩, HO⟩
  ihave H1 := (rest_take m c r (lo n)) $$ H1
  ihave H2 := (rest_take m c r (hi n)) $$ H2
  icases H1 with ⟨X1, H1⟩
  icases H2 with ⟨X2, H2⟩
  ihave Hx := (xa_half c n (XA m (ly r))).2 $$ [X1 X2]
  · isplitl [X1]; · iexact X1
    iexact X2
  iapply (wp_load 𝒱₀ (c : Thread nD τ) none Set.univ (m := xaM) (xa_half_access n)) $$ Hx
  iintro Hx
  ihave Hx := (xa_half c n (XA m (ly r))).1 $$ Hx
  icases Hx with ⟨X1, X2⟩
  iapply Hk
  iapply (SO_close m c r n X f)
  unfold SOrest
  isplitr [Hs]
  · isplitr [HO]
    · isplitl [H1 X1]; · iapply H1; iexact X1
      isplitl [H2 X2]; · iapply H2; iexact X2
      iexact H3
    iexact HO
  iexact Hs

/-- A half of the product buffer is read, for nothing. -/
theorem load_sb {α : Type} {Q : α → sProp 𝕄} (n : Fin 2) {off : Fin 3 → ℕ} (ho : off = ![2 * n.val, 0, 0])
    {inb : ∀ a, off a + S2x64x1024.size a ≤ S4x64x1024.size a} (r : ℕ) (X : CellTallies nD τ sig ℕ)
    {hl : sbM.view.LoadsAt (halfO off inb).toLoadRect}
    {k : ((halfO off inb).shape.Idx → Elt F .bf16) → Prog (TpuEff nD τ sig (Elt F) Λ₀ .tc) α} :
    SO m r c (stat n .pe .ar 3 c) X
      ⊢ iprop((∀ v, SO m r c (stat n .pe .ar 3 c) X -∗ wp frame (wpE (defs₀ (F := F)) 𝒱₀ (c : Thread nD τ) none) Set.univ (k v) Q)
        -∗ wp frame (wpE (defs₀ (F := F)) 𝒱₀ (c : Thread nD τ) none) Set.univ (.op (.load sbM (halfO off inb).toLoadRect hl) k) Q) := by
  subst ho
  iintro H Hk
  ihave H := (SO_open m c r n X) $$ H
  icases H with ⟨HR, ⟨%f, Hs⟩⟩
  unfold sbHalf
  iapply (wp_load 𝒱₀ (c : Thread nD τ) none Set.univ (m := sbM) (sb_half_access n)) $$ Hs
  iintro Hs
  iapply Hk
  iapply (SO_close m c r n X f)
  unfold sbHalf
  isplitl [HR]; · iexact HR
  iexact Hs

/-- The products of a half are written. -/
theorem store_sb {α : Type} {Q : α → sProp 𝕄} {k : PUnit → Prog (TpuEff nD τ sig (Elt F) Λ₀ .tc) α} (n : Fin 2) {off : Fin 3 → ℕ} (ho : off = ![2 * n.val, 0, 0])
    {inb : ∀ a, off a + S2x64x1024.size a ≤ S4x64x1024.size a} (r : ℕ) (X : CellTallies nD τ sig ℕ)
    {v : (halfO off inb).shape.Idx → Elt F .bf16}
    (hv : v = k0_pay5 (xaM.view.readAt (Elt F) (halfO off inb).toLoadRect (XA m (ly r))) (wbV m (ly r) c) (obV m (ly r) c))
    {hx : (sbM.access (halfO off inb)).Stores Finset.univ} {hm : (Finset.univ : Finset (halfO off inb).shape.Idx) = Finset.univ ∨ ∀ a, (halfO off inb).stride a = 1} :
    SO m r c (stat n .pe .ar 3 c) X
      ⊢ iprop((SO m r c (stat n .cm .se 0 c) X -∗ wp frame (wpE (defs₀ (F := F)) 𝒱₀ (c : Thread nD τ) none) Set.univ (k ⟨⟩) Q) -∗ wp frame (wpE (defs₀ (F := F)) 𝒱₀ (c : Thread nD τ) none) Set.univ (.op (.store sbM (halfO off inb) v Finset.univ hx hm) k) Q) := by
  subst ho; subst hv
  iintro H Hk
  ihave H := (SO_open m c r n X) $$ H
  icases H with ⟨HR, ⟨%f, Hs⟩⟩
  unfold sbHalf
  iapply (wp_store 𝒱₀ (c : Thread nD τ) none Set.univ (m := sbM) (r := halfR n) (Mk := Finset.univ) (S := (halfR n).set) (by
    show ((sbM : Memref sig .tc .vmem S4x64x1024 .bf16).access (halfR n)).set ⊆ _
    rw [show ((sbM : Memref sig .tc .vmem S4x64x1024 .bf16).access (halfR n)).set = (halfR n).set from View.set_slice_whole _ _])) $$ Hs
  iintro Hs
  iapply Hk
  iapply (SO_close' m c r n X)
  isplitl [HR]; · iexact HR
  unfold sbHalf
  ihave Hs' := (Entails.of_eq (pointsTo_congr (store_half m (XA m (ly r)) (ly r) c n f))) $$ Hs
  iexact Hs'
end Half

end Cert.Mlp
-- ==== Proof.Mem.lean ====
/-
The barrier, the weights, and the loads and stores of a layer; what passes from one layer to the next.
-/
module

public import proofs.«01_k».proof.Proof.Half

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ
variable (m : (ℓ : Loc nD τ sig) → Buf (Elt F) ℓ)

/-- A number below four is itself modulo four. -/
theorem ofNat_val4 : ∀ t : Fin 4, Fin.ofNat 4 t.val = t := by decide
/-- A number below four other than zero is 1, 2 or 3. -/
theorem mem_three : ∀ t : Fin 4, t ≠ 0 → t.val ∈ ({1, 2, 3} : Finset ℕ) := by decide
/-- Going back by `u` is going forward by its opposite. -/
theorem sub_eq4 : ∀ c u : Fin 4, c - u = c + -u := by decide

section Mem
variable (c : Dev nD)

/-! ## The barrier -/

/-- What a device hands to `c + t` at the barrier. -/
def barGive (c : Dev nD) (t : Fin 4) : sProp 𝕄 := iprop(dutyTok ER (barC (c + t)) 0 t.val ∗ xaAny c (c + t) ∗ rbAny c (-t))
abbrev Obar (c : Dev nD) (t : Fin 4) : CellTallies nD τ sig ℕ := tallyAt (barC (c + t)) 0 1

/-- The opening signal to the peer at distance `t`: it pays one debt and hands over the slots the peer will write. -/
theorem bar_signal {α : Type} {Q : α → sProp 𝕄} {k : PUnit → Prog (TpuEff nD τ sig (Elt F) Λ₀ .tc) α} (t : Fin 4) (ht : t ≠ 0) {n : Dev nD} (hn : n = c + t) {s : Sem sig} (hs : s = barS) {w : ℕ} (hw : 1 = w)
    {O : CellTallies nD τ sig ℕ} (O' : CellTallies nD τ sig ℕ) (hO : O = O' + Obar c t) :
    iprop(Recs m ∗ barGive c t ∗ ow c O)
      ⊢ iprop((ow c O' -∗ wp frame (wpE (defs₀ (F := F)) 𝒱₀ (c : Thread nD τ) none) Set.univ (k ⟨⟩) Q) -∗ wp frame (wpE (defs₀ (F := F)) 𝒱₀ (c : Thread nD τ) none) Set.univ (.op (.semSignal (Dev.tc n : Thread nD τ) s w) k) Q) := by
  subst hn; subst hs; subst hw
  unfold barGive ow
  iintro ⟨#HR, ⟨Ht, Hx, Hb⟩, ⟨%W, HO⟩⟩ Hk
  ihave HD := (known_bar m (c + t)) $$ HR
  unfold known
  icases HD with ⟨%κ, HI, Hr⟩
  have hd : t.val ∈ (sched (F := F) m).duties (barC (c + t)) 0 := by
    rw [duties_bar]; exact mem_three t ht
  have hp : (sched (F := F) m).payload (barC (c + t)) 0 t.val = iprop(xaAny c (c + t) ∗ rbAny c (-t)) := by
    rw [payload_bar, ofNat_val4 t]
    unfold barPay
    rw [add_sub_right]
  iapply (Rounds.wp_signal 𝒱₀ ER (sched m) (c : Thread nD τ) none (dst := ((c + t : Dev nD) : Thread nD τ)) (κ := κ) (d := t.val) (r := 0) hd
    (amount_bar m (c + t) 0 t.val) 0 O' (O₀ := O) hO (W := W)) $$ [HO Ht Hx Hb Hr HI]
  · isplitl [HI]; · iexact HI
    isplitl [HO]; · iexact HO
    isplitl [Ht]; · iexact Ht
    isplitr [Hr]
    · rw [hp]
      isplitl [Hx]; · iexact Hx
      iexact Hb
    iexact Hr
  iintro HO
  iapply Hk
  iexists W; iexact HO

/-- The barrier awaited, and passed: the other devices' slots for `c` and their landing slots. -/
def barPend (c : Dev nD) : sProp 𝕄 := iprop(atPos ER (barC c) 0 ∅ 0 ∗ cred (tallyAt (barC c) 0 3))
def barGot (c : Dev nD) (t : Fin 4) : sProp 𝕄 := iprop(xaAny (c + t) c ∗ rbAny (c + t) t)

/-- The opening wait for three signals: it brings the slots of the three peers this device will write. -/
theorem bar_wait {α : Type} {Q : α → sProp 𝕄} {k : PUnit → Prog (TpuEff nD τ sig (Elt F) Λ₀ .tc) α} {s : Sem sig} (hs : s = barS) {w : ℕ} (hw : 3 = w) {O : CellTallies nD τ sig ℕ} (hO : Above 1 O) :
    iprop(Recs m ∗ barPend c ∗ ow c O)
      ⊢ iprop(((atPos ER (barC c) 1 ∅ 0 ∗ (barGot c 3 ∗ barGot c 2 ∗ barGot c 1) ∗ ow c O) -∗ wp frame (wpE (defs₀ (F := F)) 𝒱₀ (c : Thread nD τ) none) Set.univ (k ⟨⟩) Q) -∗ wp frame (wpE (defs₀ (F := F)) 𝒱₀ (c : Thread nD τ) none) Set.univ (.op (.semWait s w) k) Q) := by
  subst hs; subst hw
  unfold barPend ow
  iintro ⟨#HR, ⟨Hat, Hc⟩, ⟨%W, HO⟩⟩ Hk
  ihave HD := (known_bar m c) $$ HR
  unfold known
  icases HD with ⟨%κ, HI, -⟩
  iapply (Rounds.wp_wait_rest_token 𝒱₀ ER (sched m) (c : Thread nD τ) none (κ := κ) (wpE_semWait_eq 𝒱₀ (c : Thread nD τ) none Set.univ) (Set.mem_univ _)
      0 (O := O) (W := W) (R := 0) (m := 0) (T := ∅) (by rw [Nat.zero_add, expect_bar])) $$ [HI Hc HO Hat]
  · isplitl [HI]; · iexact HI
    isplitl [Hc]; · iexact Hc
    isplitl [HO]; · iexact HO
    isplitl []
    · iapply (mayWait_of c (.reg barS) (b := 1) (by decide) (le_of_eq (lv_bar c 0)) hO); iapply (recs_lev m); iexact HR
    iexact Hat
  iintro ⟨HO, Hat, Hr, Hp⟩
  ihave Hp' := (Entails.of_eq (show bigSep ((sched (F := F) m).duties (barC c) 0 \ ∅) (fun d => (sched (F := F) m).payload (barC c) 0 d)
      = iprop(barGot c 3 ∗ barGot c 2 ∗ barGot c 1) by
    rw [duties_bar, Finset.sdiff_empty, BI.bigSep_eq_bigSepL_of_eq [1, 2, 3] (by decide) (by decide)]
    have e : ∀ u t : Fin 4, -u = t → (barPay (F := F) c u) = barGot c t := by
      intro u t h
      subst h
      unfold barPay barGot
      rw [sub_eq4 c u]
    show iprop(barPay c 1 ∗ barPay c 2 ∗ barPay c 3) = _
    rw [e 1 3 (by decide), e 2 2 (by decide), e 3 1 (by decide)])) $$ Hp
  iapply Hk
  isplitl [Hat]; · iexact Hat
  isplitl [Hp']; · iexact Hp'
  iexists _; iexact HO

/-! ## The weights -/

/-- The weight cell of the first and of the second weight of a layer. -/
def wj (l : Fin 3) : Fin 6 := ⟨2 * l.val, by omega⟩
def wj' (l : Fin 3) : Fin 6 := ⟨2 * l.val + 1, by omega⟩
/-- The counters of the first weights are the even ones. -/
theorem wj_even : ∀ l : Fin 3, (wj l).val % 2 = 0 := by decide
/-- The counters of the second weights are the odd ones. -/
theorem wj_odd : ∀ l : Fin 3, ¬ (wj' l).val % 2 = 0 := by decide
def wTok (c : Dev nD) (j : Fin 6) : sProp 𝕄 := iprop(atPos ER (wC c j) 0 ∅ 0 ∗ dutyTok ER (wC c j) 0 0)
def wSent (c : Dev nD) (j : Fin 6) : sProp 𝕄 :=
  iprop(atPos ER (wC c j) 0 ∅ 0 ∗ cred (tallyAt (wC c j) 0 (if j.val % 2 = 0 then NI else NO)))

/-- Holding a first weight, as a copy's rule names it. -/
theorem wiAP_eq (l : Fin 3) : wiAP (F := F) m c l = ((wiA l).view.loc (c : Thread nD τ) ↦[(wiA l).view.set]{fullShare} m ((wiA l).view.loc (c : Thread nD τ)) : sProp 𝕄) := by
  fin_cases l
  · show _ = ((c : Thread nD τ).loc main_arg1 ↦[(View.whole main_arg1 : View sig .tc .hbm _ _).set]{fullShare} m ((c : Thread nD τ).loc main_arg1) : sProp 𝕄); rw [View.set_whole]; rfl
  · show _ = ((c : Thread nD τ).loc main_arg2 ↦[(View.whole main_arg2 : View sig .tc .hbm _ _).set]{fullShare} m ((c : Thread nD τ).loc main_arg2) : sProp 𝕄); rw [View.set_whole]; rfl
  · show _ = ((c : Thread nD τ).loc main_arg3 ↦[(View.whole main_arg3 : View sig .tc .hbm _ _).set]{fullShare} m ((c : Thread nD τ).loc main_arg3) : sProp 𝕄); rw [View.set_whole]; rfl
/-- Holding a second weight, as a copy's rule names it. -/
theorem woAP_eq (l : Fin 3) : woAP (F := F) m c l = ((woA l).view.loc (c : Thread nD τ) ↦[(woA l).view.set]{fullShare} m ((woA l).view.loc (c : Thread nD τ)) : sProp 𝕄) := by
  fin_cases l
  · show _ = ((c : Thread nD τ).loc main_arg4 ↦[(View.whole main_arg4 : View sig .tc .hbm _ _).set]{fullShare} m ((c : Thread nD τ).loc main_arg4) : sProp 𝕄); rw [View.set_whole]; rfl
  · show _ = ((c : Thread nD τ).loc main_arg5 ↦[(View.whole main_arg5 : View sig .tc .hbm _ _).set]{fullShare} m ((c : Thread nD τ).loc main_arg5) : sProp 𝕄); rw [View.set_whole]; rfl
  · show _ = ((c : Thread nD τ).loc main_arg6 ↦[(View.whole main_arg6 : View sig .tc .hbm _ _).set]{fullShare} m ((c : Thread nD τ).loc main_arg6) : sProp 𝕄); rw [View.set_whole]; rfl
/-- A first weight read whole is its contents. -/
theorem wiA_read (l : Fin 3) : (wiA l).view.read (Elt F) (m ((wiA l).view.loc (c : Thread nD τ))) = wiV m l c := by fin_cases l <;> rfl
/-- A second weight read whole is its contents. -/
theorem woA_read (l : Fin 3) : (woA l).view.read (Elt F) (m ((woA l).view.loc (c : Thread nD τ))) = woV m l c := by fin_cases l <;> rfl

/-- What the wait for a first weight brings: its slot filled, and the weight. -/
theorem wPay_i (l : Fin 3) : wPay (F := F) m c (wj l).val = iprop(wiP c (wsl l) (wiB m l c) ∗ wiAP m c l) := by
  unfold wPay
  rw [if_pos (by revert l; decide), show ly ((wj l).val / 2) = l from by revert l; decide]
/-- What the wait for a second weight brings: its slot filled, and the weight. -/
theorem wPay_o (l : Fin 3) : wPay (F := F) m c (wj' l).val = iprop(woP c (wsl l) (woB m l c) ∗ woAP m c l) := by
  unfold wPay
  rw [if_neg (by revert l; decide), show ly ((wj' l).val / 2) = l from by revert l; decide]

abbrev offWi (off : Fin 3 → ℕ) (inb : ∀ a, off a + S1x1024x2048.size a ≤ S2x1024x2048.size a) : Memref sig .tc .vmem S1024x2048 .f32 :=
  (wiM.slice (Rect.unit (s := S2x1024x2048) off S1x1024x2048.size inb) (fun _ => rfl)).squeeze S1024x2048 squeezes_S1x1024x2048_S1024x2048
abbrev offWo (off : Fin 3 → ℕ) (inb : ∀ a, off a + S1x2048x1024.size a ≤ S2x2048x1024.size a) : Memref sig .tc .vmem S2048x1024 .f32 :=
  (woM.slice (Rect.unit (s := S2x2048x1024) off S1x2048x1024.size inb) (fun _ => rfl)).squeeze S2048x1024 squeezes_S1x2048x1024_S2048x1024

/-- Starting the copy of a layer's first weight into its slot. -/
theorem copy_wi {α : Type} {Q : α → sProp 𝕄} {k : PUnit → Prog (TpuEff nD τ sig (Elt F) Λ₀ .tc) α} (l : Fin 3) {off : Fin 3 → ℕ} (ho : off = ![(wsl l).val, 0, 0]) {inb : ∀ a, off a + S1x1024x2048.size a ≤ S2x1024x2048.size a}
    {sem : DmaSem sig} (hs : sem = wS (wj l)) (f : S2x1024x2048.Idx → Elt F .f32)
    {hsrc : (wiA l).view.WordExact} {hdst : (offWi off inb).view.WordExact} {hsem : DmaTarget.Typed (nD := nD) .hbm (.dma sem) (.here (offWi off inb) : DmaTarget nD τ sig .tc .vmem S1024x2048 .f32)} :
    iprop(Recs m ∗ wTok c (wj l) ∗ wiAP m c l ∗ wiP c (wsl l) f)
      ⊢ iprop((wSent c (wj l) -∗ wp frame (wpE (defs₀ (F := F)) 𝒱₀ (c : Thread nD τ) none) Set.univ (k ⟨⟩) Q) -∗ wp frame (wpE (defs₀ (F := F)) 𝒱₀ (c : Thread nD τ) none) Set.univ (.op (.enqueueDma (wiA l) (.here (offWi off inb)) (.dma sem) hsrc hdst hsem) k) Q) := by
  subst ho; subst hs
  unfold wTok wSent
  rw [wiAP_eq, wiP_eq]
  iintro ⟨#HR, ⟨Hat, Ht⟩, Ha, Hd⟩ Hk
  ihave HD := (known_w m c (wj l)) $$ HR
  unfold known
  icases HD with ⟨%κ, HI, Hr⟩
  iapply (Rounds.wp_copy_pointsTo 𝒱₀ ER (sched m) (c : Thread nD τ) none (src := wiA l) (dst := wiSl (wsl l)) (r := 0) (d := 0) (κ := κ)
    (fs := m ((wiA l).view.loc (c : Thread nD τ))) (fd := f)
    (by rw [duties_w]; exact Finset.mem_singleton_self _) 0 (if (wj l).val % 2 = 0 then NI else NO)
    (if_pos (wj_even l)).symm (amount_w m c (wj l) 0 0)
    (by
      rw [payload_w, wPay_i, wiAP_eq, wiP_eq, wiA_read]
      exact sep_mono_left (Entails.of_eq (pointsTo_congr (land_wi m l c (wsl l) f))))) $$ [HI Ha Hd Ht Hr]
  · isplitl [HI]; · iexact HI
    isplitl [Ha]; · iexact Ha
    isplitl [Hd]; · iexact Hd
    isplitl [Ht]; · iexact Ht
    iexact Hr
  iintro Hc
  iapply Hk
  isplitl [Hat]; · iexact Hat
  iexact Hc

/-- Starting the copy of a layer's second weight into its slot. -/
theorem copy_wo {α : Type} {Q : α → sProp 𝕄} {k : PUnit → Prog (TpuEff nD τ sig (Elt F) Λ₀ .tc) α} (l : Fin 3) {off : Fin 3 → ℕ} (ho : off = ![(wsl l).val, 0, 0]) {inb : ∀ a, off a + S1x2048x1024.size a ≤ S2x2048x1024.size a}
    {sem : DmaSem sig} (hs : sem = wS (wj' l)) (f : S2x2048x1024.Idx → Elt F .f32)
    {hsrc : (woA l).view.WordExact} {hdst : (offWo off inb).view.WordExact} {hsem : DmaTarget.Typed (nD := nD) .hbm (.dma sem) (.here (offWo off inb) : DmaTarget nD τ sig .tc .vmem S2048x1024 .f32)} :
    iprop(Recs m ∗ wTok c (wj' l) ∗ woAP m c l ∗ woP c (wsl l) f)
      ⊢ iprop((wSent c (wj' l) -∗ wp frame (wpE (defs₀ (F := F)) 𝒱₀ (c : Thread nD τ) none) Set.univ (k ⟨⟩) Q) -∗ wp frame (wpE (defs₀ (F := F)) 𝒱₀ (c : Thread nD τ) none) Set.univ (.op (.enqueueDma (woA l) (.here (offWo off inb)) (.dma sem) hsrc hdst hsem) k) Q) := by
  subst ho; subst hs
  unfold wTok wSent
  rw [woAP_eq, woP_eq]
  iintro ⟨#HR, ⟨Hat, Ht⟩, Ha, Hd⟩ Hk
  ihave HD := (known_w m c (wj' l)) $$ HR
  unfold known
  icases HD with ⟨%κ, HI, Hr⟩
  iapply (Rounds.wp_copy_pointsTo 𝒱₀ ER (sched m) (c : Thread nD τ) none (src := woA l) (dst := woSl (wsl l)) (r := 0) (d := 0) (κ := κ)
    (fs := m ((woA l).view.loc (c : Thread nD τ))) (fd := f)
    (by rw [duties_w]; exact Finset.mem_singleton_self _) 0 (if (wj' l).val % 2 = 0 then NI else NO)
    (if_neg (wj_odd l)).symm (amount_w m c (wj' l) 0 0)
    (by
      rw [payload_w, wPay_o, woAP_eq, woP_eq, woA_read]
      exact sep_mono_left (Entails.of_eq (pointsTo_congr (land_wo m l c (wsl l) f))))) $$ [HI Ha Hd Ht Hr]
  · isplitl [HI]; · iexact HI
    isplitl [Ha]; · iexact Ha
    isplitl [Hd]; · iexact Hd
    isplitl [Ht]; · iexact Ht
    iexact Hr
  iintro Hc
  iapply Hk
  isplitl [Hat]; · iexact Hat
  iexact Hc

/-- Waiting for a weight's copy: it brings the copy's payload. -/
theorem w_wait {α : Type} {Q : α → sProp 𝕄} {k : PUnit → Prog (TpuEff nD τ sig (Elt F) Λ₀ .tc) α} (j : Fin 6) {P : sProp 𝕄} (hP : wPay m c j.val = P) {sem : DmaSem sig} (hs : sem = wS j)
    {O : CellTallies nD τ sig ℕ} (hO : Above 0 O) {s' : Shape} {e' : EltTy} {sp sp' : Space} {s : Shape} {e : EltTy}
    {src : Memref sig .tc sp' s' e'} {dst : Memref sig .tc sp s e} {hsrc : src.view.WordExact} {hdst : dst.view.WordExact}
    (hN : dst.view.dmaCredit = if j.val % 2 = 0 then NI else NO) :
    iprop(Recs m ∗ wSent c j ∗ ow c O)
      ⊢ iprop(((atPos ER (wC c j) 1 ∅ 0 ∗ P ∗ ow c O) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 sem src dst hsrc hdst) k) Q) := by
  subst hs
  unfold wSent
  iintro ⟨#HR, ⟨Hat, Hc⟩, HO⟩ Hk
  iapply (wait_one m c (R := 0) (by decide) (duties_w m c j) (expect_w m c j) ((payload_w m c j 0 0).trans hP) (b := 0) (le_of_eq (lv_w c j 0)) hO
    (w := .waitDma2 (wS j) src dst hsrc hdst)
    (fun K => by rw [← hN]; exact wpE_waitDma2_eq 𝒱₀ (c : Thread nD τ) none Set.univ K)) $$ [Hat Hc HO]
  · isplitl []; · iapply (known_w m c j); iexact HR
    isplitl []; · iapply (recs_lev m); iexact HR
    isplitl [Hc]; · iexact Hc
    isplitl [HO]; · iexact HO
    iexact Hat
  iintro ⟨HO, Hat, Hr, Hp⟩
  iapply Hk
  isplitl [Hat]; · iexact Hat
  isplitl [Hp]; · iexact Hp
  iexact HO

abbrev wiO (off : Fin 3 → ℕ) (inb : ∀ a, off a + S1x1024x2048.size a ≤ S2x1024x2048.size a) : Rect S2x1024x2048 :=
  Rect.unit (s := S2x1024x2048) off S1x1024x2048.size inb
abbrev woO (off : Fin 3 → ℕ) (inb : ∀ a, off a + S1x2048x1024.size a ≤ S2x2048x1024.size a) : Rect S2x2048x1024 :=
  Rect.unit (s := S2x2048x1024) off S1x2048x1024.size inb

/-- A load of a slot of the first weight's buffer. -/
theorem load_wi {α : Type} {Q : α → sProp 𝕄} (s : Fin 2) {off : Fin 3 → ℕ} (ho : off = ![s.val, 0, 0]) {inb : ∀ a, off a + S1x1024x2048.size a ≤ S2x1024x2048.size a}
    (f : S2x1024x2048.Idx → Elt F .f32) {hl : wiM.view.LoadsAt (wiO off inb).toLoadRect}
    {k : ((wiO off inb).shape.Idx → Elt F .f32) → Prog (TpuEff nD τ sig (Elt F) Λ₀ .tc) α} :
    wiP c s f ⊢ iprop((wiP c s f -∗ wp frame (wpE (defs₀ (F := F)) 𝒱₀ (c : Thread nD τ) none) Set.univ (k (wiM.view.readAt (Elt F) (wiO off inb).toLoadRect f)) Q) -∗ wp frame (wpE (defs₀ (F := F)) 𝒱₀ (c : Thread nD τ) none) Set.univ (.op (.load wiM (wiO off inb).toLoadRect hl) k) Q) := by
  subst ho
  exact wp_load 𝒱₀ (c : Thread nD τ) none Set.univ (m := wiM) (fun i hi => by
    obtain ⟨x, hx, rfl⟩ := Finset.mem_map.mp hi
    exact hx)
/-- A load of a slot of the second weight's buffer. -/
theorem load_wo {α : Type} {Q : α → sProp 𝕄} (s : Fin 2) {off : Fin 3 → ℕ} (ho : off = ![s.val, 0, 0]) {inb : ∀ a, off a + S1x2048x1024.size a ≤ S2x2048x1024.size a}
    (f : S2x2048x1024.Idx → Elt F .f32) {hl : woM.view.LoadsAt (woO off inb).toLoadRect}
    {k : ((woO off inb).shape.Idx → Elt F .f32) → Prog (TpuEff nD τ sig (Elt F) Λ₀ .tc) α} :
    woP c s f ⊢ iprop((woP c s f -∗ wp frame (wpE (defs₀ (F := F)) 𝒱₀ (c : Thread nD τ) none) Set.univ (k (woM.view.readAt (Elt F) (woO off inb).toLoadRect f)) Q) -∗ wp frame (wpE (defs₀ (F := F)) 𝒱₀ (c : Thread nD τ) none) Set.univ (.op (.load woM (woO off inb).toLoadRect hl) k) Q) := by
  subst ho
  exact wp_load 𝒱₀ (c : Thread nD τ) none Set.univ (m := woM) (fun i hi => by
    obtain ⟨x, hx, rfl⟩ := Finset.mem_map.mp hi
    exact hx)

/-! ## Buffers read and written whole -/

/-- The whole of a buffer. -/
def bufP (c : Dev nD) (b : Ref sig .tc) (f : b.ty.Contents (Elt F)) : sProp 𝕄 := (c : Thread nD τ).loc b ↦{fullShare} f

/-- A load of the first weight in use. -/
theorem load_wb {α : Type} {Q : α → sProp 𝕄} {off : Fin 2 → ℕ} (ho : off = fun _ => 0) {inb : ∀ a, off a + S1024x2048.size a ≤ S1024x2048.size a}
    (f : S1024x2048.Idx → Elt F .bf16) {hl : wbM.view.LoadsAt (Rect.unit (s := S1024x2048) off S1024x2048.size inb).toLoadRect}
    {k : (S1024x2048.Idx → Elt F .bf16) → Prog (TpuEff nD τ sig (Elt F) Λ₀ .tc) α} :
    bufP c cc0_scratch5 f ⊢ iprop((bufP c cc0_scratch5 f -∗ wp frame (wpE (defs₀ (F := F)) 𝒱₀ (c : Thread nD τ) none) Set.univ (k f) Q) -∗ wp frame (wpE (defs₀ (F := F)) 𝒱₀ (c : Thread nD τ) none) Set.univ (.op (.load wbM (Rect.unit (s := S1024x2048) off S1024x2048.size inb).toLoadRect hl) k) Q) := by
  have h := wp_load (Γ := PendingWaitsCtx.empty) (defs := defs₀ (F := F)) 𝒱₀ (c : Thread nD τ) none Set.univ (Q := Q) (m := wbM) (hl := hl) (k := k) (q := fullShare) (f := f) (S := Finset.univ) (Finset.subset_univ _)
  rw [show wbM.view.readAt (Elt F) (Rect.unit (s := S1024x2048) off S1024x2048.size inb).toLoadRect f = f from Memref.readAt_unit_zero (Elt F) cc0_scratch5 ho inb f] at h
  exact h
/-- A store of the first weight in use. -/
theorem store_wb {α : Type} {Q : α → sProp 𝕄} {k : PUnit → Prog (TpuEff nD τ sig (Elt F) Λ₀ .tc) α} {off : Fin 2 → ℕ} (ho : off = fun _ => 0) {inb : ∀ a, off a + S1024x2048.size a ≤ S1024x2048.size a}
    (f : S1024x2048.Idx → Elt F .bf16) (g : S1024x2048.Idx → Elt F .bf16) {v : S1024x2048.Idx → Elt F .bf16} (hv : v = g)
    {hx : (wbM.access (Rect.unit (s := S1024x2048) off S1024x2048.size inb)).Stores Finset.univ}
    {hm : (Finset.univ : Finset (Rect.unit (s := S1024x2048) off S1024x2048.size inb).shape.Idx) = Finset.univ ∨ ∀ a, (Rect.unit (s := S1024x2048) off S1024x2048.size inb).stride a = 1} :
    bufP c cc0_scratch5 f ⊢ iprop((bufP c cc0_scratch5 g -∗ wp frame (wpE (defs₀ (F := F)) 𝒱₀ (c : Thread nD τ) none) Set.univ (k ⟨⟩) Q) -∗ wp frame (wpE (defs₀ (F := F)) 𝒱₀ (c : Thread nD τ) none) Set.univ (.op (.store wbM (Rect.unit (s := S1024x2048) off S1024x2048.size inb) v Finset.univ hx hm) k) Q) := by
  subst hv
  have h := wp_store (Γ := PendingWaitsCtx.empty) (defs := defs₀ (F := F)) 𝒱₀ (c : Thread nD τ) none Set.univ (Q := Q) (m := wbM) (r := Rect.unit (s := S1024x2048) off S1024x2048.size inb) (w := v) (Mk := Finset.univ) (hx := hx) (hm := hm) (k := k) (f := f) (S := Finset.univ) (Finset.subset_univ _)
  rw [show (wbM.access (Rect.unit (s := S1024x2048) off S1024x2048.size inb)).write (Elt F) f v Finset.univ = v from Memref.write_access_unit_zero_univ (Elt F) cc0_scratch5 ho inb f v] at h
  exact h
/-- A load of the second weight in use. -/
theorem load_ob {α : Type} {Q : α → sProp 𝕄} {off : Fin 2 → ℕ} (ho : off = fun _ => 0) {inb : ∀ a, off a + S2048x1024.size a ≤ S2048x1024.size a}
    (f : S2048x1024.Idx → Elt F .bf16) {hl : obM.view.LoadsAt (Rect.unit (s := S2048x1024) off S2048x1024.size inb).toLoadRect}
    {k : (S2048x1024.Idx → Elt F .bf16) → Prog (TpuEff nD τ sig (Elt F) Λ₀ .tc) α} :
    bufP c cc0_scratch6 f ⊢ iprop((bufP c cc0_scratch6 f -∗ wp frame (wpE (defs₀ (F := F)) 𝒱₀ (c : Thread nD τ) none) Set.univ (k f) Q) -∗ wp frame (wpE (defs₀ (F := F)) 𝒱₀ (c : Thread nD τ) none) Set.univ (.op (.load obM (Rect.unit (s := S2048x1024) off S2048x1024.size inb).toLoadRect hl) k) Q) := by
  have h := wp_load (Γ := PendingWaitsCtx.empty) (defs := defs₀ (F := F)) 𝒱₀ (c : Thread nD τ) none Set.univ (Q := Q) (m := obM) (hl := hl) (k := k) (q := fullShare) (f := f) (S := Finset.univ) (Finset.subset_univ _)
  rw [show obM.view.readAt (Elt F) (Rect.unit (s := S2048x1024) off S2048x1024.size inb).toLoadRect f = f from Memref.readAt_unit_zero (Elt F) cc0_scratch6 ho inb f] at h
  exact h
/-- A store of the second weight in use. -/
theorem store_ob {α : Type} {Q : α → sProp 𝕄} {k : PUnit → Prog (TpuEff nD τ sig (Elt F) Λ₀ .tc) α} {off : Fin 2 → ℕ} (ho : off = fun _ => 0) {inb : ∀ a, off a + S2048x1024.size a ≤ S2048x1024.size a}
    (f : S2048x1024.Idx → Elt F .bf16) (g : S2048x1024.Idx → Elt F .bf16) {v : S2048x1024.Idx → Elt F .bf16} (hv : v = g)
    {hx : (obM.access (Rect.unit (s := S2048x1024) off S2048x1024.size inb)).Stores Finset.univ}
    {hm : (Finset.univ : Finset (Rect.unit (s := S2048x1024) off S2048x1024.size inb).shape.Idx) = Finset.univ ∨ ∀ a, (Rect.unit (s := S2048x1024) off S2048x1024.size inb).stride a = 1} :
    bufP c cc0_scratch6 f ⊢ iprop((bufP c cc0_scratch6 g -∗ wp frame (wpE (defs₀ (F := F)) 𝒱₀ (c : Thread nD τ) none) Set.univ (k ⟨⟩) Q) -∗ wp frame (wpE (defs₀ (F := F)) 𝒱₀ (c : Thread nD τ) none) Set.univ (.op (.store obM (Rect.unit (s := S2048x1024) off S2048x1024.size inb) v Finset.univ hx hm) k) Q) := by
  subst hv
  have h := wp_store (Γ := PendingWaitsCtx.empty) (defs := defs₀ (F := F)) 𝒱₀ (c : Thread nD τ) none Set.univ (Q := Q) (m := obM) (r := Rect.unit (s := S2048x1024) off S2048x1024.size inb) (w := v) (Mk := Finset.univ) (hx := hx) (hm := hm) (k := k) (f := f) (S := Finset.univ) (Finset.subset_univ _)
  rw [show (obM.access (Rect.unit (s := S2048x1024) off S2048x1024.size inb)).write (Elt F) f v Finset.univ = v from Memref.write_access_unit_zero_univ (Elt F) cc0_scratch6 ho inb f v] at h
  exact h
/-- A load of the staged argument. -/
theorem load_xs {α : Type} {Q : α → sProp 𝕄} {off : Fin 2 → ℕ} (ho : off = fun _ => 0) {inb : ∀ a, off a + S64x1024.size a ≤ S64x1024.size a}
    (f : S64x1024.Idx → Elt F .f32) {hl : xsM.view.LoadsAt (Rect.unit (s := S64x1024) off S64x1024.size inb).toLoadRect}
    {k : (S64x1024.Idx → Elt F .f32) → Prog (TpuEff nD τ sig (Elt F) Λ₀ .tc) α} :
    bufP c cc0_stg0_0 f ⊢ iprop((bufP c cc0_stg0_0 f -∗ wp frame (wpE (defs₀ (F := F)) 𝒱₀ (c : Thread nD τ) none) Set.univ (k f) Q) -∗ wp frame (wpE (defs₀ (F := F)) 𝒱₀ (c : Thread nD τ) none) Set.univ (.op (.load xsM (Rect.unit (s := S64x1024) off S64x1024.size inb).toLoadRect hl) k) Q) := by
  have h := wp_load (Γ := PendingWaitsCtx.empty) (defs := defs₀ (F := F)) 𝒱₀ (c : Thread nD τ) none Set.univ (Q := Q) (m := xsM) (hl := hl) (k := k) (q := fullShare) (f := f) (S := Finset.univ) (Finset.subset_univ _)
  rw [show xsM.view.readAt (Elt F) (Rect.unit (s := S64x1024) off S64x1024.size inb).toLoadRect f = f from Memref.readAt_unit_zero (Elt F) cc0_stg0_0 ho inb f] at h
  exact h
/-- A load of the staged result. -/
theorem load_os {α : Type} {Q : α → sProp 𝕄} {off : Fin 2 → ℕ} (ho : off = fun _ => 0) {inb : ∀ a, off a + S64x1024.size a ≤ S64x1024.size a}
    (f : S64x1024.Idx → Elt F .f32) {hl : osM.view.LoadsAt (Rect.unit (s := S64x1024) off S64x1024.size inb).toLoadRect}
    {k : (S64x1024.Idx → Elt F .f32) → Prog (TpuEff nD τ sig (Elt F) Λ₀ .tc) α} :
    bufP c cc0_stg1_0 f ⊢ iprop((bufP c cc0_stg1_0 f -∗ wp frame (wpE (defs₀ (F := F)) 𝒱₀ (c : Thread nD τ) none) Set.univ (k f) Q) -∗ wp frame (wpE (defs₀ (F := F)) 𝒱₀ (c : Thread nD τ) none) Set.univ (.op (.load osM (Rect.unit (s := S64x1024) off S64x1024.size inb).toLoadRect hl) k) Q) := by
  have h := wp_load (Γ := PendingWaitsCtx.empty) (defs := defs₀ (F := F)) 𝒱₀ (c : Thread nD τ) none Set.univ (Q := Q) (m := osM) (hl := hl) (k := k) (q := fullShare) (f := f) (S := Finset.univ) (Finset.subset_univ _)
  rw [show osM.view.readAt (Elt F) (Rect.unit (s := S64x1024) off S64x1024.size inb).toLoadRect f = f from Memref.readAt_unit_zero (Elt F) cc0_stg1_0 ho inb f] at h
  exact h
/-- A store of the staged result. -/
theorem store_os {α : Type} {Q : α → sProp 𝕄} {k : PUnit → Prog (TpuEff nD τ sig (Elt F) Λ₀ .tc) α} {off : Fin 2 → ℕ} (ho : off = fun _ => 0) {inb : ∀ a, off a + S64x1024.size a ≤ S64x1024.size a}
    (f : S64x1024.Idx → Elt F .f32) (g : S64x1024.Idx → Elt F .f32) {v : S64x1024.Idx → Elt F .f32} (hv : v = g)
    {hx : (osM.access (Rect.unit (s := S64x1024) off S64x1024.size inb)).Stores Finset.univ}
    {hm : (Finset.univ : Finset (Rect.unit (s := S64x1024) off S64x1024.size inb).shape.Idx) = Finset.univ ∨ ∀ a, (Rect.unit (s := S64x1024) off S64x1024.size inb).stride a = 1} :
    bufP c cc0_stg1_0 f ⊢ iprop((bufP c cc0_stg1_0 g -∗ wp frame (wpE (defs₀ (F := F)) 𝒱₀ (c : Thread nD τ) none) Set.univ (k ⟨⟩) Q) -∗ wp frame (wpE (defs₀ (F := F)) 𝒱₀ (c : Thread nD τ) none) Set.univ (.op (.store osM (Rect.unit (s := S64x1024) off S64x1024.size inb) v Finset.univ hx hm) k) Q) := by
  subst hv
  have h := wp_store (Γ := PendingWaitsCtx.empty) (defs := defs₀ (F := F)) 𝒱₀ (c : Thread nD τ) none Set.univ (Q := Q) (m := osM) (r := Rect.unit (s := S64x1024) off S64x1024.size inb) (w := v) (Mk := Finset.univ) (hx := hx) (hm := hm) (k := k) (f := f) (S := Finset.univ) (Finset.subset_univ _)
  rw [show (osM.access (Rect.unit (s := S64x1024) off S64x1024.size inb)).write (Elt F) f v Finset.univ = v from Memref.write_access_unit_zero_univ (Elt F) cc0_stg1_0 ho inb f v] at h
  exact h

/-! ## A device's own slot -/

abbrev slotO (off : Fin 3 → ℕ) (inb : ∀ a, off a + S1x64x1024.size a ≤ S4x64x1024.size a) : Rect S4x64x1024 :=
  Rect.unit (s := S4x64x1024) off S1x64x1024.size inb

/-- A load of the device's own slot of the rows. -/
theorem load_own {α : Type} {Q : α → sProp 𝕄} (p : Fin 4) {off : Fin 3 → ℕ} (ho : off = ![p.val, 0, 0]) {inb : ∀ a, off a + S1x64x1024.size a ≤ S4x64x1024.size a}
    (f : Slab F) {hl : xaM.view.LoadsAt (slotO off inb).toLoadRect}
    {k : ((slotO off inb).shape.Idx → Elt F .bf16) → Prog (TpuEff nD τ sig (Elt F) Λ₀ .tc) α} :
    xaP c p fullShare f ⊢ iprop((xaP c p fullShare f -∗ wp frame (wpE (defs₀ (F := F)) 𝒱₀ (c : Thread nD τ) none) Set.univ (k (xaM.view.readAt (Elt F) (slotO off inb).toLoadRect f)) Q) -∗ wp frame (wpE (defs₀ (F := F)) 𝒱₀ (c : Thread nD τ) none) Set.univ (.op (.load xaM (slotO off inb).toLoadRect hl) k) Q) := by
  subst ho
  exact wp_load 𝒱₀ (c : Thread nD τ) none Set.univ (m := xaM) (fun i hi => by
    obtain ⟨x, hx, rfl⟩ := Finset.mem_map.mp hi
    exact hx)
/-- A store of the device's own slot of the rows. -/
theorem store_own {α : Type} {Q : α → sProp 𝕄} {k : PUnit → Prog (TpuEff nD τ sig (Elt F) Λ₀ .tc) α} (p : Fin 4) {off : Fin 3 → ℕ} (ho : off = ![p.val, 0, 0]) {inb : ∀ a, off a + S1x64x1024.size a ≤ S4x64x1024.size a}
    (f g : Slab F) {v : S1x64x1024.Idx → Elt F .bf16} (hv : ∀ i ∈ slotSet p, v (slotIx i) = g i)
    {hx : (xaM.access (slotO off inb)).Stores Finset.univ} {hm : (Finset.univ : Finset (slotO off inb).shape.Idx) = Finset.univ ∨ ∀ a, (slotO off inb).stride a = 1} :
    xaP c p fullShare f ⊢ iprop((xaP c p fullShare g -∗ wp frame (wpE (defs₀ (F := F)) 𝒱₀ (c : Thread nD τ) none) Set.univ (k ⟨⟩) Q) -∗ wp frame (wpE (defs₀ (F := F)) 𝒱₀ (c : Thread nD τ) none) Set.univ (.op (.store xaM (slotO off inb) v Finset.univ hx hm) k) Q) := by
  subst ho
  have e : ((c : Thread nD τ).loc cc0_scratch0 ↦[slotSet p]{fullShare} ((xaM : Memref sig .tc .vmem S4x64x1024 .bf16).access (slotR p)).write (Elt F) f v Finset.univ : sProp 𝕄)
      = xaP c p fullShare g := pointsTo_congr (fun i hi => (store_slot p f v i hi).trans (hv i hi))
  have hS : (xaM.access (slotR p)).setOn Finset.univ ⊆ slotSet p := by
    show ((xaM : Memref sig .tc .vmem S4x64x1024 .bf16).access (slotR p)).set ⊆ _
    rw [show ((xaM : Memref sig .tc .vmem S4x64x1024 .bf16).access (slotR p)).set = slotSet p from View.set_slice_whole _ _]
  rw [← e]
  unfold xaP
  exact wp_store 𝒱₀ (c : Thread nD τ) none Set.univ (m := xaM) (r := slotR p) (w := v) (Mk := Finset.univ) (hx := hx) (hm := hm) (k := k) (f := f) (S := slotSet p) hS
/-- A load of a slot of the products. -/
theorem load_prod {α : Type} {Q : α → sProp 𝕄} (p : Fin 4) {off : Fin 3 → ℕ} (ho : off = ![p.val, 0, 0]) {inb : ∀ a, off a + S1x64x1024.size a ≤ S4x64x1024.size a}
    (f : Slab F) {hl : sbM.view.LoadsAt (slotO off inb).toLoadRect}
    {k : ((slotO off inb).shape.Idx → Elt F .bf16) → Prog (TpuEff nD τ sig (Elt F) Λ₀ .tc) α} :
    sbP c p f ⊢ iprop((sbP c p f -∗ wp frame (wpE (defs₀ (F := F)) 𝒱₀ (c : Thread nD τ) none) Set.univ (k (sbM.view.readAt (Elt F) (slotO off inb).toLoadRect f)) Q) -∗ wp frame (wpE (defs₀ (F := F)) 𝒱₀ (c : Thread nD τ) none) Set.univ (.op (.load sbM (slotO off inb).toLoadRect hl) k) Q) := by
  subst ho
  exact wp_load 𝒱₀ (c : Thread nD τ) none Set.univ (m := sbM) (fun i hi => by
    obtain ⟨x, hx, rfl⟩ := Finset.mem_map.mp hi
    exact hx)
/-- A load of a slot of the receiving buffer. -/
theorem load_got {α : Type} {Q : α → sProp 𝕄} (t : Fin 4) (r : ℕ) {off : Fin 3 → ℕ} (ho : off = ![t.val, 0, 0]) {inb : ∀ a, off a + S1x64x1024.size a ≤ S4x64x1024.size a}
    {hl : rbM.view.LoadsAt (slotO off inb).toLoadRect}
    {k : ((slotO off inb).shape.Idx → Elt F .bf16) → Prog (TpuEff nD τ sig (Elt F) Λ₀ .tc) α} :
    rsGot m r c t ⊢ iprop((rsGot m r c t -∗ wp frame (wpE (defs₀ (F := F)) 𝒱₀ (c : Thread nD τ) none) Set.univ (k (rbM.view.readAt (Elt F) (slotO off inb).toLoadRect (RBv m (ly r) c))) Q) -∗ wp frame (wpE (defs₀ (F := F)) 𝒱₀ (c : Thread nD τ) none) Set.univ (.op (.load rbM (slotO off inb).toLoadRect hl) k) Q) := by
  subst ho
  unfold rsGot rbP
  iintro ⟨H1, H2, H3, H4⟩ Hk
  iapply (wp_load 𝒱₀ (c : Thread nD τ) none Set.univ (m := rbM) (S := slotSet t) (fun i hi => by
    obtain ⟨x, hx, rfl⟩ := Finset.mem_map.mp hi
    exact hx)) $$ H3
  iintro H3
  iapply Hk
  isplitl [H1]; · iexact H1
  isplitl [H2]; · iexact H2
  isplitl [H3]; · iexact H3
  iexact H4

/-- A device's own rows in four shares: one kept, one for each transfer. -/
theorem own_shares (p : Fin 4) (f : Slab F) :
    xaP c p fullShare f ⊣⊢ iprop(xaP c p (qs 0) f ∗ xaP c p (qs 1) f ∗ xaP c p (qs 2) f ∗ xaP c p (qs 3) f) := by
  unfold xaP
  constructor
  · iintro H
    ihave H := (pointsTo_share (q₁ := fullShare.left) (q₂ := fullShare.right) (PosShare.mem_left_op_right fullShare)).1 $$ H
    icases H with ⟨H1, H2⟩
    ihave H1 := (pointsTo_share (q₁ := fullShare.left.left) (q₂ := fullShare.left.right) (PosShare.mem_left_op_right fullShare.left)).1 $$ H1
    ihave H2 := (pointsTo_share (q₁ := fullShare.right.left) (q₂ := fullShare.right.right) (PosShare.mem_left_op_right fullShare.right)).1 $$ H2
    icases H1 with ⟨H0, H1⟩
    icases H2 with ⟨H2, H3⟩
    isplitl [H0]; · iexact H0
    isplitl [H1]; · iexact H1
    isplitl [H2]; · iexact H2
    iexact H3
  · iintro ⟨H0, H1, H2, H3⟩
    iapply (pointsTo_share (q₁ := fullShare.left) (q₂ := fullShare.right) (PosShare.mem_left_op_right fullShare)).2
    isplitl [H0 H1]
    · iapply (pointsTo_share (q₁ := fullShare.left.left) (q₂ := fullShare.left.right) (PosShare.mem_left_op_right fullShare.left)).2
      isplitl [H0]; · iexact H0
      iexact H1
    · iapply (pointsTo_share (q₁ := fullShare.right.left) (q₂ := fullShare.right.right) (PosShare.mem_left_op_right fullShare.right)).2
      isplitl [H2]; · iexact H2
      iexact H3

/-! ## What passes from one layer to the next -/

/-- The tokens with which round `r` is sent to `c + t`, and the credit with which it is awaited from there. -/
def agTok (r : ℕ) (c : Dev nD) (t : Fin 4) : sProp 𝕄 := iprop(dutyTok ER (agSC c t) r 0 ∗ dutyTok ER (agRC (c + t) t) r 0)
def rsTok (r : ℕ) (c : Dev nD) (t : Fin 4) : sProp 𝕄 := iprop(dutyTok ER (rsSC c t) r 0 ∗ dutyTok ER (rsRC (c + t) t) r 0)
def agCr (r : ℕ) (c : Dev nD) (t : Fin 4) : sProp 𝕄 := cred (tallyAt (agRC c (-t)) r NB)
def rsCr (r : ℕ) (c : Dev nD) (t : Fin 4) : sProp 𝕄 := cred (tallyAt (rsRC c t) r NB)

/-- The start of the first round, after the barrier. -/
theorem first_ag (t : Fin 4) :
    iprop(Recs (F := F) m ∗ (atPos ER (agSC c t) 0 ∅ 0 ∗ agTok 0 c t ∗ atPos ER (agRC c (-t)) 0 ∅ 0 ∗ agCr 0 c t ∗ atPos ER (rsSC c t) 0 ∅ 0 ∗ rsTok 0 c t)
        ∗ sbAny c (c + t) ∗ barGot c t)
      ⊢ iprop(agReady 0 c t ∗ peP m 0 c t) := by
  unfold agReady peP peerSt rsPart barGot agTok rsTok agCr
  iintro ⟨#HR, ⟨H1, ⟨T1, T2⟩, H2, Hc, H3, T3, T4⟩, Hs, Hx, Hb⟩
  ihave K1 := (known_agS m c t) $$ HR
  ihave K2 := (known_agR m (c + t) t) $$ HR
  ihave K3 := (known_rsS m c t) $$ HR
  unfold known
  icases K1 with ⟨%κ₁, -, K1⟩
  icases K2 with ⟨%κ₂, -, K2⟩
  icases K3 with ⟨%κ₃, -, K3⟩
  dsimp only
  rw [if_pos rfl, if_pos rfl]
  isplitl [H1 T1 T2 Hx]
  · isplitl [H1]; · iexact H1
    isplitl []; · iexact K1
    isplitl [T1]; · iexact T1
    isplitl [T2]; · iexact T2
    isplitl [Hx]; · iexact Hx
    isplitl []; · iexact K2
    iempintro
  isplitl [H2]; · iexact H2
  isplitl [Hc]; · iexact Hc
  isplitl [H3 T3 T4]
  · isplitl [H3]; · iexact H3
    isplitl []; · iexact K3
    isplitl [T3]; · iexact T3
    iexact T4
  isplitl [Hs]; · iexact Hs
  iexact Hb

/-- The end of round `r` with `c + t` and the start of the next. -/
theorem next_ag (r : ℕ) (hr : r < 2) (t : Fin 4) :
    iprop(atPos ER (agSC c t) (r + 1) ∅ 0 ∗ reached ER (agSC c t) (r + 1) ∗ agTok (r + 1) c t ∗ rsCr (r + 1) c (-t) ∗ rsGot m r c (-t))
      ⊢ iprop(agReady (F := F) (r + 1) c t ∗ rsPend (r + 1) c (-t)) := by
  unfold agReady rsPend agTok rsCr rsGot rsMore rbAny
  rw [if_pos hr, if_neg (Nat.succ_ne_zero r), sub_neg', neg_neg']
  iintro ⟨H1, H2, ⟨T1, T2⟩, Hc, H3, #H4, Hb, Hx, H5⟩
  isplitl [H1 H2 T1 T2 Hx H5 Hb]
  · isplitl [H1]; · iexact H1
    isplitl [H2]; · iexact H2
    isplitl [T1]; · iexact T1
    isplitl [T2]; · iexact T2
    isplitl [Hx]; · iexact Hx
    isplitl [H5]; · iexact H5
    isplitl [Hb]; · iexists _; iexact Hb
    iexact H4
  isplitl [H3]; · iexact H3
  iexact Hc

/-- What is held of a peer after a layer makes up what is held before the next. -/
theorem next_pe (r : ℕ) (t : Fin 4) :
    iprop(agHere r c t ∗ agCr (r + 1) c t ∗ rsTok (r + 1) c t ∗ rsBack m r c t) ⊢ peP (F := F) m (r + 1) c t := by
  unfold peP peerSt agHere agCr rsTok rsBack rsPart sbAny
  dsimp only
  rw [if_neg (Nat.succ_ne_zero r)]
  iintro ⟨⟨H1, -⟩, Hc, ⟨T1, T2⟩, H3, H4, Hs⟩
  isplitl [H1]; · iexact H1
  isplitl [Hc]; · iexact Hc
  isplitl [H3 H4 T1 T2]
  · isplitl [H3]; · iexact H3
    isplitl [H4]; · iexact H4
    isplitl [T1]; · iexact T1
    iexact T2
  isplitl [Hs]; · iexists _; iexact Hs
  iempintro

/-! ## What is owed -/

/-- What a device owes before it sends the rows of round `r`, owing `X` after the round. -/
def OA (r : ℕ) (c : Dev nD) (X : CellTallies nD τ sig ℕ) : CellTallies nD τ sig ℕ :=
  OSt r c (stat 0 .pe .ar 0 c) + X + Oag r c 3 + Oag r c 2 + Oag r c 1
/-- What it owes after the rounds `2`, `1`, `0`. -/
def OX (c : Dev nD) (r : ℕ) : CellTallies nD τ sig ℕ := if r = 0 then OA 1 c (OA 2 c 0) else if r = 1 then OA 2 c 0 else 0
/-- A layer's debts for rows, and what follows, are above any level below the layer's rows. -/
theorem above_OA {r b : ℕ} (hr : r < 3) (hb : b < 2 + 2 * r) {X : CellTallies nD τ sig ℕ} (hX : Above b X) : Above b (OA r c X) :=
  ((((above_OSt hr (by omega) c _).add hX).add (above_Oag hr hb c 3)).add (above_Oag hr hb c 2)).add (above_Oag hr hb c 1)
/-- What is owed after a round's products is above the level of the round's products. -/
theorem above_OX (r : ℕ) : Above (3 + 2 * r) (OX c r) := by
  unfold OX
  by_cases h0 : r = 0
  · subst h0
    rw [if_pos rfl]
    exact above_OA c (by decide) (by decide) (above_OA c (by decide) (by decide) (Above.zero _))
  · rw [if_neg h0]
    by_cases h1 : r = 1
    · subst h1
      rw [if_pos rfl]
      exact above_OA c (by decide) (by decide) (Above.zero _)
    · rw [if_neg h1]; exact Above.zero _
end Mem

end Cert.Mlp
-- ==== Proof.Run.lean ====
/-
The way a part of the program is run: a step's rule applied under a frame.
-/
module

public import proofs.«01_k».proof.Proof.Mem

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ
variable (m : (ℓ : Loc nD τ sig) → Buf (Elt F) ℓ)

section Run
variable {m}

/-- A step that uses the records, under a frame. -/
theorem run {P R Fr W W' : sProp 𝕄} (h : iprop(Recs m ∗ P) ⊢ iprop((R -∗ W) -∗ W')) (hk : iprop(Recs m ∗ R ∗ Fr) ⊢ W) : iprop(Recs m ∗ P ∗ Fr) ⊢ W' := by
  iintro ⟨#HR, HP, HF⟩
  iapply h $$ [HP]
  · isplitl []; · iexact HR
    iexact HP
  iintro H
  iapply hk
  isplitl []; · iexact HR
  isplitl [H]; · iexact H
  iexact HF
/-- A step that does not, under a frame. -/
theorem run0 {P R Fr W W' : sProp 𝕄} (h : P ⊢ iprop((R -∗ W) -∗ W')) (hk : iprop(R ∗ Fr) ⊢ W) : iprop(P ∗ Fr) ⊢ W' := by
  iintro ⟨HP, HF⟩
  iapply h $$ HP
  iintro H
  iapply hk
  isplitl [H]; · iexact H
  iexact HF
/-- A read whose value is not used. -/
theorem runV {β : Type} {P R Fr W' : sProp 𝕄} {W : β → sProp 𝕄} (h : P ⊢ iprop((∀ v, R -∗ W v) -∗ W')) (hk : ∀ v, iprop(R ∗ Fr) ⊢ W v) : iprop(P ∗ Fr) ⊢ W' := by
  iintro ⟨HP, HF⟩
  iapply h $$ HP
  iintro %v H
  iapply (hk v)
  isplitl [H]; · iexact H
  iexact HF
/-- What is held is put otherwise. -/
theorem conv {P R Fr W : sProp 𝕄} (h : P ⊢ R) (hk : iprop(R ∗ Fr) ⊢ W) : iprop(P ∗ Fr) ⊢ W := by
  iintro ⟨HP, HF⟩
  iapply hk
  isplitl [HP]; · iapply h; iexact HP
  iexact HF
/-- A step of the state under what all know, with the rest framed. -/
theorem convR {P R Fr W : sProp 𝕄} (h : iprop(Recs m ∗ P) ⊢ R) (hk : iprop(Recs m ∗ R ∗ Fr) ⊢ W) : iprop(Recs m ∗ P ∗ Fr) ⊢ W := by
  iintro ⟨#HR, HP, HF⟩
  iapply hk
  isplitl []; · iexact HR
  isplitl [HP]
  · iapply h
    isplitl []; · iexact HR
    iexact HP
  iexact HF

variable (m) (c : Dev nD)
/-- A row transfer that is over, its share of the rows put back. -/
def agIdle (r : ℕ) (c : Dev nD) (t : Fin 4) : sProp 𝕄 := iprop(atPos ER (agSC c t) (r + 1) ∅ 0 ∗ reached ER (agSC c t) (r + 1))
/-- The device's own slot, the parts lent to the three peers given back, is held in full. -/
theorem own_join (r : ℕ) : iprop(xaP c c (qs 0) (XA m (ly r)) ∗ agBack m r c 1 ∗ agBack m r c 2 ∗ agBack m r c 3)
    ⊢ iprop(xaP c c fullShare (XA m (ly r)) ∗ agIdle r c 1 ∗ agIdle r c 2 ∗ agIdle r c 3) := by
  unfold agBack agIdle
  iintro ⟨H0, ⟨A1, B1, H1⟩, ⟨A2, B2, H2⟩, ⟨A3, B3, H3⟩⟩
  isplitl [H0 H1 H2 H3]
  · iapply (own_shares c c (XA m (ly r))).2
    isplitl [H0]; · iexact H0
    isplitl [H1]; · iexact H1
    isplitl [H2]; · iexact H2
    iexact H3
  isplitl [A1 B1]
  · isplitl [A1]; · iexact A1
    iexact B1
  isplitl [A2 B2]
  · isplitl [A2]; · iexact A2
    iexact B2
  isplitl [A3]; · iexact A3
  iexact B3
end Run

/-- A sequence after a condition runs after each of its branches. -/
theorem bind_dite {β γ : Type} {C : Prop} [Decidable C] (a : C → Prog (TpuEff nD τ sig (Elt F) Λ₀ .tc) β) (b : ¬ C → Prog (TpuEff nD τ sig (Elt F) Λ₀ .tc) β)
    (k : β → Prog (TpuEff nD τ sig (Elt F) Λ₀ .tc) γ) : ((if h : C then a h else b h) >>= k) = if h : C then a h >>= k else b h >>= k := by
  by_cases h : C
  · rw [dif_pos h, dif_pos h]
  · rw [dif_neg h, dif_neg h]

end Cert.Mlp
-- ==== Proof.Offs.lean ====
/-
Where the program's words for devices, offsets and conditions point.
-/
module

public import proofs.«01_k».proof.Proof.Run

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ
variable (m : (ℓ : Loc nD τ sig) → Buf (Elt F) ℓ)

/-! ## Devices -/

/-- Peer 1 named in the body is the device at distance 1. -/
theorem dev1_is : ∀ c : Dev nD, k0_dev1 c = (c + 1 : Fin 4).val := by decide +kernel
/-- Peer 2 named in the body is the device at distance 2. -/
theorem dev2_is : ∀ c : Dev nD, k0_dev2 c = (c + 2 : Fin 4).val := by decide +kernel
/-- Peer 3 named in the body is the device at distance 3. -/
theorem dev3_is : ∀ c : Dev nD, k0_dev3 c = (c + 3 : Fin 4).val := by decide +kernel
/-- Peer 4 named in the body is the device at distance 1. -/
theorem dev4_is : ∀ c : Dev nD, k0_dev4 c = (c + 1 : Fin 4).val := by decide +kernel
/-- Peer 5 named in the body is the device at distance 2. -/
theorem dev5_is : ∀ c : Dev nD, k0_dev5 c = (c + 2 : Fin 4).val := by decide +kernel
/-- Peer 6 named in the body is the device at distance 3. -/
theorem dev6_is : ∀ c : Dev nD, k0_dev6 c = (c + 3 : Fin 4).val := by decide +kernel
/-- Peer 7 named in the body is the device at distance 1. -/
theorem dev7_is : ∀ c : Dev nD, k0_dev7 c = (c + 1 : Fin 4).val := by decide +kernel
/-- Peer 8 named in the body is the device at distance 2. -/
theorem dev8_is : ∀ c : Dev nD, k0_dev8 c = (c + 2 : Fin 4).val := by decide +kernel
/-- Peer 9 named in the body is the device at distance 3. -/
theorem dev9_is : ∀ c : Dev nD, k0_dev9 c = (c + 3 : Fin 4).val := by decide +kernel
/-- Peer 10 named in the body is the device at distance 1. -/
theorem dev10_is : ∀ c : Dev nD, k0_dev10 c = (c + 1 : Fin 4).val := by decide +kernel
/-- Peer 11 named in the body is the device at distance 2. -/
theorem dev11_is : ∀ c : Dev nD, k0_dev11 c = (c + 2 : Fin 4).val := by decide +kernel
/-- Peer 12 named in the body is the device at distance 3. -/
theorem dev12_is : ∀ c : Dev nD, k0_dev12 c = (c + 3 : Fin 4).val := by decide +kernel
/-- Peer 13 named in the body is the device at distance 1. -/
theorem dev13_is : ∀ c : Dev nD, k0_dev13 c = (c + 1 : Fin 4).val := by decide +kernel
/-- Peer 14 named in the body is the device at distance 2. -/
theorem dev14_is : ∀ c : Dev nD, k0_dev14 c = (c + 2 : Fin 4).val := by decide +kernel
/-- Peer 15 named in the body is the device at distance 3. -/
theorem dev15_is : ∀ c : Dev nD, k0_dev15 c = (c + 3 : Fin 4).val := by decide +kernel
/-- Peer 16 named in the body is the device at distance 1. -/
theorem dev16_is : ∀ c : Dev nD, k0_dev16 c = (c + 1 : Fin 4).val := by decide +kernel
/-- Peer 17 named in the body is the device at distance 2. -/
theorem dev17_is : ∀ c : Dev nD, k0_dev17 c = (c + 2 : Fin 4).val := by decide +kernel
/-- Peer 18 named in the body is the device at distance 3. -/
theorem dev18_is : ∀ c : Dev nD, k0_dev18 c = (c + 3 : Fin 4).val := by decide +kernel
/-- Peer 19 named in the body is the device at distance 1. -/
theorem dev19_is : ∀ c : Dev nD, k0_dev19 c = (c + 1 : Fin 4).val := by decide +kernel
/-- Peer 20 named in the body is the device at distance 2. -/
theorem dev20_is : ∀ c : Dev nD, k0_dev20 c = (c + 2 : Fin 4).val := by decide +kernel
/-- Peer 21 named in the body is the device at distance 3. -/
theorem dev21_is : ∀ c : Dev nD, k0_dev21 c = (c + 3 : Fin 4).val := by decide +kernel
/-- Peer 22 named in the body is the device at distance 1. -/
theorem dev22_is : ∀ c : Dev nD, k0_dev22 c = (c + 1 : Fin 4).val := by decide +kernel
/-- Peer 23 named in the body is the device at distance 2. -/
theorem dev23_is : ∀ c : Dev nD, k0_dev23 c = (c + 2 : Fin 4).val := by decide +kernel
/-- Peer 24 named in the body is the device at distance 3. -/
theorem dev24_is : ∀ c : Dev nD, k0_dev24 c = (c + 3 : Fin 4).val := by decide +kernel
/-- Peer 25 named in the body is the device at distance 1. -/
theorem dev25_is : ∀ c : Dev nD, k0_dev25 c = (c + 1 : Fin 4).val := by decide +kernel
/-- Peer 26 named in the body is the device at distance 2. -/
theorem dev26_is : ∀ c : Dev nD, k0_dev26 c = (c + 2 : Fin 4).val := by decide +kernel
/-- Peer 27 named in the body is the device at distance 3. -/
theorem dev27_is : ∀ c : Dev nD, k0_dev27 c = (c + 3 : Fin 4).val := by decide +kernel
/-- Peer 28 named in the body is the device at distance 1. -/
theorem dev28_is : ∀ c : Dev nD, k0_dev28 c = (c + 1 : Fin 4).val := by decide +kernel
/-- Peer 29 named in the body is the device at distance 2. -/
theorem dev29_is : ∀ c : Dev nD, k0_dev29 c = (c + 2 : Fin 4).val := by decide +kernel
/-- Peer 30 named in the body is the device at distance 3. -/
theorem dev30_is : ∀ c : Dev nD, k0_dev30 c = (c + 3 : Fin 4).val := by decide +kernel

/-! ## Slots -/

/-- Offset 9 of the body is the slot at distance 1. -/
theorem off9_is : ∀ c : Dev nD, k0_off9 c = ![(c + 1 : Fin 4).val, 0, 0] := by decide +kernel
/-- Offset 10 of the body is the slot at distance 2. -/
theorem off10_is : ∀ c : Dev nD, k0_off10 c = ![(c + 2 : Fin 4).val, 0, 0] := by decide +kernel
/-- Offset 11 of the body is the slot at distance 3. -/
theorem off11_is : ∀ c : Dev nD, k0_off11 c = ![(c + 3 : Fin 4).val, 0, 0] := by decide +kernel
/-- Offset 18 of the body is the slot at distance 1. -/
theorem off18_is : ∀ c : Dev nD, k0_off18 c = ![(c + 1 : Fin 4).val, 0, 0] := by decide +kernel
/-- Offset 19 of the body is the slot at distance 2. -/
theorem off19_is : ∀ c : Dev nD, k0_off19 c = ![(c + 2 : Fin 4).val, 0, 0] := by decide +kernel
/-- Offset 20 of the body is the slot at distance 3. -/
theorem off20_is : ∀ c : Dev nD, k0_off20 c = ![(c + 3 : Fin 4).val, 0, 0] := by decide +kernel
/-- Offset 28 of the body is the slot at distance 1. -/
theorem off28_is : ∀ c : Dev nD, k0_off28 c = ![(c + 1 : Fin 4).val, 0, 0] := by decide +kernel
/-- Offset 29 of the body is the slot at distance 2. -/
theorem off29_is : ∀ c : Dev nD, k0_off29 c = ![(c + 2 : Fin 4).val, 0, 0] := by decide +kernel
/-- Offset 30 of the body is the slot at distance 3. -/
theorem off30_is : ∀ c : Dev nD, k0_off30 c = ![(c + 3 : Fin 4).val, 0, 0] := by decide +kernel
/-- Offset 37 of the body is the slot at distance 1. -/
theorem off37_is : ∀ c : Dev nD, k0_off37 c = ![(c + 1 : Fin 4).val, 0, 0] := by decide +kernel
/-- Offset 38 of the body is the slot at distance 2. -/
theorem off38_is : ∀ c : Dev nD, k0_off38 c = ![(c + 2 : Fin 4).val, 0, 0] := by decide +kernel
/-- Offset 39 of the body is the slot at distance 3. -/
theorem off39_is : ∀ c : Dev nD, k0_off39 c = ![(c + 3 : Fin 4).val, 0, 0] := by decide +kernel
/-- Offset 46 of the body is the slot at distance 1. -/
theorem off46_is : ∀ c : Dev nD, k0_off46 c = ![(c + 1 : Fin 4).val, 0, 0] := by decide +kernel
/-- Offset 47 of the body is the slot at distance 2. -/
theorem off47_is : ∀ c : Dev nD, k0_off47 c = ![(c + 2 : Fin 4).val, 0, 0] := by decide +kernel
/-- Offset 48 of the body is the slot at distance 3. -/
theorem off48_is : ∀ c : Dev nD, k0_off48 c = ![(c + 3 : Fin 4).val, 0, 0] := by decide +kernel
/-- Offset 55 of the body is the slot at distance 1. -/
theorem off55_is : ∀ c : Dev nD, k0_off55 c = ![(c + 1 : Fin 4).val, 0, 0] := by decide +kernel
/-- Offset 56 of the body is the slot at distance 2. -/
theorem off56_is : ∀ c : Dev nD, k0_off56 c = ![(c + 2 : Fin 4).val, 0, 0] := by decide +kernel
/-- Offset 57 of the body is the slot at distance 3. -/
theorem off57_is : ∀ c : Dev nD, k0_off57 c = ![(c + 3 : Fin 4).val, 0, 0] := by decide +kernel

/-! ## Conditions -/

/-- Condition 1 of the body holds when the slot at distance 1 lies in the lower half. -/
theorem cond1_is : ∀ c : Dev nD, k0_cond1 c = 1#1 ↔ halfOf (c + 1) = 0 := by decide +kernel
/-- Condition 2 of the body holds when the slot at distance 2 lies in the lower half. -/
theorem cond2_is : ∀ c : Dev nD, k0_cond2 c = 1#1 ↔ halfOf (c + 2) = 0 := by decide +kernel
/-- Condition 3 of the body holds when the slot at distance 3 lies in the lower half. -/
theorem cond3_is : ∀ c : Dev nD, k0_cond3 c = 1#1 ↔ halfOf (c + 3) = 0 := by decide +kernel
/-- Condition 4 of the body holds when the slot at distance 1 lies in the lower half. -/
theorem cond4_is : ∀ c : Dev nD, k0_cond4 c = 1#1 ↔ halfOf (c + 1) = 0 := by decide +kernel
/-- Condition 5 of the body holds when the slot at distance 2 lies in the lower half. -/
theorem cond5_is : ∀ c : Dev nD, k0_cond5 c = 1#1 ↔ halfOf (c + 2) = 0 := by decide +kernel
/-- Condition 6 of the body holds when the slot at distance 3 lies in the lower half. -/
theorem cond6_is : ∀ c : Dev nD, k0_cond6 c = 1#1 ↔ halfOf (c + 3) = 0 := by decide +kernel
/-- Condition 7 of the body holds when the slot at distance 1 lies in the upper half. -/
theorem cond7_is : ∀ c : Dev nD, k0_cond7 c = 1#1 ↔ halfOf (c + 1) = 1 := by decide +kernel
/-- Condition 8 of the body holds when the slot at distance 2 lies in the upper half. -/
theorem cond8_is : ∀ c : Dev nD, k0_cond8 c = 1#1 ↔ halfOf (c + 2) = 1 := by decide +kernel
/-- Condition 9 of the body holds when the slot at distance 3 lies in the upper half. -/
theorem cond9_is : ∀ c : Dev nD, k0_cond9 c = 1#1 ↔ halfOf (c + 3) = 1 := by decide +kernel
/-- Condition 10 of the body holds when the slot at distance 1 lies in the upper half. -/
theorem cond10_is : ∀ c : Dev nD, k0_cond10 c = 1#1 ↔ halfOf (c + 1) = 1 := by decide +kernel
/-- Condition 11 of the body holds when the slot at distance 2 lies in the upper half. -/
theorem cond11_is : ∀ c : Dev nD, k0_cond11 c = 1#1 ↔ halfOf (c + 2) = 1 := by decide +kernel
/-- Condition 12 of the body holds when the slot at distance 3 lies in the upper half. -/
theorem cond12_is : ∀ c : Dev nD, k0_cond12 c = 1#1 ↔ halfOf (c + 3) = 1 := by decide +kernel
/-- Condition 13 of the body holds when the slot at distance 1 lies in the lower half. -/
theorem cond13_is : ∀ c : Dev nD, k0_cond13 c = 1#1 ↔ halfOf (c + 1) = 0 := by decide +kernel
/-- Condition 14 of the body holds when the slot at distance 2 lies in the lower half. -/
theorem cond14_is : ∀ c : Dev nD, k0_cond14 c = 1#1 ↔ halfOf (c + 2) = 0 := by decide +kernel
/-- Condition 15 of the body holds when the slot at distance 3 lies in the lower half. -/
theorem cond15_is : ∀ c : Dev nD, k0_cond15 c = 1#1 ↔ halfOf (c + 3) = 0 := by decide +kernel
/-- Condition 16 of the body holds when the slot at distance 1 lies in the lower half. -/
theorem cond16_is : ∀ c : Dev nD, k0_cond16 c = 1#1 ↔ halfOf (c + 1) = 0 := by decide +kernel
/-- Condition 17 of the body holds when the slot at distance 2 lies in the lower half. -/
theorem cond17_is : ∀ c : Dev nD, k0_cond17 c = 1#1 ↔ halfOf (c + 2) = 0 := by decide +kernel
/-- Condition 18 of the body holds when the slot at distance 3 lies in the lower half. -/
theorem cond18_is : ∀ c : Dev nD, k0_cond18 c = 1#1 ↔ halfOf (c + 3) = 0 := by decide +kernel
/-- Condition 19 of the body holds when the slot at distance 1 lies in the upper half. -/
theorem cond19_is : ∀ c : Dev nD, k0_cond19 c = 1#1 ↔ halfOf (c + 1) = 1 := by decide +kernel
/-- Condition 20 of the body holds when the slot at distance 2 lies in the upper half. -/
theorem cond20_is : ∀ c : Dev nD, k0_cond20 c = 1#1 ↔ halfOf (c + 2) = 1 := by decide +kernel
/-- Condition 21 of the body holds when the slot at distance 3 lies in the upper half. -/
theorem cond21_is : ∀ c : Dev nD, k0_cond21 c = 1#1 ↔ halfOf (c + 3) = 1 := by decide +kernel
/-- Condition 22 of the body holds when the slot at distance 1 lies in the upper half. -/
theorem cond22_is : ∀ c : Dev nD, k0_cond22 c = 1#1 ↔ halfOf (c + 1) = 1 := by decide +kernel
/-- Condition 23 of the body holds when the slot at distance 2 lies in the upper half. -/
theorem cond23_is : ∀ c : Dev nD, k0_cond23 c = 1#1 ↔ halfOf (c + 2) = 1 := by decide +kernel
/-- Condition 24 of the body holds when the slot at distance 3 lies in the upper half. -/
theorem cond24_is : ∀ c : Dev nD, k0_cond24 c = 1#1 ↔ halfOf (c + 3) = 1 := by decide +kernel
/-- Condition 25 of the body holds when the slot at distance 1 lies in the lower half. -/
theorem cond25_is : ∀ c : Dev nD, k0_cond25 c = 1#1 ↔ halfOf (c + 1) = 0 := by decide +kernel
/-- Condition 26 of the body holds when the slot at distance 2 lies in the lower half. -/
theorem cond26_is : ∀ c : Dev nD, k0_cond26 c = 1#1 ↔ halfOf (c + 2) = 0 := by decide +kernel
/-- Condition 27 of the body holds when the slot at distance 3 lies in the lower half. -/
theorem cond27_is : ∀ c : Dev nD, k0_cond27 c = 1#1 ↔ halfOf (c + 3) = 0 := by decide +kernel
/-- Condition 28 of the body holds when the slot at distance 1 lies in the lower half. -/
theorem cond28_is : ∀ c : Dev nD, k0_cond28 c = 1#1 ↔ halfOf (c + 1) = 0 := by decide +kernel
/-- Condition 29 of the body holds when the slot at distance 2 lies in the lower half. -/
theorem cond29_is : ∀ c : Dev nD, k0_cond29 c = 1#1 ↔ halfOf (c + 2) = 0 := by decide +kernel
/-- Condition 30 of the body holds when the slot at distance 3 lies in the lower half. -/
theorem cond30_is : ∀ c : Dev nD, k0_cond30 c = 1#1 ↔ halfOf (c + 3) = 0 := by decide +kernel
/-- Condition 31 of the body holds when the slot at distance 1 lies in the upper half. -/
theorem cond31_is : ∀ c : Dev nD, k0_cond31 c = 1#1 ↔ halfOf (c + 1) = 1 := by decide +kernel
/-- Condition 32 of the body holds when the slot at distance 2 lies in the upper half. -/
theorem cond32_is : ∀ c : Dev nD, k0_cond32 c = 1#1 ↔ halfOf (c + 2) = 1 := by decide +kernel
/-- Condition 33 of the body holds when the slot at distance 3 lies in the upper half. -/
theorem cond33_is : ∀ c : Dev nD, k0_cond33 c = 1#1 ↔ halfOf (c + 3) = 1 := by decide +kernel
/-- Condition 34 of the body holds when the slot at distance 1 lies in the upper half. -/
theorem cond34_is : ∀ c : Dev nD, k0_cond34 c = 1#1 ↔ halfOf (c + 1) = 1 := by decide +kernel
/-- Condition 35 of the body holds when the slot at distance 2 lies in the upper half. -/
theorem cond35_is : ∀ c : Dev nD, k0_cond35 c = 1#1 ↔ halfOf (c + 2) = 1 := by decide +kernel
/-- Condition 36 of the body holds when the slot at distance 3 lies in the upper half. -/
theorem cond36_is : ∀ c : Dev nD, k0_cond36 c = 1#1 ↔ halfOf (c + 3) = 1 := by decide +kernel

end Cert.Mlp
-- ==== Proof.Base.lean ====
/-
Short names for what the parts of the body name, and the facts their steps ask for.
-/
module

public import proofs.«01_k».proof.Proof.Offs

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ
variable (m : (ℓ : Loc nD τ sig) → Buf (Elt F) ℓ)

/-! ## Whole references -/

/-- This reference is a whole buffer. -/
theorem wxs : (xsM).IsWhole := Memref.isWhole_whole _
/-- This reference is a whole buffer. -/
theorem wos : (osM).IsWhole := Memref.isWhole_whole _
/-- This reference is a whole buffer. -/
theorem wxa : (xaM).IsWhole := Memref.isWhole_whole _
/-- This reference is a whole buffer. -/
theorem wsb : (sbM).IsWhole := Memref.isWhole_whole _
/-- This reference is a whole buffer. -/
theorem wrb : (rbM).IsWhole := Memref.isWhole_whole _
/-- This reference is a whole buffer. -/
theorem wwi : (wiM).IsWhole := Memref.isWhole_whole _
/-- This reference is a whole buffer. -/
theorem wwo : (woM).IsWhole := Memref.isWhole_whole _
/-- This reference is a whole buffer. -/
theorem wwb : (wbM).IsWhole := Memref.isWhole_whole _
/-- This reference is a whole buffer. -/
theorem wob : (obM).IsWhole := Memref.isWhole_whole _
/-- This reference is a whole buffer. -/
theorem wi0 : (wiA 0).IsWhole := Memref.isWhole_whole _
/-- This reference is a whole buffer. -/
theorem wi1 : (wiA 1).IsWhole := Memref.isWhole_whole _
/-- This reference is a whole buffer. -/
theorem wi2 : (wiA 2).IsWhole := Memref.isWhole_whole _
/-- This reference is a whole buffer. -/
theorem wo0 : (woA 0).IsWhole := Memref.isWhole_whole _
/-- This reference is a whole buffer. -/
theorem wo1 : (woA 1).IsWhole := Memref.isWhole_whole _
/-- This reference is a whole buffer. -/
theorem wo2 : (woA 2).IsWhole := Memref.isWhole_whole _

/-! ## Amounts -/

/-- Any one-slot window's transfer credits `NB` units. -/
theorem nb_off (M : Memref sig .tc .vmem S4x64x1024 .bf16) (off : Fin 3 → ℕ) (inb : ∀ a, off a + S1x64x1024.size a ≤ S4x64x1024.size a) :
    (offM M off inb).view.dmaCredit = NB := rfl
/-- A copy of a first weight credits `NI` units. -/
theorem ni_off (l : Fin 3) (off : Fin 3 → ℕ) (inb : ∀ a, off a + S1x1024x2048.size a ≤ S2x1024x2048.size a) :
    (offWi off inb).view.dmaCredit = if (wj l).val % 2 = 0 then NI else NO := by rw [if_pos (wj_even l)]
/-- A copy of a second weight credits `NO` units. -/
theorem no_off (l : Fin 3) (off : Fin 3 → ℕ) (inb : ∀ a, off a + S1x2048x1024.size a ≤ S2x2048x1024.size a) :
    (offWo off inb).view.dmaCredit = if (wj' l).val % 2 = 0 then NI else NO := by rw [if_neg (wj_odd l)]
/-- The offset written as two zeros is zero on every axis. -/
theorem off_zero : (![0, 0] : Fin 2 → ℕ) = fun _ => 0 := by decide

/-! ## Devices -/

/-- Peer 1 named in the body is the device at distance 1, as a device. -/
theorem dev1_at (c : Dev nD) (h : k0_dev1 c < nD) : (⟨k0_dev1 c, h⟩ : Dev nD) = c + 1 := Fin.ext (dev1_is c)
/-- Peer 2 named in the body is the device at distance 2, as a device. -/
theorem dev2_at (c : Dev nD) (h : k0_dev2 c < nD) : (⟨k0_dev2 c, h⟩ : Dev nD) = c + 2 := Fin.ext (dev2_is c)
/-- Peer 3 named in the body is the device at distance 3, as a device. -/
theorem dev3_at (c : Dev nD) (h : k0_dev3 c < nD) : (⟨k0_dev3 c, h⟩ : Dev nD) = c + 3 := Fin.ext (dev3_is c)
/-- Peer 4 named in the body is the device at distance 1, as a device. -/
theorem dev4_at (c : Dev nD) (h : k0_dev4 c < nD) : (⟨k0_dev4 c, h⟩ : Dev nD) = c + 1 := Fin.ext (dev4_is c)
/-- Peer 5 named in the body is the device at distance 2, as a device. -/
theorem dev5_at (c : Dev nD) (h : k0_dev5 c < nD) : (⟨k0_dev5 c, h⟩ : Dev nD) = c + 2 := Fin.ext (dev5_is c)
/-- Peer 6 named in the body is the device at distance 3, as a device. -/
theorem dev6_at (c : Dev nD) (h : k0_dev6 c < nD) : (⟨k0_dev6 c, h⟩ : Dev nD) = c + 3 := Fin.ext (dev6_is c)
/-- Peer 7 named in the body is the device at distance 1, as a device. -/
theorem dev7_at (c : Dev nD) (h : k0_dev7 c < nD) : (⟨k0_dev7 c, h⟩ : Dev nD) = c + 1 := Fin.ext (dev7_is c)
/-- Peer 8 named in the body is the device at distance 2, as a device. -/
theorem dev8_at (c : Dev nD) (h : k0_dev8 c < nD) : (⟨k0_dev8 c, h⟩ : Dev nD) = c + 2 := Fin.ext (dev8_is c)
/-- Peer 9 named in the body is the device at distance 3, as a device. -/
theorem dev9_at (c : Dev nD) (h : k0_dev9 c < nD) : (⟨k0_dev9 c, h⟩ : Dev nD) = c + 3 := Fin.ext (dev9_is c)
/-- Peer 10 named in the body is the device at distance 1, as a device. -/
theorem dev10_at (c : Dev nD) (h : k0_dev10 c < nD) : (⟨k0_dev10 c, h⟩ : Dev nD) = c + 1 := Fin.ext (dev10_is c)
/-- Peer 11 named in the body is the device at distance 2, as a device. -/
theorem dev11_at (c : Dev nD) (h : k0_dev11 c < nD) : (⟨k0_dev11 c, h⟩ : Dev nD) = c + 2 := Fin.ext (dev11_is c)
/-- Peer 12 named in the body is the device at distance 3, as a device. -/
theorem dev12_at (c : Dev nD) (h : k0_dev12 c < nD) : (⟨k0_dev12 c, h⟩ : Dev nD) = c + 3 := Fin.ext (dev12_is c)
/-- Peer 13 named in the body is the device at distance 1, as a device. -/
theorem dev13_at (c : Dev nD) (h : k0_dev13 c < nD) : (⟨k0_dev13 c, h⟩ : Dev nD) = c + 1 := Fin.ext (dev13_is c)
/-- Peer 14 named in the body is the device at distance 2, as a device. -/
theorem dev14_at (c : Dev nD) (h : k0_dev14 c < nD) : (⟨k0_dev14 c, h⟩ : Dev nD) = c + 2 := Fin.ext (dev14_is c)
/-- Peer 15 named in the body is the device at distance 3, as a device. -/
theorem dev15_at (c : Dev nD) (h : k0_dev15 c < nD) : (⟨k0_dev15 c, h⟩ : Dev nD) = c + 3 := Fin.ext (dev15_is c)
/-- Peer 16 named in the body is the device at distance 1, as a device. -/
theorem dev16_at (c : Dev nD) (h : k0_dev16 c < nD) : (⟨k0_dev16 c, h⟩ : Dev nD) = c + 1 := Fin.ext (dev16_is c)
/-- Peer 17 named in the body is the device at distance 2, as a device. -/
theorem dev17_at (c : Dev nD) (h : k0_dev17 c < nD) : (⟨k0_dev17 c, h⟩ : Dev nD) = c + 2 := Fin.ext (dev17_is c)
/-- Peer 18 named in the body is the device at distance 3, as a device. -/
theorem dev18_at (c : Dev nD) (h : k0_dev18 c < nD) : (⟨k0_dev18 c, h⟩ : Dev nD) = c + 3 := Fin.ext (dev18_is c)
/-- Peer 19 named in the body is the device at distance 1, as a device. -/
theorem dev19_at (c : Dev nD) (h : k0_dev19 c < nD) : (⟨k0_dev19 c, h⟩ : Dev nD) = c + 1 := Fin.ext (dev19_is c)
/-- Peer 20 named in the body is the device at distance 2, as a device. -/
theorem dev20_at (c : Dev nD) (h : k0_dev20 c < nD) : (⟨k0_dev20 c, h⟩ : Dev nD) = c + 2 := Fin.ext (dev20_is c)
/-- Peer 21 named in the body is the device at distance 3, as a device. -/
theorem dev21_at (c : Dev nD) (h : k0_dev21 c < nD) : (⟨k0_dev21 c, h⟩ : Dev nD) = c + 3 := Fin.ext (dev21_is c)
/-- Peer 22 named in the body is the device at distance 1, as a device. -/
theorem dev22_at (c : Dev nD) (h : k0_dev22 c < nD) : (⟨k0_dev22 c, h⟩ : Dev nD) = c + 1 := Fin.ext (dev22_is c)
/-- Peer 23 named in the body is the device at distance 2, as a device. -/
theorem dev23_at (c : Dev nD) (h : k0_dev23 c < nD) : (⟨k0_dev23 c, h⟩ : Dev nD) = c + 2 := Fin.ext (dev23_is c)
/-- Peer 24 named in the body is the device at distance 3, as a device. -/
theorem dev24_at (c : Dev nD) (h : k0_dev24 c < nD) : (⟨k0_dev24 c, h⟩ : Dev nD) = c + 3 := Fin.ext (dev24_is c)
/-- Peer 25 named in the body is the device at distance 1, as a device. -/
theorem dev25_at (c : Dev nD) (h : k0_dev25 c < nD) : (⟨k0_dev25 c, h⟩ : Dev nD) = c + 1 := Fin.ext (dev25_is c)
/-- Peer 26 named in the body is the device at distance 2, as a device. -/
theorem dev26_at (c : Dev nD) (h : k0_dev26 c < nD) : (⟨k0_dev26 c, h⟩ : Dev nD) = c + 2 := Fin.ext (dev26_is c)
/-- Peer 27 named in the body is the device at distance 3, as a device. -/
theorem dev27_at (c : Dev nD) (h : k0_dev27 c < nD) : (⟨k0_dev27 c, h⟩ : Dev nD) = c + 3 := Fin.ext (dev27_is c)
/-- Peer 28 named in the body is the device at distance 1, as a device. -/
theorem dev28_at (c : Dev nD) (h : k0_dev28 c < nD) : (⟨k0_dev28 c, h⟩ : Dev nD) = c + 1 := Fin.ext (dev28_is c)
/-- Peer 29 named in the body is the device at distance 2, as a device. -/
theorem dev29_at (c : Dev nD) (h : k0_dev29 c < nD) : (⟨k0_dev29 c, h⟩ : Dev nD) = c + 2 := Fin.ext (dev29_is c)
/-- Peer 30 named in the body is the device at distance 3, as a device. -/
theorem dev30_at (c : Dev nD) (h : k0_dev30 c < nD) : (⟨k0_dev30 c, h⟩ : Dev nD) = c + 3 := Fin.ext (dev30_is c)

/-! ## What is owed during a layer -/

/-- What a device owes after the row transfers of round `r`. -/
abbrev OS (r : ℕ) (c : Dev nD) : CellTallies nD τ sig ℕ := OSt r c (stat 0 .pe .ar 0 c) + OX c r
/-- In the three rounds, what a device owes for its products and later is above level 0. -/
theorem above_O0 (c : Dev nD) {r : ℕ} (hr : r < 3) (σ : Fin 4 → Stt) : Above 0 (OSt r c σ + OX c r) :=
  (above_OSt hr (by omega) c σ).add ((above_OX c r).mono (by omega))
/-- What is owed after a round's products is above level 0. -/
theorem above_X0 (c : Dev nD) (r : ℕ) : Above 0 (OX c r) := (above_OX c r).mono (by omega)
/-- What is owed after a round's products is above the level of the round's rows. -/
theorem above_X2 (c : Dev nD) (r : ℕ) : Above (2 + 2 * r) (OX c r) := (above_OX c r).mono (by omega)
/-- What is owed after the opening signals is above the barrier's level. -/
theorem above_bar (c : Dev nD) : Above 1 (OA 0 c (OX c 0)) := above_OA c (by decide) (by decide) ((above_OX c 0).mono (by decide))

/-! ## The rows a device writes for the next layer -/

/-- The first coordinate of an element of slot `p` is `p`. -/
theorem slot_fst {p : Fin 4} {i : S4x64x1024.Idx} (h : i ∈ slotSet p) : i 0 = p := Fin.ext ((mem_slotSet p i).1 h)

/-- The rows a device stores at the start are its slot of the first layer's slab. -/
theorem rows_zero (c : Dev nD) : ∀ i ∈ slotSet c, k0_pay1 (xstg m c) (slotIx i) = XA m (ly 0) i := by
  intro i hi
  have h0 : i 0 = c := slot_fst hi
  show _ = k0_pay1 (xsM.view.readAt (Elt F) (Rect.unit (s := S64x1024) ![0, 0] S64x1024.size inb_S64x1024_S64x1024_0_0).toLoadRect (xstg m (i 0))) (slotIx i)
  rw [h0]
  exact congrFun (congrArg k0_pay1 (Memref.readAt_unit_zero (Elt F) cc0_stg0_0 off_zero inb_S64x1024_S64x1024_0_0 (xstg m c)).symm) (slotIx i)
/-- The rows a device stores after a layer are its slot of the next layer's slab. -/
theorem rows_next (c : Dev nD) {r : ℕ} (hr : r < 2) : ∀ i ∈ slotSet c, k0_pay20 (ACC m (ly r) c) (slotIx i) = XA m (ly (r + 1)) i := by
  intro i hi
  have h0 : i 0 = c := slot_fst hi
  subst h0
  rcases (show r = 0 ∨ r = 1 by omega) with rfl | rfl <;> rfl

/-- The device's own slot, read at the offset the program computes. -/
theorem own_read (c : Dev nD) (f : Slab F) : (sbM.view.readAt (Elt F) (slotO (k0_off1 c) (k0_off1_inb c)).toLoadRect f : S1x64x1024.Idx → Elt F .bf16)
    = sbM.view.readAt (Elt F) (slotR c).toLoadRect f := by
  have h : ∀ (off : Fin 3 → ℕ) (inb : ∀ a, off a + S1x64x1024.size a ≤ S4x64x1024.size a), off = ![c.val, 0, 0] →
      (sbM.view.readAt (Elt F) (slotO off inb).toLoadRect f : S1x64x1024.Idx → Elt F .bf16) = sbM.view.readAt (Elt F) (slotR c).toLoadRect f := by
    rintro _ _ rfl; rfl
  exact h _ _ (k0_off1_eq c)
/-- What the device reads of its own product, and of the product of `c - t`, after layer `l`. -/
abbrev ownRd (c : Dev nD) (l : Fin 3) : S1x64x1024.Idx → Elt F .bf16 :=
  sbM.view.readAt (Elt F) (slotO (k0_off1 c) (k0_off1_inb c)).toLoadRect (SBv m l c)
abbrev gotRd (c : Dev nD) (l : Fin 3) (t : Fin 4) : S1x64x1024.Idx → Elt F .bf16 :=
  rbM.view.readAt (Elt F) (slotR t).toLoadRect (RBv m l c)
/-- The sum of the four slots read is the layer's sum. -/
theorem sum_read (c : Dev nD) (l : Fin 3) : k0_pay24 (ownRd m c l) (gotRd m c l 1) (gotRd m c l 2) (gotRd m c l 3) = ACC m l c := by
  have h : ownRd m c l = sbM.view.readAt (Elt F) (slotR c).toLoadRect (SBv m l c) := own_read c _
  rw [h]; rfl
/-- The rows stored from the four slots read are the device's slot of the next layer's slab. -/
theorem rows_read (c : Dev nD) {r : ℕ} (hr : r < 2) :
    ∀ i ∈ slotSet c, k0_pay20 (k0_pay24 (ownRd m c (ly r)) (gotRd m c (ly r) 1) (gotRd m c (ly r) 2) (gotRd m c (ly r) 3)) (slotIx i) = XA m (ly (r + 1)) i := by
  rw [sum_read]; exact rows_next m c hr

end Cert.Mlp
-- ==== Proof.Body1.lean ====
/-
Parts of the body.
-/
module

public import proofs.«01_k».proof.Proof.Base

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ
variable (m : (ℓ : Loc nD τ sig) → Buf (Elt F) ℓ)

section
variable (c : Dev nD)

/-- Part 1: the first copies of the weights start, and the device writes its rows. -/
theorem part1 {α : Type} {Q : α → sProp 𝕄} {K : _ → Prog (TpuEff nD τ sig (Elt F) Λ₀ .tc) α} (f : S2x1024x2048.Idx → Elt F .f32) (g : S2x2048x1024.Idx → Elt F .f32) (h : Slab F) :
    iprop(Recs m ∗ wTok c (wj (ly 0)) ∗ wiAP m c (ly 0) ∗ wiP c (wsl (ly 0)) f ∗ wTok c (wj' (ly 0)) ∗ woAP m c (ly 0) ∗ woP c (wsl (ly 0)) g ∗ bufP c cc0_stg0_0 (xstg m c) ∗ xaP c c fullShare h)
      ⊢ iprop((∀ w : BitVec 32, (wSent c (wj (ly 0)) ∗ wSent c (wj' (ly 0)) ∗ bufP c cc0_stg0_0 (xstg m c) ∗ xaP c c fullShare (XA m (ly 0))) -∗ wp frame (wpE (defs₀ (F := F)) 𝒱₀ (c : Thread nD τ) none) Set.univ (K ⟨c, w, SemArray.scalar (sig.barrier 0 rfl)⟩) Q)
        -∗ wp frame (wpE (defs₀ (F := F)) 𝒱₀ (c : Thread nD τ) none) Set.univ ((k0_part1 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11) >>= K) Q) := by
  rw [k0_part1_eq_skeleton]; unfold k0_part1_skel
  simp only [semSignalWord, semWaitWord, Prog.lift, Prog.bind_op, Prog.bind_ret, Prog.pure_eq_ret, wp_deviceId, bind_dite]
  iintro ⟨#HR, T0, A0, P0, T1, A1, P1, X, O⟩ Hk
  iapply (copy_wi m c (ly 0) rfl rfl f) $$ [T0 A0 P0]
  · isplitl []; · iexact HR
    isplitl [T0]; · iexact T0
    isplitl [A0]; · iexact A0
    iexact P0
  iintro W0
  iapply (copy_wo m c (ly 0) rfl rfl g) $$ [T1 A1 P1]
  · isplitl []; · iexact HR
    isplitl [T1]; · iexact T1
    isplitl [A1]; · iexact A1
    iexact P1
  iintro W1
  iapply (load_xs c off_zero (xstg m c)) $$ X
  iintro X
  iapply (load_own c c (k0_off1_eq c) h) $$ O
  iintro O
  iapply (store_own c c (k0_off1_eq c) h (XA m (ly 0)) (rows_zero m c)) $$ O
  iintro O
  iapply Hk
  isplitl [W0]; · iexact W0
  isplitl [W1]; · iexact W1
  isplitl [X]; · iexact X
  iexact O

/-- Part 2: the barrier. -/
theorem part2 {α : Type} {Q : α → sProp 𝕄} {K : _ → Prog (TpuEff nD τ sig (Elt F) Λ₀ .tc) α} (v2 : BitVec 32) :
    iprop(Recs m ∗ barGive c 1 ∗ barGive c 2 ∗ barGive c 3 ∗ barPend c ∗ ow c (OA 0 c (OX c 0) + Obar c 3 + Obar c 2 + Obar c 1))
      ⊢ iprop((∀ w, (atPos ER (barC c) 1 ∅ 0 ∗ (barGot c 3 ∗ barGot c 2 ∗ barGot c 1) ∗ ow c (OA 0 c (OX c 0))) -∗ wp frame (wpE (defs₀ (F := F)) 𝒱₀ (c : Thread nD τ) none) Set.univ (K w) Q)
        -∗ wp frame (wpE (defs₀ (F := F)) 𝒱₀ (c : Thread nD τ) none) Set.univ ((k0_part2 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 (SemArray.scalar (sig.barrier 0 rfl))) >>= K) Q) := by
  rw [k0_part2_eq_skeleton]; unfold k0_part2_skel
  simp only [semSignalWord, semWaitWord, Prog.lift, Prog.bind_op, Prog.bind_ret, Prog.pure_eq_ret, wp_deviceId, bind_dite]
  iintro ⟨#HR, G1, G2, G3, B, O⟩ Hk
  iapply (bar_signal m c 1 (by decide) (dev1_at c (k0_dev1_lt c)) rfl rfl (OA 0 c (OX c 0) + Obar c 3 + Obar c 2) rfl) $$ [G1 O]
  · isplitl []; · iexact HR
    isplitl [G1]; · iexact G1
    iexact O
  iintro O
  iapply (bar_signal m c 2 (by decide) (dev2_at c (k0_dev2_lt c)) rfl rfl (OA 0 c (OX c 0) + Obar c 3) rfl) $$ [G2 O]
  · isplitl []; · iexact HR
    isplitl [G2]; · iexact G2
    iexact O
  iintro O
  iapply (bar_signal m c 3 (by decide) (dev3_at c (k0_dev3_lt c)) rfl rfl (OA 0 c (OX c 0)) rfl) $$ [G3 O]
  · isplitl []; · iexact HR
    isplitl [G3]; · iexact G3
    iexact O
  iintro O
  iapply (bar_wait m c rfl rfl (above_bar c)) $$ [B O]
  · isplitl []; · iexact HR
    isplitl [B]; · iexact B
    iexact O
  iintro ⟨B, G, O⟩
  iapply Hk
  isplitl [B]; · iexact B
  isplitl [G]; · iexact G
  iexact O

/-- Part 3: the first row transfer of layer 0. -/
theorem part3 {α : Type} {Q : α → sProp 𝕄} {K : _ → Prog (TpuEff nD τ sig (Elt F) Λ₀ .tc) α} (v2 : BitVec 32) (v60 : BitVec 32) (v61 : BitVec 32) :
    iprop(Recs m ∗ agReady 0 c 1 ∗ xaP c c (qs 1) (XA m (ly 0)) ∗ ow c (OA 0 c (OX c 0)))
      ⊢ iprop((∀ w, (agSent 0 c 1 ∗ ow c (OS 0 c + Oag 0 c 3 + Oag 0 c 2)) -∗ wp frame (wpE (defs₀ (F := F)) 𝒱₀ (c : Thread nD τ) none) Set.univ (K w) Q)
        -∗ wp frame (wpE (defs₀ (F := F)) 𝒱₀ (c : Thread nD τ) none) Set.univ ((k0_part3 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v60 v61) >>= K) Q) := by
  rw [k0_part3_eq_skeleton]; unfold k0_part3_skel
  simp only [semSignalWord, semWaitWord, Prog.lift, Prog.bind_op, Prog.bind_ret, Prog.pure_eq_ret, wp_deviceId, bind_dite]
  iintro ⟨#HR, R1, X1, O⟩ Hk
  iapply (ag_send m c 1 (by decide) (r := 0) (by decide) (k0_off2_eq c) (dev4_at c (k0_dev4_lt c)) rfl rfl (OS 0 c + Oag 0 c 3 + Oag 0 c 2) rfl) $$ [R1 X1 O]
  · isplitl []; · iexact HR
    isplitl [R1]; · iexact R1
    isplitl [X1]; · iexact X1
    iexact O
  iintro ⟨S1, O⟩
  iapply Hk
  isplitl [S1]; · iexact S1
  iexact O

/-- Part 4: the other row transfers of layer 0, and its first weight. -/
theorem part4 {α : Type} {Q : α → sProp 𝕄} {K : _ → Prog (TpuEff nD τ sig (Elt F) Λ₀ .tc) α} (v2 : BitVec 32) :
    iprop(Recs m ∗ agReady 0 c 2 ∗ xaP c c (qs 2) (XA m (ly 0)) ∗ agReady 0 c 3 ∗ xaP c c (qs 3) (XA m (ly 0)) ∗ ow c (OS 0 c + Oag 0 c 3 + Oag 0 c 2) ∗ wSent c (wj (ly 0)))
      ⊢ iprop(((agSent 0 c 2 ∗ agSent 0 c 3 ∗ ow c (OS 0 c) ∗ atPos ER (wC c (wj (ly 0))) 1 ∅ 0 ∗ wiP c (wsl (ly 0)) (wiB m (ly 0) c) ∗ wiAP m c (ly 0)) -∗ wp frame (wpE (defs₀ (F := F)) 𝒱₀ (c : Thread nD τ) none) Set.univ (K (k0_pay2 (wiM.view.readAt (Elt F) (wiR (wsl (ly 0))).toLoadRect (wiB m (ly 0) c)))) Q)
        -∗ wp frame (wpE (defs₀ (F := F)) 𝒱₀ (c : Thread nD τ) none) Set.univ ((k0_part4 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2) >>= K) Q) := by
  rw [k0_part4_eq_skeleton]; unfold k0_part4_skel
  simp only [semSignalWord, semWaitWord, Prog.lift, Prog.bind_op, Prog.bind_ret, Prog.pure_eq_ret, wp_deviceId, bind_dite]
  iintro ⟨#HR, R2, X2, R3, X3, O, W⟩ Hk
  iapply (ag_send m c 2 (by decide) (r := 0) (by decide) (k0_off2_eq c) (dev5_at c (k0_dev5_lt c)) rfl rfl (OS 0 c + Oag 0 c 3) rfl) $$ [R2 X2 O]
  · isplitl []; · iexact HR
    isplitl [R2]; · iexact R2
    isplitl [X2]; · iexact X2
    iexact O
  iintro ⟨S2, O⟩
  iapply (ag_send m c 3 (by decide) (r := 0) (by decide) (k0_off2_eq c) (dev6_at c (k0_dev6_lt c)) rfl rfl (OS 0 c) rfl) $$ [R3 X3 O]
  · isplitl []; · iexact HR
    isplitl [R3]; · iexact R3
    isplitl [X3]; · iexact X3
    iexact O
  iintro ⟨S3, O⟩
  iapply (w_wait m c (wj (ly 0)) (wPay_i m c (ly 0)) rfl (above_O0 c (r := 0) (by decide) _) (ni_off _ _ _)) $$ [W O]
  · isplitl []; · iexact HR
    isplitl [W]; · iexact W
    iexact O
  iintro ⟨D, ⟨W, A⟩, O⟩
  iapply (load_wi c (wsl (ly 0)) rfl (wiB m (ly 0) c)) $$ W
  iintro W
  iapply Hk
  isplitl [S2]; · iexact S2
  isplitl [S3]; · iexact S3
  isplitl [O]; · iexact O
  isplitl [D]; · iexact D
  isplitl [W]; · iexact W
  iexact A

/-- Part 5: the weights of layer 0 are made ready, and the next copies start. -/
theorem part5 {α : Type} {Q : α → sProp 𝕄} {K : _ → Prog (TpuEff nD τ sig (Elt F) Λ₀ .tc) α} (b : S1024x2048.Idx → Elt F .bf16) (d : S2048x1024.Idx → Elt F .bf16) (f : S2x1024x2048.Idx → Elt F .f32) (g : S2x2048x1024.Idx → Elt F .f32) :
    iprop(Recs m ∗ bufP c cc0_scratch5 b ∗ ow c (OS 0 c) ∗ wSent c (wj' (ly 0)) ∗ bufP c cc0_scratch6 d ∗ wiP c (wsl (ly 0)) (wiB m (ly 0) c) ∗ wTok c (wj (ly 1)) ∗ wiAP m c (ly 1) ∗ wiP c (wsl (ly 1)) f ∗ wTok c (wj' (ly 1)) ∗ woAP m c (ly 1) ∗ woP c (wsl (ly 1)) g ∗ wTok c (wj (ly 2)) ∗ wiAP m c (ly 2))
      ⊢ iprop((∀ w, (bufP c cc0_scratch5 (wbV m (ly 0) c) ∗ ow c (OS 0 c) ∗ atPos ER (wC c (wj' (ly 0))) 1 ∅ 0 ∗ woP c (wsl (ly 0)) (woB m (ly 0) c) ∗ woAP m c (ly 0) ∗ bufP c cc0_scratch6 (obV m (ly 0) c) ∗ wSent c (wj (ly 1)) ∗ wSent c (wj' (ly 1)) ∗ wSent c (wj (ly 2))) -∗ wp frame (wpE (defs₀ (F := F)) 𝒱₀ (c : Thread nD τ) none) Set.univ (K w) Q)
        -∗ wp frame (wpE (defs₀ (F := F)) 𝒱₀ (c : Thread nD τ) none) Set.univ ((k0_part5 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 (k0_pay2 (wiM.view.readAt (Elt F) (wiR (wsl (ly 0))).toLoadRect (wiB m (ly 0) c)))) >>= K) Q) := by
  rw [k0_part5_eq_skeleton]; unfold k0_part5_skel
  simp only [semSignalWord, semWaitWord, Prog.lift, Prog.bind_op, Prog.bind_ret, Prog.pure_eq_ret, wp_deviceId, bind_dite]
  iintro ⟨#HR, B, O, V, D, W, T2, A2, P2, T3, A3, P3, T4, A4⟩ Hk
  iapply (load_wb c off_zero b) $$ B
  iintro B
  iapply (store_wb c off_zero b (wbV m (ly 0) c) rfl) $$ B
  iintro B
  iapply (w_wait m c (wj' (ly 0)) (wPay_o m c (ly 0)) rfl (above_O0 c (r := 0) (by decide) _) (no_off _ _ _)) $$ [V O]
  · isplitl []; · iexact HR
    isplitl [V]; · iexact V
    iexact O
  iintro ⟨E, ⟨V, A⟩, O⟩
  iapply (load_wo c (wsl (ly 0)) rfl (woB m (ly 0) c)) $$ V
  iintro V
  iapply (load_ob c off_zero d) $$ D
  iintro D
  iapply (store_ob c off_zero d (obV m (ly 0) c) rfl) $$ D
  iintro D
  iapply (copy_wi m c (ly 1) rfl rfl f) $$ [T2 A2 P2]
  · isplitl []; · iexact HR
    isplitl [T2]; · iexact T2
    isplitl [A2]; · iexact A2
    iexact P2
  iintro W2
  iapply (copy_wo m c (ly 1) rfl rfl g) $$ [T3 A3 P3]
  · isplitl []; · iexact HR
    isplitl [T3]; · iexact T3
    isplitl [A3]; · iexact A3
    iexact P3
  iintro W3
  iapply (copy_wi m c (ly 2) rfl rfl (wiB m (ly 0) c)) $$ [T4 A4 W]
  · isplitl []; · iexact HR
    isplitl [T4]; · iexact T4
    isplitl [A4]; · iexact A4
    iexact W
  iintro W4
  iapply Hk
  isplitl [B]; · iexact B
  isplitl [O]; · iexact O
  isplitl [E]; · iexact E
  isplitl [V]; · iexact V
  isplitl [A]; · iexact A
  isplitl [D]; · iexact D
  isplitl [W2]; · iexact W2
  isplitl [W3]; · iexact W3
  iexact W4
end

end Cert.Mlp
-- ==== Proof.Body2.lean ====
/-
Parts of the body.
-/
module

public import proofs.«01_k».proof.Proof.Base

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ
variable (m : (ℓ : Loc nD τ sig) → Buf (Elt F) ℓ)

section
variable (c : Dev nD)

/-- Part 6: the last copy starts; rows of half 0. -/
theorem part6 {α : Type} {Q : α → sProp 𝕄} {K : _ → Prog (TpuEff nD τ sig (Elt F) Λ₀ .tc) α} (v2 : BitVec 32) :
    iprop(Recs m ∗ wTok c (wj' (ly 2)) ∗ woAP m c (ly 2) ∗ woP c (wsl (ly 0)) (woB m (ly 0) c) ∗ SO m 0 c (stat 0 .pe .ar 0 c) (OX c 0))
      ⊢ iprop((∀ w, (wSent c (wj' (ly 2)) ∗ SO m 0 c (stat 0 .pe .ar 1 c) (OX c 0)) -∗ wp frame (wpE (defs₀ (F := F)) 𝒱₀ (c : Thread nD τ) none) Set.univ (K w) Q)
        -∗ wp frame (wpE (defs₀ (F := F)) 𝒱₀ (c : Thread nD τ) none) Set.univ ((k0_part6 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2) >>= K) Q) := by
  rw [k0_part6_eq_skeleton]; unfold k0_part6_skel
  simp only [semSignalWord, semWaitWord, Prog.lift, Prog.bind_op, Prog.bind_ret, Prog.pure_eq_ret, wp_deviceId, bind_dite]
  iintro ⟨#HR, T5, A5, V, S⟩ Hk
  iapply (copy_wo m c (ly 2) rfl rfl (woB m (ly 0) c)) $$ [T5 A5 V]
  · isplitl []; · iexact HR
    isplitl [T5]; · iexact T5
    isplitl [A5]; · iexact A5
    iexact V
  iintro W5
  iapply (cond_agR m c 0 1 (by decide) (r := 0) (by decide) (cond1_is c) rfl (above_X2 c 0) 0 1 rfl rfl) $$ [S]
  · isplitl []; · iexact HR
    iexact S
  iintro S
  iapply Hk
  isplitl [W5]; · iexact W5
  iexact S

/-- Part 7: rows of half 0. -/
theorem part7 {α : Type} {Q : α → sProp 𝕄} {K : _ → Prog (TpuEff nD τ sig (Elt F) Λ₀ .tc) α} (v2 : BitVec 32) (v190 : BitVec 32) (v191 : BitVec 32) (v192 : BitVec 1) (c0_i32_138 : BitVec 32) :
    iprop(Recs m ∗ SO m 0 c (stat 0 .pe .ar 1 c) (OX c 0))
      ⊢ iprop((∀ w, (SO m 0 c (stat 0 .pe .ar 2 c) (OX c 0)) -∗ wp frame (wpE (defs₀ (F := F)) 𝒱₀ (c : Thread nD τ) none) Set.univ (K w) Q)
        -∗ wp frame (wpE (defs₀ (F := F)) 𝒱₀ (c : Thread nD τ) none) Set.univ ((k0_part7 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v190 v191 v192 c0_i32_138) >>= K) Q) := by
  rw [k0_part7_eq_skeleton]; unfold k0_part7_skel
  simp only [semSignalWord, semWaitWord, Prog.lift, Prog.bind_op, Prog.bind_ret, Prog.pure_eq_ret, wp_deviceId, bind_dite]
  iintro ⟨#HR, S⟩ Hk
  iapply (cond_agR m c 0 2 (by decide) (r := 0) (by decide) (cond2_is c) rfl (above_X2 c 0) 1 2 rfl rfl) $$ [S]
  · isplitl []; · iexact HR
    iexact S
  iintro S
  iapply Hk
  iexact S

/-- Part 8: the products of half 0. -/
theorem part8 {α : Type} {Q : α → sProp 𝕄} {K : _ → Prog (TpuEff nD τ sig (Elt F) Λ₀ .tc) α} (v2 : BitVec 32) (v229 : BitVec 32) (c2_i32_156 : BitVec 32) (v230 : BitVec 32) (v232 : BitVec 32) :
    iprop(Recs m ∗ SO m 0 c (stat 0 .pe .ar 2 c) (OX c 0) ∗ bufP c cc0_scratch5 (wbV m (ly 0) c) ∗ bufP c cc0_scratch6 (obV m (ly 0) c))
      ⊢ iprop((∀ w, (SO m 0 c (stat 0 .cm .se 0 c) (OX c 0) ∗ bufP c cc0_scratch5 (wbV m (ly 0) c) ∗ bufP c cc0_scratch6 (obV m (ly 0) c)) -∗ wp frame (wpE (defs₀ (F := F)) 𝒱₀ (c : Thread nD τ) none) Set.univ (K w) Q)
        -∗ wp frame (wpE (defs₀ (F := F)) 𝒱₀ (c : Thread nD τ) none) Set.univ ((k0_part8 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v229 c2_i32_156 v230 v232) >>= K) Q) := by
  rw [k0_part8_eq_skeleton]; unfold k0_part8_skel
  simp only [semSignalWord, semWaitWord, Prog.lift, Prog.bind_op, Prog.bind_ret, Prog.pure_eq_ret, wp_deviceId, bind_dite]
  iintro ⟨#HR, S, B, D⟩ Hk
  iapply (cond_agR m c 0 3 (by decide) (r := 0) (by decide) (cond3_is c) rfl (above_X2 c 0) 2 3 rfl rfl) $$ [S]
  · isplitl []; · iexact HR
    iexact S
  iintro S
  iapply (load_xa m c 0 rfl 0 (OX c 0)) $$ S
  iintro S
  iapply (load_wb c off_zero (wbV m (ly 0) c)) $$ B
  iintro B
  iapply (load_ob c off_zero (obV m (ly 0) c)) $$ D
  iintro D
  iapply (load_sb m c 0 rfl 0 (OX c 0)) $$ S
  iintro %v S
  iapply (store_sb m c 0 rfl 0 (OX c 0) rfl) $$ S
  iintro S
  iapply Hk
  isplitl [S]; · iexact S
  isplitl [B]; · iexact B
  iexact D

/-- Part 9: a product transfer of half 0. -/
theorem part9 {α : Type} {Q : α → sProp 𝕄} {K : _ → Prog (TpuEff nD τ sig (Elt F) Λ₀ .tc) α} (v2 : BitVec 32) (v264 : BitVec 32) (v266 : BitVec 32) :
    iprop(Recs m ∗ SO m 0 c (stat 0 .cm .se 0 c) (OX c 0))
      ⊢ iprop((∀ w, (SO m 0 c (stat 0 .cm .se 1 c) (OX c 0)) -∗ wp frame (wpE (defs₀ (F := F)) 𝒱₀ (c : Thread nD τ) none) Set.univ (K w) Q)
        -∗ wp frame (wpE (defs₀ (F := F)) 𝒱₀ (c : Thread nD τ) none) Set.univ ((k0_part9 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v264 v266) >>= K) Q) := by
  rw [k0_part9_eq_skeleton]; unfold k0_part9_skel
  simp only [semSignalWord, semWaitWord, Prog.lift, Prog.bind_op, Prog.bind_ret, Prog.pure_eq_ret, wp_deviceId, bind_dite]
  iintro ⟨#HR, S⟩ Hk
  iapply (cond_rsS m c 0 1 (by decide) (r := 0) (by decide) (cond4_is c) (fun _ => off9_is c) rfl (fun h => dev7_at c (k0_dev7_lt c h)) rfl rfl 0 1 rfl rfl) $$ [S]
  · isplitl []; · iexact HR
    iexact S
  iintro S
  iapply Hk
  iexact S

/-- Part 10: a product transfer of half 0. -/
theorem part10 {α : Type} {Q : α → sProp 𝕄} {K : _ → Prog (TpuEff nD τ sig (Elt F) Λ₀ .tc) α} (v2 : BitVec 32) (v305 : BitVec 32) (c2_i32_200 : BitVec 32) :
    iprop(Recs m ∗ SO m 0 c (stat 0 .cm .se 1 c) (OX c 0))
      ⊢ iprop((∀ w, (SO m 0 c (stat 0 .cm .se 2 c) (OX c 0)) -∗ wp frame (wpE (defs₀ (F := F)) 𝒱₀ (c : Thread nD τ) none) Set.univ (K w) Q)
        -∗ wp frame (wpE (defs₀ (F := F)) 𝒱₀ (c : Thread nD τ) none) Set.univ ((k0_part10 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v305 c2_i32_200) >>= K) Q) := by
  rw [k0_part10_eq_skeleton]; unfold k0_part10_skel
  simp only [semSignalWord, semWaitWord, Prog.lift, Prog.bind_op, Prog.bind_ret, Prog.pure_eq_ret, wp_deviceId, bind_dite]
  iintro ⟨#HR, S⟩ Hk
  iapply (cond_rsS m c 0 2 (by decide) (r := 0) (by decide) (cond5_is c) (fun _ => off10_is c) rfl (fun h => dev8_at c (k0_dev8_lt c h)) rfl rfl 1 2 rfl rfl) $$ [S]
  · isplitl []; · iexact HR
    iexact S
  iintro S
  iapply Hk
  iexact S

/-- Part 11: a product transfer of half 0. -/
theorem part11 {α : Type} {Q : α → sProp 𝕄} {K : _ → Prog (TpuEff nD τ sig (Elt F) Λ₀ .tc) α} (v2 : BitVec 32) (v336 : BitVec 32) (c2_i32_216 : BitVec 32) (v337 : BitVec 32) (v342 : BitVec 32) (v344 : BitVec 32) (c0_i32_220 : BitVec 32) :
    iprop(Recs m ∗ SO m 0 c (stat 0 .cm .se 2 c) (OX c 0))
      ⊢ iprop((∀ w, (SO m 0 c (stat 0 .cm .se 3 c) (OX c 0)) -∗ wp frame (wpE (defs₀ (F := F)) 𝒱₀ (c : Thread nD τ) none) Set.univ (K w) Q)
        -∗ wp frame (wpE (defs₀ (F := F)) 𝒱₀ (c : Thread nD τ) none) Set.univ ((k0_part11 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v336 c2_i32_216 v337 v342 v344 c0_i32_220) >>= K) Q) := by
  rw [k0_part11_eq_skeleton]; unfold k0_part11_skel
  simp only [semSignalWord, semWaitWord, Prog.lift, Prog.bind_op, Prog.bind_ret, Prog.pure_eq_ret, wp_deviceId, bind_dite]
  iintro ⟨#HR, S⟩ Hk
  iapply (cond_rsS m c 0 3 (by decide) (r := 0) (by decide) (cond6_is c) (fun _ => off11_is c) rfl (fun h => dev9_at c (k0_dev9_lt c h)) rfl rfl 2 3 rfl rfl) $$ [S]
  · isplitl []; · iexact HR
    iexact S
  iintro S
  iapply Hk
  iexact S

/-- Part 12: rows of half 1. -/
theorem part12 {α : Type} {Q : α → sProp 𝕄} {K : _ → Prog (TpuEff nD τ sig (Elt F) Λ₀ .tc) α} (v2 : BitVec 32) (v384 : BitVec 32) (c1_i32_239 : BitVec 32) :
    iprop(Recs m ∗ SO m 0 c (stat 0 .cm .se 3 c) (OX c 0))
      ⊢ iprop((∀ w, (SO m 0 c (stat 1 .pe .ar 2 c) (OX c 0)) -∗ wp frame (wpE (defs₀ (F := F)) 𝒱₀ (c : Thread nD τ) none) Set.univ (K w) Q)
        -∗ wp frame (wpE (defs₀ (F := F)) 𝒱₀ (c : Thread nD τ) none) Set.univ ((k0_part12 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v384 c1_i32_239) >>= K) Q) := by
  rw [k0_part12_eq_skeleton]; unfold k0_part12_skel
  simp only [semSignalWord, semWaitWord, Prog.lift, Prog.bind_op, Prog.bind_ret, Prog.pure_eq_ret, wp_deviceId, bind_dite]
  iintro ⟨#HR, S⟩ Hk
  ihave J := (SO_next m c 0 (OX c 0)) $$ S
  icases J with S
  iapply (cond_agR m c 1 1 (by decide) (r := 0) (by decide) (cond7_is c) rfl (above_X2 c 0) 0 1 rfl rfl) $$ [S]
  · isplitl []; · iexact HR
    iexact S
  iintro S
  iapply (cond_agR m c 1 2 (by decide) (r := 0) (by decide) (cond8_is c) rfl (above_X2 c 0) 1 2 rfl rfl) $$ [S]
  · isplitl []; · iexact HR
    iexact S
  iintro S
  iapply Hk
  iexact S

/-- Part 13: rows of half 1, and its products. -/
theorem part13 {α : Type} {Q : α → sProp 𝕄} {K : _ → Prog (TpuEff nD τ sig (Elt F) Λ₀ .tc) α} (v419 : BitVec 32) (v421 : BitVec 32) :
    iprop(Recs m ∗ SO m 0 c (stat 1 .pe .ar 2 c) (OX c 0) ∗ bufP c cc0_scratch5 (wbV m (ly 0) c) ∗ bufP c cc0_scratch6 (obV m (ly 0) c))
      ⊢ iprop(((SO m 0 c (stat 1 .pe .ar 3 c) (OX c 0) ∗ bufP c cc0_scratch5 (wbV m (ly 0) c) ∗ bufP c cc0_scratch6 (obV m (ly 0) c)) -∗ wp frame (wpE (defs₀ (F := F)) 𝒱₀ (c : Thread nD τ) none) Set.univ (K (k0_pay6 (xaM.view.readAt (Elt F) (halfR 1).toLoadRect (XA m (ly 0))) (wbV m (ly 0) c) (obV m (ly 0) c))) Q)
        -∗ wp frame (wpE (defs₀ (F := F)) 𝒱₀ (c : Thread nD τ) none) Set.univ ((k0_part13 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v419 v421) >>= K) Q) := by
  rw [k0_part13_eq_skeleton]; unfold k0_part13_skel
  simp only [semSignalWord, semWaitWord, Prog.lift, Prog.bind_op, Prog.bind_ret, Prog.pure_eq_ret, wp_deviceId, bind_dite]
  iintro ⟨#HR, S, B, D⟩ Hk
  iapply (cond_agR m c 1 3 (by decide) (r := 0) (by decide) (cond9_is c) rfl (above_X2 c 0) 2 3 rfl rfl) $$ [S]
  · isplitl []; · iexact HR
    iexact S
  iintro S
  iapply (load_xa m c 1 rfl 0 (OX c 0)) $$ S
  iintro S
  iapply (load_wb c off_zero (wbV m (ly 0) c)) $$ B
  iintro B
  iapply (load_ob c off_zero (obV m (ly 0) c)) $$ D
  iintro D
  iapply Hk
  isplitl [S]; · iexact S
  isplitl [B]; · iexact B
  iexact D

/-- Part 14: the products of half 1 are stored; a product transfer. -/
theorem part14 {α : Type} {Q : α → sProp 𝕄} {K : _ → Prog (TpuEff nD τ sig (Elt F) Λ₀ .tc) α} (v2 : BitVec 32) :
    iprop(Recs m ∗ SO m 0 c (stat 1 .pe .ar 3 c) (OX c 0))
      ⊢ iprop((∀ w, (SO m 0 c (stat 1 .cm .se 1 c) (OX c 0)) -∗ wp frame (wpE (defs₀ (F := F)) 𝒱₀ (c : Thread nD τ) none) Set.univ (K w) Q)
        -∗ wp frame (wpE (defs₀ (F := F)) 𝒱₀ (c : Thread nD τ) none) Set.univ ((k0_part14 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 (k0_pay6 (xaM.view.readAt (Elt F) (halfR 1).toLoadRect (XA m (ly 0))) (wbV m (ly 0) c) (obV m (ly 0) c))) >>= K) Q) := by
  rw [k0_part14_eq_skeleton]; unfold k0_part14_skel
  simp only [semSignalWord, semWaitWord, Prog.lift, Prog.bind_op, Prog.bind_ret, Prog.pure_eq_ret, wp_deviceId, bind_dite]
  iintro ⟨#HR, S⟩ Hk
  iapply (load_sb m c 1 rfl 0 (OX c 0)) $$ S
  iintro %v S
  iapply (store_sb m c 1 rfl 0 (OX c 0) rfl) $$ S
  iintro S
  iapply (cond_rsS m c 1 1 (by decide) (r := 0) (by decide) (cond10_is c) (fun _ => off18_is c) rfl (fun h => dev10_at c (k0_dev10_lt c h)) rfl rfl 0 1 rfl rfl) $$ [S]
  · isplitl []; · iexact HR
    iexact S
  iintro S
  iapply Hk
  iexact S

/-- Part 15: a product transfer of half 1. -/
theorem part15 {α : Type} {Q : α → sProp 𝕄} {K : _ → Prog (TpuEff nD τ sig (Elt F) Λ₀ .tc) α} (v2 : BitVec 32) (v495 : BitVec 32) (c4_i32_302 : BitVec 32) :
    iprop(Recs m ∗ SO m 0 c (stat 1 .cm .se 1 c) (OX c 0))
      ⊢ iprop((∀ w, (SO m 0 c (stat 1 .cm .se 2 c) (OX c 0)) -∗ wp frame (wpE (defs₀ (F := F)) 𝒱₀ (c : Thread nD τ) none) Set.univ (K w) Q)
        -∗ wp frame (wpE (defs₀ (F := F)) 𝒱₀ (c : Thread nD τ) none) Set.univ ((k0_part15 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v495 c4_i32_302) >>= K) Q) := by
  rw [k0_part15_eq_skeleton]; unfold k0_part15_skel
  simp only [semSignalWord, semWaitWord, Prog.lift, Prog.bind_op, Prog.bind_ret, Prog.pure_eq_ret, wp_deviceId, bind_dite]
  iintro ⟨#HR, S⟩ Hk
  iapply (cond_rsS m c 1 2 (by decide) (r := 0) (by decide) (cond11_is c) (fun _ => off19_is c) rfl (fun h => dev11_at c (k0_dev11_lt c h)) rfl rfl 1 2 rfl rfl) $$ [S]
  · isplitl []; · iexact HR
    iexact S
  iintro S
  iapply Hk
  iexact S

/-- Part 16: the last product transfer of layer 0; the first weight of layer 1. -/
theorem part16 {α : Type} {Q : α → sProp 𝕄} {K : _ → Prog (TpuEff nD τ sig (Elt F) Λ₀ .tc) α} (v528 : BitVec 32) (v529 : BitVec 32) (v530 : BitVec 1) (v533 : BitVec 1) :
    iprop(Recs m ∗ SO m 0 c (stat 1 .cm .se 2 c) (OX c 0) ∗ wSent c (wj (ly 1)) ∗ bufP c cc0_scratch5 (wbV m (ly 0) c))
      ⊢ iprop((∀ w, (ow c (OX c 0) ∗ xaP c c (qs 0) (XA m (ly 0)) ∗ sbP c c (SBv m (ly 0) c) ∗ agHere 0 c 1 ∗ agHere 0 c 2 ∗ agHere 0 c 3 ∗ xaEnd m 0 c 1 ∗ xaEnd m 0 c 2 ∗ xaEnd m 0 c 3 ∗ rsSent 0 c 1 ∗ rsSent 0 c 2 ∗ rsSent 0 c 3 ∗ atPos ER (wC c (wj (ly 1))) 1 ∅ 0 ∗ wiP c (wsl (ly 1)) (wiB m (ly 1) c) ∗ wiAP m c (ly 1) ∗ bufP c cc0_scratch5 (wbV m (ly 1) c)) -∗ wp frame (wpE (defs₀ (F := F)) 𝒱₀ (c : Thread nD τ) none) Set.univ (K w) Q)
        -∗ wp frame (wpE (defs₀ (F := F)) 𝒱₀ (c : Thread nD τ) none) Set.univ ((k0_part16 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v528 v529 v530 v533) >>= K) Q) := by
  rw [k0_part16_eq_skeleton]; unfold k0_part16_skel
  simp only [semSignalWord, semWaitWord, Prog.lift, Prog.bind_op, Prog.bind_ret, Prog.pure_eq_ret, wp_deviceId, bind_dite]
  iintro ⟨#HR, S, W, B⟩ Hk
  iapply (cond_rsS m c 1 3 (by decide) (r := 0) (by decide) (cond12_is c) (fun _ => off20_is c) rfl (fun h => dev12_at c (k0_dev12_lt c h)) rfl rfl 2 3 rfl rfl) $$ [S]
  · isplitl []; · iexact HR
    iexact S
  iintro S
  ihave J := (St_end m c 0 (OX c 0)) $$ S
  icases J with ⟨O, Y, U, ⟨H1, E1, R1⟩, ⟨H2, E2, R2⟩, H3, E3, R3⟩
  iapply (w_wait m c (wj (ly 1)) (wPay_i m c (ly 1)) rfl (above_X0 c 0) (ni_off _ _ _)) $$ [W O]
  · isplitl []; · iexact HR
    isplitl [W]; · iexact W
    iexact O
  iintro ⟨D, ⟨W, A⟩, O⟩
  iapply (load_wi c (wsl (ly 1)) rfl (wiB m (ly 1) c)) $$ W
  iintro W
  iapply (load_wb c off_zero (wbV m (ly 0) c)) $$ B
  iintro B
  iapply (store_wb c off_zero (wbV m (ly 0) c) (wbV m (ly 1) c) rfl) $$ B
  iintro B
  iapply Hk
  isplitl [O]; · iexact O
  isplitl [Y]; · iexact Y
  isplitl [U]; · iexact U
  isplitl [H1]; · iexact H1
  isplitl [H2]; · iexact H2
  isplitl [H3]; · iexact H3
  isplitl [E1]; · iexact E1
  isplitl [E2]; · iexact E2
  isplitl [E3]; · iexact E3
  isplitl [R1]; · iexact R1
  isplitl [R2]; · iexact R2
  isplitl [R3]; · iexact R3
  isplitl [D]; · iexact D
  isplitl [W]; · iexact W
  isplitl [A]; · iexact A
  iexact B
end

end Cert.Mlp
-- ==== Proof.Body3.lean ====
/-
Parts of the body.
-/
module

public import proofs.«01_k».proof.Proof.Base

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ
variable (m : (ℓ : Loc nD τ sig) → Buf (Elt F) ℓ)

section
variable (c : Dev nD)

/-- Part 17: the products of layer 0 arrive. -/
theorem part17 {α : Type} {Q : α → sProp 𝕄} {K : _ → Prog (TpuEff nD τ sig (Elt F) Λ₀ .tc) α} (v2 : BitVec 32) (v567 : BitVec 32) :
    iprop(Recs m ∗ rsPend 0 c 3 ∗ rsPend 0 c 2 ∗ rsPend 0 c 1 ∗ ow c (OX c 0) ∗ sbP c c (SBv m (ly 0) c))
      ⊢ iprop(((rsGot m 0 c 3 ∗ rsGot m 0 c 2 ∗ rsGot m 0 c 1 ∗ ow c (OX c 0) ∗ sbP c c (SBv m (ly 0) c)) -∗ wp frame (wpE (defs₀ (F := F)) 𝒱₀ (c : Thread nD τ) none) Set.univ (K (k0_pay9 (ownRd m c (ly 0)))) Q)
        -∗ wp frame (wpE (defs₀ (F := F)) 𝒱₀ (c : Thread nD τ) none) Set.univ ((k0_part17 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v567) >>= K) Q) := by
  rw [k0_part17_eq_skeleton]; unfold k0_part17_skel
  simp only [semSignalWord, semWaitWord, Prog.lift, Prog.bind_op, Prog.bind_ret, Prog.pure_eq_ret, wp_deviceId, bind_dite]
  iintro ⟨#HR, N3, N2, N1, O, U⟩ Hk
  iapply (rsR_wait m c 3 (by decide) (r := 0) (by decide) rfl (above_OX c 0) (nb_off _ _ _)) $$ [N3 O]
  · isplitl []; · iexact HR
    isplitl [N3]; · iexact N3
    iexact O
  iintro ⟨N3, O⟩
  iapply (rsR_wait m c 2 (by decide) (r := 0) (by decide) rfl (above_OX c 0) (nb_off _ _ _)) $$ [N2 O]
  · isplitl []; · iexact HR
    isplitl [N2]; · iexact N2
    iexact O
  iintro ⟨N2, O⟩
  iapply (rsR_wait m c 1 (by decide) (r := 0) (by decide) rfl (above_OX c 0) (nb_off _ _ _)) $$ [N1 O]
  · isplitl []; · iexact HR
    isplitl [N1]; · iexact N1
    iexact O
  iintro ⟨N1, O⟩
  iapply (load_prod c c (k0_off1_eq c) (SBv m (ly 0) c)) $$ U
  iintro U
  iapply Hk
  isplitl [N3]; · iexact N3
  isplitl [N2]; · iexact N2
  isplitl [N1]; · iexact N1
  isplitl [O]; · iexact O
  iexact U

/-- Part 18: the products of layer 0 are summed. -/
theorem part18 {α : Type} {Q : α → sProp 𝕄} {K : _ → Prog (TpuEff nD τ sig (Elt F) Λ₀ .tc) α} (v2 : BitVec 32) :
    iprop(Recs m ∗ rsGot m 0 c 1 ∗ rsGot m 0 c 2 ∗ rsGot m 0 c 3 ∗ agSent 0 c 1 ∗ ow c (OX c 0))
      ⊢ iprop((∀ (a b : BitVec 32) (d : BitVec 1), (rsGot m 0 c 1 ∗ rsGot m 0 c 2 ∗ rsGot m 0 c 3 ∗ agBack m 0 c 1 ∗ ow c (OX c 0)) -∗ wp frame (wpE (defs₀ (F := F)) 𝒱₀ (c : Thread nD τ) none) Set.univ (K ⟨(k0_pay10 (k0_pay9 (ownRd m c (ly 0))) (gotRd m c (ly 0) 1) (gotRd m c (ly 0) 2) (gotRd m c (ly 0) 3)), a, b, d⟩) Q)
        -∗ wp frame (wpE (defs₀ (F := F)) 𝒱₀ (c : Thread nD τ) none) Set.univ ((k0_part18 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 (k0_pay9 (ownRd m c (ly 0)))) >>= K) Q) := by
  rw [k0_part18_eq_skeleton]; unfold k0_part18_skel
  simp only [semSignalWord, semWaitWord, Prog.lift, Prog.bind_op, Prog.bind_ret, Prog.pure_eq_ret, wp_deviceId, bind_dite]
  iintro ⟨#HR, N1, N2, N3, S1, O⟩ Hk
  iapply (load_got m c 1 0 rfl) $$ N1
  iintro N1
  iapply (load_got m c 2 0 rfl) $$ N2
  iintro N2
  iapply (load_got m c 3 0 rfl) $$ N3
  iintro N3
  iapply (agS_wait m c 1 (by decide) (r := 0) (by decide) rfl (above_X0 c 0) (nb_off _ _ _)) $$ [S1 O]
  · isplitl []; · iexact HR
    isplitl [S1]; · iexact S1
    iexact O
  iintro ⟨B1, O⟩
  iapply Hk
  isplitl [N1]; · iexact N1
  isplitl [N2]; · iexact N2
  isplitl [N3]; · iexact N3
  isplitl [B1]; · iexact B1
  iexact O

/-- Part 19: the row transfers of layer 0 are over. -/
theorem part19 {α : Type} {Q : α → sProp 𝕄} {K : _ → Prog (TpuEff nD τ sig (Elt F) Λ₀ .tc) α} (v2 : BitVec 32) (v626 : BitVec 32) (v627 : BitVec 32) (v628 : BitVec 1) :
    iprop(Recs m ∗ agSent 0 c 2 ∗ agSent 0 c 3 ∗ agBack m 0 c 1 ∗ xaP c c (qs 0) (XA m (ly 0)) ∗ ow c (OX c 0))
      ⊢ iprop(((xaP c c fullShare (XA m (ly 0)) ∗ agIdle 0 c 1 ∗ agIdle 0 c 2 ∗ agIdle 0 c 3 ∗ ow c (OX c 0)) -∗ wp frame (wpE (defs₀ (F := F)) 𝒱₀ (c : Thread nD τ) none) Set.univ (K (k0_pay11 (k0_pay10 (k0_pay9 (ownRd m c (ly 0))) (gotRd m c (ly 0) 1) (gotRd m c (ly 0) 2) (gotRd m c (ly 0) 3)))) Q)
        -∗ wp frame (wpE (defs₀ (F := F)) 𝒱₀ (c : Thread nD τ) none) Set.univ ((k0_part19 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 (k0_pay10 (k0_pay9 (ownRd m c (ly 0))) (gotRd m c (ly 0) 1) (gotRd m c (ly 0) 2) (gotRd m c (ly 0) 3)) v626 v627 v628) >>= K) Q) := by
  rw [k0_part19_eq_skeleton]; unfold k0_part19_skel
  simp only [semSignalWord, semWaitWord, Prog.lift, Prog.bind_op, Prog.bind_ret, Prog.pure_eq_ret, wp_deviceId, bind_dite]
  iintro ⟨#HR, S2, S3, B1, Y, O⟩ Hk
  iapply (agS_wait m c 2 (by decide) (r := 0) (by decide) rfl (above_X0 c 0) (nb_off _ _ _)) $$ [S2 O]
  · isplitl []; · iexact HR
    isplitl [S2]; · iexact S2
    iexact O
  iintro ⟨B2, O⟩
  iapply (agS_wait m c 3 (by decide) (r := 0) (by decide) rfl (above_X0 c 0) (nb_off _ _ _)) $$ [S3 O]
  · isplitl []; · iexact HR
    isplitl [S3]; · iexact S3
    iexact O
  iintro ⟨B3, O⟩
  ihave J := (own_join m c 0) $$ [Y B1 B2 B3]
  · isplitl [Y]; · iexact Y
    isplitl [B1]; · iexact B1
    isplitl [B2]; · iexact B2
    iexact B3
  icases J with ⟨X, I1, I2, I3⟩
  iapply (load_own c c (k0_off1_eq c) (XA m (ly 0))) $$ X
  iintro X
  iapply Hk
  isplitl [X]; · iexact X
  isplitl [I1]; · iexact I1
  isplitl [I2]; · iexact I2
  isplitl [I3]; · iexact I3
  iexact O

/-- Part 20: the rows of layer 1 are written; a row transfer. -/
theorem part20 {α : Type} {Q : α → sProp 𝕄} {K : _ → Prog (TpuEff nD τ sig (Elt F) Λ₀ .tc) α} (v2 : BitVec 32) :
    iprop(Recs m ∗ xaP c c fullShare (XA m (ly 0)) ∗ agReady 1 c 1 ∗ ow c (OA 1 c (OX c 1)))
      ⊢ iprop((∀ w, (xaP c c (qs 0) (XA m (ly 1)) ∗ xaP c c (qs 2) (XA m (ly 1)) ∗ xaP c c (qs 3) (XA m (ly 1)) ∗ agSent 1 c 1 ∗ ow c (OS 1 c + Oag 1 c 3 + Oag 1 c 2)) -∗ wp frame (wpE (defs₀ (F := F)) 𝒱₀ (c : Thread nD τ) none) Set.univ (K w) Q)
        -∗ wp frame (wpE (defs₀ (F := F)) 𝒱₀ (c : Thread nD τ) none) Set.univ ((k0_part20 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 (k0_pay11 (k0_pay10 (k0_pay9 (ownRd m c (ly 0))) (gotRd m c (ly 0) 1) (gotRd m c (ly 0) 2) (gotRd m c (ly 0) 3)))) >>= K) Q) := by
  rw [k0_part20_eq_skeleton]; unfold k0_part20_skel
  simp only [semSignalWord, semWaitWord, Prog.lift, Prog.bind_op, Prog.bind_ret, Prog.pure_eq_ret, wp_deviceId, bind_dite]
  iintro ⟨#HR, X, R1, O⟩ Hk
  iapply (store_own c c (k0_off1_eq c) (XA m (ly 0)) (XA m (ly 1)) (rows_read m c (r := 0) (by decide))) $$ X
  iintro X
  ihave J := (own_shares c c (XA m (ly 1))).1 $$ X
  icases J with ⟨Y, X1, X2, X3⟩
  iapply (ag_send m c 1 (by decide) (r := 1) (by decide) (k0_off2_eq c) (dev13_at c (k0_dev13_lt c)) rfl rfl (OS 1 c + Oag 1 c 3 + Oag 1 c 2) rfl) $$ [R1 X1 O]
  · isplitl []; · iexact HR
    isplitl [R1]; · iexact R1
    isplitl [X1]; · iexact X1
    iexact O
  iintro ⟨S1, O⟩
  iapply Hk
  isplitl [Y]; · iexact Y
  isplitl [X2]; · iexact X2
  isplitl [X3]; · iexact X3
  isplitl [S1]; · iexact S1
  iexact O

/-- Part 21: the other row transfers of layer 1. -/
theorem part21 {α : Type} {Q : α → sProp 𝕄} {K : _ → Prog (TpuEff nD τ sig (Elt F) Λ₀ .tc) α} (v2 : BitVec 32) (v694 : BitVec 32) (c1_i32_449 : BitVec 32) :
    iprop(Recs m ∗ agReady 1 c 2 ∗ xaP c c (qs 2) (XA m (ly 1)) ∗ agReady 1 c 3 ∗ xaP c c (qs 3) (XA m (ly 1)) ∗ ow c (OS 1 c + Oag 1 c 3 + Oag 1 c 2))
      ⊢ iprop((∀ w, (agSent 1 c 2 ∗ agSent 1 c 3 ∗ ow c (OS 1 c)) -∗ wp frame (wpE (defs₀ (F := F)) 𝒱₀ (c : Thread nD τ) none) Set.univ (K w) Q)
        -∗ wp frame (wpE (defs₀ (F := F)) 𝒱₀ (c : Thread nD τ) none) Set.univ ((k0_part21 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v694 c1_i32_449) >>= K) Q) := by
  rw [k0_part21_eq_skeleton]; unfold k0_part21_skel
  simp only [semSignalWord, semWaitWord, Prog.lift, Prog.bind_op, Prog.bind_ret, Prog.pure_eq_ret, wp_deviceId, bind_dite]
  iintro ⟨#HR, R2, X2, R3, X3, O⟩ Hk
  iapply (ag_send m c 2 (by decide) (r := 1) (by decide) (k0_off2_eq c) (dev14_at c (k0_dev14_lt c)) rfl rfl (OS 1 c + Oag 1 c 3) rfl) $$ [R2 X2 O]
  · isplitl []; · iexact HR
    isplitl [R2]; · iexact R2
    isplitl [X2]; · iexact X2
    iexact O
  iintro ⟨S2, O⟩
  iapply (ag_send m c 3 (by decide) (r := 1) (by decide) (k0_off2_eq c) (dev15_at c (k0_dev15_lt c)) rfl rfl (OS 1 c) rfl) $$ [R3 X3 O]
  · isplitl []; · iexact HR
    isplitl [R3]; · iexact R3
    isplitl [X3]; · iexact X3
    iexact O
  iintro ⟨S3, O⟩
  iapply Hk
  isplitl [S2]; · iexact S2
  isplitl [S3]; · iexact S3
  iexact O

/-- Part 22: the second weight of layer 1. -/
theorem part22 {α : Type} {Q : α → sProp 𝕄} {K : _ → Prog (TpuEff nD τ sig (Elt F) Λ₀ .tc) α} (v2 : BitVec 32) :
    iprop(Recs m ∗ wSent c (wj' (ly 1)) ∗ bufP c cc0_scratch6 (obV m (ly 0) c) ∗ ow c (OS 1 c) ∗ rsSent 0 c 1)
      ⊢ iprop((∀ w, (atPos ER (wC c (wj' (ly 1))) 1 ∅ 0 ∗ woP c (wsl (ly 1)) (woB m (ly 1) c) ∗ woAP m c (ly 1) ∗ bufP c cc0_scratch6 (obV m (ly 1) c) ∗ rsBack m 0 c 1 ∗ ow c (OS 1 c)) -∗ wp frame (wpE (defs₀ (F := F)) 𝒱₀ (c : Thread nD τ) none) Set.univ (K w) Q)
        -∗ wp frame (wpE (defs₀ (F := F)) 𝒱₀ (c : Thread nD τ) none) Set.univ ((k0_part22 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2) >>= K) Q) := by
  rw [k0_part22_eq_skeleton]; unfold k0_part22_skel
  simp only [semSignalWord, semWaitWord, Prog.lift, Prog.bind_op, Prog.bind_ret, Prog.pure_eq_ret, wp_deviceId, bind_dite]
  iintro ⟨#HR, V, D, O, R1⟩ Hk
  iapply (w_wait m c (wj' (ly 1)) (wPay_o m c (ly 1)) rfl (above_O0 c (r := 1) (by decide) _) (no_off _ _ _)) $$ [V O]
  · isplitl []; · iexact HR
    isplitl [V]; · iexact V
    iexact O
  iintro ⟨E, ⟨V, A⟩, O⟩
  iapply (load_wo c (wsl (ly 1)) rfl (woB m (ly 1) c)) $$ V
  iintro V
  iapply (load_ob c off_zero (obV m (ly 0) c)) $$ D
  iintro D
  iapply (store_ob c off_zero (obV m (ly 0) c) (obV m (ly 1) c) rfl) $$ D
  iintro D
  iapply (rsS_wait m c 1 (by decide) (r := 0) (by decide) rfl (above_O0 c (r := 1) (by decide) _) (nb_off _ _ _)) $$ [R1 O]
  · isplitl []; · iexact HR
    isplitl [R1]; · iexact R1
    iexact O
  iintro ⟨Q1, O⟩
  iapply Hk
  isplitl [E]; · iexact E
  isplitl [V]; · iexact V
  isplitl [A]; · iexact A
  isplitl [D]; · iexact D
  isplitl [Q1]; · iexact Q1
  iexact O

/-- Part 23: the product transfers of layer 0 are over. -/
theorem part23 {α : Type} {Q : α → sProp 𝕄} {K : _ → Prog (TpuEff nD τ sig (Elt F) Λ₀ .tc) α} (v2 : BitVec 32) (v755 : BitVec 32) (v756 : BitVec 32) (v757 : BitVec 1) (v758 : BitVec 1) :
    iprop(Recs m ∗ rsSent 0 c 2 ∗ rsSent 0 c 3 ∗ ow c (OS 1 c))
      ⊢ iprop((∀ w, (rsBack m 0 c 2 ∗ rsBack m 0 c 3 ∗ ow c (OS 1 c)) -∗ wp frame (wpE (defs₀ (F := F)) 𝒱₀ (c : Thread nD τ) none) Set.univ (K w) Q)
        -∗ wp frame (wpE (defs₀ (F := F)) 𝒱₀ (c : Thread nD τ) none) Set.univ ((k0_part23 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v755 v756 v757 v758) >>= K) Q) := by
  rw [k0_part23_eq_skeleton]; unfold k0_part23_skel
  simp only [semSignalWord, semWaitWord, Prog.lift, Prog.bind_op, Prog.bind_ret, Prog.pure_eq_ret, wp_deviceId, bind_dite]
  iintro ⟨#HR, R2, R3, O⟩ Hk
  iapply (rsS_wait m c 2 (by decide) (r := 0) (by decide) rfl (above_O0 c (r := 1) (by decide) _) (nb_off _ _ _)) $$ [R2 O]
  · isplitl []; · iexact HR
    isplitl [R2]; · iexact R2
    iexact O
  iintro ⟨Q2, O⟩
  iapply (rsS_wait m c 3 (by decide) (r := 0) (by decide) rfl (above_O0 c (r := 1) (by decide) _) (nb_off _ _ _)) $$ [R3 O]
  · isplitl []; · iexact HR
    isplitl [R3]; · iexact R3
    iexact O
  iintro ⟨Q3, O⟩
  iapply Hk
  isplitl [Q2]; · iexact Q2
  isplitl [Q3]; · iexact Q3
  iexact O
end

end Cert.Mlp
-- ==== Proof.Body4.lean ====
/-
Parts of the body.
-/
module

public import proofs.«01_k».proof.Proof.Base

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ
variable (m : (ℓ : Loc nD τ sig) → Buf (Elt F) ℓ)

section
variable (c : Dev nD)

/-- Part 24: rows of half 0. -/
theorem part24 {α : Type} {Q : α → sProp 𝕄} {K : _ → Prog (TpuEff nD τ sig (Elt F) Λ₀ .tc) α} (v2 : BitVec 32) (v787 : BitVec 32) (c4_i32_528 : BitVec 32) (c0_i32_529 : BitVec 32) :
    iprop(Recs m ∗ SO m 1 c (stat 0 .pe .ar 0 c) (OX c 1))
      ⊢ iprop((∀ w, (SO m 1 c (stat 0 .pe .ar 1 c) (OX c 1)) -∗ wp frame (wpE (defs₀ (F := F)) 𝒱₀ (c : Thread nD τ) none) Set.univ (K w) Q)
        -∗ wp frame (wpE (defs₀ (F := F)) 𝒱₀ (c : Thread nD τ) none) Set.univ ((k0_part24 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v787 c4_i32_528 c0_i32_529) >>= K) Q) := by
  rw [k0_part24_eq_skeleton]; unfold k0_part24_skel
  simp only [semSignalWord, semWaitWord, Prog.lift, Prog.bind_op, Prog.bind_ret, Prog.pure_eq_ret, wp_deviceId, bind_dite]
  iintro ⟨#HR, S⟩ Hk
  iapply (cond_agR m c 0 1 (by decide) (r := 1) (by decide) (cond13_is c) rfl (above_X2 c 1) 0 1 rfl rfl) $$ [S]
  · isplitl []; · iexact HR
    iexact S
  iintro S
  iapply Hk
  iexact S

/-- Part 25: rows of half 0. -/
theorem part25 {α : Type} {Q : α → sProp 𝕄} {K : _ → Prog (TpuEff nD τ sig (Elt F) Λ₀ .tc) α} (v2 : BitVec 32) (v820 : BitVec 32) (v821 : BitVec 32) (v826 : BitVec 1) :
    iprop(Recs m ∗ SO m 1 c (stat 0 .pe .ar 1 c) (OX c 1))
      ⊢ iprop((∀ w, (SO m 1 c (stat 0 .pe .ar 2 c) (OX c 1)) -∗ wp frame (wpE (defs₀ (F := F)) 𝒱₀ (c : Thread nD τ) none) Set.univ (K w) Q)
        -∗ wp frame (wpE (defs₀ (F := F)) 𝒱₀ (c : Thread nD τ) none) Set.univ ((k0_part25 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v820 v821 v826) >>= K) Q) := by
  rw [k0_part25_eq_skeleton]; unfold k0_part25_skel
  simp only [semSignalWord, semWaitWord, Prog.lift, Prog.bind_op, Prog.bind_ret, Prog.pure_eq_ret, wp_deviceId, bind_dite]
  iintro ⟨#HR, S⟩ Hk
  iapply (cond_agR m c 0 2 (by decide) (r := 1) (by decide) (cond14_is c) rfl (above_X2 c 1) 1 2 rfl rfl) $$ [S]
  · isplitl []; · iexact HR
    iexact S
  iintro S
  iapply Hk
  iexact S

/-- Part 26: the products of half 0. -/
theorem part26 {α : Type} {Q : α → sProp 𝕄} {K : _ → Prog (TpuEff nD τ sig (Elt F) Λ₀ .tc) α} (v2 : BitVec 32) (v859 : BitVec 32) (c2_i32_566 : BitVec 32) (v860 : BitVec 32) (v865 : BitVec 32) (c0_i32_569 : BitVec 32) :
    iprop(Recs m ∗ SO m 1 c (stat 0 .pe .ar 2 c) (OX c 1) ∗ bufP c cc0_scratch5 (wbV m (ly 1) c) ∗ bufP c cc0_scratch6 (obV m (ly 1) c))
      ⊢ iprop((∀ w, (SO m 1 c (stat 0 .cm .se 0 c) (OX c 1) ∗ bufP c cc0_scratch5 (wbV m (ly 1) c) ∗ bufP c cc0_scratch6 (obV m (ly 1) c)) -∗ wp frame (wpE (defs₀ (F := F)) 𝒱₀ (c : Thread nD τ) none) Set.univ (K w) Q)
        -∗ wp frame (wpE (defs₀ (F := F)) 𝒱₀ (c : Thread nD τ) none) Set.univ ((k0_part26 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v859 c2_i32_566 v860 v865 c0_i32_569) >>= K) Q) := by
  rw [k0_part26_eq_skeleton]; unfold k0_part26_skel
  simp only [semSignalWord, semWaitWord, Prog.lift, Prog.bind_op, Prog.bind_ret, Prog.pure_eq_ret, wp_deviceId, bind_dite]
  iintro ⟨#HR, S, B, D⟩ Hk
  iapply (cond_agR m c 0 3 (by decide) (r := 1) (by decide) (cond15_is c) rfl (above_X2 c 1) 2 3 rfl rfl) $$ [S]
  · isplitl []; · iexact HR
    iexact S
  iintro S
  iapply (load_xa m c 0 rfl 1 (OX c 1)) $$ S
  iintro S
  iapply (load_wb c off_zero (wbV m (ly 1) c)) $$ B
  iintro B
  iapply (load_ob c off_zero (obV m (ly 1) c)) $$ D
  iintro D
  iapply (load_sb m c 0 rfl 1 (OX c 1)) $$ S
  iintro %v S
  iapply (store_sb m c 0 rfl 1 (OX c 1) rfl) $$ S
  iintro S
  iapply Hk
  isplitl [S]; · iexact S
  isplitl [B]; · iexact B
  iexact D

/-- Part 27: a product transfer of half 0. -/
theorem part27 {α : Type} {Q : α → sProp 𝕄} {K : _ → Prog (TpuEff nD τ sig (Elt F) Λ₀ .tc) α} (v2 : BitVec 32) (v896 : BitVec 32) (v897 : BitVec 32) (v898 : BitVec 1) (v899 : BitVec 1) :
    iprop(Recs m ∗ SO m 1 c (stat 0 .cm .se 0 c) (OX c 1))
      ⊢ iprop((∀ w, (SO m 1 c (stat 0 .cm .se 1 c) (OX c 1)) -∗ wp frame (wpE (defs₀ (F := F)) 𝒱₀ (c : Thread nD τ) none) Set.univ (K w) Q)
        -∗ wp frame (wpE (defs₀ (F := F)) 𝒱₀ (c : Thread nD τ) none) Set.univ ((k0_part27 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v896 v897 v898 v899) >>= K) Q) := by
  rw [k0_part27_eq_skeleton]; unfold k0_part27_skel
  simp only [semSignalWord, semWaitWord, Prog.lift, Prog.bind_op, Prog.bind_ret, Prog.pure_eq_ret, wp_deviceId, bind_dite]
  iintro ⟨#HR, S⟩ Hk
  iapply (cond_rsS m c 0 1 (by decide) (r := 1) (by decide) (cond16_is c) (fun _ => off28_is c) rfl (fun h => dev16_at c (k0_dev16_lt c h)) rfl rfl 0 1 rfl rfl) $$ [S]
  · isplitl []; · iexact HR
    iexact S
  iintro S
  iapply Hk
  iexact S

/-- Part 28: a product transfer of half 0. -/
theorem part28 {α : Type} {Q : α → sProp 𝕄} {K : _ → Prog (TpuEff nD τ sig (Elt F) Λ₀ .tc) α} (v2 : BitVec 32) (v935 : BitVec 32) (c2_i32_611 : BitVec 32) (v936 : BitVec 32) (v938 : BitVec 32) (c0_i32_613 : BitVec 32) :
    iprop(Recs m ∗ SO m 1 c (stat 0 .cm .se 1 c) (OX c 1))
      ⊢ iprop((∀ w, (SO m 1 c (stat 0 .cm .se 2 c) (OX c 1)) -∗ wp frame (wpE (defs₀ (F := F)) 𝒱₀ (c : Thread nD τ) none) Set.univ (K w) Q)
        -∗ wp frame (wpE (defs₀ (F := F)) 𝒱₀ (c : Thread nD τ) none) Set.univ ((k0_part28 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v935 c2_i32_611 v936 v938 c0_i32_613) >>= K) Q) := by
  rw [k0_part28_eq_skeleton]; unfold k0_part28_skel
  simp only [semSignalWord, semWaitWord, Prog.lift, Prog.bind_op, Prog.bind_ret, Prog.pure_eq_ret, wp_deviceId, bind_dite]
  iintro ⟨#HR, S⟩ Hk
  iapply (cond_rsS m c 0 2 (by decide) (r := 1) (by decide) (cond17_is c) (fun _ => off29_is c) rfl (fun h => dev17_at c (k0_dev17_lt c h)) rfl rfl 1 2 rfl rfl) $$ [S]
  · isplitl []; · iexact HR
    iexact S
  iintro S
  iapply Hk
  iexact S

/-- Part 29: the last product transfer of half 0; rows of half 1. -/
theorem part29 {α : Type} {Q : α → sProp 𝕄} {K : _ → Prog (TpuEff nD τ sig (Elt F) Λ₀ .tc) α} (v2 : BitVec 32) (v966 : BitVec 32) (v967 : BitVec 32) (v978 : BitVec 1) (v979 : BitVec 32) :
    iprop(Recs m ∗ SO m 1 c (stat 0 .cm .se 2 c) (OX c 1))
      ⊢ iprop((∀ w, (SO m 1 c (stat 1 .pe .ar 1 c) (OX c 1)) -∗ wp frame (wpE (defs₀ (F := F)) 𝒱₀ (c : Thread nD τ) none) Set.univ (K w) Q)
        -∗ wp frame (wpE (defs₀ (F := F)) 𝒱₀ (c : Thread nD τ) none) Set.univ ((k0_part29 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v966 v967 v978 v979) >>= K) Q) := by
  rw [k0_part29_eq_skeleton]; unfold k0_part29_skel
  simp only [semSignalWord, semWaitWord, Prog.lift, Prog.bind_op, Prog.bind_ret, Prog.pure_eq_ret, wp_deviceId, bind_dite]
  iintro ⟨#HR, S⟩ Hk
  iapply (cond_rsS m c 0 3 (by decide) (r := 1) (by decide) (cond18_is c) (fun _ => off30_is c) rfl (fun h => dev18_at c (k0_dev18_lt c h)) rfl rfl 2 3 rfl rfl) $$ [S]
  · isplitl []; · iexact HR
    iexact S
  iintro S
  ihave J := (SO_next m c 1 (OX c 1)) $$ S
  icases J with S
  iapply (cond_agR m c 1 1 (by decide) (r := 1) (by decide) (cond19_is c) rfl (above_X2 c 1) 0 1 rfl rfl) $$ [S]
  · isplitl []; · iexact HR
    iexact S
  iintro S
  iapply Hk
  iexact S

/-- Part 30: rows of half 1. -/
theorem part30 {α : Type} {Q : α → sProp 𝕄} {K : _ → Prog (TpuEff nD τ sig (Elt F) Λ₀ .tc) α} (v2 : BitVec 32) :
    iprop(Recs m ∗ SO m 1 c (stat 1 .pe .ar 1 c) (OX c 1))
      ⊢ iprop((∀ w, (SO m 1 c (stat 1 .pe .ar 2 c) (OX c 1)) -∗ wp frame (wpE (defs₀ (F := F)) 𝒱₀ (c : Thread nD τ) none) Set.univ (K w) Q)
        -∗ wp frame (wpE (defs₀ (F := F)) 𝒱₀ (c : Thread nD τ) none) Set.univ ((k0_part30 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2) >>= K) Q) := by
  rw [k0_part30_eq_skeleton]; unfold k0_part30_skel
  simp only [semSignalWord, semWaitWord, Prog.lift, Prog.bind_op, Prog.bind_ret, Prog.pure_eq_ret, wp_deviceId, bind_dite]
  iintro ⟨#HR, S⟩ Hk
  iapply (cond_agR m c 1 2 (by decide) (r := 1) (by decide) (cond20_is c) rfl (above_X2 c 1) 1 2 rfl rfl) $$ [S]
  · isplitl []; · iexact HR
    iexact S
  iintro S
  iapply Hk
  iexact S

/-- Part 31: rows of half 1, and its products. -/
theorem part31 {α : Type} {Q : α → sProp 𝕄} {K : _ → Prog (TpuEff nD τ sig (Elt F) Λ₀ .tc) α} (v1051 : BitVec 32) (v1052 : BitVec 32) (v1053 : BitVec 1) (v1054 : BitVec 1) :
    iprop(Recs m ∗ SO m 1 c (stat 1 .pe .ar 2 c) (OX c 1) ∗ bufP c cc0_scratch5 (wbV m (ly 1) c) ∗ bufP c cc0_scratch6 (obV m (ly 1) c))
      ⊢ iprop(((SO m 1 c (stat 1 .pe .ar 3 c) (OX c 1) ∗ bufP c cc0_scratch5 (wbV m (ly 1) c) ∗ bufP c cc0_scratch6 (obV m (ly 1) c)) -∗ wp frame (wpE (defs₀ (F := F)) 𝒱₀ (c : Thread nD τ) none) Set.univ (K (k0_pay15 (xaM.view.readAt (Elt F) (halfR 1).toLoadRect (XA m (ly 1))) (wbV m (ly 1) c) (obV m (ly 1) c))) Q)
        -∗ wp frame (wpE (defs₀ (F := F)) 𝒱₀ (c : Thread nD τ) none) Set.univ ((k0_part31 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v1051 v1052 v1053 v1054) >>= K) Q) := by
  rw [k0_part31_eq_skeleton]; unfold k0_part31_skel
  simp only [semSignalWord, semWaitWord, Prog.lift, Prog.bind_op, Prog.bind_ret, Prog.pure_eq_ret, wp_deviceId, bind_dite]
  iintro ⟨#HR, S, B, D⟩ Hk
  iapply (cond_agR m c 1 3 (by decide) (r := 1) (by decide) (cond21_is c) rfl (above_X2 c 1) 2 3 rfl rfl) $$ [S]
  · isplitl []; · iexact HR
    iexact S
  iintro S
  iapply (load_xa m c 1 rfl 1 (OX c 1)) $$ S
  iintro S
  iapply (load_wb c off_zero (wbV m (ly 1) c)) $$ B
  iintro B
  iapply (load_ob c off_zero (obV m (ly 1) c)) $$ D
  iintro D
  iapply Hk
  isplitl [S]; · iexact S
  isplitl [B]; · iexact B
  iexact D

/-- Part 32: the products of half 1 are stored; a product transfer. -/
theorem part32 {α : Type} {Q : α → sProp 𝕄} {K : _ → Prog (TpuEff nD τ sig (Elt F) Λ₀ .tc) α} (v2 : BitVec 32) :
    iprop(Recs m ∗ SO m 1 c (stat 1 .pe .ar 3 c) (OX c 1))
      ⊢ iprop((∀ w, (SO m 1 c (stat 1 .cm .se 1 c) (OX c 1)) -∗ wp frame (wpE (defs₀ (F := F)) 𝒱₀ (c : Thread nD τ) none) Set.univ (K w) Q)
        -∗ wp frame (wpE (defs₀ (F := F)) 𝒱₀ (c : Thread nD τ) none) Set.univ ((k0_part32 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 (k0_pay15 (xaM.view.readAt (Elt F) (halfR 1).toLoadRect (XA m (ly 1))) (wbV m (ly 1) c) (obV m (ly 1) c))) >>= K) Q) := by
  rw [k0_part32_eq_skeleton]; unfold k0_part32_skel
  simp only [semSignalWord, semWaitWord, Prog.lift, Prog.bind_op, Prog.bind_ret, Prog.pure_eq_ret, wp_deviceId, bind_dite]
  iintro ⟨#HR, S⟩ Hk
  iapply (load_sb m c 1 rfl 1 (OX c 1)) $$ S
  iintro %v S
  iapply (store_sb m c 1 rfl 1 (OX c 1) rfl) $$ S
  iintro S
  iapply (cond_rsS m c 1 1 (by decide) (r := 1) (by decide) (cond22_is c) (fun _ => off37_is c) rfl (fun h => dev19_at c (k0_dev19_lt c h)) rfl rfl 0 1 rfl rfl) $$ [S]
  · isplitl []; · iexact HR
    iexact S
  iintro S
  iapply Hk
  iexact S

/-- Part 33: a product transfer of half 1. -/
theorem part33 {α : Type} {Q : α → sProp 𝕄} {K : _ → Prog (TpuEff nD τ sig (Elt F) Λ₀ .tc) α} (v2 : BitVec 32) (v1127 : BitVec 32) (v1128 : BitVec 32) :
    iprop(Recs m ∗ SO m 1 c (stat 1 .cm .se 1 c) (OX c 1))
      ⊢ iprop((∀ w, (SO m 1 c (stat 1 .cm .se 2 c) (OX c 1)) -∗ wp frame (wpE (defs₀ (F := F)) 𝒱₀ (c : Thread nD τ) none) Set.univ (K w) Q)
        -∗ wp frame (wpE (defs₀ (F := F)) 𝒱₀ (c : Thread nD τ) none) Set.univ ((k0_part33 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v1127 v1128) >>= K) Q) := by
  rw [k0_part33_eq_skeleton]; unfold k0_part33_skel
  simp only [semSignalWord, semWaitWord, Prog.lift, Prog.bind_op, Prog.bind_ret, Prog.pure_eq_ret, wp_deviceId, bind_dite]
  iintro ⟨#HR, S⟩ Hk
  iapply (cond_rsS m c 1 2 (by decide) (r := 1) (by decide) (cond23_is c) (fun _ => off38_is c) rfl (fun h => dev20_at c (k0_dev20_lt c h)) rfl rfl 1 2 rfl rfl) $$ [S]
  · isplitl []; · iexact HR
    iexact S
  iintro S
  iapply Hk
  iexact S

/-- Part 34: the last product transfer of layer 1; the first weight of layer 2. -/
theorem part34 {α : Type} {Q : α → sProp 𝕄} {K : _ → Prog (TpuEff nD τ sig (Elt F) Λ₀ .tc) α} (v1166 : BitVec 32) (c2_i32_736 : BitVec 32) (v1167 : BitVec 32) :
    iprop(Recs m ∗ SO m 1 c (stat 1 .cm .se 2 c) (OX c 1) ∗ wSent c (wj (ly 2)) ∗ bufP c cc0_scratch5 (wbV m (ly 1) c))
      ⊢ iprop((∀ w, (ow c (OX c 1) ∗ xaP c c (qs 0) (XA m (ly 1)) ∗ sbP c c (SBv m (ly 1) c) ∗ agHere 1 c 1 ∗ agHere 1 c 2 ∗ agHere 1 c 3 ∗ xaEnd m 1 c 1 ∗ xaEnd m 1 c 2 ∗ xaEnd m 1 c 3 ∗ rsSent 1 c 1 ∗ rsSent 1 c 2 ∗ rsSent 1 c 3 ∗ atPos ER (wC c (wj (ly 2))) 1 ∅ 0 ∗ wiP c (wsl (ly 2)) (wiB m (ly 2) c) ∗ wiAP m c (ly 2) ∗ bufP c cc0_scratch5 (wbV m (ly 2) c)) -∗ wp frame (wpE (defs₀ (F := F)) 𝒱₀ (c : Thread nD τ) none) Set.univ (K w) Q)
        -∗ wp frame (wpE (defs₀ (F := F)) 𝒱₀ (c : Thread nD τ) none) Set.univ ((k0_part34 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v1166 c2_i32_736 v1167) >>= K) Q) := by
  rw [k0_part34_eq_skeleton]; unfold k0_part34_skel
  simp only [semSignalWord, semWaitWord, Prog.lift, Prog.bind_op, Prog.bind_ret, Prog.pure_eq_ret, wp_deviceId, bind_dite]
  iintro ⟨#HR, S, W, B⟩ Hk
  iapply (cond_rsS m c 1 3 (by decide) (r := 1) (by decide) (cond24_is c) (fun _ => off39_is c) rfl (fun h => dev21_at c (k0_dev21_lt c h)) rfl rfl 2 3 rfl rfl) $$ [S]
  · isplitl []; · iexact HR
    iexact S
  iintro S
  ihave J := (St_end m c 1 (OX c 1)) $$ S
  icases J with ⟨O, Y, U, ⟨H1, E1, R1⟩, ⟨H2, E2, R2⟩, H3, E3, R3⟩
  iapply (w_wait m c (wj (ly 2)) (wPay_i m c (ly 2)) rfl (above_X0 c 1) (ni_off _ _ _)) $$ [W O]
  · isplitl []; · iexact HR
    isplitl [W]; · iexact W
    iexact O
  iintro ⟨D, ⟨W, A⟩, O⟩
  iapply (load_wi c (wsl (ly 2)) rfl (wiB m (ly 2) c)) $$ W
  iintro W
  iapply (load_wb c off_zero (wbV m (ly 1) c)) $$ B
  iintro B
  iapply (store_wb c off_zero (wbV m (ly 1) c) (wbV m (ly 2) c) rfl) $$ B
  iintro B
  iapply Hk
  isplitl [O]; · iexact O
  isplitl [Y]; · iexact Y
  isplitl [U]; · iexact U
  isplitl [H1]; · iexact H1
  isplitl [H2]; · iexact H2
  isplitl [H3]; · iexact H3
  isplitl [E1]; · iexact E1
  isplitl [E2]; · iexact E2
  isplitl [E3]; · iexact E3
  isplitl [R1]; · iexact R1
  isplitl [R2]; · iexact R2
  isplitl [R3]; · iexact R3
  isplitl [D]; · iexact D
  isplitl [W]; · iexact W
  isplitl [A]; · iexact A
  iexact B
end

end Cert.Mlp
-- ==== Proof.Body5.lean ====
/-
Parts of the body.
-/
module

public import proofs.«01_k».proof.Proof.Base

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ
variable (m : (ℓ : Loc nD τ sig) → Buf (Elt F) ℓ)

section
variable (c : Dev nD)

/-- Part 35: the products of layer 1 arrive. -/
theorem part35 {α : Type} {Q : α → sProp 𝕄} {K : _ → Prog (TpuEff nD τ sig (Elt F) Λ₀ .tc) α} (v2 : BitVec 32) :
    iprop(Recs m ∗ rsPend 1 c 3 ∗ rsPend 1 c 2 ∗ rsPend 1 c 1 ∗ ow c (OX c 1) ∗ sbP c c (SBv m (ly 1) c))
      ⊢ iprop(((rsGot m 1 c 3 ∗ rsGot m 1 c 2 ∗ rsGot m 1 c 1 ∗ ow c (OX c 1) ∗ sbP c c (SBv m (ly 1) c)) -∗ wp frame (wpE (defs₀ (F := F)) 𝒱₀ (c : Thread nD τ) none) Set.univ (K (k0_pay18 (ownRd m c (ly 1)) (gotRd m c (ly 1) 1))) Q)
        -∗ wp frame (wpE (defs₀ (F := F)) 𝒱₀ (c : Thread nD τ) none) Set.univ ((k0_part35 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2) >>= K) Q) := by
  rw [k0_part35_eq_skeleton]; unfold k0_part35_skel
  simp only [semSignalWord, semWaitWord, Prog.lift, Prog.bind_op, Prog.bind_ret, Prog.pure_eq_ret, wp_deviceId, bind_dite]
  iintro ⟨#HR, N3, N2, N1, O, U⟩ Hk
  iapply (rsR_wait m c 3 (by decide) (r := 1) (by decide) rfl (above_OX c 1) (nb_off _ _ _)) $$ [N3 O]
  · isplitl []; · iexact HR
    isplitl [N3]; · iexact N3
    iexact O
  iintro ⟨N3, O⟩
  iapply (rsR_wait m c 2 (by decide) (r := 1) (by decide) rfl (above_OX c 1) (nb_off _ _ _)) $$ [N2 O]
  · isplitl []; · iexact HR
    isplitl [N2]; · iexact N2
    iexact O
  iintro ⟨N2, O⟩
  iapply (rsR_wait m c 1 (by decide) (r := 1) (by decide) rfl (above_OX c 1) (nb_off _ _ _)) $$ [N1 O]
  · isplitl []; · iexact HR
    isplitl [N1]; · iexact N1
    iexact O
  iintro ⟨N1, O⟩
  iapply (load_prod c c (k0_off1_eq c) (SBv m (ly 1) c)) $$ U
  iintro U
  iapply (load_got m c 1 1 rfl) $$ N1
  iintro N1
  iapply Hk
  isplitl [N3]; · iexact N3
  isplitl [N2]; · iexact N2
  isplitl [N1]; · iexact N1
  isplitl [O]; · iexact O
  iexact U

/-- Part 36: the products of layer 1 are summed. -/
theorem part36 {α : Type} {Q : α → sProp 𝕄} {K : _ → Prog (TpuEff nD τ sig (Elt F) Λ₀ .tc) α} (v2 : BitVec 32) :
    iprop(Recs m ∗ rsGot m 1 c 2 ∗ rsGot m 1 c 3 ∗ agSent 1 c 1 ∗ ow c (OX c 1))
      ⊢ iprop((∀ (a b : BitVec 32) (d e : BitVec 1), (rsGot m 1 c 2 ∗ rsGot m 1 c 3 ∗ agBack m 1 c 1 ∗ ow c (OX c 1)) -∗ wp frame (wpE (defs₀ (F := F)) 𝒱₀ (c : Thread nD τ) none) Set.univ (K ⟨(k0_pay19 (k0_pay18 (ownRd m c (ly 1)) (gotRd m c (ly 1) 1)) (gotRd m c (ly 1) 2) (gotRd m c (ly 1) 3)), a, b, d, e⟩) Q)
        -∗ wp frame (wpE (defs₀ (F := F)) 𝒱₀ (c : Thread nD τ) none) Set.univ ((k0_part36 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 (k0_pay18 (ownRd m c (ly 1)) (gotRd m c (ly 1) 1))) >>= K) Q) := by
  rw [k0_part36_eq_skeleton]; unfold k0_part36_skel
  simp only [semSignalWord, semWaitWord, Prog.lift, Prog.bind_op, Prog.bind_ret, Prog.pure_eq_ret, wp_deviceId, bind_dite]
  iintro ⟨#HR, N2, N3, S1, O⟩ Hk
  iapply (load_got m c 2 1 rfl) $$ N2
  iintro N2
  iapply (load_got m c 3 1 rfl) $$ N3
  iintro N3
  iapply (agS_wait m c 1 (by decide) (r := 1) (by decide) rfl (above_X0 c 1) (nb_off _ _ _)) $$ [S1 O]
  · isplitl []; · iexact HR
    isplitl [S1]; · iexact S1
    iexact O
  iintro ⟨B1, O⟩
  iapply Hk
  isplitl [N2]; · iexact N2
  isplitl [N3]; · iexact N3
  isplitl [B1]; · iexact B1
  iexact O

/-- Part 37: the row transfers of layer 1 are over, and the rows of layer 2 are written. -/
theorem part37 {α : Type} {Q : α → sProp 𝕄} {K : _ → Prog (TpuEff nD τ sig (Elt F) Λ₀ .tc) α} (v2 : BitVec 32) (v1256 : BitVec 32) (v1257 : BitVec 32) (v1258 : BitVec 1) (v1261 : BitVec 1) :
    iprop(Recs m ∗ agSent 1 c 2 ∗ agSent 1 c 3 ∗ agBack m 1 c 1 ∗ xaP c c (qs 0) (XA m (ly 1)) ∗ ow c (OX c 1))
      ⊢ iprop((∀ w, (xaP c c (qs 0) (XA m (ly 2)) ∗ xaP c c (qs 1) (XA m (ly 2)) ∗ xaP c c (qs 2) (XA m (ly 2)) ∗ xaP c c (qs 3) (XA m (ly 2)) ∗ agIdle 1 c 1 ∗ agIdle 1 c 2 ∗ agIdle 1 c 3 ∗ ow c (OX c 1)) -∗ wp frame (wpE (defs₀ (F := F)) 𝒱₀ (c : Thread nD τ) none) Set.univ (K w) Q)
        -∗ wp frame (wpE (defs₀ (F := F)) 𝒱₀ (c : Thread nD τ) none) Set.univ ((k0_part37 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 (k0_pay19 (k0_pay18 (ownRd m c (ly 1)) (gotRd m c (ly 1) 1)) (gotRd m c (ly 1) 2) (gotRd m c (ly 1) 3)) v1256 v1257 v1258 v1261) >>= K) Q) := by
  rw [k0_part37_eq_skeleton]; unfold k0_part37_skel
  simp only [semSignalWord, semWaitWord, Prog.lift, Prog.bind_op, Prog.bind_ret, Prog.pure_eq_ret, wp_deviceId, bind_dite]
  iintro ⟨#HR, S2, S3, B1, Y, O⟩ Hk
  iapply (agS_wait m c 2 (by decide) (r := 1) (by decide) rfl (above_X0 c 1) (nb_off _ _ _)) $$ [S2 O]
  · isplitl []; · iexact HR
    isplitl [S2]; · iexact S2
    iexact O
  iintro ⟨B2, O⟩
  iapply (agS_wait m c 3 (by decide) (r := 1) (by decide) rfl (above_X0 c 1) (nb_off _ _ _)) $$ [S3 O]
  · isplitl []; · iexact HR
    isplitl [S3]; · iexact S3
    iexact O
  iintro ⟨B3, O⟩
  ihave J := (own_join m c 1) $$ [Y B1 B2 B3]
  · isplitl [Y]; · iexact Y
    isplitl [B1]; · iexact B1
    isplitl [B2]; · iexact B2
    iexact B3
  icases J with ⟨X, I1, I2, I3⟩
  iapply (load_own c c (k0_off1_eq c) (XA m (ly 1))) $$ X
  iintro X
  iapply (store_own c c (k0_off1_eq c) (XA m (ly 1)) (XA m (ly 2)) (rows_read m c (r := 1) (by decide))) $$ X
  iintro X
  ihave J := (own_shares c c (XA m (ly 2))).1 $$ X
  icases J with ⟨Y, X1, X2, X3⟩
  iapply Hk
  isplitl [Y]; · iexact Y
  isplitl [X1]; · iexact X1
  isplitl [X2]; · iexact X2
  isplitl [X3]; · iexact X3
  isplitl [I1]; · iexact I1
  isplitl [I2]; · iexact I2
  isplitl [I3]; · iexact I3
  iexact O

/-- Part 38: a row transfer of layer 2. -/
theorem part38 {α : Type} {Q : α → sProp 𝕄} {K : _ → Prog (TpuEff nD τ sig (Elt F) Λ₀ .tc) α} (v2 : BitVec 32) (v1293 : BitVec 32) (c4_i32_840 : BitVec 32) :
    iprop(Recs m ∗ agReady 2 c 1 ∗ xaP c c (qs 1) (XA m (ly 2)) ∗ ow c (OA 2 c (OX c 2)))
      ⊢ iprop((∀ w, (agSent 2 c 1 ∗ ow c (OS 2 c + Oag 2 c 3 + Oag 2 c 2)) -∗ wp frame (wpE (defs₀ (F := F)) 𝒱₀ (c : Thread nD τ) none) Set.univ (K w) Q)
        -∗ wp frame (wpE (defs₀ (F := F)) 𝒱₀ (c : Thread nD τ) none) Set.univ ((k0_part38 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v1293 c4_i32_840) >>= K) Q) := by
  rw [k0_part38_eq_skeleton]; unfold k0_part38_skel
  simp only [semSignalWord, semWaitWord, Prog.lift, Prog.bind_op, Prog.bind_ret, Prog.pure_eq_ret, wp_deviceId, bind_dite]
  iintro ⟨#HR, R1, X1, O⟩ Hk
  iapply (ag_send m c 1 (by decide) (r := 2) (by decide) (k0_off2_eq c) (dev22_at c (k0_dev22_lt c)) rfl rfl (OS 2 c + Oag 2 c 3 + Oag 2 c 2) rfl) $$ [R1 X1 O]
  · isplitl []; · iexact HR
    isplitl [R1]; · iexact R1
    isplitl [X1]; · iexact X1
    iexact O
  iintro ⟨S1, O⟩
  iapply Hk
  isplitl [S1]; · iexact S1
  iexact O

/-- Part 39: the other row transfers of layer 2; its second weight. -/
theorem part39 {α : Type} {Q : α → sProp 𝕄} {K : _ → Prog (TpuEff nD τ sig (Elt F) Λ₀ .tc) α} (v2 : BitVec 32) :
    iprop(Recs m ∗ agReady 2 c 2 ∗ xaP c c (qs 2) (XA m (ly 2)) ∗ agReady 2 c 3 ∗ xaP c c (qs 3) (XA m (ly 2)) ∗ ow c (OS 2 c + Oag 2 c 3 + Oag 2 c 2) ∗ wSent c (wj' (ly 2)))
      ⊢ iprop((∀ w, (agSent 2 c 2 ∗ agSent 2 c 3 ∗ ow c (OS 2 c) ∗ atPos ER (wC c (wj' (ly 2))) 1 ∅ 0 ∗ woP c (wsl (ly 2)) (woB m (ly 2) c) ∗ woAP m c (ly 2)) -∗ wp frame (wpE (defs₀ (F := F)) 𝒱₀ (c : Thread nD τ) none) Set.univ (K w) Q)
        -∗ wp frame (wpE (defs₀ (F := F)) 𝒱₀ (c : Thread nD τ) none) Set.univ ((k0_part39 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2) >>= K) Q) := by
  rw [k0_part39_eq_skeleton]; unfold k0_part39_skel
  simp only [semSignalWord, semWaitWord, Prog.lift, Prog.bind_op, Prog.bind_ret, Prog.pure_eq_ret, wp_deviceId, bind_dite]
  iintro ⟨#HR, R2, X2, R3, X3, O, V⟩ Hk
  iapply (ag_send m c 2 (by decide) (r := 2) (by decide) (k0_off2_eq c) (dev23_at c (k0_dev23_lt c)) rfl rfl (OS 2 c + Oag 2 c 3) rfl) $$ [R2 X2 O]
  · isplitl []; · iexact HR
    isplitl [R2]; · iexact R2
    isplitl [X2]; · iexact X2
    iexact O
  iintro ⟨S2, O⟩
  iapply (ag_send m c 3 (by decide) (r := 2) (by decide) (k0_off2_eq c) (dev24_at c (k0_dev24_lt c)) rfl rfl (OS 2 c) rfl) $$ [R3 X3 O]
  · isplitl []; · iexact HR
    isplitl [R3]; · iexact R3
    isplitl [X3]; · iexact X3
    iexact O
  iintro ⟨S3, O⟩
  iapply (w_wait m c (wj' (ly 2)) (wPay_o m c (ly 2)) rfl (above_O0 c (r := 2) (by decide) _) (no_off _ _ _)) $$ [V O]
  · isplitl []; · iexact HR
    isplitl [V]; · iexact V
    iexact O
  iintro ⟨E, ⟨V, A⟩, O⟩
  iapply Hk
  isplitl [S2]; · iexact S2
  isplitl [S3]; · iexact S3
  isplitl [O]; · iexact O
  isplitl [E]; · iexact E
  isplitl [V]; · iexact V
  iexact A

/-- Part 40: the second weight of layer 2 is made ready. -/
theorem part40 {α : Type} {Q : α → sProp 𝕄} {K : _ → Prog (TpuEff nD τ sig (Elt F) Λ₀ .tc) α} (v2 : BitVec 32) :
    iprop(Recs m ∗ woP c (wsl (ly 2)) (woB m (ly 2) c) ∗ bufP c cc0_scratch6 (obV m (ly 1) c) ∗ ow c (OS 2 c) ∗ rsSent 1 c 1)
      ⊢ iprop((∀ w, (woP c (wsl (ly 2)) (woB m (ly 2) c) ∗ bufP c cc0_scratch6 (obV m (ly 2) c) ∗ rsBack m 1 c 1 ∗ ow c (OS 2 c)) -∗ wp frame (wpE (defs₀ (F := F)) 𝒱₀ (c : Thread nD τ) none) Set.univ (K w) Q)
        -∗ wp frame (wpE (defs₀ (F := F)) 𝒱₀ (c : Thread nD τ) none) Set.univ ((k0_part40 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2) >>= K) Q) := by
  rw [k0_part40_eq_skeleton]; unfold k0_part40_skel
  simp only [semSignalWord, semWaitWord, Prog.lift, Prog.bind_op, Prog.bind_ret, Prog.pure_eq_ret, wp_deviceId, bind_dite]
  iintro ⟨#HR, V, D, O, R1⟩ Hk
  iapply (load_wo c (wsl (ly 2)) rfl (woB m (ly 2) c)) $$ V
  iintro V
  iapply (load_ob c off_zero (obV m (ly 1) c)) $$ D
  iintro D
  iapply (store_ob c off_zero (obV m (ly 1) c) (obV m (ly 2) c) rfl) $$ D
  iintro D
  iapply (rsS_wait m c 1 (by decide) (r := 1) (by decide) rfl (above_O0 c (r := 2) (by decide) _) (nb_off _ _ _)) $$ [R1 O]
  · isplitl []; · iexact HR
    isplitl [R1]; · iexact R1
    iexact O
  iintro ⟨Q1, O⟩
  iapply Hk
  isplitl [V]; · iexact V
  isplitl [D]; · iexact D
  isplitl [Q1]; · iexact Q1
  iexact O

/-- Part 41: the product transfers of layer 1 are over. -/
theorem part41 {α : Type} {Q : α → sProp 𝕄} {K : _ → Prog (TpuEff nD τ sig (Elt F) Λ₀ .tc) α} (v2 : BitVec 32) (v1386 : BitVec 32) (v1391 : BitVec 1) (v1392 : BitVec 32) :
    iprop(Recs m ∗ rsSent 1 c 2 ∗ rsSent 1 c 3 ∗ ow c (OS 2 c))
      ⊢ iprop((∀ w, (rsBack m 1 c 2 ∗ rsBack m 1 c 3 ∗ ow c (OS 2 c)) -∗ wp frame (wpE (defs₀ (F := F)) 𝒱₀ (c : Thread nD τ) none) Set.univ (K w) Q)
        -∗ wp frame (wpE (defs₀ (F := F)) 𝒱₀ (c : Thread nD τ) none) Set.univ ((k0_part41 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v1386 v1391 v1392) >>= K) Q) := by
  rw [k0_part41_eq_skeleton]; unfold k0_part41_skel
  simp only [semSignalWord, semWaitWord, Prog.lift, Prog.bind_op, Prog.bind_ret, Prog.pure_eq_ret, wp_deviceId, bind_dite]
  iintro ⟨#HR, R2, R3, O⟩ Hk
  iapply (rsS_wait m c 2 (by decide) (r := 1) (by decide) rfl (above_O0 c (r := 2) (by decide) _) (nb_off _ _ _)) $$ [R2 O]
  · isplitl []; · iexact HR
    isplitl [R2]; · iexact R2
    iexact O
  iintro ⟨Q2, O⟩
  iapply (rsS_wait m c 3 (by decide) (r := 1) (by decide) rfl (above_O0 c (r := 2) (by decide) _) (nb_off _ _ _)) $$ [R3 O]
  · isplitl []; · iexact HR
    isplitl [R3]; · iexact R3
    iexact O
  iintro ⟨Q3, O⟩
  iapply Hk
  isplitl [Q2]; · iexact Q2
  isplitl [Q3]; · iexact Q3
  iexact O
end

end Cert.Mlp
-- ==== Proof.Body6.lean ====
/-
Parts of the body.
-/
module

public import proofs.«01_k».proof.Proof.Base

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ
variable (m : (ℓ : Loc nD τ sig) → Buf (Elt F) ℓ)

section
variable (c : Dev nD)

/-- Part 42: rows of half 0. -/
theorem part42 {α : Type} {Q : α → sProp 𝕄} {K : _ → Prog (TpuEff nD τ sig (Elt F) Λ₀ .tc) α} (v2 : BitVec 32) (v1419 : BitVec 32) (v1420 : BitVec 32) (c0_i32_945 : BitVec 32) :
    iprop(Recs m ∗ SO m 2 c (stat 0 .pe .ar 0 c) (OX c 2))
      ⊢ iprop((∀ w, (SO m 2 c (stat 0 .pe .ar 1 c) (OX c 2)) -∗ wp frame (wpE (defs₀ (F := F)) 𝒱₀ (c : Thread nD τ) none) Set.univ (K w) Q)
        -∗ wp frame (wpE (defs₀ (F := F)) 𝒱₀ (c : Thread nD τ) none) Set.univ ((k0_part42 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v1419 v1420 c0_i32_945) >>= K) Q) := by
  rw [k0_part42_eq_skeleton]; unfold k0_part42_skel
  simp only [semSignalWord, semWaitWord, Prog.lift, Prog.bind_op, Prog.bind_ret, Prog.pure_eq_ret, wp_deviceId, bind_dite]
  iintro ⟨#HR, S⟩ Hk
  iapply (cond_agR m c 0 1 (by decide) (r := 2) (by decide) (cond25_is c) rfl (above_X2 c 2) 0 1 rfl rfl) $$ [S]
  · isplitl []; · iexact HR
    iexact S
  iintro S
  iapply Hk
  iexact S

/-- Part 43: rows of half 0. -/
theorem part43 {α : Type} {Q : α → sProp 𝕄} {K : _ → Prog (TpuEff nD τ sig (Elt F) Λ₀ .tc) α} (v2 : BitVec 32) (v1458 : BitVec 32) (c2_i32_964 : BitVec 32) (v1459 : BitVec 32) (c0_i32_965 : BitVec 32) :
    iprop(Recs m ∗ SO m 2 c (stat 0 .pe .ar 1 c) (OX c 2))
      ⊢ iprop((∀ w, (SO m 2 c (stat 0 .pe .ar 2 c) (OX c 2)) -∗ wp frame (wpE (defs₀ (F := F)) 𝒱₀ (c : Thread nD τ) none) Set.univ (K w) Q)
        -∗ wp frame (wpE (defs₀ (F := F)) 𝒱₀ (c : Thread nD τ) none) Set.univ ((k0_part43 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v1458 c2_i32_964 v1459 c0_i32_965) >>= K) Q) := by
  rw [k0_part43_eq_skeleton]; unfold k0_part43_skel
  simp only [semSignalWord, semWaitWord, Prog.lift, Prog.bind_op, Prog.bind_ret, Prog.pure_eq_ret, wp_deviceId, bind_dite]
  iintro ⟨#HR, S⟩ Hk
  iapply (cond_agR m c 0 2 (by decide) (r := 2) (by decide) (cond26_is c) rfl (above_X2 c 2) 1 2 rfl rfl) $$ [S]
  · isplitl []; · iexact HR
    iexact S
  iintro S
  iapply Hk
  iexact S

/-- Part 44: the products of half 0. -/
theorem part44 {α : Type} {Q : α → sProp 𝕄} {K : _ → Prog (TpuEff nD τ sig (Elt F) Λ₀ .tc) α} (v2 : BitVec 32) (v1489 : BitVec 32) (c2_i32_980 : BitVec 32) (v1490 : BitVec 32) (v1495 : BitVec 32) (v1497 : BitVec 32) (v1499 : BitVec 32) :
    iprop(Recs m ∗ SO m 2 c (stat 0 .pe .ar 2 c) (OX c 2) ∗ bufP c cc0_scratch5 (wbV m (ly 2) c) ∗ bufP c cc0_scratch6 (obV m (ly 2) c))
      ⊢ iprop((∀ w, (SO m 2 c (stat 0 .cm .se 0 c) (OX c 2) ∗ bufP c cc0_scratch5 (wbV m (ly 2) c) ∗ bufP c cc0_scratch6 (obV m (ly 2) c)) -∗ wp frame (wpE (defs₀ (F := F)) 𝒱₀ (c : Thread nD τ) none) Set.univ (K w) Q)
        -∗ wp frame (wpE (defs₀ (F := F)) 𝒱₀ (c : Thread nD τ) none) Set.univ ((k0_part44 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v1489 c2_i32_980 v1490 v1495 v1497 v1499) >>= K) Q) := by
  rw [k0_part44_eq_skeleton]; unfold k0_part44_skel
  simp only [semSignalWord, semWaitWord, Prog.lift, Prog.bind_op, Prog.bind_ret, Prog.pure_eq_ret, wp_deviceId, bind_dite]
  iintro ⟨#HR, S, B, D⟩ Hk
  iapply (cond_agR m c 0 3 (by decide) (r := 2) (by decide) (cond27_is c) rfl (above_X2 c 2) 2 3 rfl rfl) $$ [S]
  · isplitl []; · iexact HR
    iexact S
  iintro S
  iapply (load_xa m c 0 rfl 2 (OX c 2)) $$ S
  iintro S
  iapply (load_wb c off_zero (wbV m (ly 2) c)) $$ B
  iintro B
  iapply (load_ob c off_zero (obV m (ly 2) c)) $$ D
  iintro D
  iapply (load_sb m c 0 rfl 2 (OX c 2)) $$ S
  iintro %v S
  iapply (store_sb m c 0 rfl 2 (OX c 2) rfl) $$ S
  iintro S
  iapply Hk
  isplitl [S]; · iexact S
  isplitl [B]; · iexact B
  iexact D

/-- Part 45: a product transfer of half 0. -/
theorem part45 {α : Type} {Q : α → sProp 𝕄} {K : _ → Prog (TpuEff nD τ sig (Elt F) Λ₀ .tc) α} (v2 : BitVec 32) (v1527 : BitVec 32) (v1532 : BitVec 1) (v1533 : BitVec 32) :
    iprop(Recs m ∗ SO m 2 c (stat 0 .cm .se 0 c) (OX c 2))
      ⊢ iprop((∀ w, (SO m 2 c (stat 0 .cm .se 1 c) (OX c 2)) -∗ wp frame (wpE (defs₀ (F := F)) 𝒱₀ (c : Thread nD τ) none) Set.univ (K w) Q)
        -∗ wp frame (wpE (defs₀ (F := F)) 𝒱₀ (c : Thread nD τ) none) Set.univ ((k0_part45 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v1527 v1532 v1533) >>= K) Q) := by
  rw [k0_part45_eq_skeleton]; unfold k0_part45_skel
  simp only [semSignalWord, semWaitWord, Prog.lift, Prog.bind_op, Prog.bind_ret, Prog.pure_eq_ret, wp_deviceId, bind_dite]
  iintro ⟨#HR, S⟩ Hk
  iapply (cond_rsS m c 0 1 (by decide) (r := 2) (by decide) (cond28_is c) (fun _ => off46_is c) rfl (fun h => dev25_at c (k0_dev25_lt c h)) rfl rfl 0 1 rfl rfl) $$ [S]
  · isplitl []; · iexact HR
    iexact S
  iintro S
  iapply Hk
  iexact S

/-- Part 46: a product transfer of half 0. -/
theorem part46 {α : Type} {Q : α → sProp 𝕄} {K : _ → Prog (TpuEff nD τ sig (Elt F) Λ₀ .tc) α} (v2 : BitVec 32) (v1565 : BitVec 32) (c2_i32_1025 : BitVec 32) (v1566 : BitVec 32) (v1571 : BitVec 32) (v1572 : BitVec 1) :
    iprop(Recs m ∗ SO m 2 c (stat 0 .cm .se 1 c) (OX c 2))
      ⊢ iprop((∀ w, (SO m 2 c (stat 0 .cm .se 2 c) (OX c 2)) -∗ wp frame (wpE (defs₀ (F := F)) 𝒱₀ (c : Thread nD τ) none) Set.univ (K w) Q)
        -∗ wp frame (wpE (defs₀ (F := F)) 𝒱₀ (c : Thread nD τ) none) Set.univ ((k0_part46 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v1565 c2_i32_1025 v1566 v1571 v1572) >>= K) Q) := by
  rw [k0_part46_eq_skeleton]; unfold k0_part46_skel
  simp only [semSignalWord, semWaitWord, Prog.lift, Prog.bind_op, Prog.bind_ret, Prog.pure_eq_ret, wp_deviceId, bind_dite]
  iintro ⟨#HR, S⟩ Hk
  iapply (cond_rsS m c 0 2 (by decide) (r := 2) (by decide) (cond29_is c) (fun _ => off47_is c) rfl (fun h => dev26_at c (k0_dev26_lt c h)) rfl rfl 1 2 rfl rfl) $$ [S]
  · isplitl []; · iexact HR
    iexact S
  iintro S
  iapply Hk
  iexact S

/-- Part 47: the last product transfer of half 0; rows of half 1. -/
theorem part47 {α : Type} {Q : α → sProp 𝕄} {K : _ → Prog (TpuEff nD τ sig (Elt F) Λ₀ .tc) α} (v2 : BitVec 32) (v1596 : BitVec 32) (v1597 : BitVec 32) (v1611 : BitVec 1) (v1612 : BitVec 32) :
    iprop(Recs m ∗ SO m 2 c (stat 0 .cm .se 2 c) (OX c 2))
      ⊢ iprop((∀ w, (SO m 2 c (stat 1 .pe .ar 1 c) (OX c 2)) -∗ wp frame (wpE (defs₀ (F := F)) 𝒱₀ (c : Thread nD τ) none) Set.univ (K w) Q)
        -∗ wp frame (wpE (defs₀ (F := F)) 𝒱₀ (c : Thread nD τ) none) Set.univ ((k0_part47 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v1596 v1597 v1611 v1612) >>= K) Q) := by
  rw [k0_part47_eq_skeleton]; unfold k0_part47_skel
  simp only [semSignalWord, semWaitWord, Prog.lift, Prog.bind_op, Prog.bind_ret, Prog.pure_eq_ret, wp_deviceId, bind_dite]
  iintro ⟨#HR, S⟩ Hk
  iapply (cond_rsS m c 0 3 (by decide) (r := 2) (by decide) (cond30_is c) (fun _ => off48_is c) rfl (fun h => dev27_at c (k0_dev27_lt c h)) rfl rfl 2 3 rfl rfl) $$ [S]
  · isplitl []; · iexact HR
    iexact S
  iintro S
  ihave J := (SO_next m c 2 (OX c 2)) $$ S
  icases J with S
  iapply (cond_agR m c 1 1 (by decide) (r := 2) (by decide) (cond31_is c) rfl (above_X2 c 2) 0 1 rfl rfl) $$ [S]
  · isplitl []; · iexact HR
    iexact S
  iintro S
  iapply Hk
  iexact S

/-- Part 48: rows of half 1. -/
theorem part48 {α : Type} {Q : α → sProp 𝕄} {K : _ → Prog (TpuEff nD τ sig (Elt F) Λ₀ .tc) α} (v2 : BitVec 32) (v1648 : BitVec 32) (c4_i32_1067 : BitVec 32) (v1649 : BitVec 1) :
    iprop(Recs m ∗ SO m 2 c (stat 1 .pe .ar 1 c) (OX c 2))
      ⊢ iprop((∀ w, (SO m 2 c (stat 1 .pe .ar 2 c) (OX c 2)) -∗ wp frame (wpE (defs₀ (F := F)) 𝒱₀ (c : Thread nD τ) none) Set.univ (K w) Q)
        -∗ wp frame (wpE (defs₀ (F := F)) 𝒱₀ (c : Thread nD τ) none) Set.univ ((k0_part48 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v1648 c4_i32_1067 v1649) >>= K) Q) := by
  rw [k0_part48_eq_skeleton]; unfold k0_part48_skel
  simp only [semSignalWord, semWaitWord, Prog.lift, Prog.bind_op, Prog.bind_ret, Prog.pure_eq_ret, wp_deviceId, bind_dite]
  iintro ⟨#HR, S⟩ Hk
  iapply (cond_agR m c 1 2 (by decide) (r := 2) (by decide) (cond32_is c) rfl (above_X2 c 2) 1 2 rfl rfl) $$ [S]
  · isplitl []; · iexact HR
    iexact S
  iintro S
  iapply Hk
  iexact S

/-- Part 49: the products of half 1. -/
theorem part49 {α : Type} {Q : α → sProp 𝕄} {K : _ → Prog (TpuEff nD τ sig (Elt F) Λ₀ .tc) α} (v1682 : BitVec 32) (v1687 : BitVec 1) (v1688 : BitVec 32) :
    iprop(Recs m ∗ SO m 2 c (stat 1 .pe .ar 2 c) (OX c 2) ∗ bufP c cc0_scratch5 (wbV m (ly 2) c) ∗ bufP c cc0_scratch6 (obV m (ly 2) c))
      ⊢ iprop((∀ w, (SO m 2 c (stat 1 .cm .se 0 c) (OX c 2) ∗ bufP c cc0_scratch5 (wbV m (ly 2) c) ∗ bufP c cc0_scratch6 (obV m (ly 2) c)) -∗ wp frame (wpE (defs₀ (F := F)) 𝒱₀ (c : Thread nD τ) none) Set.univ (K w) Q)
        -∗ wp frame (wpE (defs₀ (F := F)) 𝒱₀ (c : Thread nD τ) none) Set.univ ((k0_part49 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v1682 v1687 v1688) >>= K) Q) := by
  rw [k0_part49_eq_skeleton]; unfold k0_part49_skel
  simp only [semSignalWord, semWaitWord, Prog.lift, Prog.bind_op, Prog.bind_ret, Prog.pure_eq_ret, wp_deviceId, bind_dite]
  iintro ⟨#HR, S, B, D⟩ Hk
  iapply (cond_agR m c 1 3 (by decide) (r := 2) (by decide) (cond33_is c) rfl (above_X2 c 2) 2 3 rfl rfl) $$ [S]
  · isplitl []; · iexact HR
    iexact S
  iintro S
  iapply (load_xa m c 1 rfl 2 (OX c 2)) $$ S
  iintro S
  iapply (load_wb c off_zero (wbV m (ly 2) c)) $$ B
  iintro B
  iapply (load_ob c off_zero (obV m (ly 2) c)) $$ D
  iintro D
  iapply (load_sb m c 1 rfl 2 (OX c 2)) $$ S
  iintro %v S
  iapply (store_sb m c 1 rfl 2 (OX c 2) rfl) $$ S
  iintro S
  iapply Hk
  isplitl [S]; · iexact S
  isplitl [B]; · iexact B
  iexact D

/-- Part 50: a product transfer of half 1. -/
theorem part50 {α : Type} {Q : α → sProp 𝕄} {K : _ → Prog (TpuEff nD τ sig (Elt F) Λ₀ .tc) α} (v2 : BitVec 32) (c1_i32_1111 : BitVec 32) :
    iprop(Recs m ∗ SO m 2 c (stat 1 .cm .se 0 c) (OX c 2))
      ⊢ iprop((∀ w, (SO m 2 c (stat 1 .cm .se 1 c) (OX c 2)) -∗ wp frame (wpE (defs₀ (F := F)) 𝒱₀ (c : Thread nD τ) none) Set.univ (K w) Q)
        -∗ wp frame (wpE (defs₀ (F := F)) 𝒱₀ (c : Thread nD τ) none) Set.univ ((k0_part50 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 c1_i32_1111) >>= K) Q) := by
  rw [k0_part50_eq_skeleton]; unfold k0_part50_skel
  simp only [semSignalWord, semWaitWord, Prog.lift, Prog.bind_op, Prog.bind_ret, Prog.pure_eq_ret, wp_deviceId, bind_dite]
  iintro ⟨#HR, S⟩ Hk
  iapply (cond_rsS m c 1 1 (by decide) (r := 2) (by decide) (cond34_is c) (fun _ => off55_is c) rfl (fun h => dev28_at c (k0_dev28_lt c h)) rfl rfl 0 1 rfl rfl) $$ [S]
  · isplitl []; · iexact HR
    iexact S
  iintro S
  iapply Hk
  iexact S

/-- Part 51: a product transfer of half 1. -/
theorem part51 {α : Type} {Q : α → sProp 𝕄} {K : _ → Prog (TpuEff nD τ sig (Elt F) Λ₀ .tc) α} (v2 : BitVec 32) (v1757 : BitVec 32) (v1758 : BitVec 32) (v1759 : BitVec 1) (v1760 : BitVec 1) (c0_i32_1133 : BitVec 32) :
    iprop(Recs m ∗ SO m 2 c (stat 1 .cm .se 1 c) (OX c 2))
      ⊢ iprop((∀ w, (SO m 2 c (stat 1 .cm .se 2 c) (OX c 2)) -∗ wp frame (wpE (defs₀ (F := F)) 𝒱₀ (c : Thread nD τ) none) Set.univ (K w) Q)
        -∗ wp frame (wpE (defs₀ (F := F)) 𝒱₀ (c : Thread nD τ) none) Set.univ ((k0_part51 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v1757 v1758 v1759 v1760 c0_i32_1133) >>= K) Q) := by
  rw [k0_part51_eq_skeleton]; unfold k0_part51_skel
  simp only [semSignalWord, semWaitWord, Prog.lift, Prog.bind_op, Prog.bind_ret, Prog.pure_eq_ret, wp_deviceId, bind_dite]
  iintro ⟨#HR, S⟩ Hk
  iapply (cond_rsS m c 1 2 (by decide) (r := 2) (by decide) (cond35_is c) (fun _ => off56_is c) rfl (fun h => dev29_at c (k0_dev29_lt c h)) rfl rfl 1 2 rfl rfl) $$ [S]
  · isplitl []; · iexact HR
    iexact S
  iintro S
  iapply Hk
  iexact S

/-- Part 52: the last product transfer; a product of layer 2 arrives. -/
theorem part52 {α : Type} {Q : α → sProp 𝕄} {K : _ → Prog (TpuEff nD τ sig (Elt F) Λ₀ .tc) α} (v1796 : BitVec 32) (c2_i32_1150 : BitVec 32) (v1797 : BitVec 32) (v1799 : BitVec 32) (v1800 : BitVec 1) :
    iprop(Recs m ∗ SO m 2 c (stat 1 .cm .se 2 c) (OX c 2) ∗ rsPend 2 c 3)
      ⊢ iprop((∀ w, (ow c (OX c 2) ∗ xaP c c (qs 0) (XA m (ly 2)) ∗ sbP c c (SBv m (ly 2) c) ∗ agHere 2 c 1 ∗ agHere 2 c 2 ∗ agHere 2 c 3 ∗ xaEnd m 2 c 1 ∗ xaEnd m 2 c 2 ∗ xaEnd m 2 c 3 ∗ rsSent 2 c 1 ∗ rsSent 2 c 2 ∗ rsSent 2 c 3 ∗ rsGot m 2 c 3) -∗ wp frame (wpE (defs₀ (F := F)) 𝒱₀ (c : Thread nD τ) none) Set.univ (K w) Q)
        -∗ wp frame (wpE (defs₀ (F := F)) 𝒱₀ (c : Thread nD τ) none) Set.univ ((k0_part52 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v1796 c2_i32_1150 v1797 v1799 v1800) >>= K) Q) := by
  rw [k0_part52_eq_skeleton]; unfold k0_part52_skel
  simp only [semSignalWord, semWaitWord, Prog.lift, Prog.bind_op, Prog.bind_ret, Prog.pure_eq_ret, wp_deviceId, bind_dite]
  iintro ⟨#HR, S, N3⟩ Hk
  iapply (cond_rsS m c 1 3 (by decide) (r := 2) (by decide) (cond36_is c) (fun _ => off57_is c) rfl (fun h => dev30_at c (k0_dev30_lt c h)) rfl rfl 2 3 rfl rfl) $$ [S]
  · isplitl []; · iexact HR
    iexact S
  iintro S
  ihave J := (St_end m c 2 (OX c 2)) $$ S
  icases J with ⟨O, Y, U, ⟨H1, E1, R1⟩, ⟨H2, E2, R2⟩, H3, E3, R3⟩
  iapply (rsR_wait m c 3 (by decide) (r := 2) (by decide) rfl (above_OX c 2) (nb_off _ _ _)) $$ [N3 O]
  · isplitl []; · iexact HR
    isplitl [N3]; · iexact N3
    iexact O
  iintro ⟨N3, O⟩
  iapply Hk
  isplitl [O]; · iexact O
  isplitl [Y]; · iexact Y
  isplitl [U]; · iexact U
  isplitl [H1]; · iexact H1
  isplitl [H2]; · iexact H2
  isplitl [H3]; · iexact H3
  isplitl [E1]; · iexact E1
  isplitl [E2]; · iexact E2
  isplitl [E3]; · iexact E3
  isplitl [R1]; · iexact R1
  isplitl [R2]; · iexact R2
  isplitl [R3]; · iexact R3
  iexact N3

/-- Part 53: the other products of layer 2 arrive, and the sum is written. -/
theorem part53 {α : Type} {Q : α → sProp 𝕄} {K : _ → Prog (TpuEff nD τ sig (Elt F) Λ₀ .tc) α} (v2 : BitVec 32) (z : S64x1024.Idx → Elt F .f32) :
    iprop(Recs m ∗ rsPend 2 c 2 ∗ rsPend 2 c 1 ∗ rsGot m 2 c 3 ∗ ow c (OX c 2) ∗ sbP c c (SBv m (ly 2) c) ∗ bufP c cc0_stg1_0 z)
      ⊢ iprop((∀ w, (rsGot m 2 c 2 ∗ rsGot m 2 c 1 ∗ rsGot m 2 c 3 ∗ ow c (OX c 2) ∗ sbP c c (SBv m (ly 2) c) ∗ bufP c cc0_stg1_0 (ACC m (ly 2) c)) -∗ wp frame (wpE (defs₀ (F := F)) 𝒱₀ (c : Thread nD τ) none) Set.univ (K w) Q)
        -∗ wp frame (wpE (defs₀ (F := F)) 𝒱₀ (c : Thread nD τ) none) Set.univ ((k0_part53 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2) >>= K) Q) := by
  rw [k0_part53_eq_skeleton]; unfold k0_part53_skel
  simp only [semSignalWord, semWaitWord, Prog.lift, Prog.bind_op, Prog.bind_ret, Prog.pure_eq_ret, wp_deviceId, bind_dite]
  iintro ⟨#HR, N2, N1, N3, O, U, Z⟩ Hk
  iapply (rsR_wait m c 2 (by decide) (r := 2) (by decide) rfl (above_OX c 2) (nb_off _ _ _)) $$ [N2 O]
  · isplitl []; · iexact HR
    isplitl [N2]; · iexact N2
    iexact O
  iintro ⟨N2, O⟩
  iapply (rsR_wait m c 1 (by decide) (r := 2) (by decide) rfl (above_OX c 2) (nb_off _ _ _)) $$ [N1 O]
  · isplitl []; · iexact HR
    isplitl [N1]; · iexact N1
    iexact O
  iintro ⟨N1, O⟩
  iapply (load_prod c c (k0_off1_eq c) (SBv m (ly 2) c)) $$ U
  iintro U
  iapply (load_got m c 1 2 rfl) $$ N1
  iintro N1
  iapply (load_got m c 2 2 rfl) $$ N2
  iintro N2
  iapply (load_got m c 3 2 rfl) $$ N3
  iintro N3
  iapply (load_os c off_zero z) $$ Z
  iintro Z
  iapply (store_os c off_zero z (ACC m (ly 2) c) (sum_read m c (ly 2))) $$ Z
  iintro Z
  iapply Hk
  isplitl [N2]; · iexact N2
  isplitl [N1]; · iexact N1
  isplitl [N3]; · iexact N3
  isplitl [O]; · iexact O
  isplitl [U]; · iexact U
  iexact Z

/-- Part 54: product transfers are over. -/
theorem part54 {α : Type} {Q : α → sProp 𝕄} {K : _ → Prog (TpuEff nD τ sig (Elt F) Λ₀ .tc) α} (v2 : BitVec 32) (v1860 : BitVec 32) (v1861 : BitVec 32) (c0_i32_1206 : BitVec 32) :
    iprop(Recs m ∗ rsSent 2 c 1 ∗ rsSent 2 c 2 ∗ ow c (OX c 2))
      ⊢ iprop((∀ w, (rsBack m 2 c 1 ∗ rsBack m 2 c 2 ∗ ow c (OX c 2)) -∗ wp frame (wpE (defs₀ (F := F)) 𝒱₀ (c : Thread nD τ) none) Set.univ (K w) Q)
        -∗ wp frame (wpE (defs₀ (F := F)) 𝒱₀ (c : Thread nD τ) none) Set.univ ((k0_part54 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 v1860 v1861 c0_i32_1206) >>= K) Q) := by
  rw [k0_part54_eq_skeleton]; unfold k0_part54_skel
  simp only [semSignalWord, semWaitWord, Prog.lift, Prog.bind_op, Prog.bind_ret, Prog.pure_eq_ret, wp_deviceId, bind_dite]
  iintro ⟨#HR, R1, R2, O⟩ Hk
  iapply (rsS_wait m c 1 (by decide) (r := 2) (by decide) rfl (above_X0 c 2) (nb_off _ _ _)) $$ [R1 O]
  · isplitl []; · iexact HR
    isplitl [R1]; · iexact R1
    iexact O
  iintro ⟨Q1, O⟩
  iapply (rsS_wait m c 2 (by decide) (r := 2) (by decide) rfl (above_X0 c 2) (nb_off _ _ _)) $$ [R2 O]
  · isplitl []; · iexact HR
    isplitl [R2]; · iexact R2
    iexact O
  iintro ⟨Q2, O⟩
  iapply Hk
  isplitl [Q1]; · iexact Q1
  isplitl [Q2]; · iexact Q2
  iexact O

/-- Part 55: the last product transfer is over. -/
theorem part55 {α : Type} {Q : α → sProp 𝕄} {K : _ → Prog (TpuEff nD τ sig (Elt F) Λ₀ .tc) α} (v2 : BitVec 32) (c3_i32_1234 : BitVec 32) :
    iprop(Recs m ∗ rsSent 2 c 3 ∗ ow c (OX c 2))
      ⊢ iprop((∀ w, (rsBack m 2 c 3 ∗ ow c (OX c 2)) -∗ wp frame (wpE (defs₀ (F := F)) 𝒱₀ (c : Thread nD τ) none) Set.univ (K w) Q)
        -∗ wp frame (wpE (defs₀ (F := F)) 𝒱₀ (c : Thread nD τ) none) Set.univ ((k0_part55 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2 c3_i32_1234) >>= K) Q) := by
  rw [k0_part55_eq_skeleton]; unfold k0_part55_skel
  simp only [semSignalWord, semWaitWord, Prog.lift, Prog.bind_op, Prog.bind_ret, Prog.pure_eq_ret, wp_deviceId, bind_dite]
  iintro ⟨#HR, R3, O⟩ Hk
  iapply (rsS_wait m c 3 (by decide) (r := 2) (by decide) rfl (above_X0 c 2) (nb_off _ _ _)) $$ [R3 O]
  · isplitl []; · iexact HR
    isplitl [R3]; · iexact R3
    iexact O
  iintro ⟨Q3, O⟩
  iapply Hk
  isplitl [Q3]; · iexact Q3
  iexact O

/-- Part 56: row transfers are over. -/
theorem part56 {α : Type} {Q : α → sProp 𝕄} {K : _ → Prog (TpuEff nD τ sig (Elt F) Λ₀ .tc) α} (v2 : BitVec 32) :
    iprop(Recs m ∗ agSent 2 c 1 ∗ agSent 2 c 2 ∗ ow c (OX c 2))
      ⊢ iprop((∀ w, (agBack m 2 c 1 ∗ agBack m 2 c 2 ∗ ow c (OX c 2)) -∗ wp frame (wpE (defs₀ (F := F)) 𝒱₀ (c : Thread nD τ) none) Set.univ (K w) Q)
        -∗ wp frame (wpE (defs₀ (F := F)) 𝒱₀ (c : Thread nD τ) none) Set.univ ((k0_part56 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11 c v2) >>= K) Q) := by
  rw [k0_part56_eq_skeleton]; unfold k0_part56_skel
  simp only [semSignalWord, semWaitWord, Prog.lift, Prog.bind_op, Prog.bind_ret, Prog.pure_eq_ret, wp_deviceId, bind_dite]
  iintro ⟨#HR, S1, S2, O⟩ Hk
  iapply (agS_wait m c 1 (by decide) (r := 2) (by decide) rfl (above_X0 c 2) (nb_off _ _ _)) $$ [S1 O]
  · isplitl []; · iexact HR
    isplitl [S1]; · iexact S1
    iexact O
  iintro ⟨B1, O⟩
  iapply (agS_wait m c 2 (by decide) (r := 2) (by decide) rfl (above_X0 c 2) (nb_off _ _ _)) $$ [S2 O]
  · isplitl []; · iexact HR
    isplitl [S2]; · iexact S2
    iexact O
  iintro ⟨B2, O⟩
  iapply Hk
  isplitl [B1]; · iexact B1
  isplitl [B2]; · iexact B2
  iexact O
end

end Cert.Mlp
-- ==== Proof.Chain.lean ====
/-
The parts of the body in order.
-/
module

public import proofs.«01_k».proof.Proof.Body1
public import proofs.«01_k».proof.Proof.Body2
public import proofs.«01_k».proof.Proof.Body3
public import proofs.«01_k».proof.Proof.Body4
public import proofs.«01_k».proof.Proof.Body5
public import proofs.«01_k».proof.Proof.Body6

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ
variable (m : (ℓ : Loc nD τ sig) → Buf (Elt F) ℓ)

section
variable (c : Dev nD)

/-- A device's protocol material for the exchange with `c + t`. -/
def ring (c : Dev nD) (t : Fin 4) : sProp 𝕄 :=
  iprop((atPos ER (agSC c t) 0 ∅ 0 ∗ agTok 0 c t ∗ atPos ER (agRC c (-t)) 0 ∅ 0 ∗ agCr 0 c t ∗ atPos ER (rsSC c t) 0 ∅ 0 ∗ rsTok 0 c t)
    ∗ rsPend 0 c t ∗ sbAny c (c + t) ∗ agTok 1 c t ∗ agTok 2 c t ∗ agCr 1 c t ∗ agCr 2 c t ∗ rsTok 1 c t ∗ rsTok 2 c t ∗ rsCr 1 c t ∗ rsCr 2 c t)
/-- A distance's share of the ring's tokens opens into those of its four counters. -/
theorem ring_open (t : Fin 4) : ring (F := F) c t ⊢ iprop((atPos ER (agSC c t) 0 ∅ 0 ∗ agTok 0 c t ∗ atPos ER (agRC c (-t)) 0 ∅ 0 ∗ agCr 0 c t ∗ atPos ER (rsSC c t) 0 ∅ 0 ∗ rsTok 0 c t)
    ∗ rsPend 0 c t ∗ sbAny c (c + t) ∗ agTok 1 c t ∗ agTok 2 c t ∗ agCr 1 c t ∗ agCr 2 c t ∗ rsTok 1 c t ∗ rsTok 2 c t ∗ rsCr 1 c t ∗ rsCr 2 c t) := Entails.rfl
/-- The row transfers of the next round may start once a round's products are here. -/
theorem next_rows (r : ℕ) (hr : r < 2) (t u : Fin 4) (hu : -t = u) :
    iprop(agIdle r c t ∗ agTok (r + 1) c t ∗ rsCr (r + 1) c u ∗ rsGot m r c u) ⊢ iprop(agReady (F := F) (r + 1) c t ∗ rsPend (r + 1) c u) := by
  subst hu
  unfold agIdle
  iintro ⟨⟨A, B⟩, C, D, E⟩
  iapply (next_ag m c r hr t)
  isplitl [A]; · iexact A
  isplitl [B]; · iexact B
  isplitl [C]; · iexact C
  isplitl [D]; · iexact D
  iexact E
/-- What is owed after the first layer, written as the second layer's debts. -/
theorem owed_one : ow (F := F) c (OX c 0) ⊢ ow c (OA 1 c (OX c 1)) := Entails.rfl
/-- What is owed after the second layer, written as the third layer's debts. -/
theorem owed_two : ow (F := F) c (OX c 1) ⊢ ow c (OA 2 c (OX c 2)) := Entails.rfl

set_option maxHeartbeats 4000000 in
/-- The whole body but its last wait. -/
theorem parts {Q : Dev nD → sProp 𝕄} (f0 f1 : S2x1024x2048.Idx → Elt F .f32) (g0 g1 : S2x2048x1024.Idx → Elt F .f32) (h s : Slab F)
    (b : S1024x2048.Idx → Elt F .bf16) (d : S2048x1024.Idx → Elt F .bf16) (z : S64x1024.Idx → Elt F .f32) :
    iprop(Recs m ∗ wTok c (wj (ly 0)) ∗ wiAP m c (ly 0) ∗ wTok c (wj' (ly 0)) ∗ woAP m c (ly 0) ∗ wTok c (wj (ly 1)) ∗ wiAP m c (ly 1) ∗ wTok c (wj' (ly 1)) ∗ woAP m c (ly 1) ∗ wTok c (wj (ly 2)) ∗ wiAP m c (ly 2) ∗ wTok c (wj' (ly 2)) ∗ woAP m c (ly 2) ∗ wiP c (wsl (ly 0)) f0 ∗ woP c (wsl (ly 0)) g0 ∗ wiP c (wsl (ly 1)) f1 ∗ woP c (wsl (ly 1)) g1 ∗ bufP c cc0_stg0_0 (xstg m c) ∗ xaP c c fullShare h ∗ barGive c 1 ∗ barGive c 2 ∗ barGive c 3 ∗ barPend c ∗ ow c (OA 0 c (OX c 0) + Obar c 3 + Obar c 2 + Obar c 1) ∗ bufP c cc0_scratch5 b ∗ bufP c cc0_scratch6 d ∗ bufP c cc0_stg1_0 z ∗ sbP c c s ∗ ring c 1 ∗ ring c 2 ∗ ring c 3)
      ⊢ iprop(((wiAP m c (ly 0) ∗ woAP m c (ly 0) ∗ wiAP m c (ly 1) ∗ woAP m c (ly 1) ∗ wiAP m c (ly 2) ∗ woAP m c (ly 2) ∗ agBack m 2 c 1 ∗ agBack m 2 c 2 ∗ atPos ER (barC c) 1 ∅ 0 ∗ bufP c cc0_scratch5 (wbV m (ly 2) c) ∗ atPos ER (wC c (wj (ly 0))) 1 ∅ 0 ∗ atPos ER (wC c (wj' (ly 0))) 1 ∅ 0 ∗ atPos ER (wC c (wj (ly 1))) 1 ∅ 0 ∗ atPos ER (wC c (wj' (ly 1))) 1 ∅ 0 ∗ atPos ER (wC c (wj (ly 2))) 1 ∅ 0 ∗ atPos ER (wC c (wj' (ly 2))) 1 ∅ 0 ∗ bufP c cc0_scratch6 (obV m (ly 2) c) ∗ xaEnd m 2 c 1 ∗ xaEnd m 2 c 2 ∗ xaEnd m 2 c 3 ∗ agHere 2 c 1 ∗ agHere 2 c 2 ∗ agHere 2 c 3 ∗ wiP c (wsl (ly 1)) (wiB m (ly 1) c) ∗ wiP c (wsl (ly 2)) (wiB m (ly 2) c) ∗ woP c (wsl (ly 1)) (woB m (ly 1) c) ∗ woP c (wsl (ly 2)) (woB m (ly 2) c) ∗ rsGot m 2 c 1 ∗ rsGot m 2 c 2 ∗ rsGot m 2 c 3 ∗ ow c (OX c 2) ∗ rsBack m 2 c 1 ∗ rsBack m 2 c 2 ∗ rsBack m 2 c 3 ∗ agSent 2 c 3 ∗ sbP c c (SBv m (ly 2) c) ∗ bufP c cc0_stg0_0 (xstg m c) ∗ xaP c c (qs 0) (XA m (ly 2)) ∗ bufP c cc0_stg1_0 (ACC m (ly 2) c)) -∗ Q c)
        -∗ wp frame (wpE (defs₀ (F := F)) 𝒱₀ (c : Thread nD τ) none) Set.univ (k0_part57 (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11) Q) := by
  rw [k0_part57_eq_skeleton]; unfold k0_part57_skel
  iintro ⟨#HR, T0, A0, T1, A1, T2, A2, T3, A3, T4, A4, T5, A5, P0, P1, P2, P3, X, XO, G1, G2, G3, BC, O, Bb, Db, Z, U, L1, L2, L3⟩ Hk
  iapply (part1 m c  f0 g0 h) $$ [T0 A0 P0 T1 A1 P1 X XO]
  · isplitl []; · iexact HR
    isplitl [T0]; · iexact T0
    isplitl [A0]; · iexact A0
    isplitl [P0]; · iexact P0
    isplitl [T1]; · iexact T1
    isplitl [A1]; · iexact A1
    isplitl [P1]; · iexact P1
    isplitl [X]; · iexact X
    iexact XO
  iintro %w0 ⟨W0, W1, X, XO⟩
  iapply (part2 m c _) $$ [G1 G2 G3 BC O]
  · isplitl []; · iexact HR
    isplitl [G1]; · iexact G1
    isplitl [G2]; · iexact G2
    isplitl [G3]; · iexact G3
    isplitl [BC]; · iexact BC
    iexact O
  iintro %w ⟨BC, G, O⟩
  ihave J := Entails.rfl $$ G
  icases J with ⟨G3, G2, G1⟩
  ihave J := (own_shares c c (XA m (ly 0))).1 $$ XO
  icases J with ⟨Y, X1, X2, X3⟩
  ihave J := (ring_open c 1) $$ L1
  icases J with ⟨F1, N1, V1, a1, aa1, b1, bb1, d1, dd1, e1, ee1⟩
  ihave J := (first_ag m c 1) $$ [F1 V1 G1]
  · isplitl []; · iexact HR
    isplitl [F1]; · iexact F1
    isplitl [V1]; · iexact V1
    iexact G1
  icases J with ⟨K1, M1⟩
  ihave J := (ring_open c 2) $$ L2
  icases J with ⟨F2, N2, V2, a2, aa2, b2, bb2, d2, dd2, e2, ee2⟩
  ihave J := (first_ag m c 2) $$ [F2 V2 G2]
  · isplitl []; · iexact HR
    isplitl [F2]; · iexact F2
    isplitl [V2]; · iexact V2
    iexact G2
  icases J with ⟨K2, M2⟩
  ihave J := (ring_open c 3) $$ L3
  icases J with ⟨F3, N3, V3, a3, aa3, b3, bb3, d3, dd3, e3, ee3⟩
  ihave J := (first_ag m c 3) $$ [F3 V3 G3]
  · isplitl []; · iexact HR
    isplitl [F3]; · iexact F3
    isplitl [V3]; · iexact V3
    iexact G3
  icases J with ⟨K3, M3⟩
  iapply (part3 m c _ _ _) $$ [K1 X1 O]
  · isplitl []; · iexact HR
    isplitl [K1]; · iexact K1
    isplitl [X1]; · iexact X1
    iexact O
  iintro %w ⟨S1, O⟩
  iapply (part4 m c _) $$ [K2 X2 K3 X3 O W0]
  · isplitl []; · iexact HR
    isplitl [K2]; · iexact K2
    isplitl [X2]; · iexact X2
    isplitl [K3]; · iexact K3
    isplitl [X3]; · iexact X3
    isplitl [O]; · iexact O
    iexact W0
  iintro ⟨S2, S3, O, D0, I0, A0⟩
  iapply (part5 m c  b d f1 g1) $$ [Bb O W1 Db I0 T2 A2 P2 T3 A3 P3 T4 A4]
  · isplitl []; · iexact HR
    isplitl [Bb]; · iexact Bb
    isplitl [O]; · iexact O
    isplitl [W1]; · iexact W1
    isplitl [Db]; · iexact Db
    isplitl [I0]; · iexact I0
    isplitl [T2]; · iexact T2
    isplitl [A2]; · iexact A2
    isplitl [P2]; · iexact P2
    isplitl [T3]; · iexact T3
    isplitl [A3]; · iexact A3
    isplitl [P3]; · iexact P3
    isplitl [T4]; · iexact T4
    iexact A4
  iintro %w ⟨Bb, O, D1, J0, A1, Db, W2, W3, W4⟩
  ihave J := (St_start m c 0 (OX c 0) s) $$ [Y U M1 M2 M3 O]
  · isplitl [Y]; · iexact Y
    isplitl [U]; · iexact U
    isplitl [M1]; · iexact M1
    isplitl [M2]; · iexact M2
    isplitl [M3]; · iexact M3
    iexact O
  icases J with S
  iapply (part6 m c _) $$ [T5 A5 J0 S]
  · isplitl []; · iexact HR
    isplitl [T5]; · iexact T5
    isplitl [A5]; · iexact A5
    isplitl [J0]; · iexact J0
    iexact S
  iintro %w ⟨W5, S⟩
  iapply (part7 m c _ _ _ _ _) $$ [S]
  · isplitl []; · iexact HR
    iexact S
  iintro %w S
  iapply (part8 m c _ _ _ _ _) $$ [S Bb Db]
  · isplitl []; · iexact HR
    isplitl [S]; · iexact S
    isplitl [Bb]; · iexact Bb
    iexact Db
  iintro %w ⟨S, Bb, Db⟩
  iapply (part9 m c _ _ _) $$ [S]
  · isplitl []; · iexact HR
    iexact S
  iintro %w S
  iapply (part10 m c _ _ _) $$ [S]
  · isplitl []; · iexact HR
    iexact S
  iintro %w S
  iapply (part11 m c _ _ _ _ _ _ _) $$ [S]
  · isplitl []; · iexact HR
    iexact S
  iintro %w S
  iapply (part12 m c _ _ _) $$ [S]
  · isplitl []; · iexact HR
    iexact S
  iintro %w S
  iapply (part13 m c _ _) $$ [S Bb Db]
  · isplitl []; · iexact HR
    isplitl [S]; · iexact S
    isplitl [Bb]; · iexact Bb
    iexact Db
  iintro ⟨S, Bb, Db⟩
  iapply (part14 m c _) $$ [S]
  · isplitl []; · iexact HR
    iexact S
  iintro %w S
  iapply (part15 m c _ _ _) $$ [S]
  · isplitl []; · iexact HR
    iexact S
  iintro %w S
  iapply (part16 m c _ _ _ _) $$ [S W2 Bb]
  · isplitl []; · iexact HR
    isplitl [S]; · iexact S
    isplitl [W2]; · iexact W2
    iexact Bb
  iintro %w ⟨O, Y, U, H1, H2, H3, E1, E2, E3, R1, R2, R3, D2, I1, A2, Bb⟩
  iapply (part17 m c _ _) $$ [N3 N2 N1 O U]
  · isplitl []; · iexact HR
    isplitl [N3]; · iexact N3
    isplitl [N2]; · iexact N2
    isplitl [N1]; · iexact N1
    isplitl [O]; · iexact O
    iexact U
  iintro ⟨N3, N2, N1, O, U⟩
  iapply (part18 m c _) $$ [N1 N2 N3 S1 O]
  · isplitl []; · iexact HR
    isplitl [N1]; · iexact N1
    isplitl [N2]; · iexact N2
    isplitl [N3]; · iexact N3
    isplitl [S1]; · iexact S1
    iexact O
  iintro %w0 %w1 %w2 ⟨N1, N2, N3, B1, O⟩
  iapply (part19 m c _ _ _ _) $$ [S2 S3 B1 Y O]
  · isplitl []; · iexact HR
    isplitl [S2]; · iexact S2
    isplitl [S3]; · iexact S3
    isplitl [B1]; · iexact B1
    isplitl [Y]; · iexact Y
    iexact O
  iintro ⟨XO, i1, i2, i3, O⟩
  ihave J := (next_rows m c 0 (by decide) 1 3 rfl) $$ [i1 a1 e3 N3]
  · isplitl [i1]; · iexact i1
    isplitl [a1]; · iexact a1
    isplitl [e3]; · iexact e3
    iexact N3
  icases J with ⟨K1, N3⟩
  ihave J := (next_rows m c 0 (by decide) 2 2 rfl) $$ [i2 a2 e2 N2]
  · isplitl [i2]; · iexact i2
    isplitl [a2]; · iexact a2
    isplitl [e2]; · iexact e2
    iexact N2
  icases J with ⟨K2, N2⟩
  ihave J := (next_rows m c 0 (by decide) 3 1 rfl) $$ [i3 a3 e1 N1]
  · isplitl [i3]; · iexact i3
    isplitl [a3]; · iexact a3
    isplitl [e1]; · iexact e1
    iexact N1
  icases J with ⟨K3, N1⟩
  ihave J := (owed_one c) $$ O
  icases J with O
  iapply (part20 m c _) $$ [XO K1 O]
  · isplitl []; · iexact HR
    isplitl [XO]; · iexact XO
    isplitl [K1]; · iexact K1
    iexact O
  iintro %w ⟨Y, X2, X3, S1, O⟩
  iapply (part21 m c _ _ _) $$ [K2 X2 K3 X3 O]
  · isplitl []; · iexact HR
    isplitl [K2]; · iexact K2
    isplitl [X2]; · iexact X2
    isplitl [K3]; · iexact K3
    isplitl [X3]; · iexact X3
    iexact O
  iintro %w ⟨S2, S3, O⟩
  iapply (part22 m c _) $$ [W3 Db O R1]
  · isplitl []; · iexact HR
    isplitl [W3]; · iexact W3
    isplitl [Db]; · iexact Db
    isplitl [O]; · iexact O
    iexact R1
  iintro %w ⟨D3, J1, A3, Db, Q1, O⟩
  iapply (part23 m c _ _ _ _ _) $$ [R2 R3 O]
  · isplitl []; · iexact HR
    isplitl [R2]; · iexact R2
    isplitl [R3]; · iexact R3
    iexact O
  iintro %w ⟨Q2, Q3, O⟩
  ihave J := (next_pe m c 0 1) $$ [H1 b1 d1 Q1]
  · isplitl [H1]; · iexact H1
    isplitl [b1]; · iexact b1
    isplitl [d1]; · iexact d1
    iexact Q1
  icases J with M1
  iclear E1
  ihave J := (next_pe m c 0 2) $$ [H2 b2 d2 Q2]
  · isplitl [H2]; · iexact H2
    isplitl [b2]; · iexact b2
    isplitl [d2]; · iexact d2
    iexact Q2
  icases J with M2
  iclear E2
  ihave J := (next_pe m c 0 3) $$ [H3 b3 d3 Q3]
  · isplitl [H3]; · iexact H3
    isplitl [b3]; · iexact b3
    isplitl [d3]; · iexact d3
    iexact Q3
  icases J with M3
  iclear E3
  ihave J := (St_start m c 1 (OX c 1) (SBv m (ly 0) c)) $$ [Y U M1 M2 M3 O]
  · isplitl [Y]; · iexact Y
    isplitl [U]; · iexact U
    isplitl [M1]; · iexact M1
    isplitl [M2]; · iexact M2
    isplitl [M3]; · iexact M3
    iexact O
  icases J with S
  iapply (part24 m c _ _ _ _) $$ [S]
  · isplitl []; · iexact HR
    iexact S
  iintro %w S
  iapply (part25 m c _ _ _ _) $$ [S]
  · isplitl []; · iexact HR
    iexact S
  iintro %w S
  iapply (part26 m c _ _ _ _ _ _) $$ [S Bb Db]
  · isplitl []; · iexact HR
    isplitl [S]; · iexact S
    isplitl [Bb]; · iexact Bb
    iexact Db
  iintro %w ⟨S, Bb, Db⟩
  iapply (part27 m c _ _ _ _ _) $$ [S]
  · isplitl []; · iexact HR
    iexact S
  iintro %w S
  iapply (part28 m c _ _ _ _ _ _) $$ [S]
  · isplitl []; · iexact HR
    iexact S
  iintro %w S
  iapply (part29 m c _ _ _ _ _) $$ [S]
  · isplitl []; · iexact HR
    iexact S
  iintro %w S
  iapply (part30 m c _) $$ [S]
  · isplitl []; · iexact HR
    iexact S
  iintro %w S
  iapply (part31 m c _ _ _ _) $$ [S Bb Db]
  · isplitl []; · iexact HR
    isplitl [S]; · iexact S
    isplitl [Bb]; · iexact Bb
    iexact Db
  iintro ⟨S, Bb, Db⟩
  iapply (part32 m c _) $$ [S]
  · isplitl []; · iexact HR
    iexact S
  iintro %w S
  iapply (part33 m c _ _ _) $$ [S]
  · isplitl []; · iexact HR
    iexact S
  iintro %w S
  iapply (part34 m c _ _ _) $$ [S W4 Bb]
  · isplitl []; · iexact HR
    isplitl [S]; · iexact S
    isplitl [W4]; · iexact W4
    iexact Bb
  iintro %w ⟨O, Y, U, H1, H2, H3, E1, E2, E3, R1, R2, R3, D4, I2, A4, Bb⟩
  iapply (part35 m c _) $$ [N3 N2 N1 O U]
  · isplitl []; · iexact HR
    isplitl [N3]; · iexact N3
    isplitl [N2]; · iexact N2
    isplitl [N1]; · iexact N1
    isplitl [O]; · iexact O
    iexact U
  iintro ⟨N3, N2, N1, O, U⟩
  iapply (part36 m c _) $$ [N2 N3 S1 O]
  · isplitl []; · iexact HR
    isplitl [N2]; · iexact N2
    isplitl [N3]; · iexact N3
    isplitl [S1]; · iexact S1
    iexact O
  iintro %w0 %w1 %w2 %w3 ⟨N2, N3, B1, O⟩
  iapply (part37 m c _ _ _ _ _) $$ [S2 S3 B1 Y O]
  · isplitl []; · iexact HR
    isplitl [S2]; · iexact S2
    isplitl [S3]; · iexact S3
    isplitl [B1]; · iexact B1
    isplitl [Y]; · iexact Y
    iexact O
  iintro %w ⟨Y, X1, X2, X3, i1, i2, i3, O⟩
  ihave J := (next_rows m c 1 (by decide) 1 3 rfl) $$ [i1 aa1 ee3 N3]
  · isplitl [i1]; · iexact i1
    isplitl [aa1]; · iexact aa1
    isplitl [ee3]; · iexact ee3
    iexact N3
  icases J with ⟨K1, N3⟩
  ihave J := (next_rows m c 1 (by decide) 2 2 rfl) $$ [i2 aa2 ee2 N2]
  · isplitl [i2]; · iexact i2
    isplitl [aa2]; · iexact aa2
    isplitl [ee2]; · iexact ee2
    iexact N2
  icases J with ⟨K2, N2⟩
  ihave J := (next_rows m c 1 (by decide) 3 1 rfl) $$ [i3 aa3 ee1 N1]
  · isplitl [i3]; · iexact i3
    isplitl [aa3]; · iexact aa3
    isplitl [ee1]; · iexact ee1
    iexact N1
  icases J with ⟨K3, N1⟩
  ihave J := (owed_two c) $$ O
  icases J with O
  iapply (part38 m c _ _ _) $$ [K1 X1 O]
  · isplitl []; · iexact HR
    isplitl [K1]; · iexact K1
    isplitl [X1]; · iexact X1
    iexact O
  iintro %w ⟨S1, O⟩
  iapply (part39 m c _) $$ [K2 X2 K3 X3 O W5]
  · isplitl []; · iexact HR
    isplitl [K2]; · iexact K2
    isplitl [X2]; · iexact X2
    isplitl [K3]; · iexact K3
    isplitl [X3]; · iexact X3
    isplitl [O]; · iexact O
    iexact W5
  iintro %w ⟨S2, S3, O, D5, J2, A5⟩
  iapply (part40 m c _) $$ [J2 Db O R1]
  · isplitl []; · iexact HR
    isplitl [J2]; · iexact J2
    isplitl [Db]; · iexact Db
    isplitl [O]; · iexact O
    iexact R1
  iintro %w ⟨J2, Db, Q1, O⟩
  iapply (part41 m c _ _ _ _) $$ [R2 R3 O]
  · isplitl []; · iexact HR
    isplitl [R2]; · iexact R2
    isplitl [R3]; · iexact R3
    iexact O
  iintro %w ⟨Q2, Q3, O⟩
  ihave J := (next_pe m c 1 1) $$ [H1 bb1 dd1 Q1]
  · isplitl [H1]; · iexact H1
    isplitl [bb1]; · iexact bb1
    isplitl [dd1]; · iexact dd1
    iexact Q1
  icases J with M1
  iclear E1
  ihave J := (next_pe m c 1 2) $$ [H2 bb2 dd2 Q2]
  · isplitl [H2]; · iexact H2
    isplitl [bb2]; · iexact bb2
    isplitl [dd2]; · iexact dd2
    iexact Q2
  icases J with M2
  iclear E2
  ihave J := (next_pe m c 1 3) $$ [H3 bb3 dd3 Q3]
  · isplitl [H3]; · iexact H3
    isplitl [bb3]; · iexact bb3
    isplitl [dd3]; · iexact dd3
    iexact Q3
  icases J with M3
  iclear E3
  ihave J := (St_start m c 2 (OX c 2) (SBv m (ly 1) c)) $$ [Y U M1 M2 M3 O]
  · isplitl [Y]; · iexact Y
    isplitl [U]; · iexact U
    isplitl [M1]; · iexact M1
    isplitl [M2]; · iexact M2
    isplitl [M3]; · iexact M3
    iexact O
  icases J with S
  iapply (part42 m c _ _ _ _) $$ [S]
  · isplitl []; · iexact HR
    iexact S
  iintro %w S
  iapply (part43 m c _ _ _ _ _) $$ [S]
  · isplitl []; · iexact HR
    iexact S
  iintro %w S
  iapply (part44 m c _ _ _ _ _ _ _) $$ [S Bb Db]
  · isplitl []; · iexact HR
    isplitl [S]; · iexact S
    isplitl [Bb]; · iexact Bb
    iexact Db
  iintro %w ⟨S, Bb, Db⟩
  iapply (part45 m c _ _ _ _) $$ [S]
  · isplitl []; · iexact HR
    iexact S
  iintro %w S
  iapply (part46 m c _ _ _ _ _ _) $$ [S]
  · isplitl []; · iexact HR
    iexact S
  iintro %w S
  iapply (part47 m c _ _ _ _ _) $$ [S]
  · isplitl []; · iexact HR
    iexact S
  iintro %w S
  iapply (part48 m c _ _ _ _) $$ [S]
  · isplitl []; · iexact HR
    iexact S
  iintro %w S
  iapply (part49 m c _ _ _) $$ [S Bb Db]
  · isplitl []; · iexact HR
    isplitl [S]; · iexact S
    isplitl [Bb]; · iexact Bb
    iexact Db
  iintro %w ⟨S, Bb, Db⟩
  iapply (part50 m c _ _) $$ [S]
  · isplitl []; · iexact HR
    iexact S
  iintro %w S
  iapply (part51 m c _ _ _ _ _ _) $$ [S]
  · isplitl []; · iexact HR
    iexact S
  iintro %w S
  iapply (part52 m c _ _ _ _ _) $$ [S N3]
  · isplitl []; · iexact HR
    isplitl [S]; · iexact S
    iexact N3
  iintro %w ⟨O, Y, U, H1, H2, H3, E1, E2, E3, R1, R2, R3, N3⟩
  iapply (part53 m c _ z) $$ [N2 N1 N3 O U Z]
  · isplitl []; · iexact HR
    isplitl [N2]; · iexact N2
    isplitl [N1]; · iexact N1
    isplitl [N3]; · iexact N3
    isplitl [O]; · iexact O
    isplitl [U]; · iexact U
    iexact Z
  iintro %w ⟨N2, N1, N3, O, U, Z⟩
  iapply (part54 m c _ _ _ _) $$ [R1 R2 O]
  · isplitl []; · iexact HR
    isplitl [R1]; · iexact R1
    isplitl [R2]; · iexact R2
    iexact O
  iintro %w ⟨Q1, Q2, O⟩
  iapply (part55 m c _ _) $$ [R3 O]
  · isplitl []; · iexact HR
    isplitl [R3]; · iexact R3
    iexact O
  iintro %w ⟨Q3, O⟩
  iapply (part56 m c _) $$ [S1 S2 O]
  · isplitl []; · iexact HR
    isplitl [S1]; · iexact S1
    isplitl [S2]; · iexact S2
    iexact O
  iintro %w ⟨B1, B2, O⟩
  iapply (Entails.of_eq (wp_ret _ _ _ _ _).symm)
  imodintro
  iapply Hk
  isplitl [A0]; · iexact A0
  isplitl [A1]; · iexact A1
  isplitl [A2]; · iexact A2
  isplitl [A3]; · iexact A3
  isplitl [A4]; · iexact A4
  isplitl [A5]; · iexact A5
  isplitl [B1]; · iexact B1
  isplitl [B2]; · iexact B2
  isplitl [BC]; · iexact BC
  isplitl [Bb]; · iexact Bb
  isplitl [D0]; · iexact D0
  isplitl [D1]; · iexact D1
  isplitl [D2]; · iexact D2
  isplitl [D3]; · iexact D3
  isplitl [D4]; · iexact D4
  isplitl [D5]; · iexact D5
  isplitl [Db]; · iexact Db
  isplitl [E1]; · iexact E1
  isplitl [E2]; · iexact E2
  isplitl [E3]; · iexact E3
  isplitl [H1]; · iexact H1
  isplitl [H2]; · iexact H2
  isplitl [H3]; · iexact H3
  isplitl [I1]; · iexact I1
  isplitl [I2]; · iexact I2
  isplitl [J1]; · iexact J1
  isplitl [J2]; · iexact J2
  isplitl [N1]; · iexact N1
  isplitl [N2]; · iexact N2
  isplitl [N3]; · iexact N3
  isplitl [O]; · iexact O
  isplitl [Q1]; · iexact Q1
  isplitl [Q2]; · iexact Q2
  isplitl [Q3]; · iexact Q3
  isplitl [S3]; · iexact S3
  isplitl [U]; · iexact U
  isplitl [X]; · iexact X
  isplitl [Y]; · iexact Y
  iexact Z
end

end Cert.Mlp
-- ==== Proof.Whole.lean ====
/-
The kernel's body from what the launch hands a device to what it gives back: the buffers cut into slots, the parts run
one after the other, the last transfer awaited, the semaphores closed and the buffers put together again.
-/
module

public import proofs.«01_k».proof.Proof.Chain

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ
variable (m : (ℓ : Loc nD τ sig) → Buf (Elt F) ℓ)

/-! ## Four slots make a buffer -/

section Four
omit [FloatOps F]
variable {ℓ : Loc nD τ sig} {K : Fin 4 → Finset (Idx ℓ)} {q : PosShare TreeShare}

/-- Four slots named in any order make up the whole. -/
theorem cover (hU : (Finset.univ : Finset (Fin 4)).biUnion K = Finset.univ) {a b d e : Fin 4}
    (h : ∀ p, p = a ∨ p = b ∨ p = d ∨ p = e) : K a ∪ (K b ∪ (K d ∪ K e)) = Finset.univ := by
  refine Finset.eq_univ_iff_forall.2 fun i => ?_
  obtain ⟨p, -, hp⟩ := Finset.mem_biUnion.1 (hU ▸ Finset.mem_univ i)
  rcases h p with rfl | rfl | rfl | rfl <;> simp only [Finset.mem_union] <;> tauto

/-- A whole buffer is its four slots. -/
theorem cut_four (hK : ∀ p p', p ≠ p' → Disjoint (K p) (K p')) (hU : (Finset.univ : Finset (Fin 4)).biUnion K = Finset.univ)
    {a b d e : Fin 4} (h : ∀ p, p = a ∨ p = b ∨ p = d ∨ p = e) (hn : a ≠ b ∧ a ≠ d ∧ a ≠ e ∧ b ≠ d ∧ b ≠ e ∧ d ≠ e) (f : Buf (Elt F) ℓ) :
    (ℓ ↦{q} f : sProp 𝕄) ⊢ iprop((ℓ ↦[K a]{q} f) ∗ (ℓ ↦[K b]{q} f) ∗ (ℓ ↦[K d]{q} f) ∗ (ℓ ↦[K e]{q} f)) := by
  obtain ⟨h1, h2, h3, h4, h5, h6⟩ := hn
  rw [← cover hU h]
  iintro H
  ihave J := (pointsTo_union (Finset.disjoint_union_right.2 ⟨hK _ _ h1, Finset.disjoint_union_right.2 ⟨hK _ _ h2, hK _ _ h3⟩⟩)).1 $$ H
  icases J with ⟨Ha, H⟩
  ihave J := (pointsTo_union (Finset.disjoint_union_right.2 ⟨hK _ _ h4, hK _ _ h5⟩)).1 $$ H
  icases J with ⟨Hb, H⟩
  ihave J := (pointsTo_union (hK _ _ h6)).1 $$ H
  icases J with ⟨Hd, He⟩
  isplitl [Ha]; · iexact Ha
  isplitl [Hb]; · iexact Hb
  isplitl [Hd]; · iexact Hd
  iexact He

/-- Four slots, whatever they hold, are a whole buffer. -/
theorem glue_four (hK : ∀ p p', p ≠ p' → Disjoint (K p) (K p')) (hU : (Finset.univ : Finset (Fin 4)).biUnion K = Finset.univ)
    {a b d e : Fin 4} (h : ∀ p, p = a ∨ p = b ∨ p = d ∨ p = e) (hn : a ≠ b ∧ a ≠ d ∧ a ≠ e ∧ b ≠ d ∧ b ≠ e ∧ d ≠ e) (fa fb fd fe : Buf (Elt F) ℓ) :
    iprop((ℓ ↦[K a]{q} fa) ∗ (ℓ ↦[K b]{q} fb) ∗ (ℓ ↦[K d]{q} fd) ∗ (ℓ ↦[K e]{q} fe)) ⊢ (iprop(∃ f, ℓ ↦{q} f) : sProp 𝕄) := by
  obtain ⟨h1, h2, h3, h4, h5, h6⟩ := hn
  rw [← cover hU h]
  iintro ⟨Ha, Hb, Hd, He⟩
  ihave J := (pointsTo_join (hK _ _ h6)) $$ [Hd He]
  · isplitl [Hd]; · iexact Hd
    iexact He
  ihave J := (pointsTo_join (Finset.disjoint_union_right.2 ⟨hK _ _ h4, hK _ _ h5⟩)) $$ [Hb J]
  · isplitl [Hb]; · iexact Hb
    iexact J
  ihave J := (pointsTo_join (Finset.disjoint_union_right.2 ⟨hK _ _ h1, Finset.disjoint_union_right.2 ⟨hK _ _ h2, hK _ _ h3⟩⟩)) $$ [Ha J]
  · isplitl [Ha]; · iexact Ha
    iexact J
  iexists _; iexact J
end Four

/-- Different slots share no element. -/
theorem slots_apart (p p' : Fin 4) (h : p ≠ p') : Disjoint (slotSet p) (slotSet p') := slot_disjoint h
/-- Every slot is at distance 0, 1, 2 or 3 from `c`. -/
theorem turn_all : ∀ c p : Fin 4, p = c ∨ p = c + 1 ∨ p = c + 2 ∨ p = c + 3 := by decide
/-- The slots at distances 0 to 3 from `c` differ. -/
theorem turn_ne : ∀ c : Fin 4, c ≠ c + 1 ∧ c ≠ c + 2 ∧ c ≠ c + 3 ∧ c + 1 ≠ c + 2 ∧ c + 1 ≠ c + 3 ∧ c + 2 ≠ c + 3 := by decide
/-- Every slot is 0 or an opposite of 1, 2, 3. -/
theorem back_all : ∀ p : Fin 4, p = 0 ∨ p = -1 ∨ p = -2 ∨ p = -3 := by decide
/-- 0 and the opposites of 1, 2, 3 differ. -/
theorem back_ne : (0 : Fin 4) ≠ -1 ∧ (0 : Fin 4) ≠ -2 ∧ (0 : Fin 4) ≠ -3 ∧ (-1 : Fin 4) ≠ -2 ∧ (-1 : Fin 4) ≠ -3 ∧ (-2 : Fin 4) ≠ -3 := by decide
/-- Every slot is 0, 1, 2 or 3. -/
theorem fore_all : ∀ p : Fin 4, p = 0 ∨ p = 1 ∨ p = 2 ∨ p = 3 := by decide
/-- 0, 1, 2 and 3 differ. -/
theorem fore_ne : (0 : Fin 4) ≠ 1 ∧ (0 : Fin 4) ≠ 2 ∧ (0 : Fin 4) ≠ 3 ∧ (1 : Fin 4) ≠ 2 ∧ (1 : Fin 4) ≠ 3 ∧ (2 : Fin 4) ≠ 3 := by decide

section
variable (c : Dev nD)

/-! ## The buffers of a device -/

/-- The buffers the kernel works in, whatever they hold. -/
def scr : sProp 𝕄 :=
  iprop((∃ f, bufP (F := F) c cc0_scratch0 f) ∗ (∃ f, bufP c cc0_scratch1 f) ∗ (∃ f, bufP c cc0_scratch2 f) ∗ (∃ f, bufP c cc0_scratch3 f)
    ∗ (∃ f, bufP c cc0_scratch4 f) ∗ (∃ f, bufP c cc0_scratch5 f) ∗ (∃ f, bufP c cc0_scratch6 f))

/-- The rows' buffer is cut into its four slots. -/
theorem xa_cut (f : Slab F) : bufP c cc0_scratch0 f ⊢ iprop(xaP c c fullShare f ∗ xaP c (c + 1) fullShare f ∗ xaP c (c + 2) fullShare f ∗ xaP c (c + 3) fullShare f) :=
  by unfold bufP xaP; exact cut_four (ℓ := (c : Thread nD τ).loc cc0_scratch0) (K := slotSet) slots_apart slots_univ (turn_all c) (turn_ne c) f
/-- The products' buffer is cut into its four slots. -/
theorem sb_cut (f : Slab F) : bufP c cc0_scratch1 f ⊢ iprop(sbP c c f ∗ sbP c (c + 1) f ∗ sbP c (c + 2) f ∗ sbP c (c + 3) f) :=
  by unfold bufP sbP; exact cut_four (ℓ := (c : Thread nD τ).loc cc0_scratch1) (K := slotSet) slots_apart slots_univ (turn_all c) (turn_ne c) f
/-- The receiving buffer is cut into its four slots. -/
theorem rb_cut (f : Slab F) : bufP c cc0_scratch2 f ⊢ iprop(rbP c 0 f ∗ rbP c (-1) f ∗ rbP c (-2) f ∗ rbP c (-3) f) :=
  by unfold bufP rbP; exact cut_four (ℓ := (c : Thread nD τ).loc cc0_scratch2) (K := slotSet) slots_apart slots_univ back_all back_ne f
/-- Four slots make up the rows' buffer. -/
theorem xa_glue (f g h k : Slab F) :
    iprop(xaP c c fullShare f ∗ xaP c (c + 1) fullShare g ∗ xaP c (c + 2) fullShare h ∗ xaP c (c + 3) fullShare k) ⊢ iprop(∃ f, bufP c cc0_scratch0 f) :=
  by unfold bufP xaP; exact glue_four (ℓ := (c : Thread nD τ).loc cc0_scratch0) (K := slotSet) slots_apart slots_univ (turn_all c) (turn_ne c) f g h k
/-- Four slots make up the products' buffer. -/
theorem sb_glue (f g h k : Slab F) :
    iprop(sbP c c f ∗ sbP c (c + 1) g ∗ sbP c (c + 2) h ∗ sbP c (c + 3) k) ⊢ iprop(∃ f, bufP c cc0_scratch1 f) :=
  by unfold bufP sbP; exact glue_four (ℓ := (c : Thread nD τ).loc cc0_scratch1) (K := slotSet) slots_apart slots_univ (turn_all c) (turn_ne c) f g h k
/-- Four slots make up the receiving buffer. -/
theorem rb_glue (f g h k : Slab F) :
    iprop(rbP c 0 f ∗ rbP c 1 g ∗ rbP c 2 h ∗ rbP c 3 k) ⊢ iprop(∃ f, bufP c cc0_scratch2 f) :=
  by unfold bufP rbP; exact glue_four (ℓ := (c : Thread nD τ).loc cc0_scratch2) (K := slotSet) slots_apart slots_univ fore_all fore_ne f g h k
/-- The first weight's buffer is cut into its two slots. -/
theorem wi_cut (f : S2x1024x2048.Idx → Elt F .f32) : bufP c cc0_scratch3 f ⊢ iprop(wiP c (wsl (ly 0)) f ∗ wiP c (wsl (ly 1)) f) := by
  have h : bufP c cc0_scratch3 f = ((c : Thread nD τ).loc cc0_scratch3 ↦[(wiR 0).set ∪ (wiR 1).set]{fullShare} f : sProp 𝕄) := by rw [wi_univ]; rfl
  rw [h]; exact (pointsTo_union wi_disjoint).1
/-- The second weight's buffer is cut into its two slots. -/
theorem wo_cut (f : S2x2048x1024.Idx → Elt F .f32) : bufP c cc0_scratch4 f ⊢ iprop(woP c (wsl (ly 0)) f ∗ woP c (wsl (ly 1)) f) := by
  have h : bufP c cc0_scratch4 f = ((c : Thread nD τ).loc cc0_scratch4 ↦[(woR 0).set ∪ (woR 1).set]{fullShare} f : sProp 𝕄) := by rw [wo_univ]; rfl
  rw [h]; exact (pointsTo_union wo_disjoint).1
/-- Two slots make up the first weight's buffer. -/
theorem wi_glue (f g : S2x1024x2048.Idx → Elt F .f32) : iprop(wiP c (wsl (ly 2)) f ∗ wiP c (wsl (ly 1)) g) ⊢ iprop(∃ f, bufP c cc0_scratch3 f) := by
  have h (f) : bufP c cc0_scratch3 f = ((c : Thread nD τ).loc cc0_scratch3 ↦[(wiR 0).set ∪ (wiR 1).set]{fullShare} f : sProp 𝕄) := by rw [wi_univ]; rfl
  simp only [h]
  refine (pointsTo_join wi_disjoint).trans ?_
  iintro H; iexists _; iexact H
/-- Two slots make up the second weight's buffer. -/
theorem wo_glue (f g : S2x2048x1024.Idx → Elt F .f32) : iprop(woP c (wsl (ly 2)) f ∗ woP c (wsl (ly 1)) g) ⊢ iprop(∃ f, bufP c cc0_scratch4 f) := by
  have h (f) : bufP c cc0_scratch4 f = ((c : Thread nD τ).loc cc0_scratch4 ↦[(woR 0).set ∪ (woR 1).set]{fullShare} f : sProp 𝕄) := by rw [wo_univ]; rfl
  simp only [h]
  refine (pointsTo_join wo_disjoint).trans ?_
  iintro H; iexists _; iexact H

/-! ## Cells, tokens, credits -/

/-- A statement about 23 counters, written out. -/
theorem all23 (Φ : Fin 23 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22) :=
  bigSep_univ_eq_bigSepL [0, 1, 2, 3, 4, 5, 6, 7, 8, 9, 10, 11, 12, 13, 14, 15, 16, 17, 18, 19, 20, 21, 22] (by decide) (by decide) Φ

/-- A device's cells, one by one. -/
theorem cells_eq (Φ : GSem nD τ sig → sProp 𝕄) : (bigSep Finset.univ fun k : Fin 23 => Φ (kcell (c, k)))
    = iprop(Φ (agSC c 0) ∗ Φ (agSC c 1) ∗ Φ (agSC c 2) ∗ Φ (agSC c 3) ∗ Φ (agRC c 0) ∗ Φ (agRC c 1) ∗ Φ (agRC c 2) ∗ Φ (agRC c 3) ∗ Φ (rsSC c 0) ∗ Φ (rsSC c 1) ∗ Φ (rsSC c 2) ∗ Φ (rsSC c 3) ∗ Φ (rsRC c 0) ∗ Φ (rsRC c 1) ∗ Φ (rsRC c 2) ∗ Φ (rsRC c 3) ∗ Φ (wC c 0) ∗ Φ (wC c 1) ∗ Φ (wC c 2) ∗ Φ (wC c 3) ∗ Φ (wC c 4) ∗ Φ (wC c 5) ∗ Φ (barC c)) := by
  rw [all23]; rfl

/-- The tokens of a cell's three rounds. -/
def tk (g : GSem nD τ sig) : sProp 𝕄 := iprop(dutyTok ER g 0 0 ∗ dutyTok ER g 1 0 ∗ dutyTok ER g 2 0)
/-- Token `j` of cell `k`: the round and the duty. The barrier has one round of three duties, the others a duty a round. -/
def tokOf (x : Dev nD × (Fin 23 × Fin 3)) : GSem nD τ sig × ℕ × ℕ :=
  if x.2.1 = 22 then (kcell (x.1, x.2.1), 0, x.2.2.val + 1) else (kcell (x.1, x.2.1), x.2.2.val, 0)
/-- How many devices further the device lies whose duty device `c` pays with it. -/
def turn (x : Fin 23 × Fin 3) : Fin 4 :=
  if x.1 = 22 then ⟨(x.2.val + 1) % 4, Nat.mod_lt _ (by decide)⟩
  else if 4 ≤ x.1.val ∧ x.1.val < 8 ∨ 12 ≤ x.1.val ∧ x.1.val < 16 then ⟨x.1.val % 4, Nat.mod_lt _ (by decide)⟩ else 0
/-- The devices turned by `t`. -/
def turnBy (t : Fin 4) : Dev nD ≃ Dev nD where
  toFun c := (show Fin 4 from c) + t
  invFun c := (show Fin 4 from c) - t
  left_inv := fun c => add_sub_right c t
  right_inv := fun c => by revert c t; decide
def turnE (x : Fin 23 × Fin 3) : Dev nD ≃ Dev nD := if turn x = 0 then Equiv.refl _ else turnBy (turn x)
def tokP (y : GSem nD τ sig × ℕ × ℕ) : sProp 𝕄 := dutyTok ER y.1 y.2.1 y.2.2
/-- The tokens device `c` pays with. -/
def payToks : sProp 𝕄 := bigSep Finset.univ fun x : Fin 23 × Fin 3 => tokP (tokOf (turnE x c, x))

/-- A statement about three rounds, written out. -/
theorem three (Φ : Fin 3 → sProp 𝕄) : bigSep Finset.univ Φ = iprop(Φ 0 ∗ Φ 1 ∗ Φ 2) := bigSep_univ_eq_bigSepL [0, 1, 2] (by decide) (by decide) Φ

/-- A device's tokens for paying, written out. -/
theorem payToks_eq : payToks (F := F) c = iprop(tk (agSC c 0) ∗ tk (agSC c 1) ∗ tk (agSC c 2) ∗ tk (agSC c 3) ∗ tk (agRC (c) 0) ∗ tk (agRC (c + 1) 1) ∗ tk (agRC (c + 2) 2) ∗ tk (agRC (c + 3) 3) ∗ tk (rsSC c 0) ∗ tk (rsSC c 1) ∗ tk (rsSC c 2) ∗ tk (rsSC c 3) ∗ tk (rsRC (c) 0) ∗ tk (rsRC (c + 1) 1) ∗ tk (rsRC (c + 2) 2) ∗ tk (rsRC (c + 3) 3) ∗ tk (wC c 0) ∗ tk (wC c 1) ∗ tk (wC c 2) ∗ tk (wC c 3) ∗ tk (wC c 4) ∗ tk (wC c 5) ∗ (dutyTok ER (barC (c + 1)) 0 1 ∗ dutyTok ER (barC (c + 2)) 0 2 ∗ dutyTok ER (barC (c + 3)) 0 3)) := by
  unfold payToks
  rw [bigSep_univ_prod, all23]
  simp only [three]
  rfl

/-- The units a device will be sent. -/
def credsC : sProp 𝕄 := iprop(cred (tallyAt (barC c) 0 3) ∗ (agCr 0 c 1 ∗ agCr 1 c 1 ∗ agCr 2 c 1 ∗ rsCr 0 c 1 ∗ rsCr 1 c 1 ∗ rsCr 2 c 1) ∗ (agCr 0 c 2 ∗ agCr 1 c 2 ∗ agCr 2 c 2 ∗ rsCr 0 c 2 ∗ rsCr 1 c 2 ∗ rsCr 2 c 2) ∗ (agCr 0 c 3 ∗ agCr 1 c 3 ∗ agCr 2 c 3 ∗ rsCr 0 c 3 ∗ rsCr 1 c 3 ∗ rsCr 2 c 3))
/-- The six weights in memory. -/
def args : sProp 𝕄 := iprop(wiAP m c (ly 0) ∗ woAP m c (ly 0) ∗ wiAP m c (ly 1) ∗ woAP m c (ly 1) ∗ wiAP m c (ly 2) ∗ woAP m c (ly 2))
/-- What a device owes at the start. -/
def Ostart : CellTallies nD τ sig ℕ := OA 0 c (OX c 0) + Obar c 3 + Obar c 2 + Obar c 1
/-- After the last layer nothing is owed. -/
theorem OX_last : OX c 2 = 0 := by unfold OX; rw [if_neg (by decide), if_neg (by decide)]

/-! ## Closing -/

/-- After the last layer a peer's slot of the rows is held in full. -/
theorem xaEnd_last (t : Fin 4) : xaEnd m 2 c t = xaP c (c + t) fullShare (XA m (ly 2)) := if_neg (by decide)

/-- A counter whose schedule is over is given back at zero. -/
theorem close_one {g : GSem nD τ sig} {R : ℕ} (hk : Recs (F := F) m ⊢ known m g) (hR : ∀ r, R ≤ r → (sched (F := F) m).duties g r = ∅) :
    iprop(Recs m ∗ atPos ER g R ∅ 0) ⊢ |={Set.univ}=> semVal g 0 := by
  refine (sep_mono_left hk).trans ?_
  unfold known
  iintro ⟨⟨%κ, HI, -⟩, Hat⟩
  imod (Rounds.cell_close ER (sched m) (Set.mem_univ κ) (fun h => h) (R := R) hR) $$ [HI Hat] with H
  · isplitl [HI]; · iexact HI
    iexact Hat
  imodintro
  iexact H

/-- The four cells between a device and another are through after three rounds. -/
theorem close_ring (t u : Fin 4) (hu : -t = u) :
    iprop(Recs m ∗ (atPos ER (agSC c t) 3 ∅ 0 ∗ atPos ER (agRC c (-t)) 3 ∅ 0 ∗ atPos ER (rsSC c t) 3 ∅ 0 ∗ atPos ER (rsRC c t) 3 ∅ 0))
      ⊢ (|={Set.univ}=> (semVal (agSC c t) 0 ∗ semVal (agRC c u) 0 ∗ semVal (rsSC c t) 0 ∗ semVal (rsRC c t) 0 : sProp 𝕄)) := by
  subst hu
  iintro ⟨#HR, A, B, D, E⟩
  imod (close_one m (known_agS m c t) fun r h => duties_none m c _ (Or.inr h)) $$ [A] with A
  · isplitl []; · iexact HR
    iexact A
  imod (close_one m (known_agR m c (-t)) fun r h => duties_none m c _ (Or.inr h)) $$ [B] with B
  · isplitl []; · iexact HR
    iexact B
  imod (close_one m (known_rsS m c t) fun r h => duties_none m c _ (Or.inr h)) $$ [D] with D
  · isplitl []; · iexact HR
    iexact D
  imod (close_one m (known_rsR m c t) fun r h => duties_none m c _ (Or.inr h)) $$ [E] with E
  · isplitl []; · iexact HR
    iexact E
  imodintro
  isplitl [A]; · iexact A
  isplitl [B]; · iexact B
  isplitl [D]; · iexact D
  iexact E

/-- The unused cells of index zero never had a round. -/
theorem close_zero :
    iprop(Recs m ∗ (atPos ER (agSC c 0) 0 ∅ 0 ∗ atPos ER (agRC c 0) 0 ∅ 0 ∗ atPos ER (rsSC c 0) 0 ∅ 0 ∗ atPos ER (rsRC c 0) 0 ∅ 0))
      ⊢ (|={Set.univ}=> (semVal (agSC c 0) 0 ∗ semVal (agRC c 0) 0 ∗ semVal (rsSC c 0) 0 ∗ semVal (rsRC c 0) 0 : sProp 𝕄)) := by
  iintro ⟨#HR, A, B, D, E⟩
  imod (close_one m (known_agS m c 0) fun r h => duties_none m c _ (Or.inl (by decide))) $$ [A] with A
  · isplitl []; · iexact HR
    iexact A
  imod (close_one m (known_agR m c 0) fun r h => duties_none m c _ (Or.inl (by decide))) $$ [B] with B
  · isplitl []; · iexact HR
    iexact B
  imod (close_one m (known_rsS m c 0) fun r h => duties_none m c _ (Or.inl (by decide))) $$ [D] with D
  · isplitl []; · iexact HR
    iexact D
  imod (close_one m (known_rsR m c 0) fun r h => duties_none m c _ (Or.inl (by decide))) $$ [E] with E
  · isplitl []; · iexact HR
    iexact E
  imodintro
  isplitl [A]; · iexact A
  isplitl [B]; · iexact B
  isplitl [D]; · iexact D
  iexact E

/-- The weight cells and the barrier are through after one round. -/
theorem close_rest :
    iprop(Recs m ∗ (atPos ER (wC c (wj (ly 0))) 1 ∅ 0 ∗ atPos ER (wC c (wj' (ly 0))) 1 ∅ 0 ∗ atPos ER (wC c (wj (ly 1))) 1 ∅ 0 ∗ atPos ER (wC c (wj' (ly 1))) 1 ∅ 0
        ∗ atPos ER (wC c (wj (ly 2))) 1 ∅ 0 ∗ atPos ER (wC c (wj' (ly 2))) 1 ∅ 0 ∗ atPos ER (barC c) 1 ∅ 0))
      ⊢ (|={Set.univ}=> (semVal (wC c 0) 0 ∗ semVal (wC c 1) 0 ∗ semVal (wC c 2) 0 ∗ semVal (wC c 3) 0 ∗ semVal (wC c 4) 0 ∗ semVal (wC c 5) 0 ∗ semVal (barC c) 0 : sProp 𝕄)) := by
  have e0 : wj (ly 0) = 0 := rfl
  have e1 : wj' (ly 0) = 1 := rfl
  have e2 : wj (ly 1) = 2 := rfl
  have e3 : wj' (ly 1) = 3 := rfl
  have e4 : wj (ly 2) = 4 := rfl
  have e5 : wj' (ly 2) = 5 := rfl
  rw [e0, e1, e2, e3, e4, e5]
  iintro ⟨#HR, D0, D1, D2, D3, D4, D5, BC⟩
  imod (close_one m (known_w m c 0) fun r h => duties_w' m c _ h) $$ [D0] with D0
  · isplitl []; · iexact HR
    iexact D0
  imod (close_one m (known_w m c 1) fun r h => duties_w' m c _ h) $$ [D1] with D1
  · isplitl []; · iexact HR
    iexact D1
  imod (close_one m (known_w m c 2) fun r h => duties_w' m c _ h) $$ [D2] with D2
  · isplitl []; · iexact HR
    iexact D2
  imod (close_one m (known_w m c 3) fun r h => duties_w' m c _ h) $$ [D3] with D3
  · isplitl []; · iexact HR
    iexact D3
  imod (close_one m (known_w m c 4) fun r h => duties_w' m c _ h) $$ [D4] with D4
  · isplitl []; · iexact HR
    iexact D4
  imod (close_one m (known_w m c 5) fun r h => duties_w' m c _ h) $$ [D5] with D5
  · isplitl []; · iexact HR
    iexact D5
  imod (close_one m (known_bar m c) fun r h => duties_bar' m c h) $$ [BC] with BC
  · isplitl []; · iexact HR
    iexact BC
  imodintro
  isplitl [D0]; · iexact D0
  isplitl [D1]; · iexact D1
  isplitl [D2]; · iexact D2
  isplitl [D3]; · iexact D3
  isplitl [D4]; · iexact D4
  isplitl [D5]; · iexact D5
  iexact BC

/-! ## The body -/

/-- The whole program text: its parts, and the wait for the last row transfer. -/
theorem text {Q : PUnit → sProp 𝕄} (f0 f1 : S2x1024x2048.Idx → Elt F .f32) (g0 g1 : S2x2048x1024.Idx → Elt F .f32) (h s : Slab F)
    (b : S1024x2048.Idx → Elt F .bf16) (d : S2048x1024.Idx → Elt F .bf16) (z : S64x1024.Idx → Elt F .f32) :
    iprop(Recs m ∗ wTok c (wj (ly 0)) ∗ wiAP m c (ly 0) ∗ wTok c (wj' (ly 0)) ∗ woAP m c (ly 0) ∗ wTok c (wj (ly 1)) ∗ wiAP m c (ly 1) ∗ wTok c (wj' (ly 1)) ∗ woAP m c (ly 1) ∗ wTok c (wj (ly 2)) ∗ wiAP m c (ly 2) ∗ wTok c (wj' (ly 2)) ∗ woAP m c (ly 2) ∗ wiP c (wsl (ly 0)) f0 ∗ woP c (wsl (ly 0)) g0 ∗ wiP c (wsl (ly 1)) f1 ∗ woP c (wsl (ly 1)) g1 ∗ bufP c cc0_stg0_0 (xstg m c) ∗ xaP c c fullShare h ∗ barGive c 1 ∗ barGive c 2 ∗ barGive c 3 ∗ barPend c ∗ ow c (OA 0 c (OX c 0) + Obar c 3 + Obar c 2 + Obar c 1) ∗ bufP c cc0_scratch5 b ∗ bufP c cc0_scratch6 d ∗ bufP c cc0_stg1_0 z ∗ sbP c c s ∗ ring c 1 ∗ ring c 2 ∗ ring c 3)
      ⊢ iprop(((wiAP m c (ly 0) ∗ woAP m c (ly 0) ∗ wiAP m c (ly 1) ∗ woAP m c (ly 1) ∗ wiAP m c (ly 2) ∗ woAP m c (ly 2) ∗ agBack m 2 c 1 ∗ agBack m 2 c 2 ∗ atPos ER (barC c) 1 ∅ 0 ∗ bufP c cc0_scratch5 (wbV m (ly 2) c) ∗ atPos ER (wC c (wj (ly 0))) 1 ∅ 0 ∗ atPos ER (wC c (wj' (ly 0))) 1 ∅ 0 ∗ atPos ER (wC c (wj (ly 1))) 1 ∅ 0 ∗ atPos ER (wC c (wj' (ly 1))) 1 ∅ 0 ∗ atPos ER (wC c (wj (ly 2))) 1 ∅ 0 ∗ atPos ER (wC c (wj' (ly 2))) 1 ∅ 0 ∗ bufP c cc0_scratch6 (obV m (ly 2) c) ∗ xaEnd m 2 c 1 ∗ xaEnd m 2 c 2 ∗ xaEnd m 2 c 3 ∗ agHere 2 c 1 ∗ agHere 2 c 2 ∗ agHere 2 c 3 ∗ wiP c (wsl (ly 1)) (wiB m (ly 1) c) ∗ wiP c (wsl (ly 2)) (wiB m (ly 2) c) ∗ woP c (wsl (ly 1)) (woB m (ly 1) c) ∗ woP c (wsl (ly 2)) (woB m (ly 2) c) ∗ rsGot m 2 c 1 ∗ rsGot m 2 c 2 ∗ rsGot m 2 c 3 ∗ ow c (OX c 2) ∗ rsBack m 2 c 1 ∗ rsBack m 2 c 2 ∗ rsBack m 2 c 3 ∗ sbP c c (SBv m (ly 2) c) ∗ bufP c cc0_stg0_0 (xstg m c) ∗ xaP c c (qs 0) (XA m (ly 2)) ∗ bufP c cc0_stg1_0 (ACC m (ly 2) c) ∗ agBack m 2 c 3) -∗ |={Set.univ}=> Q ⟨⟩)
        -∗ wp frame (wpE (defs₀ (F := F)) 𝒱₀ (c : Thread nD τ) none) Set.univ (cc0_body (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11) Q) := by
  rw [cc0_body_eq_skeleton]; unfold cc0_body_skel
  rw [wp_bind]
  iintro ⟨#HR, T0, A0, T1, A1, T2, A2, T3, A3, T4, A4, T5, A5, P0, P1, P2, P3, X, XO, G1, G2, G3, BC, O, Bb, Db, Z, U, L1, L2, L3⟩ Hk
  iapply (parts m c f0 f1 g0 g1 h s b d z) $$ [T0 A0 T1 A1 T2 A2 T3 A3 T4 A4 T5 A5 P0 P1 P2 P3 X XO G1 G2 G3 BC O Bb Db Z U L1 L2 L3]
  · isplitl []; · iexact HR
    isplitl [T0]; · iexact T0
    isplitl [A0]; · iexact A0
    isplitl [T1]; · iexact T1
    isplitl [A1]; · iexact A1
    isplitl [T2]; · iexact T2
    isplitl [A2]; · iexact A2
    isplitl [T3]; · iexact T3
    isplitl [A3]; · iexact A3
    isplitl [T4]; · iexact T4
    isplitl [A4]; · iexact A4
    isplitl [T5]; · iexact T5
    isplitl [A5]; · iexact A5
    isplitl [P0]; · iexact P0
    isplitl [P1]; · iexact P1
    isplitl [P2]; · iexact P2
    isplitl [P3]; · iexact P3
    isplitl [X]; · iexact X
    isplitl [XO]; · iexact XO
    isplitl [G1]; · iexact G1
    isplitl [G2]; · iexact G2
    isplitl [G3]; · iexact G3
    isplitl [BC]; · iexact BC
    isplitl [O]; · iexact O
    isplitl [Bb]; · iexact Bb
    isplitl [Db]; · iexact Db
    isplitl [Z]; · iexact Z
    isplitl [U]; · iexact U
    isplitl [L1]; · iexact L1
    isplitl [L2]; · iexact L2
    iexact L3
  iintro ⟨A0, A1, A2, A3, A4, A5, B1, B2, BC, Bb, D0, D1, D2, D3, D4, D5, Db, E1, E2, E3, H1, H2, H3, I1, I2, J1, J2, N1, N2, N3, O, Q1, Q2, Q3, S3, U, X, Y, Z⟩
  simp only [Prog.lift, Prog.bind_op, Prog.bind_ret, Prog.pure_eq_ret]
  iapply (agS_wait m c 3 (by decide) (r := 2) (by decide) rfl (above_X0 c 2) (nb_off _ _ _)) $$ [S3 O]
  · isplitl []; · iexact HR
    isplitl [S3]; · iexact S3
    iexact O
  iintro ⟨B3, O⟩
  iapply (Entails.of_eq (wp_ret _ _ _ _ _).symm)
  iapply Hk
  isplitl [A0]; · iexact A0
  isplitl [A1]; · iexact A1
  isplitl [A2]; · iexact A2
  isplitl [A3]; · iexact A3
  isplitl [A4]; · iexact A4
  isplitl [A5]; · iexact A5
  isplitl [B1]; · iexact B1
  isplitl [B2]; · iexact B2
  isplitl [BC]; · iexact BC
  isplitl [Bb]; · iexact Bb
  isplitl [D0]; · iexact D0
  isplitl [D1]; · iexact D1
  isplitl [D2]; · iexact D2
  isplitl [D3]; · iexact D3
  isplitl [D4]; · iexact D4
  isplitl [D5]; · iexact D5
  isplitl [Db]; · iexact Db
  isplitl [E1]; · iexact E1
  isplitl [E2]; · iexact E2
  isplitl [E3]; · iexact E3
  isplitl [H1]; · iexact H1
  isplitl [H2]; · iexact H2
  isplitl [H3]; · iexact H3
  isplitl [I1]; · iexact I1
  isplitl [I2]; · iexact I2
  isplitl [J1]; · iexact J1
  isplitl [J2]; · iexact J2
  isplitl [N1]; · iexact N1
  isplitl [N2]; · iexact N2
  isplitl [N3]; · iexact N3
  isplitl [O]; · iexact O
  isplitl [Q1]; · iexact Q1
  isplitl [Q2]; · iexact Q2
  isplitl [Q3]; · iexact Q3
  isplitl [U]; · iexact U
  isplitl [X]; · iexact X
  isplitl [Y]; · iexact Y
  isplitl [Z]; · iexact Z
  iexact B3

/-- What one device does, from what it is handed to what it gives back. -/
theorem whole {Q : PUnit → sProp 𝕄} (z : S64x1024.Idx → Elt F .f32) :
    iprop(Recs m ∗ (bigSep Finset.univ fun k : Fin 23 => atPos ER (kcell (c, k)) 0 ∅ 0) ∗ payToks c ∗ credsC c ∗ args m c ∗ scr c
        ∗ ow c (Ostart c) ∗ bufP c cc0_stg0_0 (xstg m c) ∗ bufP c cc0_stg1_0 z)
      ⊢ iprop((((bigSep Finset.univ fun k : Fin 23 => semVal (kcell (c, k)) 0) ∗ args m c ∗ scr c ∗ ow c 0 ∗ bufP c cc0_stg0_0 (xstg m c) ∗ bufP c cc0_stg1_0 (ACC m (ly 2) c)) -∗ Q ⟨⟩)
        -∗ wp frame (wpE (defs₀ (F := F)) 𝒱₀ (c : Thread nD τ) none) Set.univ (cc0_body (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11) Q) := by
  rw [cells_eq c (fun g => atPos ER g 0 ∅ 0), cells_eq c (fun g => semVal g 0), payToks_eq]
  unfold args scr credsC Ostart
  unfold tk
  iintro ⟨#HR, ⟨a0, a1, a2, a3, b0, b1, b2, b3, d0, d1, d2, d3, e0, e1, e2, e3, w0, w1, w2, w3, w4, w5, BP⟩, ⟨-, ⟨ta10, ta11, ta12⟩, ⟨ta20, ta21, ta22⟩, ⟨ta30, ta31, ta32⟩, -, ⟨tb10, tb11, tb12⟩, ⟨tb20, tb21, tb22⟩, ⟨tb30, tb31, tb32⟩, -, ⟨td10, td11, td12⟩, ⟨td20, td21, td22⟩, ⟨td30, td31, td32⟩, -, ⟨te10, te11, te12⟩, ⟨te20, te21, te22⟩, ⟨te30, te31, te32⟩, ⟨tw0, -, -⟩, ⟨tw1, -, -⟩, ⟨tw2, -, -⟩, ⟨tw3, -, -⟩, ⟨tw4, -, -⟩, ⟨tw5, -, -⟩, ⟨BT1, BT2, BT3⟩⟩, ⟨BCr, ⟨ca10, ca11, ca12, cr10, cr11, cr12⟩, ⟨ca20, ca21, ca22, cr20, cr21, cr22⟩, ⟨ca30, ca31, ca32, cr30, cr31, cr32⟩⟩, ⟨A0, A1, A2, A3, A4, A5⟩, ⟨⟨%h, S0⟩, ⟨%s, S1⟩, ⟨%r, S2⟩, ⟨%f, S3⟩, ⟨%g, S4⟩, ⟨%b, Bb⟩, ⟨%d, Db⟩⟩, O, X, Z⟩ Hk
  ihave J := (xa_cut c h) $$ S0
  icases J with ⟨XO, x1, x2, x3⟩
  ihave J := (sb_cut c s) $$ S1
  icases J with ⟨U, s1, s2, s3⟩
  ihave J := (rb_cut c r) $$ S2
  icases J with ⟨r0, r1, r2, r3⟩
  ihave J := (wi_cut c f) $$ S3
  icases J with ⟨P0, P2⟩
  ihave J := (wo_cut c g) $$ S4
  icases J with ⟨P1, P3⟩
  ihave G1 : barGive c 1 $$ [BT1 x1 r1]
  · unfold barGive xaAny rbAny
    isplitl [BT1]; · iexact BT1
    isplitl [x1]; · iexists h; iexact x1
    iexists r; iexact r1
  ihave G2 : barGive c 2 $$ [BT2 x2 r2]
  · unfold barGive xaAny rbAny
    isplitl [BT2]; · iexact BT2
    isplitl [x2]; · iexists h; iexact x2
    iexists r; iexact r2
  ihave G3 : barGive c 3 $$ [BT3 x3 r3]
  · unfold barGive xaAny rbAny
    isplitl [BT3]; · iexact BT3
    isplitl [x3]; · iexists h; iexact x3
    iexists r; iexact r3
  ihave L1 : ring c 1 $$ [a1 ta10 tb10 b3 ca10 d1 td10 te10 e1 cr10 s1 ta11 tb11 ta12 tb12 ca11 ca12 td11 te11 td12 te12 cr11 cr12]
  · unfold ring rsPend agTok rsTok sbAny rsCr
    isplitl [a1 ta10 tb10 b3 ca10 d1 td10 te10]
    · isplitl [a1]; · iexact a1
      isplitl [ta10 tb10]
      · isplitl [ta10]; · iexact ta10
        iexact tb10
      isplitl [b3]; · iexact b3
      isplitl [ca10]; · iexact ca10
      isplitl [d1]; · iexact d1
      isplitl [td10]; · iexact td10
      iexact te10
    isplitl [e1 cr10]
    · isplitl [e1]; · iexact e1
      iexact cr10
    isplitl [s1]; · iexists s; iexact s1
    isplitl [ta11 tb11]
    · isplitl [ta11]; · iexact ta11
      iexact tb11
    isplitl [ta12 tb12]
    · isplitl [ta12]; · iexact ta12
      iexact tb12
    isplitl [ca11]; · iexact ca11
    isplitl [ca12]; · iexact ca12
    isplitl [td11 te11]
    · isplitl [td11]; · iexact td11
      iexact te11
    isplitl [td12 te12]
    · isplitl [td12]; · iexact td12
      iexact te12
    isplitl [cr11]; · iexact cr11
    iexact cr12
  ihave L2 : ring c 2 $$ [a2 ta20 tb20 b2 ca20 d2 td20 te20 e2 cr20 s2 ta21 tb21 ta22 tb22 ca21 ca22 td21 te21 td22 te22 cr21 cr22]
  · unfold ring rsPend agTok rsTok sbAny rsCr
    isplitl [a2 ta20 tb20 b2 ca20 d2 td20 te20]
    · isplitl [a2]; · iexact a2
      isplitl [ta20 tb20]
      · isplitl [ta20]; · iexact ta20
        iexact tb20
      isplitl [b2]; · iexact b2
      isplitl [ca20]; · iexact ca20
      isplitl [d2]; · iexact d2
      isplitl [td20]; · iexact td20
      iexact te20
    isplitl [e2 cr20]
    · isplitl [e2]; · iexact e2
      iexact cr20
    isplitl [s2]; · iexists s; iexact s2
    isplitl [ta21 tb21]
    · isplitl [ta21]; · iexact ta21
      iexact tb21
    isplitl [ta22 tb22]
    · isplitl [ta22]; · iexact ta22
      iexact tb22
    isplitl [ca21]; · iexact ca21
    isplitl [ca22]; · iexact ca22
    isplitl [td21 te21]
    · isplitl [td21]; · iexact td21
      iexact te21
    isplitl [td22 te22]
    · isplitl [td22]; · iexact td22
      iexact te22
    isplitl [cr21]; · iexact cr21
    iexact cr22
  ihave L3 : ring c 3 $$ [a3 ta30 tb30 b1 ca30 d3 td30 te30 e3 cr30 s3 ta31 tb31 ta32 tb32 ca31 ca32 td31 te31 td32 te32 cr31 cr32]
  · unfold ring rsPend agTok rsTok sbAny rsCr
    isplitl [a3 ta30 tb30 b1 ca30 d3 td30 te30]
    · isplitl [a3]; · iexact a3
      isplitl [ta30 tb30]
      · isplitl [ta30]; · iexact ta30
        iexact tb30
      isplitl [b1]; · iexact b1
      isplitl [ca30]; · iexact ca30
      isplitl [d3]; · iexact d3
      isplitl [td30]; · iexact td30
      iexact te30
    isplitl [e3 cr30]
    · isplitl [e3]; · iexact e3
      iexact cr30
    isplitl [s3]; · iexists s; iexact s3
    isplitl [ta31 tb31]
    · isplitl [ta31]; · iexact ta31
      iexact tb31
    isplitl [ta32 tb32]
    · isplitl [ta32]; · iexact ta32
      iexact tb32
    isplitl [ca31]; · iexact ca31
    isplitl [ca32]; · iexact ca32
    isplitl [td31 te31]
    · isplitl [td31]; · iexact td31
      iexact te31
    isplitl [td32 te32]
    · isplitl [td32]; · iexact td32
      iexact te32
    isplitl [cr31]; · iexact cr31
    iexact cr32
  ihave BC : barPend c $$ [BP BCr]
  · unfold barPend
    isplitl [BP]; · iexact BP
    iexact BCr
  ihave T0 : wTok c (wj (ly 0)) $$ [w0 tw0]
  · unfold wTok
    isplitl [w0]; · iexact w0
    iexact tw0
  ihave T1 : wTok c (wj' (ly 0)) $$ [w1 tw1]
  · unfold wTok
    isplitl [w1]; · iexact w1
    iexact tw1
  ihave T2 : wTok c (wj (ly 1)) $$ [w2 tw2]
  · unfold wTok
    isplitl [w2]; · iexact w2
    iexact tw2
  ihave T3 : wTok c (wj' (ly 1)) $$ [w3 tw3]
  · unfold wTok
    isplitl [w3]; · iexact w3
    iexact tw3
  ihave T4 : wTok c (wj (ly 2)) $$ [w4 tw4]
  · unfold wTok
    isplitl [w4]; · iexact w4
    iexact tw4
  ihave T5 : wTok c (wj' (ly 2)) $$ [w5 tw5]
  · unfold wTok
    isplitl [w5]; · iexact w5
    iexact tw5
  iapply (text m c f f g g h s b d z) $$ [T0 A0 T1 A1 T2 A2 T3 A3 T4 A4 T5 A5 P0 P1 P2 P3 X XO G1 G2 G3 BC O Bb Db Z U L1 L2 L3]
  · isplitl []; · iexact HR
    isplitl [T0]; · iexact T0
    isplitl [A0]; · iexact A0
    isplitl [T1]; · iexact T1
    isplitl [A1]; · iexact A1
    isplitl [T2]; · iexact T2
    isplitl [A2]; · iexact A2
    isplitl [T3]; · iexact T3
    isplitl [A3]; · iexact A3
    isplitl [T4]; · iexact T4
    isplitl [A4]; · iexact A4
    isplitl [T5]; · iexact T5
    isplitl [A5]; · iexact A5
    isplitl [P0]; · iexact P0
    isplitl [P1]; · iexact P1
    isplitl [P2]; · iexact P2
    isplitl [P3]; · iexact P3
    isplitl [X]; · iexact X
    isplitl [XO]; · iexact XO
    isplitl [G1]; · iexact G1
    isplitl [G2]; · iexact G2
    isplitl [G3]; · iexact G3
    isplitl [BC]; · iexact BC
    isplitl [O]; · iexact O
    isplitl [Bb]; · iexact Bb
    isplitl [Db]; · iexact Db
    isplitl [Z]; · iexact Z
    isplitl [U]; · iexact U
    isplitl [L1]; · iexact L1
    isplitl [L2]; · iexact L2
    iexact L3
  iintro ⟨A0, A1, A2, A3, A4, A5, B1, B2, BC, Bb, D0, D1, D2, D3, D4, D5, Db, E1, E2, E3, H1, H2, H3, I1, I2, J1, J2, N1, N2, N3, O, Q1, Q2, Q3, U, X, Y, Z, B3⟩
  unfold agBack agHere rsBack rsGot
  ihave E1 := (Entails.of_eq (xaEnd_last m c 1)) $$ E1
  ihave E2 := (Entails.of_eq (xaEnd_last m c 2)) $$ E2
  ihave E3 := (Entails.of_eq (xaEnd_last m c 3)) $$ E3
  icases B1 with ⟨pa1, -, y1⟩
  icases H1 with ⟨pb1, -⟩
  icases Q1 with ⟨pd1, -, v1⟩
  icases N1 with ⟨pe1, -, n1, -⟩
  imod (close_ring m c 1 3 (by decide)) $$ [pa1 pb1 pd1 pe1] with ⟨za1, zb3, zd1, ze1⟩
  · isplitl []; · iexact HR
    isplitl [pa1]; · iexact pa1
    isplitl [pb1]; · iexact pb1
    isplitl [pd1]; · iexact pd1
    iexact pe1
  icases B2 with ⟨pa2, -, y2⟩
  icases H2 with ⟨pb2, -⟩
  icases Q2 with ⟨pd2, -, v2⟩
  icases N2 with ⟨pe2, -, n2, -⟩
  imod (close_ring m c 2 2 (by decide)) $$ [pa2 pb2 pd2 pe2] with ⟨za2, zb2, zd2, ze2⟩
  · isplitl []; · iexact HR
    isplitl [pa2]; · iexact pa2
    isplitl [pb2]; · iexact pb2
    isplitl [pd2]; · iexact pd2
    iexact pe2
  icases B3 with ⟨pa3, -, y3⟩
  icases H3 with ⟨pb3, -⟩
  icases Q3 with ⟨pd3, -, v3⟩
  icases N3 with ⟨pe3, -, n3, -⟩
  imod (close_ring m c 3 1 (by decide)) $$ [pa3 pb3 pd3 pe3] with ⟨za3, zb1, zd3, ze3⟩
  · isplitl []; · iexact HR
    isplitl [pa3]; · iexact pa3
    isplitl [pb3]; · iexact pb3
    isplitl [pd3]; · iexact pd3
    iexact pe3
  imod (close_zero m c) $$ [a0 b0 d0 e0] with ⟨za0, zb0, zd0, ze0⟩
  · isplitl []; · iexact HR
    isplitl [a0]; · iexact a0
    isplitl [b0]; · iexact b0
    isplitl [d0]; · iexact d0
    iexact e0
  imod (close_rest m c) $$ [D0 D1 D2 D3 D4 D5 BC] with ⟨z0, z1, z2, z3, z4, z5, zB⟩
  · isplitl []; · iexact HR
    isplitl [D0]; · iexact D0
    isplitl [D1]; · iexact D1
    isplitl [D2]; · iexact D2
    isplitl [D3]; · iexact D3
    isplitl [D4]; · iexact D4
    isplitl [D5]; · iexact D5
    iexact BC
  ihave Y := (own_shares c c (XA m (ly 2))).2 $$ [Y y1 y2 y3]
  · isplitl [Y]; · iexact Y
    isplitl [y1]; · iexact y1
    isplitl [y2]; · iexact y2
    iexact y3
  ihave S0 := (xa_glue c _ (XA m (ly 2)) (XA m (ly 2)) (XA m (ly 2))) $$ [Y E1 E2 E3]
  · isplitl [Y]; · iexact Y
    isplitl [E1]; · iexact E1
    isplitl [E2]; · iexact E2
    iexact E3
  ihave S1 := (sb_glue c _ _ _ _) $$ [U v1 v2 v3]
  · isplitl [U]; · iexact U
    isplitl [v1]; · iexact v1
    isplitl [v2]; · iexact v2
    iexact v3
  ihave S2 := (rb_glue c _ _ _ _) $$ [r0 n1 n2 n3]
  · isplitl [r0]; · iexact r0
    isplitl [n1]; · iexact n1
    isplitl [n2]; · iexact n2
    iexact n3
  ihave S3 := (wi_glue c _ _) $$ [I2 I1]
  · isplitl [I2]; · iexact I2
    iexact I1
  ihave S4 := (wo_glue c _ _) $$ [J2 J1]
  · isplitl [J2]; · iexact J2
    iexact J1
  imodintro
  iapply Hk
  isplitl [za0 za1 za2 za3 zb0 zb1 zb2 zb3 zd0 zd1 zd2 zd3 ze0 ze1 ze2 ze3 z0 z1 z2 z3 z4 z5 zB]
  · isplitl [za0]; · iexact za0
    isplitl [za1]; · iexact za1
    isplitl [za2]; · iexact za2
    isplitl [za3]; · iexact za3
    isplitl [zb0]; · iexact zb0
    isplitl [zb1]; · iexact zb1
    isplitl [zb2]; · iexact zb2
    isplitl [zb3]; · iexact zb3
    isplitl [zd0]; · iexact zd0
    isplitl [zd1]; · iexact zd1
    isplitl [zd2]; · iexact zd2
    isplitl [zd3]; · iexact zd3
    isplitl [ze0]; · iexact ze0
    isplitl [ze1]; · iexact ze1
    isplitl [ze2]; · iexact ze2
    isplitl [ze3]; · iexact ze3
    isplitl [z0]; · iexact z0
    isplitl [z1]; · iexact z1
    isplitl [z2]; · iexact z2
    isplitl [z3]; · iexact z3
    isplitl [z4]; · iexact z4
    isplitl [z5]; · iexact z5
    iexact zB
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [S0 S1 S2 S3 S4 Bb Db]
  · isplitl [S0]; · iexact S0
    isplitl [S1]; · iexact S1
    isplitl [S2]; · iexact S2
    isplitl [S3]; · iexact S3
    isplitl [S4]; · iexact S4
    isplitl [Bb]; · iexists _; iexact Bb
    iexists _; iexact Db
  isplitl [O]; · iapply (Entails.of_eq (congrArg (ow c) (OX_last c))); iexact O
  isplitl [X]; · iexact X
  iexact Z
end

end Cert.Mlp
-- ==== Proof.Launch.lean ====
/-
The launch: the cells allocated, the tokens dealt around, the credits, and the run of the whole program, with what every
buffer holds at the end.
-/
module

public import proofs.«01_k».proof.Proof.Whole
public import proofs.«01_k».proof.Proof.Gen.KernelIdeal.Points
public import Idealize.ShloMosaic.Lib.Pipeline.CollectiveSegs

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ
variable (m : (ℓ : Loc nD τ sig) → Buf (Elt F) ℓ)

open Idealize.ShloMosaic.Pipeline (Dat Cfg Window BodyObligation)

variable (ρ : Dev nD → PrngReg)

def s₀ : MemSt nD τ sig (Elt F) := ⟨m, fun _ => 0, ρ⟩

/-! ## The region's data -/

/-- What a device has at the start besides the buffers. -/
def start (c : Dev nD) : sProp 𝕄 :=
  iprop(Recs m ∗ (bigSep Finset.univ fun k : Fin 23 => atPos ER (kcell (c, k)) 0 ∅ 0) ∗ payToks c ∗ credsC c ∗ args m c)
def Φ₀ (c : Dev nD) : sProp 𝕄 := iprop(start m c ∗ scr c)
def Φ₁ (c : Dev nD) : sProp 𝕄 := iprop((bigSep Finset.univ fun k : Fin 23 => semVal (kcell (c, k)) 0) ∗ args m c ∗ scr c)

def dats (_ : Fin 1) (c : Dev nD) : Dat τ (Elt F) ℕ ℕ UU ℕ cfg0 c where
  A w := m ((cfg0.win w).arr.view.loc (c : Thread nD τ))
  after w _ := match w with
    | ⟨0, _⟩ => xstg m c
    | ⟨1, _⟩ => ACC m (ly 2) c
  Φ t := match t with
    | ⟨0, _⟩ => Φ₀ m c
    | ⟨_ + 1, _⟩ => Φ₁ m c
  q _ := fullShare
  owed t := match t with
    | ⟨0, _⟩ => Ostart c
    | ⟨_ + 1, _⟩ => 0

/-! ## The body obligation -/

section Body
variable (c : Dev nD)
abbrev stg (b : Ref sig .tc) (X : b.ty.Contents (Elt F)) : sProp 𝕄 :=
  iprop(∃ f : Buf (Elt F) ((c : Thread nD τ).loc b), ⌜f = X⌝ ∗ ((c : Thread nD τ).loc b ↦{fullShare} f))

def bodyPre : sProp 𝕄 :=
  iprop(Φ₀ m c ∗ (dats m 0 c).owesAt 0 t0_0.castSucc
    ∗ (∃ d, stg c cc0_stg0_0 ((dats m 0 c).before (0 : Fin 2) t0_0 d))
    ∗ (∃ d, stg c cc0_stg1_0 ((dats m 0 c).before (1 : Fin 2) t0_0 d)))
def bodyPost : sProp 𝕄 :=
  iprop(Φ₁ m c ∗ (dats m 0 c).owesAt 0 t0_0.succ ∗ stg c cc0_stg0_0 (xstg m c) ∗ stg c cc0_stg1_0 (ACC m (ly 2) c))

/-- Holding a buffer, folded into its name. -/
theorem to_buf (b : Ref sig .tc) (f : b.ty.Contents (Elt F)) : ((c : Thread nD τ).loc b ↦{fullShare} f : sProp 𝕄) ⊢ bufP c b f := Entails.rfl
/-- The name for holding a buffer, unfolded. -/
theorem of_buf (b : Ref sig .tc) (f : b.ty.Contents (Elt F)) : bufP c b f ⊢ ((c : Thread nD τ).loc b ↦{fullShare} f : sProp 𝕄) := Entails.rfl

/-- The body from the region's precondition to its postcondition. -/
theorem body_run : bodyPre m c ⊢ wp frame (wpE (defs₀ (F := F)) 𝒱₀ (c : Thread nD τ) none) Set.univ (cc0_body (F := F) xsM wxs (wiA 0) wi0 (woA 0) wo0 (wiA 1) wi1 (woA 1) wo1 (wiA 2) wi2 (woA 2) wo2 osM wos xaM wxa sbM wsb rbM wrb wiM wwi woM wwo wbM wwb obM wob cc0_scratch7 cc0_scratch8 cc0_scratch9 cc0_scratch10 cc0_scratch11) (fun _ => bodyPost m c) := by
  unfold bodyPre Φ₀ start Dat.owesAt Pipeline.owesWithin
  iintro ⟨⟨⟨#HR, Hp, Ht, Hc, Ha⟩, Hs⟩, ⟨%W, %hW, HO⟩, ⟨%d0, %g0, %hg0, Hx⟩, ⟨%d1, %g1, %hg1, Hz⟩⟩
  have hx : g0 = xstg m c := by rw [hg0]; unfold Dat.before; rw [if_pos (fetch0_0 t0_0)]; rfl
  subst hx
  iapply (whole m c (Q := fun _ => bodyPost m c) g1) $$ [Hp Ht Hc Ha Hs HO Hx Hz]
  · isplitl []; · iexact HR
    isplitl [Hp]; · iexact Hp
    isplitl [Ht]; · iexact Ht
    isplitl [Hc]; · iexact Hc
    isplitl [Ha]; · iexact Ha
    isplitl [Hs]; · iexact Hs
    isplitl [HO]; · unfold ow; iexists W; iexact HO
    isplitl [Hx]; · iapply (to_buf c _ _); iexact Hx
    iapply (to_buf c _ _); iexact Hz
  unfold ow
  iintro ⟨Hv, Ha, Hs, ⟨%W', HO⟩, Hx, Hz⟩
  unfold bodyPost Φ₁ Dat.owesAt Pipeline.owesWithin
  isplitl [Hv Ha Hs]
  · isplitl [Hv]; · iexact Hv
    isplitl [Ha]; · iexact Ha
    iexact Hs
  isplitl [HO]
  · iexists W'
    isplitr; · ipureintro; exact fun _ _ => Or.inl trivial
    iexact HO
  isplitl [Hx]
  · iexists _; isplitr; · (ipureintro; rfl)
    iapply (of_buf c _ _); iexact Hx
  iexists _; isplitr; · (ipureintro; rfl)
  iapply (of_buf c _ _); iexact Hz

/-- At the grid's one point the body takes the state before it to the state after it. -/
theorem body_obligation : BodyObligation (dats (F := F) m 0 c) (defs₀ (F := F)) 𝒱₀ 0 Set.univ := fun t => by
  rw [fin_N0 t]
  rw [bigSep_W0, bigSep_W0]
  simp only [owns_whole_eq]
  exact body_run m c
end Body

/-! ## Semaphores of the launch -/

/-- The kernel's own semaphores. -/
def osem (k : Fin 22) : SemLoc sig := csem ⟨k.val, by omega⟩
/-- The kernel's own counters are distinct and are those the call allocates. -/
theorem ownSemFacts : Pipeline.OwnSemFacts cfg0.spec osem := by decide
/-- Every window is held in full. -/
theorem share_eq (c : Dev nD) (w : Fin cfg0.W) : (dats m 0 c).share w = fullShare := by unfold Dat.share; split <;> rfl

/-- The list of counters repeats none. -/
theorem csem_inj : Function.Injective csem := by decide
/-- The list of counters over devices repeats none. -/
theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]
def ringCells : Finset (GSem nD τ sig) := Finset.univ.map ⟨kcell, kcell_inj⟩
/-- The list of tokens repeats none. -/
theorem tokOf_inj : Function.Injective tokOf := by
  rintro ⟨c, k, j⟩ ⟨c', k', j'⟩ h
  have h1 : kcell (c, k) = kcell (c', k') := by
    have := congrArg Prod.fst h
    unfold tokOf at this
    dsimp only at this
    split_ifs at this <;> exact this
  obtain ⟨rfl, rfl⟩ := Prod.mk.inj (kcell_inj h1)
  have h2 : j = j' := by
    have := congrArg Prod.snd h
    unfold tokOf at this
    dsimp only at this
    split_ifs at this
    · have := congrArg Prod.snd this; dsimp only at this; exact Fin.ext (by omega)
    · exact Fin.ext (congrArg Prod.fst this)
  rw [h2]
def ringToks : Finset (GSem nD τ sig × ℕ × ℕ) := Finset.univ.map ⟨tokOf, tokOf_inj⟩
def u₀ : UU :=
  (initOf (Pipeline.cells cfgs cellOf_inj) (Pipeline.launchToks cfgs cellOf_inj), initOf ringCells ringToks)

/-- The tokens of device `c`'s own cells. -/
def toks (c : Dev nD) : sProp 𝕄 := bigSep Finset.univ fun x : Fin 23 × Fin 3 => tokP (tokOf (c, x))
/-- What the launch deals device `c`, and what it has after the cells are allocated. -/
def G (c : Dev nD) : sProp 𝕄 :=
  iprop((bigSep Finset.univ fun k : Fin 23 => roundState ER (sched m) (kcell (c, k)) 0)
    ∗ (bigSep Finset.univ fun k : Fin 23 => iprop(atPos ER (kcell (c, k)) 0 ∅ 0 ∗ reached ER (kcell (c, k)) 0)) ∗ toks c)
def Cells : sProp 𝕄 := bigSep Finset.univ fun ck : Dev nD × Fin 23 => known m (kcell ck)
instance Cells_pers : BI.Persistent (Cells (F := F) m) := by unfold Cells; infer_instance
def G' (c : Dev nD) : sProp 𝕄 := iprop(Cells m ∗ (bigSep Finset.univ fun k : Fin 23 => atPos ER (kcell (c, k)) 0 ∅ 0) ∗ payToks c)

/-- The tokens of the whole ring deal out to the devices. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 23 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    rfl
  iintro HX
  imod (Rounds.fund ER (sched m) ringCells ringToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-- A device's own counters, as a list. -/
theorem own_chain (c : Dev nD) : (Pipeline.ownSems0 (Ix := ℕ) (Name := ℕ) (U := UU) (Lvl := ℕ) (Val := Elt F) (τ := τ) osem c : sProp 𝕄)
    = iprop(semVal (agSC c 0) 0 ∗ semVal (agSC c 1) 0 ∗ semVal (agSC c 2) 0 ∗ semVal (agSC c 3) 0 ∗ semVal (agRC c 0) 0 ∗ semVal (agRC c 1) 0 ∗ semVal (agRC c 2) 0 ∗ semVal (agRC c 3) 0 ∗ semVal (rsSC c 0) 0 ∗ semVal (rsSC c 1) 0 ∗ semVal (rsSC c 2) 0 ∗ semVal (rsSC c 3) 0 ∗ semVal (rsRC c 0) 0 ∗ semVal (rsRC c 1) 0 ∗ semVal (rsRC c 2) 0 ∗ semVal (rsRC c 3) 0 ∗ semVal (wC c 0) 0 ∗ semVal (wC c 1) 0 ∗ semVal (wC c 2) 0 ∗ semVal (wC c 3) 0 ∗ semVal (wC c 4) 0 ∗ semVal (wC c 5) 0) := by
  rw [Pipeline.ownSems0_eq_of_list c osem [0, 1, 2, 3, 4, 5, 6, 7, 8, 9, 10, 11, 12, 13, 14, 15, 16, 17, 18, 19, 20, 21] (by decide) (by decide)]; rfl
/-- The only counter outside the call is the barrier's. -/
theorem unscoped_one (c : Dev nD) : (unscopedSems0 c : sProp 𝕄) = semVal (barC c) 0 := by
  unfold unscopedSems0; rw [bigSep_eq_bigSepL_of_eq [SemLoc.reg barS] (by decide) (by decide)]; rfl

/-- The launch's counters are the cells'. -/
theorem sems_in (c : Dev nD) :
    iprop(Pipeline.ownSems0 (Ix := ℕ) (Name := ℕ) (U := UU) (Lvl := ℕ) (Val := Elt F) (τ := τ) osem c ∗ unscopedSems0 c)
      ⊢ (bigSep Finset.univ fun k : Fin 23 => semVal (kcell (c, k)) 0 : sProp 𝕄) := by
  rw [own_chain, unscoped_one, cells_eq c (fun g => semVal g 0)]
  iintro ⟨⟨z0, z1, z2, z3, z4, z5, z6, z7, z8, z9, z10, z11, z12, z13, z14, z15, z16, z17, z18, z19, z20, z21⟩, z22⟩
  isplitl [z0]; · iexact z0
  isplitl [z1]; · iexact z1
  isplitl [z2]; · iexact z2
  isplitl [z3]; · iexact z3
  isplitl [z4]; · iexact z4
  isplitl [z5]; · iexact z5
  isplitl [z6]; · iexact z6
  isplitl [z7]; · iexact z7
  isplitl [z8]; · iexact z8
  isplitl [z9]; · iexact z9
  isplitl [z10]; · iexact z10
  isplitl [z11]; · iexact z11
  isplitl [z12]; · iexact z12
  isplitl [z13]; · iexact z13
  isplitl [z14]; · iexact z14
  isplitl [z15]; · iexact z15
  isplitl [z16]; · iexact z16
  isplitl [z17]; · iexact z17
  isplitl [z18]; · iexact z18
  isplitl [z19]; · iexact z19
  isplitl [z20]; · iexact z20
  isplitl [z21]; · iexact z21
  iexact z22

/-- At the end a device's counters, all zero, are those outside the call and its own. -/
theorem sems_out (c : Dev nD) :
    (bigSep Finset.univ fun k : Fin 23 => semVal (kcell (c, k)) 0 : sProp 𝕄)
      ⊢ iprop(unscopedSems0 c ∗ Pipeline.ownSems0 (Ix := ℕ) (Name := ℕ) (U := UU) (Lvl := ℕ) (Val := Elt F) (τ := τ) osem c) := by
  rw [own_chain, unscoped_one, cells_eq c (fun g => semVal g 0)]
  iintro ⟨z0, z1, z2, z3, z4, z5, z6, z7, z8, z9, z10, z11, z12, z13, z14, z15, z16, z17, z18, z19, z20, z21, z22⟩
  isplitl [z22]; · iexact z22
  isplitl [z0]; · iexact z0
  isplitl [z1]; · iexact z1
  isplitl [z2]; · iexact z2
  isplitl [z3]; · iexact z3
  isplitl [z4]; · iexact z4
  isplitl [z5]; · iexact z5
  isplitl [z6]; · iexact z6
  isplitl [z7]; · iexact z7
  isplitl [z8]; · iexact z8
  isplitl [z9]; · iexact z9
  isplitl [z10]; · iexact z10
  isplitl [z11]; · iexact z11
  isplitl [z12]; · iexact z12
  isplitl [z13]; · iexact z13
  isplitl [z14]; · iexact z14
  isplitl [z15]; · iexact z15
  isplitl [z16]; · iexact z16
  isplitl [z17]; · iexact z17
  isplitl [z18]; · iexact z18
  isplitl [z19]; · iexact z19
  isplitl [z20]; · iexact z20
  iexact z21

/-- A device turns its counters at zero and its tokens into counters governed by the schedule. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems_in (F := F) c) $$ [Hos Hus]
  · isplitl [Hos]; · iexact Hos
    iexact Hus
  imod (show iprop((bigSep Finset.univ fun k : Fin 23 => semVal (kcell (c, k)) 0) ∗ bigSep Finset.univ fun k : Fin 23 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- The tokens dealt around: a token goes to the device that pays with it. -/
theorem toks_around : (bigSep Finset.univ fun c : Dev nD => (toks c : sProp 𝕄)) = bigSep Finset.univ fun c : Dev nD => payToks c := by
  unfold toks payToks
  rw [← bigSep_univ_prod (fun y : Dev nD × (Fin 23 × Fin 3) => (tokP (tokOf y) : sProp 𝕄)),
    ← bigSep_univ_prod (fun y : Dev nD × (Fin 23 × Fin 3) => (tokP (tokOf (turnE y.2 y.1, y.2)) : sProp 𝕄))]
  exact bigSep_univ_equiv (⟨fun y => (turnE y.2 y.1, y.2), fun y => ((turnE y.2).symm y.1, y.2), fun y => by simp, fun y => by simp⟩ :
    (Dev nD × (Fin 23 × Fin 3)) ≃ (Dev nD × (Fin 23 × Fin 3))) _

/-- A persistent fact beside every member of a conjunction. -/
theorem beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' parts, sorted into what all know and what each keeps. -/
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 23 => iprop(∃ κ : ℕ, cellInv ER (sched m) κ (kcell ck))),
    bigSep_congr (s := Finset.univ) (fun (c : Dev nD) _ => bigSep_sep' Finset.univ (fun k : Fin 23 => (atPos ER (kcell (c, k)) 0 ∅ 0 : sProp 𝕄)) (fun k => reached ER (kcell (c, k)) 0)),
    bigSep_sep', ← bigSep_univ_prod (fun ck : Dev nD × Fin 23 => (reached ER (kcell ck) 0 : sProp 𝕄)), toks_around]
  iintro ⟨HI, ⟨Hat, Hr⟩, Htok⟩
  ihave HK : Cells m $$ [HI Hr]
  · unfold Cells known
    iapply ((Entails.of_eq (bigSep_sep' Finset.univ (fun ck : Dev nD × Fin 23 => iprop(∃ κ : ℕ, cellInv ER (sched m) κ (kcell ck))) (fun ck => (reached ER (kcell ck) 0 : sProp 𝕄))).symm).trans
      (bigSep_mono fun ck _ => show iprop((∃ κ : ℕ, cellInv ER (sched m) κ (kcell ck)) ∗ reached ER (kcell ck) 0) ⊢ iprop(∃ κ, cellInv ER (sched m) κ (kcell ck) ∗ reached ER (kcell ck) 0) by
        iintro ⟨⟨%κ, H⟩, R⟩
        iexists κ
        isplitl [H]; · iexact H
        iexact R))
    isplitl [HI]; · iexact HI
    iexact Hr
  icases HK with #HK
  iapply (beside (R := Cells m) (Φ := fun c => iprop((bigSep Finset.univ fun k : Fin 23 => atPos ER (kcell (c, k)) 0 ∅ 0) ∗ payToks c)) (Ψ := G' m) fun c _ => Entails.rfl)
  isplitl []; · iexact HK
  rw [bigSep_sep']
  isplitl [Hat]; · iexact Hat
  iexact Htok

/-- All devices together turn their counters and tokens into the ring's start. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- The credit others owe a device for products of one distance. -/
theorem cred_rs (r : ℕ) (t : Fin 4) (c : Dev nD) : (Pipeline.launchCred (fun d => Ors r d t) c : sProp 𝕄) ⊢ rsCr r c t :=
  Pipeline.launchCred_tallyAt (.dma (rsR t)) (turnBy t) (turnBy t).symm (turnBy t).apply_symm_apply (turnBy t).symm_apply_apply r NB c
/-- The credit others owe a device for rows of one distance. -/
theorem cred_ag (r : ℕ) (t : Fin 4) (c : Dev nD) : (Pipeline.launchCred (fun d => Oag r d t) c : sProp 𝕄) ⊢ cred (tallyAt (agRC c t) r NB) :=
  Pipeline.launchCred_tallyAt (.dma (agR t)) (turnBy t) (turnBy t).symm (turnBy t).apply_symm_apply (turnBy t).symm_apply_apply r NB c
/-- The credit others owe a device for the opening signal of one distance. -/
theorem cred_bar (t : Fin 4) (c : Dev nD) : (Pipeline.launchCred (fun d => Obar d t) c : sProp 𝕄) ⊢ cred (tallyAt (barC c) 0 1) :=
  Pipeline.launchCred_tallyAt (.reg barS) (turnBy t) (turnBy t).symm (turnBy t).apply_symm_apply (turnBy t).symm_apply_apply 0 1 c

/-- A layer's debts for products are those of the three distances. -/
theorem OSt_three (r : ℕ) (c : Dev nD) : OSt r c (stat 0 .pe .ar 0 c) = Ors r c 1 + Ors r c 2 + Ors r c 3 := by
  have h : ∀ c s : Fin 4, stat 0 .pe .ar 0 c s ≠ .se := by decide
  unfold OSt
  have e : ∀ s : Fin 4, (if s = c ∨ stat 0 .pe .ar 0 c s = .se then 0 else Ors r c (s - c)) = if s = c then 0 else Ors r c (s - c) := fun s => by
    simp only [h c s, or_false]
  simp only [e]
  have hp : (Finset.univ : Finset (Fin 4)) = {(c : Fin 4), c + 1, c + 2, c + 3} := by
    clear e; revert c; decide
  obtain ⟨h1, h2, h3, h4, h5, h6⟩ := turn_ne c
  rw [hp, Finset.sum_insert (by simp [h1, h2, h3]), Finset.sum_insert (by simp [h4, h5]), Finset.sum_insert (by simp [h6]), Finset.sum_singleton,
    if_pos rfl, if_neg h1.symm, if_neg h2.symm, if_neg h3.symm, add_sub_self, add_sub_self, add_sub_self, zero_add, add_assoc]

/-- The credit of one layer: products and rows of the three distances, then the later layers'. -/
theorem cred_round (r : ℕ) (X : Dev nD → CellTallies nD τ sig ℕ) (c : Dev nD) :
    (Pipeline.launchCred (fun d => OA r d (X d)) c : sProp 𝕄)
      ⊢ iprop((rsCr r c 1 ∗ rsCr r c 2 ∗ rsCr r c 3) ∗ Pipeline.launchCred X c ∗ agCr r c 1 ∗ agCr r c 2 ∗ agCr r c 3) := by
  unfold OA
  simp only [OSt_three]
  rw [Pipeline.launchCred_add, Pipeline.launchCred_add, Pipeline.launchCred_add, Pipeline.launchCred_add, Pipeline.launchCred_add, Pipeline.launchCred_add]
  iintro ⟨⟨⟨⟨⟨⟨R1, R2⟩, R3⟩, HX⟩, A3⟩, A2⟩, A1⟩
  unfold agCr
  isplitl [R1 R2 R3]
  · isplitl [R1]; · iapply (cred_rs r 1 c); iexact R1
    isplitl [R2]; · iapply (cred_rs r 2 c); iexact R2
    iapply (cred_rs r 3 c); iexact R3
  isplitl [HX]; · iexact HX
  isplitl [A3]; · iapply (cred_ag r 3 c); iexact A3
  isplitl [A2]; · iapply (cred_ag r 2 c); iexact A2
  iapply (cred_ag r 1 c); iexact A1

/-- Three signals' credits make one credit of three. -/
theorem cred_three (c : Dev nD) : iprop(cred (tallyAt (barC c) 0 1) ∗ cred (tallyAt (barC c) 0 1) ∗ cred (tallyAt (barC c) 0 1)) ⊢ (cred (tallyAt (barC c) 0 3) : sProp 𝕄) := by
  rw [show (tallyAt (barC c) 0 3 : CellTallies nD τ sig ℕ) = tallyAt (barC c) 0 1 + (tallyAt (barC c) 0 1 + tallyAt (barC c) 0 1) by rw [tallyAt_add, tallyAt_add]]
  iintro ⟨H1, H2, H3⟩
  iapply (cred_add _ _).2
  isplitl [H1]; · iexact H1
  iapply (cred_add _ _).2
  isplitl [H2]; · iexact H2
  iexact H3

/-- All the credit a device starts with. -/
theorem creds (c : Dev nD) : (Pipeline.launchCred Ostart c : sProp 𝕄) ⊢ credsC c := by
  have h : (Pipeline.launchCred Ostart c : sProp 𝕄) = Pipeline.launchCred (fun d => OA 0 d (OA 1 d (OA 2 d 0)) + Obar d 3 + Obar d 2 + Obar d 1) c := rfl
  rw [h, Pipeline.launchCred_add, Pipeline.launchCred_add, Pipeline.launchCred_add]
  unfold credsC
  iintro ⟨⟨⟨H, B3⟩, B2⟩, B1⟩
  ihave J := (cred_round 0 (fun d => OA 1 d (OA 2 d 0)) c) $$ H
  icases J with ⟨⟨r01, r02, r03⟩, H, ⟨a01, a02, a03⟩⟩
  ihave J := (cred_round 1 (fun d => OA 2 d 0) c) $$ H
  icases J with ⟨⟨r11, r12, r13⟩, H, ⟨a11, a12, a13⟩⟩
  ihave J := (cred_round 2 (fun d => 0) c) $$ H
  icases J with ⟨⟨r21, r22, r23⟩, H, ⟨a21, a22, a23⟩⟩
  isplitl [B1 B2 B3]
  · iapply (cred_three c)
    isplitl [B3]; · iapply (cred_bar 3 c); iexact B3
    isplitl [B2]; · iapply (cred_bar 2 c); iexact B2
    iapply (cred_bar 1 c); iexact B1
  isplitl [a01 a11 a21 r01 r11 r21]
  · isplitl [a01]; · iexact a01
    isplitl [a11]; · iexact a11
    isplitl [a21]; · iexact a21
    isplitl [r01]; · iexact r01
    isplitl [r11]; · iexact r11
    iexact r21
  isplitl [a02 a12 a22 r02 r12 r22]
  · isplitl [a02]; · iexact a02
    isplitl [a12]; · iexact a12
    isplitl [a22]; · iexact a22
    isplitl [r02]; · iexact r02
    isplitl [r12]; · iexact r12
    iexact r22
  isplitl [a03]; · iexact a03
  isplitl [a13]; · iexact a13
  isplitl [a23]; · iexact a23
  isplitl [r03]; · iexact r03
  isplitl [r13]; · iexact r13
  iexact r23

/-! ## The side conditions -/

/-- The six weights held, written out. -/
theorem args_def (c : Dev nD) : args m c = (iprop(((c : Thread nD τ).loc main_arg1 ↦{fullShare} m ((c : Thread nD τ).loc main_arg1)) ∗ ((c : Thread nD τ).loc main_arg4 ↦{fullShare} m ((c : Thread nD τ).loc main_arg4))
    ∗ ((c : Thread nD τ).loc main_arg2 ↦{fullShare} m ((c : Thread nD τ).loc main_arg2)) ∗ ((c : Thread nD τ).loc main_arg5 ↦{fullShare} m ((c : Thread nD τ).loc main_arg5))
    ∗ ((c : Thread nD τ).loc main_arg3 ↦{fullShare} m ((c : Thread nD τ).loc main_arg3)) ∗ ((c : Thread nD τ).loc main_arg6 ↦{fullShare} m ((c : Thread nD τ).loc main_arg6))) : sProp 𝕄) := rfl
/-- What lies outside the call's windows is the six weights. -/
theorem args_eq (c : Dev nD) : (Pipeline.unscopedRest (Ix := ℕ) (Name := ℕ) (U := UU) (Lvl := ℕ) spec0 c (fun b => m ((c : Thread nD τ).loc b)) : sProp 𝕄) ⊢ args m c := by
  rw [unscopedRest0_eq, args_def]
  iintro ⟨H1, H2, H3, H4, H5, H6⟩
  isplitl [H1]; · iexact H1
  isplitl [H4]; · iexact H4
  isplitl [H2]; · iexact H2
  isplitl [H5]; · iexact H5
  isplitl [H3]; · iexact H3
  iexact H6

/-- The start of a device's body from what the launch hands it. -/
theorem start_intro (c : Dev nD) :
    iprop(Pipeline.unscopedRestP Pipeline.Prefetch.none cfg0.spec c (fun b => m ((c : Thread nD τ).loc b)) ∗ levAts L lv
        ∗ Pipeline.launchCred Ostart c ∗ prngReg c (ρ c) ∗ G' m c)
      ⊢ |={Set.univ}=> iprop(start m c ∗ emp) := by
  rw [Pipeline.unscopedRestP_none]
  unfold G' start
  iintro ⟨Ha, Hlev, Hcr, -, HK, Hat, Ht⟩
  ihave Hc := (creds (F := F) c) $$ Hcr
  ihave Ha := (args_eq (F := F) m c) $$ Ha
  imodintro
  isplitl
  · isplitl [HK Hlev]
    · unfold Recs Cells
      isplitl [HK]; · iexact HK
      iexact Hlev
    isplitl [Hat]; · iexact Hat
    isplitl [Ht]; · iexact Ht
    isplitl [Hc]; · iexact Hc
    iexact Ha
  · iempintro

/-- What the call allocates is the scratch buffers. -/
theorem scr_eq (c : Dev nD) : (Pipeline.scopedRest (Ix := ℕ) (Name := ℕ) (U := UU) (Lvl := ℕ) (Val := Elt F) cfg0.spec c : sProp 𝕄) = scr c := by
  rw [scopedRest0_eq]; rfl

/-- The state before the body from the start and the scratch buffers. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, Hr⟩
  isplitl [Hs]; · iexact Hs
  iexact Hr

/-- The state after the body gives back the counters at zero, the weights and the scratch buffers. -/
theorem phi1_exit (c : Dev nD) :
    (dats m 0 c).Φ (Fin.last cfg0.N) ⊢ iprop((unscopedSems0 c ∗ args m c) ∗ Pipeline.ownSems0 osem c ∗ Pipeline.scopedRest cfg0.spec c) := by
  rw [show (dats m 0 c).Φ (Fin.last cfg0.N) = Φ₁ m c from rfl, scr_eq]
  unfold Φ₁
  iintro ⟨Hv, Ha, Hr⟩
  ihave J := (sems_out (F := F) c) $$ Hv
  icases J with ⟨Hu, Ho⟩
  isplitl [Hu Ha]
  · isplitl [Hu]; · iexact Hu
    iexact Ha
  isplitl [Ho]; · iexact Ho
  iexact Hr

/-- All a device owes at the start is above level 0. -/
theorem above_start (c : Dev nD) : Above 0 (Ostart c) := by
  unfold Ostart
  have hb (t : Fin 4) : Above 0 (Obar c t) := Above.tally (by rw [L_tc]; exact Finset.mem_range.2 (by decide)) (by rw [lv_bar]; decide)
  exact (((above_OA c (by decide) (by decide) (above_X0 c 0)).add (hb 3)).add (hb 2)).add (hb 1)

/-- The pipeline's own waits lie below everything owed. -/
theorem waits (c : Dev nD) : (levAts L lv : sProp 𝕄) ⊢ Pipeline.cellsWaits cfgs (dats m) 0 0 c :=
  Pipeline.cellsWaits_intro cfgs (dats m) 0 0 c fun w s t => by
    refine mayWait_of c _ (b := 0) (by decide) (by revert c; fin_cases w <;> fin_cases s <;> decide) ?_
    rcases t with ⟨_ | _, ht⟩
    · exact above_start c
    · exact Above.zero 0

/-! ## The run -/

/-- The windows' arrays at the end. -/
def finalA (c : Dev nD) (w : Fin cfg0.W) : Buf (Elt F) ((cfg0.win w).arr.view.loc (c : Thread nD τ)) := (dats m 0 c).arrAt w cfg0.N
/-- The weights are what they were. -/
def kept (c : Dev nD) (s : MemSt nD τ sig (Elt F)) : Prop :=
  (s.mem ((c : Thread nD τ).loc main_arg1) = m ((c : Thread nD τ).loc main_arg1) ∧ s.mem ((c : Thread nD τ).loc main_arg2) = m ((c : Thread nD τ).loc main_arg2)
    ∧ s.mem ((c : Thread nD τ).loc main_arg3) = m ((c : Thread nD τ).loc main_arg3) ∧ s.mem ((c : Thread nD τ).loc main_arg4) = m ((c : Thread nD τ).loc main_arg4)
    ∧ s.mem ((c : Thread nD τ).loc main_arg5) = m ((c : Thread nD τ).loc main_arg5) ∧ s.mem ((c : Thread nD τ).loc main_arg6) = m ((c : Thread nD τ).loc main_arg6))

/-- A buffer held in full is what the memory has. -/
theorem read_one (c : Dev nD) (b : Ref sig .tc) (f : Buf (Elt F) ((c : Thread nD τ).loc b)) (s' : Phys nD τ sig (Elt F)) :
    iprop(SI s' ∗ ((c : Thread nD τ).loc b ↦{fullShare} f)) ⊢ (iprop(⌜s'.mem.mem ((c : Thread nD τ).loc b) = f⌝ ∗ SI s') : sProp 𝕄) := by
  iintro ⟨HS, H⟩
  ihave %h := SI_pointsTo_agree $$ [HS H]
  · isplitl [HS]; · iexact HS
    iexact H
  isplitr
  · ipureintro
    exact funext fun i => h i (Finset.mem_univ i)
  iexact HS

/-- The weights held are what the memory has. -/
theorem read_args (c : Dev nD) (s' : Phys nD τ sig (Elt F)) :
    iprop(args m c ∗ SI s') ⊢ (iprop(⌜kept m c s'.mem⌝ ∗ SI s') : sProp 𝕄) := by
  rw [args_def]
  iintro ⟨⟨H1, H4, H2, H5, H3, H6⟩, HS⟩
  ihave J := (read_one c main_arg1 _ s') $$ [HS H1]
  · isplitl [HS]; · iexact HS
    iexact H1
  icases J with ⟨%h1, HS⟩
  ihave J := (read_one c main_arg2 _ s') $$ [HS H2]
  · isplitl [HS]; · iexact HS
    iexact H2
  icases J with ⟨%h2, HS⟩
  ihave J := (read_one c main_arg3 _ s') $$ [HS H3]
  · isplitl [HS]; · iexact HS
    iexact H3
  icases J with ⟨%h3, HS⟩
  ihave J := (read_one c main_arg4 _ s') $$ [HS H4]
  · isplitl [HS]; · iexact HS
    iexact H4
  icases J with ⟨%h4, HS⟩
  ihave J := (read_one c main_arg5 _ s') $$ [HS H5]
  · isplitl [HS]; · iexact HS
    iexact H5
  icases J with ⟨%h5, HS⟩
  ihave J := (read_one c main_arg6 _ s') $$ [HS H6]
  · isplitl [HS]; · iexact HS
    iexact H6
  icases J with ⟨%h6, HS⟩
  isplitr
  · ipureintro; exact ⟨h1, h2, h3, h4, h5, h6⟩
  iexact HS

/-- What is true when the program is over. -/
def QC (r : PUnit × MemSt nD τ sig (Elt F)) : Prop :=
  ∀ c : Dev nD, (∀ w : Fin cfg0.W, r.2.mem ((cfg0.win w).arr.view.loc (c : Thread nD τ)) = finalA m c w) ∧ kept m c r.2

set_option maxRecDepth 8000 in
/-- For any float values, from any memory with counters at zero, every fair execution of the program on the four devices
    terminates, and every final state has each window's array at the computed contents, the weights unchanged and every
    semaphore counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := Ostart) (howed₀ := fun _ => rfl) (howedN := fun _ => rfl)
    (L := L) (lv := lv) (hL := fun g h => L_of_ne h) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP]; · iexact HP
      iexact HG)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m) (hout := phi1_exit m)
    (QY := fun c s => kept m c s ∧ ∀ sm : SemLoc sig, sm.isScoped .tc = false → s.sem ((c.tc : Thread nD τ), sm) = 0)
    (hY := fun c s' => by
      iintro ⟨⟨Hu, Ha⟩, -, HSI⟩
      ihave J := (read_args m c s') $$ [Ha HSI]
      · isplitl [Ha]; · iexact Ha
        iexact HSI
      icases J with ⟨%hk, HSI⟩
      imod (Pipeline.unscopedSems0_read (X := unscopedSems0 c) (c := c) fupd_intro s') $$ [Hu HSI] with ⟨%hz, HSI⟩
      · isplitl [Hu]; · iexact Hu
        iexact HSI
      imodintro
      isplitr
      · ipureintro; exact ⟨hk, hz⟩
      iexact HSI)
    (hQ := fun _ h hs => ⟨fun c => ⟨fun w => (h c).1 w, (h c).2.2.1⟩, sem_eq_zero hs fun c => (h c).2.2.2⟩)

end Cert.Mlp
-- ==== Proof.Ends.lean ====
/-
What the whole program leaves: the arguments as they were, the result at the last layer's sum, every counter at zero;
and the frames of the two kernel programs.
-/
module

public import proofs.«01_k».proof.Proof.Launch
public import proofs.«01_k».proof.Defs
public import proofs.«01_k».proof.Proof.Gen.Kernel
public import Idealize.ShloMosaic.Lib.Pipeline.ValueKit

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ
variable (m : (ℓ : Loc nD τ sig) → Buf (Elt F) ℓ)

variable (ρ : Dev nD → PrngReg)

/-- The staged argument is what it was. -/
theorem finalA_in (c : Dev nD) : finalA m c (0 : Fin 2) = m ((c : Thread nD τ).loc main_arg0) := (dats m 0 c).arrAt_in (0 : Fin 2) rfl _

/-- The result array holds the last layer's sum. -/
theorem finalA_out (c : Dev nD) : finalA m c (1 : Fin 2) = ACC m (ly 2) c := by
  unfold finalA
  refine (dats m 0 c).arrAt_eq_of_after_last (1 : Fin 2) t0_0 (by decide +kernel) _ fun j => ?_
  blk_simp
  rfl

/-- For any float values: every run ends with the result at the last layer's sum and every argument as it was, each counter zero. -/
theorem run_end : θ_run defs (onTc (τ := τ) (main (F := F))) ⟨m, fun _ => 0, ρ⟩ (fun r => (∀ c : Dev nD,
    r.2.mem ((c.tc : Thread nD τ).loc main_v1) = ACC m (ly 2) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => by
    obtain ⟨hw, h1, h2, h3, h4, h5, h6⟩ := h.1 c
    exact ⟨(hw (1 : Fin 2)).trans (finalA_out m c), (hw (0 : Fin 2)).trans (finalA_in m c), h1, h2, h3, h4, h5, h6⟩, h.2⟩) (run_main m ρ)

/-- The kernel as printed and the idealized kernel are one text: their label tables agree. -/
theorem labels_same : Cert.Kernel.defs₀ (F := F) = Cert.KernelIdeal.defs₀ (F := F) := by
  unfold Cert.Kernel.defs₀ Cert.KernelIdeal.defs₀
  refine congrArg Defs.onTc (funext fun ℓ => funext fun x => ?_)
  match ℓ, x with
  | 0, (t, s) => rfl
/-- And so do their body tables. -/
theorem defs_same : Cert.Kernel.defs (F := F) = Cert.KernelIdeal.defs (F := F) := congrArg (Pipeline.defs _) labels_same

/-- The frame of the kernel as printed. -/
theorem frame_kernel : Cert.quiescent_Kernel := fun m g _ => by
  rw [defs_same]
  exact (θ_run Cert.KernelIdeal.defs _ _).mono (fun _ h => ⟨fun c => (h.1 c).2, h.2⟩) (run_end (F := Bits) m g)
/-- The frame of the idealized kernel. -/
theorem frame_ideal : Cert.quiescent_KernelIdeal := fun m g _ =>
  (θ_run Cert.KernelIdeal.defs _ _).mono (fun _ h => ⟨fun c => (h.1 c).2, h.2⟩) (run_end (F := Ideal) m g)

end Cert.Mlp
-- ==== Proof.Value.lean ====
/-
What the contents of the run are in the extended reals: every cast is the identity, every product a sum, so a device's
product of a layer is its slice of the layer's product, and the sum over the four devices is the whole layer.
-/
module

public import proofs.«01_k».proof.Proof.Ends
public import Idealize.ShloMosaic.Lib.Layout
public import Idealize.ShloMosaic.Lib.ValueIdx
public import Idealize.ShloMosaic.Lib.ValueLayout
public import Idealize.ShloMosaic.Lib.MatmulPlain
public import Idealize.ShloMosaic.Lib.StackMember
public import proofs.«01_k».proof.Proof.Gen.ReferenceIdeal

@[expose] public section

noncomputable section

namespace Cert.Mlp

open Cert.KernelIdeal Cert.KernelIdeal.Gen

open Idealize.ShloMosaic hiding ix0 ix1 ix2 ix3 ix4
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ
variable (m : (ℓ : Loc nD τ sig) → Buf (Elt F) ℓ)

variable (μ : (ℓ : Loc nD τ sig) → Buf (Elt Ideal) ℓ)

/-! ## The payloads at an index -/

/-- The first layer's rows are stored unchanged. -/
theorem pay1_apply (v : Vec Ideal S64x1024 .f32) (a : Fin 64) (b : Fin 1024) :
    k0_pay1 (F := Ideal) v (ix3 (n0 := 1) 0 a b) = v (ix2 a b) := by
  unfold k0_pay1
  rw [shapeCast_self]
  exact shapeCast_ab_1ab_apply _ _ _ _ _

/-- A layer's rows are stored unchanged. -/
theorem pay20_apply (v : FVec Ideal S64x1024 .f32) (a : Fin 64) (b : Fin 1024) :
    k0_pay20 (F := Ideal) v (ix3 (n0 := 1) 0 a b) = v (ix2 a b) := by
  unfold k0_pay20
  exact shapeCast_ab_1ab_apply _ _ _ _ _

/-- The first weight is stored unchanged. -/
theorem pay8_apply (v : Vec Ideal S1x1024x2048 .f32) (a : Fin 1024) (b : Fin 2048) :
    k0_pay8 (F := Ideal) v (ix2 a b) = v (ix3 (n0 := 1) 0 a b) := by
  unfold k0_pay8
  rw [shapeCast_self]
  exact shapeCast_1ab_ab_apply _ _ _ _

/-- The second weight is stored unchanged. -/
theorem pay4_apply (v : Vec Ideal S1x2048x1024 .f32) (a : Fin 2048) (b : Fin 1024) :
    k0_pay4 (F := Ideal) v (ix2 a b) = v (ix3 (n0 := 1) 0 a b) := by
  unfold k0_pay4
  rw [shapeCast_self]
  exact shapeCast_1ab_ab_apply _ _ _ _

/-- The last sum adds four slots. -/
theorem pay24_apply (u v w z : Vec Ideal S1x64x1024 .bf16) (a : Fin 64) (b : Fin 1024) :
    k0_pay24 (F := Ideal) u v w z (ix2 a b)
      = (u (ix3 (n0 := 1) 0 a b) + v (ix3 (n0 := 1) 0 a b) + w (ix3 (n0 := 1) 0 a b) + z (ix3 (n0 := 1) 0 a b) : EReal) := by
  unfold k0_pay24
  simp only [addf_apply, extf_apply]
  rw [shapeCast_1ab_ab_apply, shapeCast_1ab_ab_apply, shapeCast_1ab_ab_apply, shapeCast_1ab_ab_apply]

/-- One row of a layer's product from a row `x` and the two weights: the sum over the hidden units of the positive part
    of each unit times its weight. -/
def unitSum {K : ℕ} (x : Fin 1024 → EReal) (wi : Fin 1024 → Fin K → EReal) (wo : Fin K → EReal) : EReal :=
  ∑ k : Fin K, max (∑ j : Fin 1024, x j * wi j k) 0 * wo k

/-- The two products of a half are plain matrix products. -/
theorem dot1_plain : dot_S128x1024_S1024x2048_S128x2048_1_0_0_1_n_n = DotDims.plain 128 1024 2048 := rfl
/-- The second product too. -/
theorem dot2_plain : dot_S128x2048_S2048x1024_S128x1024_1_0_0_1_n_n = DotDims.plain 128 2048 1024 := rfl

/-- A half's product at an index. -/
theorem pay5_apply (x : Vec Ideal S2x64x1024 .bf16) (wi : Vec Ideal S1024x2048 .bf16) (wo : Vec Ideal S2048x1024 .bf16)
    (p : Fin 2) (a : Fin 64) (b : Fin 1024) :
    k0_pay5 (F := Ideal) x wi wo (ix3 p a b)
      = unitSum (fun j => x (ix3 p a j)) (fun j k => wi (ix2 j k)) (fun k => wo (ix2 k b)) := by
  have hr : 64 * p.val + a.val < 128 := by have := p.isLt; have := a.isLt; omega
  unfold k0_pay5 unitSum
  rw [shapeCast_self, truncf_apply]
  rw [shapeCast_apply _ _ (ix3 p a b) (ix2 (n0 := 128) (n1 := 1024) ⟨64 * p.val + a.val, hr⟩ b) (by
    rw [Shape.rowMajor_val_three, Shape.rowMajor_val_two]
    show (64 * p.val + a.val) * 1024 + b.val = (p.val * 64 + a.val) * 1024 + b.val
    omega)]
  unfold matmul
  rw [dot2_plain, Ideal.matmul_plain_apply, constant_apply, Ideal.ofBits_zero_f32, zero_add]
  refine Finset.sum_congr rfl fun k _ => ?_
  rw [truncf_apply, maximumf_apply, dot1_plain, Ideal.matmul_plain_apply, constant_apply, Ideal.ofBits_zero_f32, zero_add]
  refine congrArg₂ (fun s t : EReal => max s t * _) (Finset.sum_congr rfl fun j _ => ?_) ?_
  · rw [shapeCast_apply x _ (ix2 (n0 := 128) (n1 := 1024) ⟨64 * p.val + a.val, hr⟩ j) (ix3 p a j) (by
      rw [Shape.rowMajor_val_three, Shape.rowMajor_val_two]
      show (p.val * 64 + a.val) * 1024 + j.val = (64 * p.val + a.val) * 1024 + j.val
      omega)]
  · exact Ideal.ofBits_zero_f32

/-! ## The contents at an index -/

/-- The first weight as the products read it is the device's argument. -/
theorem wbV_apply (l : Fin 3) (c : Dev nD) (a : Fin 1024) (b : Fin 2048) : wbV μ l c (ix2 a b) = wiV μ l c (ix2 a b) := by
  unfold wbV
  rw [pay8_apply]
  refine congrArg (wiV μ l c) (funext fun d => Fin.ext ?_)
  match d with
  | ⟨0, _⟩ => show 0 + 1 * a.val = a.val; omega
  | ⟨1, _⟩ => show 0 + 1 * b.val = b.val; omega

/-- The second weight as the products read it is the device's argument. -/
theorem obV_apply (l : Fin 3) (c : Dev nD) (a : Fin 2048) (b : Fin 1024) : obV μ l c (ix2 a b) = woV μ l c (ix2 a b) := by
  unfold obV
  rw [pay4_apply]
  refine congrArg (woV μ l c) (funext fun d => Fin.ext ?_)
  match d with
  | ⟨0, _⟩ => show 0 + 1 * a.val = a.val; omega
  | ⟨1, _⟩ => show 0 + 1 * b.val = b.val; omega

/-- A slab's half read at a slot's place in it is the slab at the slot. -/
theorem half_read (X : Slab Ideal) (p : Fin 4) (a : Fin 64) (b : Fin 1024) :
    xaM.view.readAt (Elt Ideal) (halfR (halfOf p)).toLoadRect X (ix3 (n0 := 2) ⟨p.val % 2, Nat.mod_lt _ (by decide)⟩ a b)
      = X (ix3 p a b) := by
  refine congrArg X (funext fun d => Fin.ext ?_)
  match d with
  | ⟨0, _⟩ => show 2 * (p.val / 2) + 1 * (p.val % 2) = p.val; omega
  | ⟨1, _⟩ => show 0 + 1 * a.val = a.val; omega
  | ⟨2, _⟩ => show 0 + 1 * b.val = b.val; omega

/-- A slab's slot read is the slab at the slot. -/
theorem slot_read (Y : Slab Ideal) (p : Fin 4) (a : Fin 64) (b : Fin 1024) :
    sbM.view.readAt (Elt Ideal) (slotR p).toLoadRect Y (ix3 (n0 := 1) 0 a b) = Y (ix3 p a b) := by
  refine congrArg Y (funext fun d => Fin.ext ?_)
  match d with
  | ⟨0, _⟩ => show p.val + 1 * 0 = p.val; omega
  | ⟨1, _⟩ => show 0 + 1 * a.val = a.val; omega
  | ⟨2, _⟩ => show 0 + 1 * b.val = b.val; omega

/-- The same of the buffer that receives the products. -/
theorem rslot_read (Y : Slab Ideal) (p : Fin 4) (a : Fin 64) (b : Fin 1024) :
    rbM.view.readAt (Elt Ideal) (slotR p).toLoadRect Y (ix3 (n0 := 1) 0 a b) = Y (ix3 p a b) := by
  refine congrArg Y (funext fun d => Fin.ext ?_)
  match d with
  | ⟨0, _⟩ => show p.val + 1 * 0 = p.val; omega
  | ⟨1, _⟩ => show 0 + 1 * a.val = a.val; omega
  | ⟨2, _⟩ => show 0 + 1 * b.val = b.val; omega

/-- What lands in slot `t`, at an index. -/
theorem rbOf_apply (X : Slab Ideal) (l : Fin 3) (c : Dev nD) (t : Fin 4) (a : Fin 64) (b : Fin 1024) :
    rbOf μ X l c (ix3 t a b) = sbOf μ X l (show Fin 4 from c - t) (ix3 (show Fin 4 from c) a b) := rfl

/-- Counting down from any of four reaches all four. -/
theorem sum_down (g : Fin 4 → EReal) (c : Fin 4) : g c + g (c - 1) + g (c - 2) + g (c - 3) = ∑ d : Fin 4, g d := by
  rw [Fin.sum_univ_four]
  match c with
  | 0 => show g 0 + g 3 + g 2 + g 1 = _; ac_rfl
  | 1 => show g 1 + g 0 + g 3 + g 2 = _; ac_rfl
  | 2 => show g 2 + g 1 + g 0 + g 3 = _; ac_rfl
  | 3 => show g 3 + g 2 + g 1 + g 0 = _; ac_rfl

/-- Device `c`'s product at an index: its slice of the hidden units. -/
theorem sbOf_apply (X : Slab Ideal) (l : Fin 3) (c : Dev nD) (p : Fin 4) (a : Fin 64) (b : Fin 1024) :
    sbOf μ X l c (ix3 p a b)
      = unitSum (fun j => X (ix3 p a j)) (fun j k => wiV μ l c (ix2 j k)) (fun k => woV μ l c (ix2 k b)) := by
  unfold sbOf
  show k0_pay5 _ _ _ (ix3 (n0 := 2) ⟨p.val % 2, _⟩ a b) = _
  rw [pay5_apply]
  simp only [wbV_apply, obV_apply]
  refine congrArg (fun f => unitSum f _ _) (funext fun j => half_read X p a j)

/-- The sum for device `c`'s rows: over the four devices. -/
theorem accOf_apply (X : Slab Ideal) (l : Fin 3) (c : Dev nD) (a : Fin 64) (b : Fin 1024) :
    accOf μ X l c (ix2 a b) = (∑ d : Fin 4, (sbOf μ X l d (ix3 c a b) : EReal)) := by
  unfold accOf
  rw [pay24_apply]
  rw [slot_read, rslot_read, rslot_read, rslot_read, rbOf_apply, rbOf_apply, rbOf_apply]
  exact sum_down (fun d => sbOf μ X l d (ix3 (show Fin 4 from c) a b)) c

/-- The first layer's rows are the devices' arguments. -/
theorem X0_apply (p : Fin 4) (a : Fin 64) (b : Fin 1024) :
    X0 μ (ix3 p a b) = μ ((show Dev nD from p : Thread nD τ).loc main_arg0) (ix2 a b) := by
  unfold X0
  show k0_pay1 _ (ix3 (n0 := 1) 0 a b) = _
  rw [pay1_apply]
  unfold xstg
  refine congrArg (μ ((show Dev nD from p : Thread nD τ).loc main_arg0)) (funext fun d => Fin.ext ?_)
  match d with
  | ⟨0, _⟩ => simp; rfl
  | ⟨1, _⟩ => simp; rfl

/-- A later layer's rows are the sums of the one before. -/
theorem nextX_apply (X : Slab Ideal) (l : Fin 3) (p : Fin 4) (a : Fin 64) (b : Fin 1024) :
    nextX μ X l (ix3 p a b) = accOf μ X l p (ix2 a b) := by
  unfold nextX
  show k0_pay20 _ (ix3 (n0 := 1) 0 a b) = _
  rw [pay20_apply]

/-! ## A layer of the whole -/

/-- Row `r` of the whole, among device `p`'s rows. -/
def rowOf (p : Fin 4) (a : Fin 64) : Fin 256 := ⟨p.val * 64 + a.val, by have := p.isLt; have := a.isLt; omega⟩
/-- Hidden unit `k` of device `d`, among all. -/
def unitOf (d : Fin 4) (k : Fin 2048) : Fin 8192 := ⟨d.val * 2048 + k.val, by have := d.isLt; have := k.isLt; omega⟩

/-- The sum over all hidden units is the sum over the devices of the sums over their own. -/
theorem unitSum_split (x : Fin 1024 → EReal) (wi : Fin 1024 → Fin 8192 → EReal) (wo : Fin 8192 → EReal) :
    unitSum x wi wo = ∑ d : Fin 4, unitSum x (fun j k => wi j (unitOf d k)) (fun k => wo (unitOf d k)) := by
  unfold unitSum
  rw [← Equiv.sum_comp (finProdFinEquiv (m := 4) (n := 2048)), Fintype.sum_prod_type]
  refine Finset.sum_congr rfl fun d _ => Finset.sum_congr rfl fun k _ => ?_
  have hk : finProdFinEquiv (d, k) = unitOf d k := Fin.ext (by show k.val + 2048 * d.val = d.val * 2048 + k.val; omega)
  rw [hk]

/-- The shapes of the whole arrays. -/
abbrev S256x1024' : Shape := ⟨2, ![256, 1024]⟩
abbrev S1024x8192' : Shape := ⟨2, ![1024, 8192]⟩
abbrev S8192x1024' : Shape := ⟨2, ![8192, 1024]⟩

/-- One layer of the whole: each row's product. -/
def layer (x : S256x1024'.Idx → EReal) (wi : S1024x8192'.Idx → EReal) (wo : S8192x1024'.Idx → EReal) : S256x1024'.Idx → EReal :=
  fun i => unitSum (fun j => x (ix2 (i 0) j)) (fun j k => wi (ix2 j k)) (fun k => wo (ix2 k (i 1)))

/-- A slab holds the rows of a whole. -/
def Holds (X : Slab Ideal) (x : S256x1024'.Idx → EReal) : Prop := ∀ p a b, X (ix3 p a b) = x (ix2 (rowOf p a) b)

/-- The sums of a layer are the whole layer's rows, when the weights are the devices' slices. -/
theorem accOf_layer (X : Slab Ideal) (l : Fin 3) (x : S256x1024'.Idx → EReal) (wi : S1024x8192'.Idx → EReal) (wo : S8192x1024'.Idx → EReal)
    (hX : Holds X x) (hi : ∀ (d : Fin 4) j k, wiV μ l d (ix2 j k) = wi (ix2 j (unitOf d k)))
    (ho : ∀ (d : Fin 4) k b, woV μ l d (ix2 k b) = wo (ix2 (unitOf d k) b)) (p : Fin 4) (a : Fin 64) (b : Fin 1024) :
    accOf μ X l p (ix2 a b) = layer x wi wo (ix2 (rowOf p a) b) := by
  rw [accOf_apply]
  refine Eq.trans ?_ (unitSum_split _ _ _).symm
  refine Finset.sum_congr rfl fun d _ => ?_
  rw [sbOf_apply]
  simp only [hX _ _ _, hi, ho]

/-! ## The three layers -/

/-- The slabs of the three layers hold the rows of the whole entering each; the last layer's sums are the result's rows. -/
theorem result (x : S256x1024'.Idx → EReal) (w1 w2 w3 : S1024x8192'.Idx → EReal) (v1 v2 v3 : S8192x1024'.Idx → EReal)
    (h : ∀ c : Dev nD, μ ((c : Thread nD τ).loc main_arg0) = Layout.block ⟨2, ![64, 1024]⟩ ⟨2, ![256, 1024]⟩ 0 4 c x
      ∧ μ ((c : Thread nD τ).loc main_arg1) = Layout.block ⟨2, ![1024, 2048]⟩ ⟨2, ![1024, 8192]⟩ 1 4 c w1
      ∧ μ ((c : Thread nD τ).loc main_arg2) = Layout.block ⟨2, ![1024, 2048]⟩ ⟨2, ![1024, 8192]⟩ 1 4 c w2
      ∧ μ ((c : Thread nD τ).loc main_arg3) = Layout.block ⟨2, ![1024, 2048]⟩ ⟨2, ![1024, 8192]⟩ 1 4 c w3
      ∧ μ ((c : Thread nD τ).loc main_arg4) = Layout.block ⟨2, ![2048, 1024]⟩ ⟨2, ![8192, 1024]⟩ 0 4 c v1
      ∧ μ ((c : Thread nD τ).loc main_arg5) = Layout.block ⟨2, ![2048, 1024]⟩ ⟨2, ![8192, 1024]⟩ 0 4 c v2
      ∧ μ ((c : Thread nD τ).loc main_arg6) = Layout.block ⟨2, ![2048, 1024]⟩ ⟨2, ![8192, 1024]⟩ 0 4 c v3) (c : Dev nD) :
    ACC μ (ly 2) c = Layout.block ⟨2, ![64, 1024]⟩ ⟨2, ![256, 1024]⟩ 0 4 c (layer (layer (layer x w1 v1) w2 v2) w3 v3) := by
  have bi (w : S1024x8192'.Idx → EReal) (d : Fin 4) (j : Fin 1024) (k : Fin 2048) :
      Layout.block ⟨2, ![1024, 2048]⟩ ⟨2, ![1024, 8192]⟩ 1 4 d w (by decide) (ix2 j k) = w (ix2 j (unitOf d k)) :=
    congrArg w (funext fun a => Fin.ext (by match a with | ⟨0, _⟩ => rfl | ⟨1, _⟩ => rfl))
  have bo (w : S8192x1024'.Idx → EReal) (d : Fin 4) (k : Fin 2048) (b : Fin 1024) :
      Layout.block ⟨2, ![2048, 1024]⟩ ⟨2, ![8192, 1024]⟩ 0 4 d w (by decide) (ix2 k b) = w (ix2 (unitOf d k) b) :=
    congrArg w (funext fun a => Fin.ext (by match a with | ⟨0, _⟩ => rfl | ⟨1, _⟩ => rfl))
  have bx (w : S256x1024'.Idx → EReal) (d : Fin 4) (a : Fin 64) (b : Fin 1024) :
      Layout.block ⟨2, ![64, 1024]⟩ ⟨2, ![256, 1024]⟩ 0 4 d w (by decide) (ix2 a b) = w (ix2 (rowOf d a) b) :=
    congrArg w (funext fun e => Fin.ext (by match e with | ⟨0, _⟩ => rfl | ⟨1, _⟩ => rfl))
  have H0 : Holds (X0 μ) x := fun p a b => (X0_apply μ p a b).trans ((congrFun (h p).1 _).trans (bx x p a b))
  have A0 := accOf_layer μ (X0 μ) 0 x w1 v1 H0 (fun d j k => (congrFun (h d).2.1 _).trans (bi w1 d j k))
    (fun d k b => (congrFun (h d).2.2.2.2.1 _).trans (bo v1 d k b))
  have H1 : Holds (nextX μ (X0 μ) 0) (layer x w1 v1) := fun p a b => (nextX_apply μ _ _ p a b).trans (A0 p a b)
  have A1 := accOf_layer μ (nextX μ (X0 μ) 0) 1 _ w2 v2 H1 (fun d j k => (congrFun (h d).2.2.1 _).trans (bi w2 d j k))
    (fun d k b => (congrFun (h d).2.2.2.2.2.1 _).trans (bo v2 d k b))
  have H2 : Holds (nextX μ (nextX μ (X0 μ) 0) 1) (layer (layer x w1 v1) w2 v2) :=
    fun p a b => (nextX_apply μ _ _ p a b).trans (A1 p a b)
  have A2 := accOf_layer μ (nextX μ (nextX μ (X0 μ) 0) 1) 2 _ w3 v3 H2 (fun d j k => (congrFun (h d).2.2.2.1 _).trans (bi w3 d j k))
    (fun d k b => (congrFun (h d).2.2.2.2.2.2 _).trans (bo v3 d k b))
  funext i
  rw [ValueIdx.eq_ix2 i]
  exact (A2 c (i 0) (i 1)).trans (bx _ c (i 0) (i 1)).symm

/-! ## The reference's layer -/

/-- Two plain products with the positive part between them, at an index. -/
theorem layer_plain (x : FVec Ideal S256x1024' .f32) (wi : FVec Ideal S1024x8192' .f32) (wo : FVec Ideal S8192x1024' .f32)
    (z : FVec Ideal ⟨2, ![256, 8192]⟩ .f32) (hz : ∀ i, z i = (0 : EReal)) (a : Fin 256) (b : Fin 1024) :
    Host.dotGeneral (DotDims.plain 256 8192 1024) none (maximumf (Host.dotGeneral (DotDims.plain 256 1024 8192) none x wi) z) wo (ix2 a b)
      = layer x wi wo (ix2 a b) := by
  unfold layer unitSum
  rw [StackMember.dotGeneral_plain_apply]
  refine Finset.sum_congr rfl fun k _ => ?_
  rw [maximumf_apply, hz, StackMember.dotGeneral_plain_apply]

/-- The reference's two products with the positive part between them are one layer. -/
theorem layer_reference (x : FVec Ideal Cert.ReferenceIdeal.S256x1024 .f32) (wi : FVec Ideal Cert.ReferenceIdeal.S1024x8192 .f32)
    (wo : FVec Ideal Cert.ReferenceIdeal.S8192x1024 .f32) (z : FVec Ideal Cert.ReferenceIdeal.S256x8192 .f32) (hz : ∀ i, z i = (0 : EReal)) :
    Host.dotGeneral Cert.ReferenceIdeal.dot_S256x8192_S8192x1024_S256x1024_1_0_0_1_n_n none
      (maximumf (Host.dotGeneral Cert.ReferenceIdeal.dot_S256x1024_S1024x8192_S256x8192_1_0_0_1_n_n none x wi) z) wo = layer x wi wo := by
  have d1 : Cert.ReferenceIdeal.dot_S256x1024_S1024x8192_S256x8192_1_0_0_1_n_n = DotDims.plain 256 1024 8192 := rfl
  have d2 : Cert.ReferenceIdeal.dot_S256x8192_S8192x1024_S256x1024_1_0_0_1_n_n = DotDims.plain 256 8192 1024 := rfl
  rw [d1, d2]
  funext i
  rw [ValueIdx.eq_ix2 i]
  exact layer_plain x wi wo z hz (i 0) (i 1)

end Cert.Mlp
-- ==== Proof.lean ====
/- The proof of the certificate's claims: each from one run of its program. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Ends
public import proofs.«01_k».proof.Proof.Value
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The frame of the reference. -/
theorem frame_reference : Cert.quiescent_ReferenceIdeal := by
  intro m g _
  hlo_run
  · exact fun _ => ⟨trivial, trivial, trivial, trivial, trivial, trivial, trivial⟩
  · exact sem_eq_zero_of_no_sems (sig := Cert.ReferenceIdeal.sig) (by decide) _

/-- A broadcast zero is zero everywhere. -/
theorem zero_everywhere (hb) (i : Cert.ReferenceIdeal.S256x8192.Idx) :
    (broadcastInDim Cert.ReferenceIdeal.S256x8192 ![] hb
      (constant (F := Ideal) Cert.ReferenceIdeal.S_ .f32 0x00000000#32) i : EReal) = 0 := Ideal.ofBits_zero_f32

/-- In the extended reals the kernel's result is the reference's, each device holding its block of the rows: both are
    three layers of the arguments. -/
theorem algebraic : Cert.algebraic_KernelIdeal_ReferenceIdeal := by
  intro m g m' g' _ hagree
  refine ⟨Cert.Mlp.layer (Cert.Mlp.layer (Cert.Mlp.layer
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg4)))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg5)))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg6)),
    (θ_run Cert.KernelIdeal.defs _ _).mono (fun _ h c => ⟨(h.1 c).1.trans (Cert.Mlp.result m _ _ _ _ _ _ _ hagree c), (h.1 c).2⟩)
      (Cert.Mlp.run_end m g), ?_⟩
  hlo_run
  rw [Cert.Mlp.layer_reference _ _ _ _ (zero_everywhere _), Cert.Mlp.layer_reference _ _ _ _ (zero_everywhere _),
    Cert.Mlp.layer_reference _ _ _ _ (zero_everywhere _)]

/-- All the claims. -/
theorem claim : Cert.Claim := ⟨Cert.Kernel.Gen.facts, Cert.KernelIdeal.Gen.facts, Cert.ReferenceIdeal.Gen.facts,
  Cert.Mlp.frame_kernel, Cert.Mlp.frame_ideal, frame_reference, trivial, algebraic⟩

end Cert.Proof

end
